-- ==== Defs.lean ====
def Pre_Kernel [hPre_routed : Cert.Pre_routed.Facts] (m : (ℓ : Loc Cert.Kernel.nD Cert.Kernel.τ Cert.Kernel.sig) → Buf (Elt Bits) ℓ) : Prop :=
  ∀ c : Dev Cert.Kernel.nD,
    (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))).1 = (fun _ => 1#1)
    ∧ (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))).2.1 = (fun _ => 1#1)
    ∧ (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))).2.2.1 = (fun _ => 1#1)
    ∧ (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))).2.2.2.1 = (fun _ => 1#1)
    ∧ (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))).2.2.2.2 = (fun _ => 1#1)

def Pre_KernelIdeal [hPre_routed : Cert.Pre_routed.Facts] (m : (ℓ : Loc Cert.KernelIdeal.nD Cert.KernelIdeal.τ Cert.KernelIdeal.sig) → Buf (Elt Ideal) ℓ) : Prop :=
  ∀ c : Dev Cert.KernelIdeal.nD,
    (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2 = (fun _ => 1#1)

def Pre_ReferenceIdeal [hPre_routed : Cert.Pre_routed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] [hPre_routed : Cert.Pre_routed.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] [hPre_routed : Cert.Pre_routed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v130)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v130) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v5_0)) (v1 : (c : Dev Cert.Kernel2Ideal.nD) → Buf (Elt Ideal) ((c.tc : Thread Cert.Kernel2Ideal.nD Cert.Kernel2Ideal.τ).loc Cert.Kernel2Ideal.main_v5_1)) (v2 : (c : Dev Cert.Kernel2Ideal.nD) → Buf (Elt Ideal) ((c.tc : Thread Cert.Kernel2Ideal.nD Cert.Kernel2Ideal.τ).loc Cert.Kernel2Ideal.main_v5_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5_0) = v0 c
          ∧ r.2.mem ((c.tc : Thread Cert.Kernel2Ideal.nD Cert.Kernel2Ideal.τ).loc Cert.Kernel2Ideal.main_v5_1) = v1 c
          ∧ r.2.mem ((c.tc : Thread Cert.Kernel2Ideal.nD Cert.Kernel2Ideal.τ).loc Cert.Kernel2Ideal.main_v5_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_v29) = v1 c
          ∧ r.2.mem ((c.tc : Thread Cert.Reference2Ideal.nD Cert.Reference2Ideal.τ).loc Cert.Reference2Ideal.main_v30) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v10) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v11) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v13) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v1) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)) →
    ∃ (v0 : (c : Dev Cert.Kernel9Ideal.nD) → Buf (Elt Ideal) ((c.tc : Thread Cert.Kernel9Ideal.nD Cert.Kernel9Ideal.τ).loc Cert.Kernel9Ideal.main_v5)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v5) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v30) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)) →
    ∃ (v0 : (c : Dev Cert.Kernel10Ideal.nD) → Buf (Elt Ideal) ((c.tc : Thread Cert.Kernel10Ideal.nD Cert.Kernel10Ideal.τ).loc Cert.Kernel10Ideal.main_v5)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v5) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v30) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)) →
    ∃ (v0 : (c : Dev Cert.Kernel11Ideal.nD) → Buf (Elt Ideal) ((c.tc : Thread Cert.Kernel11Ideal.nD Cert.Kernel11Ideal.τ).loc Cert.Kernel11Ideal.main_v30)) (v1 : (c : Dev Cert.Kernel11Ideal.nD) → Buf (Elt Ideal) ((c.tc : Thread Cert.Kernel11Ideal.nD Cert.Kernel11Ideal.τ).loc Cert.Kernel11Ideal.main_v32)) (v2 : (c : Dev Cert.Kernel11Ideal.nD) → Buf (Elt Ideal) ((c.tc : Thread Cert.Kernel11Ideal.nD Cert.Kernel11Ideal.τ).loc Cert.Kernel11Ideal.main_v33)) (v3 : (c : Dev Cert.Kernel11Ideal.nD) → Buf (Elt Ideal) ((c.tc : Thread Cert.Kernel11Ideal.nD Cert.Kernel11Ideal.τ).loc Cert.Kernel11Ideal.main_v35)) (v4 : (c : Dev Cert.Kernel11Ideal.nD) → Buf (Elt Ideal) ((c.tc : Thread Cert.Kernel11Ideal.nD Cert.Kernel11Ideal.τ).loc Cert.Kernel11Ideal.main_v37)) (v5 : (c : Dev Cert.Kernel11Ideal.nD) → Buf (Elt Ideal) ((c.tc : Thread Cert.Kernel11Ideal.nD Cert.Kernel11Ideal.τ).loc Cert.Kernel11Ideal.main_v38)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v30) = v0 c
          ∧ r.2.mem ((c.tc : Thread Cert.Kernel11Ideal.nD Cert.Kernel11Ideal.τ).loc Cert.Kernel11Ideal.main_v32) = v1 c
          ∧ r.2.mem ((c.tc : Thread Cert.Kernel11Ideal.nD Cert.Kernel11Ideal.τ).loc Cert.Kernel11Ideal.main_v33) = v2 c
          ∧ r.2.mem ((c.tc : Thread Cert.Kernel11Ideal.nD Cert.Kernel11Ideal.τ).loc Cert.Kernel11Ideal.main_v35) = v3 c
          ∧ r.2.mem ((c.tc : Thread Cert.Kernel11Ideal.nD Cert.Kernel11Ideal.τ).loc Cert.Kernel11Ideal.main_v37) = v4 c
          ∧ r.2.mem ((c.tc : Thread Cert.Kernel11Ideal.nD Cert.Kernel11Ideal.τ).loc Cert.Kernel11Ideal.main_v38) = v5 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v90) = v0 c
          ∧ r.2.mem ((c.tc : Thread Cert.Reference11Ideal.nD Cert.Reference11Ideal.τ).loc Cert.Reference11Ideal.main_v91) = v1 c
          ∧ r.2.mem ((c.tc : Thread Cert.Reference11Ideal.nD Cert.Reference11Ideal.τ).loc Cert.Reference11Ideal.main_v92) = v2 c
          ∧ r.2.mem ((c.tc : Thread Cert.Reference11Ideal.nD Cert.Reference11Ideal.τ).loc Cert.Reference11Ideal.main_v93) = v3 c
          ∧ r.2.mem ((c.tc : Thread Cert.Reference11Ideal.nD Cert.Reference11Ideal.τ).loc Cert.Reference11Ideal.main_v94) = v4 c
          ∧ r.2.mem ((c.tc : Thread Cert.Reference11Ideal.nD Cert.Reference11Ideal.τ).loc Cert.Reference11Ideal.main_v95) = v5 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_routed : Cert.Pre_routed.Facts),
    quiescent_Kernel (hKernel := hKernel) (hPre_routed := hPre_routed)
    ∧ quiescent_KernelIdeal (hKernelIdeal := hKernelIdeal) (hPre_routed := hPre_routed)
    ∧ quiescent_ReferenceIdeal (hReferenceIdeal := hReferenceIdeal) (hPre_routed := hPre_routed)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal (hKernelIdeal := hKernelIdeal) (hReferenceIdeal := hReferenceIdeal) (hPre_routed := hPre_routed)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Pre_routed.lean ====
abbrev S8704x2048 : Shape := ⟨2, ![8704, 2048]⟩
abbrev S8704x4 : Shape := ⟨2, ![8704, 4]⟩
abbrev S32 : Shape := ⟨1, ![32]⟩
abbrev S32x2048x4096 : Shape := ⟨3, ![32, 2048, 4096]⟩
abbrev S32x4096 : Shape := ⟨2, ![32, 4096]⟩
abbrev S32x2048x2048 : Shape := ⟨3, ![32, 2048, 2048]⟩
abbrev S32x2048 : Shape := ⟨2, ![32, 2048]⟩
abbrev S34816 : Shape := ⟨1, ![34816]⟩
abbrev S_ : Shape := ⟨0, ![]⟩
abbrev S32x34816 : Shape := ⟨2, ![32, 34816]⟩
abbrev S34816x1 : Shape := ⟨2, ![34816, 1]⟩
abbrev S34816x2 : Shape := ⟨2, ![34816, 2]⟩
abbrev S1 : Shape := ⟨1, ![1]⟩

class Facts : Prop where
  shapeCasts_S8704x4_S34816 : S8704x4.ShapeCasts S34816
  bcast_S_S32x34816 : S_.BroadcastsInDim S32x34816 (![] : Fin 0 → Fin S32x34816.rank)
  bcast_S_S34816 : S_.BroadcastsInDim S34816 (![] : Fin 0 → Fin S34816.rank)
  bcast_S34816_S34816x1_0 : S34816.BroadcastsInDim S34816x1 (![0] : Fin 1 → Fin S34816x1.rank)
  concatenates_S34816x1_S34816x1_S34816x2_d1 : Shape.Concatenates [S34816x1, S34816x1] S34816x2 1
  bcast_S_S8704x4 : S_.BroadcastsInDim S8704x4 (![] : Fin 0 → Fin S8704x4.rank)
  bcast_S_S32 : S_.BroadcastsInDim S32 (![] : Fin 0 → Fin S32.rank)
  reducesTo_S32_S_d0 : S32.ReducesTo [0] S_
  h_S_ : 0 < S_.numel
  bcast_S_S1 : S_.BroadcastsInDim S1 (![] : Fin 0 → Fin S1.rank)
  scatter_S32x34816_S34816x2_S34816_n_01_01_1_wf : ScatterDims.WF S32x34816 S34816x2 S34816 [] [0, 1] [0, 1] 1
  gather_S32_S34816x1_S34816_n_0_n_n_0_1_1_wf : GatherDims.WF S32 S34816x1 S34816 [] [0] [] [0] [] 1 ![1]
  gather_S32x34816_S34816x2_S34816_n_01_n_n_01_1_11_wf : GatherDims.WF S32x34816 S34816x2 S34816 [] [0, 1] [] [0, 1] [] 1 ![1, 1]

variable [Facts]

def scatter_S32x34816_S34816x2_S34816_n_01_01_1 : ScatterDims S32x34816 S34816x2 S34816 where
  updateWindowDims := []
  insertedWindowDims := [0, 1]
  scatterDimsToOperandDims := [0, 1]
  indexVectorDim := 1
  wf := scatter_S32x34816_S34816x2_S34816_n_01_01_1_wf
def gather_S32_S34816x1_S34816_n_0_n_n_0_1_1 : GatherDims S32 S34816x1 S34816 where
  offsetDims := []
  collapsedSliceDims := [0]
  operandBatchingDims := []
  startIndicesBatchingDims := []
  startIndexMap := [0]
  indexVectorDim := 1
  sliceSizes := ![1]
  wf := gather_S32_S34816x1_S34816_n_0_n_n_0_1_1_wf
def gather_S32x34816_S34816x2_S34816_n_01_n_n_01_1_11 : GatherDims S32x34816 S34816x2 S34816 where
  offsetDims := []
  collapsedSliceDims := [0, 1]
  operandBatchingDims := []
  startIndicesBatchingDims := []
  startIndexMap := [0, 1]
  indexVectorDim := 1
  sliceSizes := ![1, 1]
  wf := gather_S32x34816_S34816x2_S34816_n_01_n_n_01_1_11_wf
def fn_part3 {F : FTy → Type} [FloatOps F] (main_v2 : IVec S34816 32) (main_v17 : IVec S32x34816 32) (main_v22 : IVec S8704x4 1) (main_v27 : IVec S32 1) (main_v31 : IVec S1 1) (main_v42 : IVec S34816 1) (main_v52 : IVec S34816 32) (main_v53 : IVec S34816x1 32) : IVec S8704x4 1 × IVec S32 1 × IVec S1 1 × IVec S34816 1 × IVec S34816 1 :=
  let main_v54 : IVec S34816x1 32 := broadcastInDim S34816x1 ![0] bcast_S34816_S34816x1_0 main_v52
  let main_v55 : IVec S34816x2 32 := (fun a b => concatenate S34816x2 1 [⟨S34816x1, a⟩, ⟨S34816x1, b⟩] concatenates_S34816x1_S34816x1_S34816x2_d1) main_v53 main_v54
  let main_v56 : IVec S34816 32 := (fun x i => Host.gather gather_S32x34816_S34816x2_S34816_n_01_n_n_01_1_11 x i) main_v17 main_v55
  let main_v57 : IVec S34816 1 := cmpi .eq main_v56 main_v2
  (main_v22, main_v27, main_v31, main_v42, main_v57)

def fn_part2 {F : FTy → Type} [FloatOps F] (main_arg3 : IVec S32 32) (main_v0 : IVec S34816 32) (main_v1 : IVec S34816 32) (main_v2 : IVec S34816 32) (main_v17 : IVec S32x34816 32) (main_v22 : IVec S8704x4 1) (main_v27 : IVec S32 1) (main_v31 : IVec S1 1) (main_v33 : IVec S34816 1) (main_v34 : IVec S34816 32) : IVec S8704x4 1 × IVec S32 1 × IVec S1 1 × IVec S34816 1 × IVec S34816 1 :=
  let main_v35 : IVec S34816 1 := cmpi .slt main_v0 main_v34
  let main_c_12 : IVec S_ 32 := constantI S_ 32 32#32
  let main_v36 : IVec S34816 32 := broadcastInDim S34816 ![] bcast_S_S34816 main_c_12
  let main_v37 : IVec S34816 32 := addi main_v0 main_v36
  let main_v38 : IVec S34816 32 := select main_v35 main_v37 main_v0
  let main_v39 : IVec S34816x1 32 := broadcastInDim S34816x1 ![0] bcast_S34816_S34816x1_0 main_v38
  let main_v40 : IVec S34816 32 := (fun x i => Host.gather gather_S32_S34816x1_S34816_n_0_n_n_0_1_1 x i) main_arg3 main_v39
  let main_v41 : IVec S34816 1 := cmpi .slt main_v1 main_v40
  let main_v42 : IVec S34816 1 := andi main_v33 main_v41
  let main_c_13 : IVec S_ 32 := constantI S_ 32 0#32
  let main_v43 : IVec S34816 32 := broadcastInDim S34816 ![] bcast_S_S34816 main_c_13
  let main_v44 : IVec S34816 1 := cmpi .slt main_v0 main_v43
  let main_c_14 : IVec S_ 32 := constantI S_ 32 32#32
  let main_v45 : IVec S34816 32 := broadcastInDim S34816 ![] bcast_S_S34816 main_c_14
  let main_v46 : IVec S34816 32 := addi main_v0 main_v45
  let main_v47 : IVec S34816 32 := select main_v44 main_v46 main_v0
  let main_c_15 : IVec S_ 32 := constantI S_ 32 0#32
  let main_v48 : IVec S34816 32 := broadcastInDim S34816 ![] bcast_S_S34816 main_c_15
  let main_v49 : IVec S34816 1 := cmpi .slt main_v1 main_v48
  let main_c_16 : IVec S_ 32 := constantI S_ 32 34816#32
  let main_v50 : IVec S34816 32 := broadcastInDim S34816 ![] bcast_S_S34816 main_c_16
  let main_v51 : IVec S34816 32 := addi main_v1 main_v50
  let main_v52 : IVec S34816 32 := select main_v49 main_v51 main_v1
  let main_v53 : IVec S34816x1 32 := broadcastInDim S34816x1 ![0] bcast_S34816_S34816x1_0 main_v47
  fn_part3 (F := F) main_v2 main_v17 main_v22 main_v27 main_v31 main_v42 main_v52 main_v53

def fn_part1 {F : FTy → Type} [FloatOps F] (main_arg1 : IVec S8704x4 32) (main_arg3 : IVec S32 32) (main_v0 : IVec S34816 32) (main_v1 : IVec S34816 32) (main_v2 : IVec S34816 32) (main_v17 : IVec S32x34816 32) (main_c_4 : IVec S_ 32) : IVec S8704x4 1 × IVec S32 1 × IVec S1 1 × IVec S34816 1 × IVec S34816 1 :=
  let main_v18 : IVec S8704x4 32 := broadcastInDim S8704x4 ![] bcast_S_S8704x4 main_c_4
  let main_v19 : IVec S8704x4 1 := cmpi .sge main_arg1 main_v18
  let main_c_5 : IVec S_ 32 := constantI S_ 32 32#32
  let main_v20 : IVec S8704x4 32 := broadcastInDim S8704x4 ![] bcast_S_S8704x4 main_c_5
  let main_v21 : IVec S8704x4 1 := cmpi .slt main_arg1 main_v20
  let main_v22 : IVec S8704x4 1 := andi main_v19 main_v21
  let main_c_6 : IVec S_ 32 := constantI S_ 32 0#32
  let main_v23 : IVec S32 32 := broadcastInDim S32 ![] bcast_S_S32 main_c_6
  let main_v24 : IVec S32 1 := cmpi .sge main_arg3 main_v23
  let main_c_7 : IVec S_ 32 := constantI S_ 32 34816#32
  let main_v25 : IVec S32 32 := broadcastInDim S32 ![] bcast_S_S32 main_c_7
  let main_v26 : IVec S32 1 := cmpi .sle main_arg3 main_v25
  let main_v27 : IVec S32 1 := andi main_v24 main_v26
  let main_c_8 : IVec S_ 32 := constantI S_ 32 0#32
  let main_v28 : IVec S_ 32 := (fun x v => Host.reduce IntOp.addi x v reducesTo_S32_S_d0 h_S_) main_arg3 main_c_8
  let main_v29 : IVec S1 32 := broadcastInDim S1 ![] bcast_S_S1 main_v28
  let main_c_9 : IVec S_ 32 := constantI S_ 32 34816#32
  let main_v30 : IVec S1 32 := broadcastInDim S1 ![] bcast_S_S1 main_c_9
  let main_v31 : IVec S1 1 := cmpi .eq main_v29 main_v30
  let main_c_10 : IVec S_ 32 := constantI S_ 32 0#32
  let main_v32 : IVec S34816 32 := broadcastInDim S34816 ![] bcast_S_S34816 main_c_10
  let main_v33 : IVec S34816 1 := cmpi .sge main_v1 main_v32
  let main_c_11 : IVec S_ 32 := constantI S_ 32 0#32
  let main_v34 : IVec S34816 32 := broadcastInDim S34816 ![] bcast_S_S34816 main_c_11
  fn_part2 (F := F) main_arg3 main_v0 main_v1 main_v2 main_v17 main_v22 main_v27 main_v31 main_v33 main_v34

def fn {F : FTy → Type} [FloatOps F] (main_arg0 : FVec F S8704x2048 .f32) (main_arg1 : IVec S8704x4 32) (main_arg2 : IVec S8704x4 32) (main_arg3 : IVec S32 32) (main_arg4 : FVec F S32x2048x4096 .f32) (main_arg5 : FVec F S32x4096 .f32) (main_arg6 : FVec F S32x2048x2048 .f32) (main_arg7 : FVec F S32x2048 .f32) : IVec S8704x4 1 × IVec S32 1 × IVec S1 1 × IVec S34816 1 × IVec S34816 1 :=
  let main_v0 : IVec S34816 32 := shapeCast S34816 main_arg1 shapeCasts_S8704x4_S34816
  let main_v1 : IVec S34816 32 := shapeCast S34816 main_arg2 shapeCasts_S8704x4_S34816
  let main_v2 : IVec S34816 32 := iotaInDim S34816 32 0
  let main_c : IVec S_ 32 := constantI S_ 32 0#32
  let main_v3 : IVec S32x34816 32 := broadcastInDim S32x34816 ![] bcast_S_S32x34816 main_c
  let main_c_0 : IVec S_ 32 := constantI S_ 32 0#32
  let main_v4 : IVec S34816 32 := broadcastInDim S34816 ![] bcast_S_S34816 main_c_0
  let main_v5 : IVec S34816 1 := cmpi .slt main_v0 main_v4
  let main_c_1 : IVec S_ 32 := constantI S_ 32 32#32
  let main_v6 : IVec S34816 32 := broadcastInDim S34816 ![] bcast_S_S34816 main_c_1
  let main_v7 : IVec S34816 32 := addi main_v0 main_v6
  let main_v8 : IVec S34816 32 := select main_v5 main_v7 main_v0
  let main_c_2 : IVec S_ 32 := constantI S_ 32 0#32
  let main_v9 : IVec S34816 32 := broadcastInDim S34816 ![] bcast_S_S34816 main_c_2
  let main_v10 : IVec S34816 1 := cmpi .slt main_v1 main_v9
  let main_c_3 : IVec S_ 32 := constantI S_ 32 34816#32
  let main_v11 : IVec S34816 32 := broadcastInDim S34816 ![] bcast_S_S34816 main_c_3
  let main_v12 : IVec S34816 32 := addi main_v1 main_v11
  let main_v13 : IVec S34816 32 := select main_v10 main_v12 main_v1
  let main_v14 : IVec S34816x1 32 := broadcastInDim S34816x1 ![0] bcast_S34816_S34816x1_0 main_v8
  let main_v15 : IVec S34816x1 32 := broadcastInDim S34816x1 ![0] bcast_S34816_S34816x1_0 main_v13
  let main_v16 : IVec S34816x2 32 := (fun a b => concatenate S34816x2 1 [⟨S34816x1, a⟩, ⟨S34816x1, b⟩] concatenates_S34816x1_S34816x1_S34816x2_d1) main_v14 main_v15
  let main_v17 : IVec S32x34816 32 := (fun x i u => Host.scatter scatter_S32x34816_S34816x2_S34816_n_01_01_1 (fun _ b => b) x i u) main_v3 main_v16 main_v2
  let main_c_4 : IVec S_ 32 := constantI S_ 32 0#32
  fn_part1 (F := F) main_arg1 main_arg3 main_v0 main_v1 main_v2 main_v17 main_c_4
-- ==== Kernel.lean ====
abbrev S8704x2048 : Shape := ⟨2, ![8704, 2048]⟩
abbrev S8704x4 : Shape := ⟨2, ![8704, 4]⟩
abbrev S32 : Shape := ⟨1, ![32]⟩
abbrev S32x2048x4096 : Shape := ⟨3, ![32, 2048, 4096]⟩
abbrev S32x4096 : Shape := ⟨2, ![32, 4096]⟩
abbrev S32x2048x2048 : Shape := ⟨3, ![32, 2048, 2048]⟩
abbrev S32x2048 : Shape := ⟨2, ![32, 2048]⟩
abbrev S_ : Shape := ⟨0, ![]⟩
abbrev S8704x4x1 : Shape := ⟨3, ![8704, 4, 1]⟩
abbrev S34816 : Shape := ⟨1, ![34816]⟩
abbrev S36864 : Shape := ⟨1, ![36864]⟩
abbrev S34816x1 : Shape := ⟨2, ![34816, 1]⟩
abbrev S62 : Shape := ⟨1, ![62]⟩
abbrev S1 : Shape := ⟨1, ![1]⟩
abbrev S1x32 : Shape := ⟨2, ![1, 32]⟩
abbrev S62x1 : Shape := ⟨2, ![62, 1]⟩
abbrev S62x32 : Shape := ⟨2, ![62, 32]⟩
abbrev S1152 : Shape := ⟨1, ![1152]⟩
abbrev S1x1152 : Shape := ⟨2, ![1, 1152]⟩
abbrev S62x1152 : Shape := ⟨2, ![62, 1152]⟩
abbrev S62x1152x1 : Shape := ⟨3, ![62, 1152, 1]⟩
abbrev S36864x1 : Shape := ⟨2, ![36864, 1]⟩
abbrev S36864x2048 : Shape := ⟨2, ![36864, 2048]⟩
abbrev S62x1x1152 : Shape := ⟨3, ![62, 1, 1152]⟩
abbrev S32x1x4096 : Shape := ⟨3, ![32, 1, 4096]⟩
abbrev S32x1x2048 : Shape := ⟨3, ![32, 1, 2048]⟩
abbrev S34816x2048 : Shape := ⟨2, ![34816, 2048]⟩
abbrev S1x1x1152 : Shape := ⟨3, ![1, 1, 1152]⟩
abbrev S1152x2048 : Shape := ⟨2, ![1152, 2048]⟩
abbrev S1x2048x256 : Shape := ⟨3, ![1, 2048, 256]⟩
abbrev S1x1x256 : Shape := ⟨3, ![1, 1, 256]⟩
abbrev S1x256x2048 : Shape := ⟨3, ![1, 256, 2048]⟩
abbrev S1x1x2048 : Shape := ⟨3, ![1, 1, 2048]⟩
abbrev S2048x256 : Shape := ⟨2, ![2048, 256]⟩
abbrev S256x2048 : Shape := ⟨2, ![256, 2048]⟩
abbrev S384x2048 : Shape := ⟨2, ![384, 2048]⟩
abbrev S1x256 : Shape := ⟨2, ![1, 256]⟩
abbrev S384x256 : Shape := ⟨2, ![384, 256]⟩
abbrev S1x2048 : Shape := ⟨2, ![1, 2048]⟩
abbrev S1x1x1 : Shape := ⟨3, ![1, 1, 1]⟩

abbrev nBuf : Space → Nat
  | .hbm => 255
  | .vmem => 19
  | .smem => 5
  | _ => 0

abbrev hbmTy0_0 (i : Nat) : BufTy := match i % 128 with
  | 0 => ⟨S8704x2048, .f32⟩
  | 1 => ⟨S8704x4, .i32⟩
  | 2 => ⟨S8704x4, .i32⟩
  | 3 => ⟨S32, .i32⟩
  | 4 => ⟨S32x2048x4096, .f32⟩
  | 5 => ⟨S32x4096, .f32⟩
  | 6 => ⟨S32x2048x2048, .f32⟩
  | 7 => ⟨S32x2048, .f32⟩
  | 8 => ⟨S_, .i32⟩
  | 9 => ⟨S32, .i32⟩
  | 10 => ⟨S32, .i32⟩
  | 11 => ⟨S_, .i32⟩
  | 12 => ⟨S32, .i32⟩
  | 13 => ⟨S32, .i32⟩
  | 14 => ⟨S_, .i32⟩
  | 15 => ⟨S_, .i32⟩
  | 16 => ⟨S32, .i32⟩
  | 17 => ⟨S32, .i32⟩
  | 18 => ⟨S32, .i32⟩
  | 19 => ⟨S_, .i32⟩
  | 20 => ⟨S32, .i32⟩
  | 21 => ⟨S32, .i1⟩
  | 22 => ⟨S32, .i32⟩
  | 23 => ⟨S32, .i32⟩
  | 24 => ⟨S_, .i32⟩
  | 25 => ⟨S32, .i32⟩
  | 26 => ⟨S32, .i1⟩
  | 27 => ⟨S32, .i1⟩
  | 28 => ⟨S_, .i32⟩
  | 29 => ⟨S32, .i32⟩
  | 30 => ⟨S32, .i32⟩
  | 31 => ⟨S32, .i32⟩
  | 32 => ⟨S_, .i32⟩
  | 33 => ⟨S32, .i32⟩
  | 34 => ⟨S32, .i32⟩
  | 35 => ⟨S_, .i32⟩
  | 36 => ⟨S_, .i32⟩
  | 37 => ⟨S32, .i32⟩
  | 38 => ⟨S32, .i32⟩
  | 39 => ⟨S_, .i32⟩
  | 40 => ⟨S8704x4, .i32⟩
  | 41 => ⟨S8704x4, .i1⟩
  | 42 => ⟨S_, .i32⟩
  | 43 => ⟨S8704x4, .i32⟩
  | 44 => ⟨S8704x4, .i32⟩
  | 45 => ⟨S8704x4, .i32⟩
  | 46 => ⟨S8704x4x1, .i32⟩
  | 47 => ⟨S8704x4, .i32⟩
  | 48 => ⟨S8704x4, .i32⟩
  | 49 => ⟨S34816, .i32⟩
  | 50 => ⟨S8704x4, .i32⟩
  | 51 => ⟨S_, .i32⟩
  | 52 => ⟨S36864, .i32⟩
  | 53 => ⟨S34816, .i32⟩
  | 54 => ⟨S34816, .i32⟩
  | 55 => ⟨S_, .i32⟩
  | 56 => ⟨S34816, .i32⟩
  | 57 => ⟨S34816, .i1⟩
  | 58 => ⟨S_, .i32⟩
  | 59 => ⟨S34816, .i32⟩
  | 60 => ⟨S34816, .i32⟩
  | 61 => ⟨S34816, .i32⟩
  | 62 => ⟨S34816x1, .i32⟩
  | 63 => ⟨S36864, .i32⟩
  | 64 => ⟨S_, .i32⟩
  | 65 => ⟨S32, .i32⟩
  | 66 => ⟨S32, .i32⟩
  | 67 => ⟨S_, .i32⟩
  | 68 => ⟨S32, .i32⟩
  | 69 => ⟨S32, .i32⟩
  | 70 => ⟨S_, .i32⟩
  | 71 => ⟨S_, .i32⟩
  | 72 => ⟨S32, .i32⟩
  | 73 => ⟨S32, .i32⟩
  | 74 => ⟨S32, .i32⟩
  | 75 => ⟨S_, .i32⟩
  | 76 => ⟨S32, .i32⟩
  | 77 => ⟨S32, .i1⟩
  | 78 => ⟨S32, .i32⟩
  | 79 => ⟨S32, .i32⟩
  | 80 => ⟨S_, .i32⟩
  | 81 => ⟨S32, .i32⟩
  | 82 => ⟨S32, .i1⟩
  | 83 => ⟨S32, .i1⟩
  | 84 => ⟨S_, .i32⟩
  | 85 => ⟨S32, .i32⟩
  | 86 => ⟨S32, .i32⟩
  | 87 => ⟨S32, .i32⟩
  | 88 => ⟨S_, .i32⟩
  | 89 => ⟨S_, .i32⟩
  | 90 => ⟨S32, .i32⟩
  | 91 => ⟨S32, .i32⟩
  | 92 => ⟨S62, .i32⟩
  | 93 => ⟨S1, .i32⟩
  | 94 => ⟨S_, .i32⟩
  | 95 => ⟨S62, .i32⟩
  | 96 => ⟨S62, .i1⟩
  | 97 => ⟨S1x32, .i32⟩
  | 98 => ⟨S62x1, .i32⟩
  | 99 => ⟨S62x32, .i32⟩
  | 100 => ⟨S62x32, .i32⟩
  | 101 => ⟨S62x32, .i1⟩
  | 102 => ⟨S62x32, .i32⟩
  | 103 => ⟨S_, .i32⟩
  | 104 => ⟨S62, .i32⟩
  | 105 => ⟨S_, .i32⟩
  | 106 => ⟨S62, .i32⟩
  | 107 => ⟨S62, .i32⟩
  | 108 => ⟨S_, .i32⟩
  | 109 => ⟨S62, .i32⟩
  | 110 => ⟨S62, .i1⟩
  | 111 => ⟨S_, .i32⟩
  | 112 => ⟨S62, .i32⟩
  | 113 => ⟨S62, .i32⟩
  | 114 => ⟨S62, .i32⟩
  | 115 => ⟨S62x1, .i32⟩
  | 116 => ⟨S62, .i32⟩
  | 117 => ⟨S62, .i32⟩
  | 118 => ⟨S_, .i32⟩
  | 119 => ⟨S62, .i32⟩
  | 120 => ⟨S62, .i1⟩
  | 121 => ⟨S_, .i32⟩
  | 122 => ⟨S62, .i32⟩
  | 123 => ⟨S62, .i32⟩
  | 124 => ⟨S62, .i32⟩
  | 125 => ⟨S62x1, .i32⟩
  | 126 => ⟨S62, .i32⟩
  | 127 => ⟨S_, .i32⟩
  | _ => ⟨S8704x2048, .f32⟩

abbrev hbmTy0_1 (i : Nat) : BufTy := match i % 128 with
  | 0 => ⟨S62, .i32⟩
  | 1 => ⟨S62, .i32⟩
  | 2 => ⟨S62, .i32⟩
  | 3 => ⟨S_, .i32⟩
  | 4 => ⟨S62, .i32⟩
  | 5 => ⟨S62, .i1⟩
  | 6 => ⟨S_, .i32⟩
  | 7 => ⟨S62, .i32⟩
  | 8 => ⟨S62, .i32⟩
  | 9 => ⟨S62, .i32⟩
  | 10 => ⟨S62x1, .i32⟩
  | 11 => ⟨S62, .i32⟩
  | 12 => ⟨S_, .i32⟩
  | 13 => ⟨S62, .i32⟩
  | 14 => ⟨S62, .i32⟩
  | 15 => ⟨S62, .i32⟩
  | 16 => ⟨S_, .i32⟩
  | 17 => ⟨S_, .i32⟩
  | 18 => ⟨S_, .i32⟩
  | 19 => ⟨S62, .i32⟩
  | 20 => ⟨S62, .i32⟩
  | 21 => ⟨S_, .i32⟩
  | 22 => ⟨S62, .i32⟩
  | 23 => ⟨S62, .i32⟩
  | 24 => ⟨S_, .i32⟩
  | 25 => ⟨S_, .i32⟩
  | 26 => ⟨S_, .i32⟩
  | 27 => ⟨S_, .i32⟩
  | 28 => ⟨S_, .i32⟩
  | 29 => ⟨S_, .i1⟩
  | 30 => ⟨S_, .i32⟩
  | 31 => ⟨S_, .i32⟩
  | 32 => ⟨S_, .i32⟩
  | 33 => ⟨S1, .i32⟩
  | 34 => ⟨S_, .i32⟩
  | 35 => ⟨S62, .i32⟩
  | 36 => ⟨S_, .i32⟩
  | 37 => ⟨S_, .i1⟩
  | 38 => ⟨S_, .i32⟩
  | 39 => ⟨S_, .i32⟩
  | 40 => ⟨S_, .i32⟩
  | 41 => ⟨S1, .i32⟩
  | 42 => ⟨S_, .i32⟩
  | 43 => ⟨S62, .i32⟩
  | 44 => ⟨S62, .i32⟩
  | 45 => ⟨S_, .i32⟩
  | 46 => ⟨S_, .i32⟩
  | 47 => ⟨S62, .i32⟩
  | 48 => ⟨S1152, .i32⟩
  | 49 => ⟨S62x1, .i32⟩
  | 50 => ⟨S1x1152, .i32⟩
  | 51 => ⟨S62x1152, .i32⟩
  | 52 => ⟨S62x1152, .i32⟩
  | 53 => ⟨S62x1152, .i32⟩
  | 54 => ⟨S_, .i32⟩
  | 55 => ⟨S62x1152, .i32⟩
  | 56 => ⟨S62x1152, .i32⟩
  | 57 => ⟨S_, .i32⟩
  | 58 => ⟨S62x1152, .i32⟩
  | 59 => ⟨S62x1152, .i1⟩
  | 60 => ⟨S_, .i32⟩
  | 61 => ⟨S62x1152, .i32⟩
  | 62 => ⟨S62x1152, .i32⟩
  | 63 => ⟨S62x1152, .i32⟩
  | 64 => ⟨S62x1152x1, .i32⟩
  | 65 => ⟨S62x1152, .i32⟩
  | 66 => ⟨S1x1152, .i32⟩
  | 67 => ⟨S62x1, .i32⟩
  | 68 => ⟨S62x1152, .i32⟩
  | 69 => ⟨S62x1152, .i32⟩
  | 70 => ⟨S62x1152, .i1⟩
  | 71 => ⟨S_, .i32⟩
  | 72 => ⟨S_, .i32⟩
  | 73 => ⟨S62x1152, .i32⟩
  | 74 => ⟨S62x1152, .i32⟩
  | 75 => ⟨S_, .i32⟩
  | 76 => ⟨S_, .i32⟩
  | 77 => ⟨S62, .i32⟩
  | 78 => ⟨S62, .i32⟩
  | 79 => ⟨S62, .i32⟩
  | 80 => ⟨S_, .i32⟩
  | 81 => ⟨S62, .i32⟩
  | 82 => ⟨S62, .i1⟩
  | 83 => ⟨S62, .i32⟩
  | 84 => ⟨S62, .i32⟩
  | 85 => ⟨S_, .i32⟩
  | 86 => ⟨S62, .i32⟩
  | 87 => ⟨S62, .i1⟩
  | 88 => ⟨S62, .i1⟩
  | 89 => ⟨S_, .i32⟩
  | 90 => ⟨S62, .i32⟩
  | 91 => ⟨S62, .i32⟩
  | 92 => ⟨S_, .i32⟩
  | 93 => ⟨S36864, .i32⟩
  | 94 => ⟨S36864, .i32⟩
  | 95 => ⟨S_, .i32⟩
  | 96 => ⟨S_, .i32⟩
  | 97 => ⟨S36864, .i32⟩
  | 98 => ⟨S36864, .i32⟩
  | 99 => ⟨S36864, .i32⟩
  | 100 => ⟨S_, .i32⟩
  | 101 => ⟨S36864, .i32⟩
  | 102 => ⟨S36864, .i1⟩
  | 103 => ⟨S36864, .i32⟩
  | 104 => ⟨S36864, .i32⟩
  | 105 => ⟨S_, .i32⟩
  | 106 => ⟨S36864, .i32⟩
  | 107 => ⟨S36864, .i1⟩
  | 108 => ⟨S36864, .i1⟩
  | 109 => ⟨S_, .i32⟩
  | 110 => ⟨S36864, .i32⟩
  | 111 => ⟨S36864, .i32⟩
  | 112 => ⟨S36864, .i32⟩
  | 113 => ⟨S_, .i32⟩
  | 114 => ⟨S36864, .i32⟩
  | 115 => ⟨S36864, .i1⟩
  | 116 => ⟨S_, .i32⟩
  | 117 => ⟨S36864, .i32⟩
  | 118 => ⟨S36864, .i32⟩
  | 119 => ⟨S36864, .i32⟩
  | 120 => ⟨S36864x1, .i32⟩
  | 121 => ⟨S36864x2048, .f32⟩
  | 122 => ⟨S62x1x1152, .i32⟩
  | 123 => ⟨S32x1x4096, .f32⟩
  | 124 => ⟨S32x1x4096, .f32⟩
  | 125 => ⟨S32x1x2048, .f32⟩
  | 126 => ⟨S34816x2048, .f32⟩
  | _ => ⟨S8704x2048, .f32⟩

abbrev hbmTy (i : Nat) : BufTy := match i / 128 with
  | 0 => hbmTy0_0 i
  | 1 => hbmTy0_1 i
  | _ => ⟨S8704x2048, .f32⟩

abbrev bufTy : (tb : Table) → Fin (tcTables nBuf tb) → BufTy
  | .hbm, ⟨i, _⟩ => hbmTy i
  | .local _ .vmem, ⟨0, _⟩ => ⟨S1152x2048, .f32⟩
  | .local _ .vmem, ⟨1, _⟩ => ⟨S1152x2048, .f32⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x1x256, .f32⟩
  | .local _ .vmem, ⟨7, _⟩ => ⟨S1x1x256, .f32⟩
  | .local _ .vmem, ⟨8, _⟩ => ⟨S1x1x256, .f32⟩
  | .local _ .vmem, ⟨9, _⟩ => ⟨S1x1x256, .f32⟩
  | .local _ .vmem, ⟨10, _⟩ => ⟨S1x256x2048, .f32⟩
  | .local _ .vmem, ⟨11, _⟩ => ⟨S1x256x2048, .f32⟩
  | .local _ .vmem, ⟨12, _⟩ => ⟨S1x1x2048, .f32⟩
  | .local _ .vmem, ⟨13, _⟩ => ⟨S1x1x2048, .f32⟩
  | .local _ .vmem, ⟨14, _⟩ => ⟨S1152x2048, .bf16⟩
  | .local _ .vmem, ⟨15, _⟩ => ⟨S1152x2048, .f32⟩
  | .local _ .vmem, ⟨16, _⟩ => ⟨S2048x256, .bf16⟩
  | .local _ .vmem, ⟨17, _⟩ => ⟨S2048x256, .bf16⟩
  | .local _ .vmem, ⟨18, _⟩ => ⟨S256x2048, .bf16⟩
  | .local _ .smem, ⟨0, _⟩ => ⟨S62, .i32⟩
  | .local _ .smem, ⟨1, _⟩ => ⟨S62, .i32⟩
  | .local _ .smem, ⟨2, _⟩ => ⟨S62, .i32⟩
  | .local _ .smem, ⟨3, _⟩ => ⟨S1x1x1152, .i32⟩
  | .local _ .smem, ⟨4, _⟩ => ⟨S1x1x1152, .i32⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_c_1 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v4 : Ref sig .tc := ⟨.hbm, 31, rfl⟩
abbrev main_c_2 : Ref sig .tc := ⟨.hbm, 32, rfl⟩
abbrev main_v5 : Ref sig .tc := ⟨.hbm, 33, rfl⟩
abbrev main_v6 : Ref sig .tc := ⟨.hbm, 34, rfl⟩
abbrev main_call1_call0_c : Ref sig .tc := ⟨.hbm, 35, rfl⟩
abbrev main_call1_call0_v0 : Ref sig .tc := ⟨.hbm, 36, rfl⟩
abbrev main_v7 : Ref sig .tc := ⟨.hbm, 37, rfl⟩
abbrev main_v8 : Ref sig .tc := ⟨.hbm, 38, rfl⟩
abbrev main_c_3 : Ref sig .tc := ⟨.hbm, 39, rfl⟩
abbrev main_v9 : Ref sig .tc := ⟨.hbm, 40, rfl⟩
abbrev main_v10 : Ref sig .tc := ⟨.hbm, 41, rfl⟩
abbrev main_c_4 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_c_5 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_c_6 : Ref sig .tc := ⟨.hbm, 55, rfl⟩
abbrev main_v22 : Ref sig .tc := ⟨.hbm, 56, rfl⟩
abbrev main_v23 : Ref sig .tc := ⟨.hbm, 57, rfl⟩
abbrev main_c_7 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_c_8 : Ref sig .tc := ⟨.hbm, 64, rfl⟩
abbrev main_v29 : Ref sig .tc := ⟨.hbm, 65, rfl⟩
abbrev main_v30 : Ref sig .tc := ⟨.hbm, 66, rfl⟩
abbrev main_c_9 : Ref sig .tc := ⟨.hbm, 67, rfl⟩
abbrev main_v31 : Ref sig .tc := ⟨.hbm, 68, rfl⟩
abbrev main_v32 : Ref sig .tc := ⟨.hbm, 69, rfl⟩
abbrev main_c_10 : Ref sig .tc := ⟨.hbm, 70, rfl⟩
abbrev main_call2_v0 : Ref sig .tc := ⟨.hbm, 71, rfl⟩
abbrev main_call2_v1 : Ref sig .tc := ⟨.hbm, 72, rfl⟩
abbrev main_call2_v2 : Ref sig .tc := ⟨.hbm, 73, rfl⟩
abbrev main_call2_v3 : Ref sig .tc := ⟨.hbm, 74, rfl⟩
abbrev main_call2_v4 : Ref sig .tc := ⟨.hbm, 75, rfl⟩
abbrev main_call2_v5 : Ref sig .tc := ⟨.hbm, 76, rfl⟩
abbrev main_call2_v6 : Ref sig .tc := ⟨.hbm, 77, rfl⟩
abbrev main_call2_v7 : Ref sig .tc := ⟨.hbm, 78, rfl⟩
abbrev main_call2_v8 : Ref sig .tc := ⟨.hbm, 79, rfl⟩
abbrev main_call2_c : Ref sig .tc := ⟨.hbm, 80, rfl⟩
abbrev main_call2_v9 : Ref sig .tc := ⟨.hbm, 81, rfl⟩
abbrev main_call2_v10 : Ref sig .tc := ⟨.hbm, 82, rfl⟩
abbrev main_call2_v11 : Ref sig .tc := ⟨.hbm, 83, rfl⟩
abbrev main_call2_c_0 : Ref sig .tc := ⟨.hbm, 84, rfl⟩
abbrev main_call2_v12 : Ref sig .tc := ⟨.hbm, 85, rfl⟩
abbrev main_call2_v13 : Ref sig .tc := ⟨.hbm, 86, rfl⟩
abbrev main_v33 : Ref sig .tc := ⟨.hbm, 87, rfl⟩
abbrev main_call3_call0_c : Ref sig .tc := ⟨.hbm, 88, rfl⟩
abbrev main_call3_call0_v0 : Ref sig .tc := ⟨.hbm, 89, rfl⟩
abbrev main_v34 : Ref sig .tc := ⟨.hbm, 90, rfl⟩
abbrev main_v35 : Ref sig .tc := ⟨.hbm, 91, rfl⟩
abbrev main_v36 : Ref sig .tc := ⟨.hbm, 92, rfl⟩
abbrev main_v37 : Ref sig .tc := ⟨.hbm, 93, rfl⟩
abbrev main_v38 : Ref sig .tc := ⟨.hbm, 94, rfl⟩
abbrev main_v39 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_v43 : Ref sig .tc := ⟨.hbm, 99, rfl⟩
abbrev main_v44 : Ref sig .tc := ⟨.hbm, 100, rfl⟩
abbrev main_v45 : Ref sig .tc := ⟨.hbm, 101, rfl⟩
abbrev main_v46 : Ref sig .tc := ⟨.hbm, 102, rfl⟩
abbrev main_c_11 : Ref sig .tc := ⟨.hbm, 103, rfl⟩
abbrev main_v47 : Ref sig .tc := ⟨.hbm, 104, rfl⟩
abbrev main_c_12 : Ref sig .tc := ⟨.hbm, 105, rfl⟩
abbrev main_v48 : Ref sig .tc := ⟨.hbm, 106, rfl⟩
abbrev main_v49 : Ref sig .tc := ⟨.hbm, 107, rfl⟩
abbrev main_c_13 : Ref sig .tc := ⟨.hbm, 108, rfl⟩
abbrev main_v50 : Ref sig .tc := ⟨.hbm, 109, rfl⟩
abbrev main_v51 : Ref sig .tc := ⟨.hbm, 110, rfl⟩
abbrev main_c_14 : Ref sig .tc := ⟨.hbm, 111, rfl⟩
abbrev main_v52 : Ref sig .tc := ⟨.hbm, 112, rfl⟩
abbrev main_v53 : Ref sig .tc := ⟨.hbm, 113, rfl⟩
abbrev main_v54 : Ref sig .tc := ⟨.hbm, 114, rfl⟩
abbrev main_v55 : Ref sig .tc := ⟨.hbm, 115, rfl⟩
abbrev main_v56 : Ref sig .tc := ⟨.hbm, 116, rfl⟩
abbrev main_v57 : Ref sig .tc := ⟨.hbm, 117, rfl⟩
abbrev main_c_15 : Ref sig .tc := ⟨.hbm, 118, rfl⟩
abbrev main_v58 : Ref sig .tc := ⟨.hbm, 119, rfl⟩
abbrev main_v59 : Ref sig .tc := ⟨.hbm, 120, rfl⟩
abbrev main_c_16 : Ref sig .tc := ⟨.hbm, 121, rfl⟩
abbrev main_v60 : Ref sig .tc := ⟨.hbm, 122, rfl⟩
abbrev main_v61 : Ref sig .tc := ⟨.hbm, 123, rfl⟩
abbrev main_v62 : Ref sig .tc := ⟨.hbm, 124, rfl⟩
abbrev main_v63 : Ref sig .tc := ⟨.hbm, 125, rfl⟩
abbrev main_v64 : Ref sig .tc := ⟨.hbm, 126, rfl⟩
abbrev main_c_17 : Ref sig .tc := ⟨.hbm, 127, rfl⟩
abbrev main_v65 : Ref sig .tc := ⟨.hbm, 128, rfl⟩
abbrev main_v66 : Ref sig .tc := ⟨.hbm, 129, rfl⟩
abbrev main_v67 : Ref sig .tc := ⟨.hbm, 130, rfl⟩
abbrev main_c_18 : Ref sig .tc := ⟨.hbm, 131, rfl⟩
abbrev main_v68 : Ref sig .tc := ⟨.hbm, 132, rfl⟩
abbrev main_v69 : Ref sig .tc := ⟨.hbm, 133, rfl⟩
abbrev main_c_19 : Ref sig .tc := ⟨.hbm, 134, rfl⟩
abbrev main_v70 : Ref sig .tc := ⟨.hbm, 135, rfl⟩
abbrev main_v71 : Ref sig .tc := ⟨.hbm, 136, rfl⟩
abbrev main_v72 : Ref sig .tc := ⟨.hbm, 137, rfl⟩
abbrev main_v73 : Ref sig .tc := ⟨.hbm, 138, rfl⟩
abbrev main_v74 : Ref sig .tc := ⟨.hbm, 139, rfl⟩
abbrev main_c_20 : Ref sig .tc := ⟨.hbm, 140, rfl⟩
abbrev main_v75 : Ref sig .tc := ⟨.hbm, 141, rfl⟩
abbrev main_v76 : Ref sig .tc := ⟨.hbm, 142, rfl⟩
abbrev main_v77 : Ref sig .tc := ⟨.hbm, 143, rfl⟩
abbrev main_c_21 : Ref sig .tc := ⟨.hbm, 144, rfl⟩
abbrev main_c_22 : Ref sig .tc := ⟨.hbm, 145, rfl⟩
abbrev main_call4_v0 : Ref sig .tc := ⟨.hbm, 146, rfl⟩
abbrev main_call4_v1 : Ref sig .tc := ⟨.hbm, 147, rfl⟩
abbrev main_call4_v2 : Ref sig .tc := ⟨.hbm, 148, rfl⟩
abbrev main_call4_v3 : Ref sig .tc := ⟨.hbm, 149, rfl⟩
abbrev main_call4_v4 : Ref sig .tc := ⟨.hbm, 150, rfl⟩
abbrev main_v78 : Ref sig .tc := ⟨.hbm, 151, rfl⟩
abbrev main_c_23 : Ref sig .tc := ⟨.hbm, 152, rfl⟩
abbrev main_v79 : Ref sig .tc := ⟨.hbm, 153, rfl⟩
abbrev main_c_24 : Ref sig .tc := ⟨.hbm, 154, rfl⟩
abbrev main_v80 : Ref sig .tc := ⟨.hbm, 155, rfl⟩
abbrev main_c_25 : Ref sig .tc := ⟨.hbm, 156, rfl⟩
abbrev main_v81 : Ref sig .tc := ⟨.hbm, 157, rfl⟩
abbrev main_c_26 : Ref sig .tc := ⟨.hbm, 158, rfl⟩
abbrev main_v82 : Ref sig .tc := ⟨.hbm, 159, rfl⟩
abbrev main_v83 : Ref sig .tc := ⟨.hbm, 160, rfl⟩
abbrev main_v84 : Ref sig .tc := ⟨.hbm, 161, rfl⟩
abbrev main_v85 : Ref sig .tc := ⟨.hbm, 162, rfl⟩
abbrev main_call5_v0 : Ref sig .tc := ⟨.hbm, 163, rfl⟩
abbrev main_c_27 : Ref sig .tc := ⟨.hbm, 164, rfl⟩
abbrev main_v87 : Ref sig .tc := ⟨.hbm, 165, rfl⟩
abbrev main_c_28 : Ref sig .tc := ⟨.hbm, 166, rfl⟩
abbrev main_v88 : Ref sig .tc := ⟨.hbm, 167, rfl⟩
abbrev main_v89 : Ref sig .tc := ⟨.hbm, 168, rfl⟩
abbrev main_v90 : Ref sig .tc := ⟨.hbm, 169, rfl⟩
abbrev main_v91 : Ref sig .tc := ⟨.hbm, 170, rfl⟩
abbrev main_call6_v0 : Ref sig .tc := ⟨.hbm, 171, rfl⟩
abbrev main_v92 : Ref sig .tc := ⟨.hbm, 172, rfl⟩
abbrev main_c_29 : Ref sig .tc := ⟨.hbm, 173, rfl⟩
abbrev main_call7_v0 : Ref sig .tc := ⟨.hbm, 174, rfl⟩
abbrev main_call7_v1 : Ref sig .tc := ⟨.hbm, 175, rfl⟩
abbrev main_v94 : Ref sig .tc := ⟨.hbm, 176, rfl⟩
abbrev main_v95 : Ref sig .tc := ⟨.hbm, 177, rfl⟩
abbrev main_v96 : Ref sig .tc := ⟨.hbm, 178, rfl⟩
abbrev main_v97 : Ref sig .tc := ⟨.hbm, 179, rfl⟩
abbrev main_v98 : Ref sig .tc := ⟨.hbm, 180, rfl⟩
abbrev main_v99 : Ref sig .tc := ⟨.hbm, 181, rfl⟩
abbrev main_c_30 : Ref sig .tc := ⟨.hbm, 182, rfl⟩
abbrev main_v100 : Ref sig .tc := ⟨.hbm, 183, rfl⟩
abbrev main_v101 : Ref sig .tc := ⟨.hbm, 184, rfl⟩
abbrev main_c_31 : Ref sig .tc := ⟨.hbm, 185, rfl⟩
abbrev main_v102 : Ref sig .tc := ⟨.hbm, 186, rfl⟩
abbrev main_v103 : Ref sig .tc := ⟨.hbm, 187, rfl⟩
abbrev main_c_32 : Ref sig .tc := ⟨.hbm, 188, rfl⟩
abbrev main_v104 : Ref sig .tc := ⟨.hbm, 189, rfl⟩
abbrev main_v105 : Ref sig .tc := ⟨.hbm, 190, rfl⟩
abbrev main_v106 : Ref sig .tc := ⟨.hbm, 191, rfl⟩
abbrev main_v107 : Ref sig .tc := ⟨.hbm, 192, rfl⟩
abbrev main_v108 : Ref sig .tc := ⟨.hbm, 193, rfl⟩
abbrev main_v109 : Ref sig .tc := ⟨.hbm, 194, rfl⟩
abbrev main_v110 : Ref sig .tc := ⟨.hbm, 195, rfl⟩
abbrev main_v111 : Ref sig .tc := ⟨.hbm, 196, rfl⟩
abbrev main_v112 : Ref sig .tc := ⟨.hbm, 197, rfl⟩
abbrev main_v113 : Ref sig .tc := ⟨.hbm, 198, rfl⟩
abbrev main_c_33 : Ref sig .tc := ⟨.hbm, 199, rfl⟩
abbrev main_call8_v0 : Ref sig .tc := ⟨.hbm, 200, rfl⟩
abbrev main_call8_v1 : Ref sig .tc := ⟨.hbm, 201, rfl⟩
abbrev main_v114 : Ref sig .tc := ⟨.hbm, 202, rfl⟩
abbrev main_c_34 : Ref sig .tc := ⟨.hbm, 203, rfl⟩
abbrev main_call9_v0 : Ref sig .tc := ⟨.hbm, 204, rfl⟩
abbrev main_call9_v1 : Ref sig .tc := ⟨.hbm, 205, rfl⟩
abbrev main_call9_v2 : Ref sig .tc := ⟨.hbm, 206, rfl⟩
abbrev main_call9_v3 : Ref sig .tc := ⟨.hbm, 207, rfl⟩
abbrev main_call9_v4 : Ref sig .tc := ⟨.hbm, 208, rfl⟩
abbrev main_call9_v5 : Ref sig .tc := ⟨.hbm, 209, rfl⟩
abbrev main_call9_v6 : Ref sig .tc := ⟨.hbm, 210, rfl⟩
abbrev main_call9_v7 : Ref sig .tc := ⟨.hbm, 211, rfl⟩
abbrev main_call9_v8 : Ref sig .tc := ⟨.hbm, 212, rfl⟩
abbrev main_call9_c : Ref sig .tc := ⟨.hbm, 213, rfl⟩
abbrev main_call9_v9 : Ref sig .tc := ⟨.hbm, 214, rfl⟩
abbrev main_call9_v10 : Ref sig .tc := ⟨.hbm, 215, rfl⟩
abbrev main_call9_v11 : Ref sig .tc := ⟨.hbm, 216, rfl⟩
abbrev main_call9_c_0 : Ref sig .tc := ⟨.hbm, 217, rfl⟩
abbrev main_call9_v12 : Ref sig .tc := ⟨.hbm, 218, rfl⟩
abbrev main_call9_v13 : Ref sig .tc := ⟨.hbm, 219, rfl⟩
abbrev main_c_35 : Ref sig .tc := ⟨.hbm, 220, rfl⟩
abbrev main_v116 : Ref sig .tc := ⟨.hbm, 221, rfl⟩
abbrev main_v117 : Ref sig .tc := ⟨.hbm, 222, rfl⟩
abbrev main_c_36 : Ref sig .tc := ⟨.hbm, 223, rfl⟩
abbrev main_call10_v0 : Ref sig .tc := ⟨.hbm, 224, rfl⟩
abbrev main_call10_v1 : Ref sig .tc := ⟨.hbm, 225, rfl⟩
abbrev main_call10_v2 : Ref sig .tc := ⟨.hbm, 226, rfl⟩
abbrev main_call10_v3 : Ref sig .tc := ⟨.hbm, 227, rfl⟩
abbrev main_call10_v4 : Ref sig .tc := ⟨.hbm, 228, rfl⟩
abbrev main_call10_v5 : Ref sig .tc := ⟨.hbm, 229, rfl⟩
abbrev main_call10_v6 : Ref sig .tc := ⟨.hbm, 230, rfl⟩
abbrev main_call10_v7 : Ref sig .tc := ⟨.hbm, 231, rfl⟩
abbrev main_call10_v8 : Ref sig .tc := ⟨.hbm, 232, rfl⟩
abbrev main_call10_c : Ref sig .tc := ⟨.hbm, 233, rfl⟩
abbrev main_call10_v9 : Ref sig .tc := ⟨.hbm, 234, rfl⟩
abbrev main_call10_v10 : Ref sig .tc := ⟨.hbm, 235, rfl⟩
abbrev main_call10_v11 : Ref sig .tc := ⟨.hbm, 236, rfl⟩
abbrev main_call10_c_0 : Ref sig .tc := ⟨.hbm, 237, rfl⟩
abbrev main_call10_v12 : Ref sig .tc := ⟨.hbm, 238, rfl⟩
abbrev main_call10_v13 : Ref sig .tc := ⟨.hbm, 239, rfl⟩
abbrev main_v118 : Ref sig .tc := ⟨.hbm, 240, rfl⟩
abbrev main_c_37 : Ref sig .tc := ⟨.hbm, 241, rfl⟩
abbrev main_v119 : Ref sig .tc := ⟨.hbm, 242, rfl⟩
abbrev main_v120 : Ref sig .tc := ⟨.hbm, 243, rfl⟩
abbrev main_c_38 : Ref sig .tc := ⟨.hbm, 244, rfl⟩
abbrev main_v121 : Ref sig .tc := ⟨.hbm, 245, rfl⟩
abbrev main_v122 : Ref sig .tc := ⟨.hbm, 246, rfl⟩
abbrev main_v123 : Ref sig .tc := ⟨.hbm, 247, rfl⟩
abbrev main_v124 : Ref sig .tc := ⟨.hbm, 248, rfl⟩
abbrev main_v125 : Ref sig .tc := ⟨.hbm, 249, rfl⟩
abbrev main_v126 : Ref sig .tc := ⟨.hbm, 250, rfl⟩
abbrev main_v127 : Ref sig .tc := ⟨.hbm, 251, rfl⟩
abbrev main_v128 : Ref sig .tc := ⟨.hbm, 252, rfl⟩
abbrev main_v129 : Ref sig .tc := ⟨.hbm, 253, rfl⟩
abbrev main_v130 : Ref sig .tc := ⟨.hbm, 254, rfl⟩
abbrev main_v86 : Ref sig .tc := ⟨.smem, 0, rfl⟩
abbrev main_v115 : Ref sig .tc := ⟨.smem, 1, rfl⟩
abbrev main_v93 : Ref sig .tc := ⟨.smem, 2, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_stg0_0 : Ref sig .tc := ⟨.smem, 3, rfl⟩
abbrev cc0_stg0_1 : Ref sig .tc := ⟨.smem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![62, 8], ![false, false]⟩

abbrev pre0 : Pipeline.Prefetch sig := ⟨3, ![main_v86.idx, main_v115.idx, main_v93.idx], fun | 0 => main_v86.names | 1 => main_v115.names | 2 => main_v93.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_mult1 (pf : pre0.Contents (Elt F)) (i : grid0.Coords) : BitVec 32 :=
  let arg0 : BitVec 32 := BitVec.ofNat 32 (i 0).val
  let v0 : Index := Scalar.indexCast arg0
  let v1 : BitVec 32 := pf.atD 1 ![v0.toNat]
  let c8_i32 : BitVec 32 := 8#32
  let v2 : BitVec 32 := Scalar.muli v1 c8_i32
  v2

def k0_cond2 (i : grid0.Coords) : BitVec 1 :=
  let arg1 : BitVec 32 := BitVec.ofNat 32 (i 1).val
  let c0_i32_8 : BitVec 32 := 0#32
  let v24 : BitVec 1 := Scalar.cmpi .eq arg1 c0_i32_8
  let v25 : BitVec 32 := Scalar.extui v24
  let c0_i32_9 : BitVec 32 := 0#32
  let v26 : BitVec 1 := Scalar.cmpi .ne v25 c0_i32_9
  v26

@[reducible] def k0_t1_loop (v1 : BitVec 32) : Scf.Loop 32 :=
  let c0_i32_37 : BitVec 32 := 0#32
  let c384_i32 : BitVec 32 := 384#32
  let v2 : BitVec 32 := Scalar.addi v1 c384_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c384_i32_0 : BitVec 32 := 384#32
  let c0_i32_2 : BitVec 32 := 0#32
  let v10 : BitVec 1 := Scalar.cmpi .sgt c384_i32_0 c0_i32_2
  let v11 : BitVec 32 := Scalar.extui v10
  let c0_i32_3 : BitVec 32 := 0#32
  let v12 : BitVec 1 := Scalar.cmpi .slt c384_i32_0 c0_i32_3
  let v13 : BitVec 32 := Scalar.extui v12
  let v14 : BitVec 32 := Scalar.subi v11 v13
  let v15 : BitVec 1 := Scalar.cmpi .ne v9 v14
  let v16 : BitVec 32 := Scalar.remsi v3 c384_i32_0
  let c0_i32_4 : BitVec 32 := 0#32
  let v17 : BitVec 1 := Scalar.cmpi .ne v16 c0_i32_4
  let v18 : BitVec 1 := Scalar.andi v15 v17
  let v4 : BitVec 32 := Scalar.divsi v3 c384_i32_0
  let c1_i32_5 : BitVec 32 := 1#32
  let v19 : BitVec 32 := Scalar.subi v4 c1_i32_5
  let v20 : BitVec 32 := Scalar.select v18 v19 v4
  let v57 : BitVec 32 := Scalar.subi v20 c0_i32_37
  let c1_i32_38 : BitVec 32 := 1#32
  let v59 : BitVec 32 := Scalar.divsi v57 c1_i32_38
  let v60 : BitVec 32 := Scalar.muli v59 c1_i32_38
  let v61 : BitVec 32 := Scalar.addi c0_i32_37 v60
  let c1_i32_39 : BitVec 32 := 1#32
  ⟨c0_i32_37, v61, c1_i32_39⟩
def k0_cond1 (v1 : BitVec 32) : BitVec 1 :=
  let c0_i32_6 : BitVec 32 := 0#32
  let v21 : BitVec 1 := Scalar.cmpi .sgt v1 c0_i32_6
  let v22 : BitVec 32 := Scalar.extui v21
  let c0_i32_7 : BitVec 32 := 0#32
  let v23 : BitVec 1 := Scalar.cmpi .ne v22 c0_i32_7
  v23

def k0_mult2 (v1 : BitVec 32) (k0_t1 : Fin (k0_t1_loop v1).trips) : BitVec 32 :=
  let c0_i32_37 : BitVec 32 := 0#32
  let c1_i32_39 : BitVec 32 := 1#32
  let arg20 : BitVec 32 := Scf.iv c0_i32_37 c1_i32_39 k0_t1
  let c384_i32_41 : BitVec 32 := 384#32
  let v62 : BitVec 32 := Scalar.muli arg20 c384_i32_41
  v62
def k0_off2 (v1 : BitVec 32) (k0_t1 : Fin (k0_t1_loop v1).trips) : Fin 2 → Nat :=
  let c0_i32_37 : BitVec 32 := 0#32
  let c1_i32_39 : BitVec 32 := 1#32
  let arg20 : BitVec 32 := Scf.iv c0_i32_37 c1_i32_39 k0_t1
  let c384_i32_41 : BitVec 32 := 384#32
  let v62 : BitVec 32 := Scalar.muli arg20 c384_i32_41
  let v63 : BitVec 32 := v62
  let v64 : Index := Scalar.indexCast v63
  let c0_42 : Index := 0#32
  ![v64.toNat, 0]
@[reducible] def k0_t2_loop (v1 : BitVec 32) : Scf.Loop 32 :=
  let c0_i32_37 : BitVec 32 := 0#32
  let c384_i32 : BitVec 32 := 384#32
  let v2 : BitVec 32 := Scalar.addi v1 c384_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c384_i32_0 : BitVec 32 := 384#32
  let c0_i32_2 : BitVec 32 := 0#32
  let v10 : BitVec 1 := Scalar.cmpi .sgt c384_i32_0 c0_i32_2
  let v11 : BitVec 32 := Scalar.extui v10
  let c0_i32_3 : BitVec 32 := 0#32
  let v12 : BitVec 1 := Scalar.cmpi .slt c384_i32_0 c0_i32_3
  let v13 : BitVec 32 := Scalar.extui v12
  let v14 : BitVec 32 := Scalar.subi v11 v13
  let v15 : BitVec 1 := Scalar.cmpi .ne v9 v14
  let v16 : BitVec 32 := Scalar.remsi v3 c384_i32_0
  let c0_i32_4 : BitVec 32 := 0#32
  let v17 : BitVec 1 := Scalar.cmpi .ne v16 c0_i32_4
  let v18 : BitVec 1 := Scalar.andi v15 v17
  let v4 : BitVec 32 := Scalar.divsi v3 c384_i32_0
  let c1_i32_5 : BitVec 32 := 1#32
  let v19 : BitVec 32 := Scalar.subi v4 c1_i32_5
  let v20 : BitVec 32 := Scalar.select v18 v19 v4
  let v57 : BitVec 32 := Scalar.subi v20 c0_i32_37
  let c1_i32_38 : BitVec 32 := 1#32
  let v59 : BitVec 32 := Scalar.divsi v57 c1_i32_38
  let v60 : BitVec 32 := Scalar.muli v59 c1_i32_38
  let v61 : BitVec 32 := Scalar.addi c0_i32_37 v60
  let v58 : BitVec 32 := Scalar.addi c0_i32_37 v57
  let c1_i32_40 : BitVec 32 := 1#32
  ⟨v61, v58, c1_i32_40⟩
def k0_mult3 (v1 : BitVec 32) (k0_t2 : Fin (k0_t2_loop v1).trips) : BitVec 32 :=
  let c0_i32_37 : BitVec 32 := 0#32
  let c384_i32 : BitVec 32 := 384#32
  let v2 : BitVec 32 := Scalar.addi v1 c384_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c384_i32_0 : BitVec 32 := 384#32
  let c0_i32_2 : BitVec 32 := 0#32
  let v10 : BitVec 1 := Scalar.cmpi .sgt c384_i32_0 c0_i32_2
  let v11 : BitVec 32 := Scalar.extui v10
  let c0_i32_3 : BitVec 32 := 0#32
  let v12 : BitVec 1 := Scalar.cmpi .slt c384_i32_0 c0_i32_3
  let v13 : BitVec 32 := Scalar.extui v12
  let v14 : BitVec 32 := Scalar.subi v11 v13
  let v15 : BitVec 1 := Scalar.cmpi .ne v9 v14
  let v16 : BitVec 32 := Scalar.remsi v3 c384_i32_0
  let c0_i32_4 : BitVec 32 := 0#32
  let v17 : BitVec 1 := Scalar.cmpi .ne v16 c0_i32_4
  let v18 : BitVec 1 := Scalar.andi v15 v17
  let v4 : BitVec 32 := Scalar.divsi v3 c384_i32_0
  let c1_i32_5 : BitVec 32 := 1#32
  let v19 : BitVec 32 := Scalar.subi v4 c1_i32_5
  let v20 : BitVec 32 := Scalar.select v18 v19 v4
  let v57 : BitVec 32 := Scalar.subi v20 c0_i32_37
  let c1_i32_38 : BitVec 32 := 1#32
  let v59 : BitVec 32 := Scalar.divsi v57 c1_i32_38
  let v60 : BitVec 32 := Scalar.muli v59 c1_i32_38
  let v61 : BitVec 32 := Scalar.addi c0_i32_37 v60
  let c1_i32_40 : BitVec 32 := 1#32
  let arg20 : BitVec 32 := Scf.iv v61 c1_i32_40 k0_t2
  let c384_i32_41 : BitVec 32 := 384#32
  let v62 : BitVec 32 := Scalar.muli arg20 c384_i32_41
  v62
def k0_off3 (v1 : BitVec 32) (k0_t2 : Fin (k0_t2_loop v1).trips) : Fin 2 → Nat :=
  let c0_i32_37 : BitVec 32 := 0#32
  let c384_i32 : BitVec 32 := 384#32
  let v2 : BitVec 32 := Scalar.addi v1 c384_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c384_i32_0 : BitVec 32 := 384#32
  let c0_i32_2 : BitVec 32 := 0#32
  let v10 : BitVec 1 := Scalar.cmpi .sgt c384_i32_0 c0_i32_2
  let v11 : BitVec 32 := Scalar.extui v10
  let c0_i32_3 : BitVec 32 := 0#32
  let v12 : BitVec 1 := Scalar.cmpi .slt c384_i32_0 c0_i32_3
  let v13 : BitVec 32 := Scalar.extui v12
  let v14 : BitVec 32 := Scalar.subi v11 v13
  let v15 : BitVec 1 := Scalar.cmpi .ne v9 v14
  let v16 : BitVec 32 := Scalar.remsi v3 c384_i32_0
  let c0_i32_4 : BitVec 32 := 0#32
  let v17 : BitVec 1 := Scalar.cmpi .ne v16 c0_i32_4
  let v18 : BitVec 1 := Scalar.andi v15 v17
  let v4 : BitVec 32 := Scalar.divsi v3 c384_i32_0
  let c1_i32_5 : BitVec 32 := 1#32
  let v19 : BitVec 32 := Scalar.subi v4 c1_i32_5
  let v20 : BitVec 32 := Scalar.select v18 v19 v4
  let v57 : BitVec 32 := Scalar.subi v20 c0_i32_37
  let c1_i32_38 : BitVec 32 := 1#32
  let v59 : BitVec 32 := Scalar.divsi v57 c1_i32_38
  let v60 : BitVec 32 := Scalar.muli v59 c1_i32_38
  let v61 : BitVec 32 := Scalar.addi c0_i32_37 v60
  let c1_i32_40 : BitVec 32 := 1#32
  let arg20 : BitVec 32 := Scf.iv v61 c1_i32_40 k0_t2
  let c384_i32_41 : BitVec 32 := 384#32
  let v62 : BitVec 32 := Scalar.muli arg20 c384_i32_41
  let v63 : BitVec 32 := v62
  let v64 : Index := Scalar.indexCast v63
  let c0_42 : Index := 0#32
  ![v64.toNat, 0]
@[reducible] def k0_t3_loop (v1 : BitVec 32) : Scf.Loop 32 :=
  let c0_i32_31 : BitVec 32 := 0#32
  let c384_i32 : BitVec 32 := 384#32
  let v2 : BitVec 32 := Scalar.addi v1 c384_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c384_i32_0 : BitVec 32 := 384#32
  let c0_i32_2 : BitVec 32 := 0#32
  let v10 : BitVec 1 := Scalar.cmpi .sgt c384_i32_0 c0_i32_2
  let v11 : BitVec 32 := Scalar.extui v10
  let c0_i32_3 : BitVec 32 := 0#32
  let v12 : BitVec 1 := Scalar.cmpi .slt c384_i32_0 c0_i32_3
  let v13 : BitVec 32 := Scalar.extui v12
  let v14 : BitVec 32 := Scalar.subi v11 v13
  let v15 : BitVec 1 := Scalar.cmpi .ne v9 v14
  let v16 : BitVec 32 := Scalar.remsi v3 c384_i32_0
  let c0_i32_4 : BitVec 32 := 0#32
  let v17 : BitVec 1 := Scalar.cmpi .ne v16 c0_i32_4
  let v18 : BitVec 1 := Scalar.andi v15 v17
  let v4 : BitVec 32 := Scalar.divsi v3 c384_i32_0
  let c1_i32_5 : BitVec 32 := 1#32
  let v19 : BitVec 32 := Scalar.subi v4 c1_i32_5
  let v20 : BitVec 32 := Scalar.select v18 v19 v4
  let v49 : BitVec 32 := Scalar.subi v20 c0_i32_31
  let c1_i32_32 : BitVec 32 := 1#32
  let v51 : BitVec 32 := Scalar.divsi v49 c1_i32_32
  let v52 : BitVec 32 := Scalar.muli v51 c1_i32_32
  let v53 : BitVec 32 := Scalar.addi c0_i32_31 v52
  let c1_i32_33 : BitVec 32 := 1#32
  ⟨c0_i32_31, v53, c1_i32_33⟩
def k0_mult4 (v1 : BitVec 32) (k0_t3 : Fin (k0_t3_loop v1).trips) : BitVec 32 :=
  let c0_i32_31 : BitVec 32 := 0#32
  let c1_i32_33 : BitVec 32 := 1#32
  let arg20 : BitVec 32 := Scf.iv c0_i32_31 c1_i32_33 k0_t3
  let c384_i32_36 : BitVec 32 := 384#32
  let v57 : BitVec 32 := Scalar.muli arg20 c384_i32_36
  v57
def k0_off4 (v1 : BitVec 32) (k0_t3 : Fin (k0_t3_loop v1).trips) : Fin 2 → Nat :=
  let c0_i32_31 : BitVec 32 := 0#32
  let c1_i32_33 : BitVec 32 := 1#32
  let arg20 : BitVec 32 := Scf.iv c0_i32_31 c1_i32_33 k0_t3
  let c384_i32_36 : BitVec 32 := 384#32
  let v57 : BitVec 32 := Scalar.muli arg20 c384_i32_36
  let v58 : BitVec 32 := v57
  let v59 : Index := Scalar.indexCast v58
  let c0_37 : Index := 0#32
  ![v59.toNat, 0]
def k0_cond3 (i : grid0.Coords) : BitVec 1 :=
  let arg1 : BitVec 32 := BitVec.ofNat 32 (i 1).val
  let c0_i32_54 : BitVec 32 := 0#32
  let v91 : BitVec 1 := Scalar.cmpi .eq arg1 c0_i32_54
  let v92 : BitVec 32 := Scalar.extui v91
  let c0_i32_55 : BitVec 32 := 0#32
  let v93 : BitVec 1 := Scalar.cmpi .ne v92 c0_i32_55
  v93

def k0_off5 (v1 : BitVec 32) (k0_t3 : Fin (k0_t3_loop v1).trips) : Fin 2 → Nat :=
  let c0_i32_31 : BitVec 32 := 0#32
  let c1_i32_33 : BitVec 32 := 1#32
  let arg20 : BitVec 32 := Scf.iv c0_i32_31 c1_i32_33 k0_t3
  let c384_i32_36 : BitVec 32 := 384#32
  let v57 : BitVec 32 := Scalar.muli arg20 c384_i32_36
  let v58 : BitVec 32 := v57
  let v101 : Index := Scalar.indexCast v58
  let c0_61 : Index := 0#32
  ![v101.toNat, 0]
def k0_cond4 (i : grid0.Coords) : BitVec 1 :=
  let arg1 : BitVec 32 := BitVec.ofNat 32 (i 1).val
  let c0_i32_56 : BitVec 32 := 0#32
  let v94 : BitVec 1 := Scalar.cmpi .ne arg1 c0_i32_56
  let v95 : BitVec 32 := Scalar.extui v94
  let c0_i32_57 : BitVec 32 := 0#32
  let v96 : BitVec 1 := Scalar.cmpi .ne v95 c0_i32_57
  v96

def k0_off6 (v1 : BitVec 32) (k0_t3 : Fin (k0_t3_loop v1).trips) : Fin 2 → Nat :=
  let c0_i32_31 : BitVec 32 := 0#32
  let c1_i32_33 : BitVec 32 := 1#32
  let arg20 : BitVec 32 := Scf.iv c0_i32_31 c1_i32_33 k0_t3
  let c384_i32_36 : BitVec 32 := 384#32
  let v57 : BitVec 32 := Scalar.muli arg20 c384_i32_36
  let v58 : BitVec 32 := v57
  let v97 : Index := Scalar.indexCast v58
  let c0_58 : Index := 0#32
  ![v97.toNat, 0]
@[reducible] def k0_t4_loop (v1 : BitVec 32) : Scf.Loop 32 :=
  let c0_i32_31 : BitVec 32 := 0#32
  let c384_i32 : BitVec 32 := 384#32
  let v2 : BitVec 32 := Scalar.addi v1 c384_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c384_i32_0 : BitVec 32 := 384#32
  let c0_i32_2 : BitVec 32 := 0#32
  let v10 : BitVec 1 := Scalar.cmpi .sgt c384_i32_0 c0_i32_2
  let v11 : BitVec 32 := Scalar.extui v10
  let c0_i32_3 : BitVec 32 := 0#32
  let v12 : BitVec 1 := Scalar.cmpi .slt c384_i32_0 c0_i32_3
  let v13 : BitVec 32 := Scalar.extui v12
  let v14 : BitVec 32 := Scalar.subi v11 v13
  let v15 : BitVec 1 := Scalar.cmpi .ne v9 v14
  let v16 : BitVec 32 := Scalar.remsi v3 c384_i32_0
  let c0_i32_4 : BitVec 32 := 0#32
  let v17 : BitVec 1 := Scalar.cmpi .ne v16 c0_i32_4
  let v18 : BitVec 1 := Scalar.andi v15 v17
  let v4 : BitVec 32 := Scalar.divsi v3 c384_i32_0
  let c1_i32_5 : BitVec 32 := 1#32
  let v19 : BitVec 32 := Scalar.subi v4 c1_i32_5
  let v20 : BitVec 32 := Scalar.select v18 v19 v4
  let v49 : BitVec 32 := Scalar.subi v20 c0_i32_31
  let c1_i32_32 : BitVec 32 := 1#32
  let v51 : BitVec 32 := Scalar.divsi v49 c1_i32_32
  let v52 : BitVec 32 := Scalar.muli v51 c1_i32_32
  let v53 : BitVec 32 := Scalar.addi c0_i32_31 v52
  let v50 : BitVec 32 := Scalar.addi c0_i32_31 v49
  let c1_i32_34 : BitVec 32 := 1#32
  ⟨v53, v50, c1_i32_34⟩
def k0_mult5 (v1 : BitVec 32) (k0_t4 : Fin (k0_t4_loop v1).trips) : BitVec 32 :=
  let c0_i32_31 : BitVec 32 := 0#32
  let c384_i32 : BitVec 32 := 384#32
  let v2 : BitVec 32 := Scalar.addi v1 c384_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c384_i32_0 : BitVec 32 := 384#32
  let c0_i32_2 : BitVec 32 := 0#32
  let v10 : BitVec 1 := Scalar.cmpi .sgt c384_i32_0 c0_i32_2
  let v11 : BitVec 32 := Scalar.extui v10
  let c0_i32_3 : BitVec 32 := 0#32
  let v12 : BitVec 1 := Scalar.cmpi .slt c384_i32_0 c0_i32_3
  let v13 : BitVec 32 := Scalar.extui v12
  let v14 : BitVec 32 := Scalar.subi v11 v13
  let v15 : BitVec 1 := Scalar.cmpi .ne v9 v14
  let v16 : BitVec 32 := Scalar.remsi v3 c384_i32_0
  let c0_i32_4 : BitVec 32 := 0#32
  let v17 : BitVec 1 := Scalar.cmpi .ne v16 c0_i32_4
  let v18 : BitVec 1 := Scalar.andi v15 v17
  let v4 : BitVec 32 := Scalar.divsi v3 c384_i32_0
  let c1_i32_5 : BitVec 32 := 1#32
  let v19 : BitVec 32 := Scalar.subi v4 c1_i32_5
  let v20 : BitVec 32 := Scalar.select v18 v19 v4
  let v49 : BitVec 32 := Scalar.subi v20 c0_i32_31
  let c1_i32_32 : BitVec 32 := 1#32
  let v51 : BitVec 32 := Scalar.divsi v49 c1_i32_32
  let v52 : BitVec 32 := Scalar.muli v51 c1_i32_32
  let v53 : BitVec 32 := Scalar.addi c0_i32_31 v52
  let c1_i32_34 : BitVec 32 := 1#32
  let arg20 : BitVec 32 := Scf.iv v53 c1_i32_34 k0_t4
  let c384_i32_36 : BitVec 32 := 384#32
  let v57 : BitVec 32 := Scalar.muli arg20 c384_i32_36
  v57
def k0_off7 (v1 : BitVec 32) (k0_t4 : Fin (k0_t4_loop v1).trips) : Fin 2 → Nat :=
  let c0_i32_31 : BitVec 32 := 0#32
  let c384_i32 : BitVec 32 := 384#32
  let v2 : BitVec 32 := Scalar.addi v1 c384_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c384_i32_0 : BitVec 32 := 384#32
  let c0_i32_2 : BitVec 32 := 0#32
  let v10 : BitVec 1 := Scalar.cmpi .sgt c384_i32_0 c0_i32_2
  let v11 : BitVec 32 := Scalar.extui v10
  let c0_i32_3 : BitVec 32 := 0#32
  let v12 : BitVec 1 := Scalar.cmpi .slt c384_i32_0 c0_i32_3
  let v13 : BitVec 32 := Scalar.extui v12
  let v14 : BitVec 32 := Scalar.subi v11 v13
  let v15 : BitVec 1 := Scalar.cmpi .ne v9 v14
  let v16 : BitVec 32 := Scalar.remsi v3 c384_i32_0
  let c0_i32_4 : BitVec 32 := 0#32
  let v17 : BitVec 1 := Scalar.cmpi .ne v16 c0_i32_4
  let v18 : BitVec 1 := Scalar.andi v15 v17
  let v4 : BitVec 32 := Scalar.divsi v3 c384_i32_0
  let c1_i32_5 : BitVec 32 := 1#32
  let v19 : BitVec 32 := Scalar.subi v4 c1_i32_5
  let v20 : BitVec 32 := Scalar.select v18 v19 v4
  let v49 : BitVec 32 := Scalar.subi v20 c0_i32_31
  let c1_i32_32 : BitVec 32 := 1#32
  let v51 : BitVec 32 := Scalar.divsi v49 c1_i32_32
  let v52 : BitVec 32 := Scalar.muli v51 c1_i32_32
  let v53 : BitVec 32 := Scalar.addi c0_i32_31 v52
  let c1_i32_34 : BitVec 32 := 1#32
  let arg20 : BitVec 32 := Scf.iv v53 c1_i32_34 k0_t4
  let c384_i32_36 : BitVec 32 := 384#32
  let v57 : BitVec 32 := Scalar.muli arg20 c384_i32_36
  let v58 : BitVec 32 := v57
  let v59 : Index := Scalar.indexCast v58
  let c0_37 : Index := 0#32
  ![v59.toNat, 0]
def k0_cond5 (i : grid0.Coords) : BitVec 1 :=
  let arg1 : BitVec 32 := BitVec.ofNat 32 (i 1).val
  let c0_i32_54 : BitVec 32 := 0#32
  let v91 : BitVec 1 := Scalar.cmpi .eq arg1 c0_i32_54
  let v92 : BitVec 32 := Scalar.extui v91
  let c0_i32_55 : BitVec 32 := 0#32
  let v93 : BitVec 1 := Scalar.cmpi .ne v92 c0_i32_55
  v93

def k0_off8 (v1 : BitVec 32) (k0_t4 : Fin (k0_t4_loop v1).trips) : Fin 2 → Nat :=
  let c0_i32_31 : BitVec 32 := 0#32
  let c384_i32 : BitVec 32 := 384#32
  let v2 : BitVec 32 := Scalar.addi v1 c384_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c384_i32_0 : BitVec 32 := 384#32
  let c0_i32_2 : BitVec 32 := 0#32
  let v10 : BitVec 1 := Scalar.cmpi .sgt c384_i32_0 c0_i32_2
  let v11 : BitVec 32 := Scalar.extui v10
  let c0_i32_3 : BitVec 32 := 0#32
  let v12 : BitVec 1 := Scalar.cmpi .slt c384_i32_0 c0_i32_3
  let v13 : BitVec 32 := Scalar.extui v12
  let v14 : BitVec 32 := Scalar.subi v11 v13
  let v15 : BitVec 1 := Scalar.cmpi .ne v9 v14
  let v16 : BitVec 32 := Scalar.remsi v3 c384_i32_0
  let c0_i32_4 : BitVec 32 := 0#32
  let v17 : BitVec 1 := Scalar.cmpi .ne v16 c0_i32_4
  let v18 : BitVec 1 := Scalar.andi v15 v17
  let v4 : BitVec 32 := Scalar.divsi v3 c384_i32_0
  let c1_i32_5 : BitVec 32 := 1#32
  let v19 : BitVec 32 := Scalar.subi v4 c1_i32_5
  let v20 : BitVec 32 := Scalar.select v18 v19 v4
  let v49 : BitVec 32 := Scalar.subi v20 c0_i32_31
  let c1_i32_32 : BitVec 32 := 1#32
  let v51 : BitVec 32 := Scalar.divsi v49 c1_i32_32
  let v52 : BitVec 32 := Scalar.muli v51 c1_i32_32
  let v53 : BitVec 32 := Scalar.addi c0_i32_31 v52
  let c1_i32_34 : BitVec 32 := 1#32
  let arg20 : BitVec 32 := Scf.iv v53 c1_i32_34 k0_t4
  let c384_i32_36 : BitVec 32 := 384#32
  let v57 : BitVec 32 := Scalar.muli arg20 c384_i32_36
  let v58 : BitVec 32 := v57
  let v101 : Index := Scalar.indexCast v58
  let c0_61 : Index := 0#32
  ![v101.toNat, 0]
def k0_cond6 (i : grid0.Coords) : BitVec 1 :=
  let arg1 : BitVec 32 := BitVec.ofNat 32 (i 1).val
  let c0_i32_56 : BitVec 32 := 0#32
  let v94 : BitVec 1 := Scalar.cmpi .ne arg1 c0_i32_56
  let v95 : BitVec 32 := Scalar.extui v94
  let c0_i32_57 : BitVec 32 := 0#32
  let v96 : BitVec 1 := Scalar.cmpi .ne v95 c0_i32_57
  v96

def k0_off9 (v1 : BitVec 32) (k0_t4 : Fin (k0_t4_loop v1).trips) : Fin 2 → Nat :=
  let c0_i32_31 : BitVec 32 := 0#32
  let c384_i32 : BitVec 32 := 384#32
  let v2 : BitVec 32 := Scalar.addi v1 c384_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c384_i32_0 : BitVec 32 := 384#32
  let c0_i32_2 : BitVec 32 := 0#32
  let v10 : BitVec 1 := Scalar.cmpi .sgt c384_i32_0 c0_i32_2
  let v11 : BitVec 32 := Scalar.extui v10
  let c0_i32_3 : BitVec 32 := 0#32
  let v12 : BitVec 1 := Scalar.cmpi .slt c384_i32_0 c0_i32_3
  let v13 : BitVec 32 := Scalar.extui v12
  let v14 : BitVec 32 := Scalar.subi v11 v13
  let v15 : BitVec 1 := Scalar.cmpi .ne v9 v14
  let v16 : BitVec 32 := Scalar.remsi v3 c384_i32_0
  let c0_i32_4 : BitVec 32 := 0#32
  let v17 : BitVec 1 := Scalar.cmpi .ne v16 c0_i32_4
  let v18 : BitVec 1 := Scalar.andi v15 v17
  let v4 : BitVec 32 := Scalar.divsi v3 c384_i32_0
  let c1_i32_5 : BitVec 32 := 1#32
  let v19 : BitVec 32 := Scalar.subi v4 c1_i32_5
  let v20 : BitVec 32 := Scalar.select v18 v19 v4
  let v49 : BitVec 32 := Scalar.subi v20 c0_i32_31
  let c1_i32_32 : BitVec 32 := 1#32
  let v51 : BitVec 32 := Scalar.divsi v49 c1_i32_32
  let v52 : BitVec 32 := Scalar.muli v51 c1_i32_32
  let v53 : BitVec 32 := Scalar.addi c0_i32_31 v52
  let c1_i32_34 : BitVec 32 := 1#32
  let arg20 : BitVec 32 := Scf.iv v53 c1_i32_34 k0_t4
  let c384_i32_36 : BitVec 32 := 384#32
  let v57 : BitVec 32 := Scalar.muli arg20 c384_i32_36
  let v58 : BitVec 32 := v57
  let v97 : Index := Scalar.indexCast v58
  let c0_58 : Index := 0#32
  ![v97.toNat, 0]
def k0_cond7 (i : grid0.Coords) : BitVec 1 :=
  let arg1 : BitVec 32 := BitVec.ofNat 32 (i 1).val
  let c7_i32 : BitVec 32 := 7#32
  let v54 : BitVec 1 := Scalar.cmpi .eq arg1 c7_i32
  let v55 : BitVec 32 := Scalar.extui v54
  let c0_i32_35 : BitVec 32 := 0#32
  let v56 : BitVec 1 := Scalar.cmpi .ne v55 c0_i32_35
  v56

@[reducible] def k0_t5_loop (v1 : BitVec 32) : Scf.Loop 32 :=
  let c0_i32_37 : BitVec 32 := 0#32
  let v57 : BitVec 32 := Scalar.subi v1 c0_i32_37
  let c1_i32_38 : BitVec 32 := 1#32
  let v59 : BitVec 32 := Scalar.divsi v57 c1_i32_38
  let v60 : BitVec 32 := Scalar.muli v59 c1_i32_38
  let v61 : BitVec 32 := Scalar.addi c0_i32_37 v60
  let c1_i32_39 : BitVec 32 := 1#32
  ⟨c0_i32_37, v61, c1_i32_39⟩
def k0_off10 (v1 : BitVec 32) (k0_t5 : Fin (k0_t5_loop v1).trips) : Fin 3 → Nat :=
  let c0_46 : Index := 0#32
  let c0_47 : Index := 0#32
  let c0_i32_37 : BitVec 32 := 0#32
  let c1_i32_39 : BitVec 32 := 1#32
  let arg20 : BitVec 32 := Scf.iv c0_i32_37 c1_i32_39 k0_t5
  let v68 : Index := Scalar.indexCast arg20
  ![0, 0, v68.toNat]
def k0_off11 (v69 : BitVec 32) : Fin 2 → Nat :=
  let c0_i32_48 : BitVec 32 := 0#32
  ![v69.toNat, 0]

def k0_chk2 (i : grid0.Coords) (v1 : BitVec 32) (v69 : BitVec 32) : Prop :=
  (∀ (k0_h1 : k0_cond1 v1 = 1#1), ∀ (k0_h7 : k0_cond7 i = 1#1), ∀ a, (k0_off11 v69) a + S1x2048.size a ≤ S34816x2048.size a)
theorem k0_off11_inb : ∀ (i : grid0.Coords) (v1 : BitVec 32) (v69 : BitVec 32) (k0_hw2 : k0_chk2 i v1 v69), ∀ (k0_h1 : k0_cond1 v1 = 1#1), ∀ (k0_h7 : k0_cond7 i = 1#1), ∀ a, (k0_off11 v69) a + S1x2048.size a ≤ S34816x2048.size a := fun i v1 v69 k0_hw2 k0_h1 k0_h7 => k0_hw2 k0_h1 k0_h7

def k0_off12 (v1 : BitVec 32) (k0_t5 : Fin (k0_t5_loop v1).trips) : Fin 2 → Nat :=
  let c0_i32_37 : BitVec 32 := 0#32
  let c1_i32_39 : BitVec 32 := 1#32
  let arg20 : BitVec 32 := Scf.iv c0_i32_37 c1_i32_39 k0_t5
  let c0_i32_49 : BitVec 32 := 0#32
  ![arg20.toNat, 0]
@[reducible] def k0_t6_loop (v1 : BitVec 32) : Scf.Loop 32 :=
  let c0_i32_37 : BitVec 32 := 0#32
  let v57 : BitVec 32 := Scalar.subi v1 c0_i32_37
  let c1_i32_38 : BitVec 32 := 1#32
  let v59 : BitVec 32 := Scalar.divsi v57 c1_i32_38
  let v60 : BitVec 32 := Scalar.muli v59 c1_i32_38
  let v61 : BitVec 32 := Scalar.addi c0_i32_37 v60
  let v58 : BitVec 32 := Scalar.addi c0_i32_37 v57
  let c1_i32_40 : BitVec 32 := 1#32
  ⟨v61, v58, c1_i32_40⟩
def k0_off13 (v1 : BitVec 32) (k0_t6 : Fin (k0_t6_loop v1).trips) : Fin 3 → Nat :=
  let c0_46 : Index := 0#32
  let c0_47 : Index := 0#32
  let c0_i32_37 : BitVec 32 := 0#32
  let v57 : BitVec 32 := Scalar.subi v1 c0_i32_37
  let c1_i32_38 : BitVec 32 := 1#32
  let v59 : BitVec 32 := Scalar.divsi v57 c1_i32_38
  let v60 : BitVec 32 := Scalar.muli v59 c1_i32_38
  let v61 : BitVec 32 := Scalar.addi c0_i32_37 v60
  let c1_i32_40 : BitVec 32 := 1#32
  let arg20 : BitVec 32 := Scf.iv v61 c1_i32_40 k0_t6
  let v68 : Index := Scalar.indexCast arg20
  ![0, 0, v68.toNat]
def k0_off14 (v69 : BitVec 32) : Fin 2 → Nat :=
  let c0_i32_48 : BitVec 32 := 0#32
  ![v69.toNat, 0]

def k0_chk3 (i : grid0.Coords) (v1 : BitVec 32) (v69 : BitVec 32) : Prop :=
  (∀ (k0_h1 : k0_cond1 v1 = 1#1), ∀ (k0_h7 : k0_cond7 i = 1#1), ∀ a, (k0_off14 v69) a + S1x2048.size a ≤ S34816x2048.size a)
theorem k0_off14_inb : ∀ (i : grid0.Coords) (v1 : BitVec 32) (v69 : BitVec 32) (k0_hw3 : k0_chk3 i v1 v69), ∀ (k0_h1 : k0_cond1 v1 = 1#1), ∀ (k0_h7 : k0_cond7 i = 1#1), ∀ a, (k0_off14 v69) a + S1x2048.size a ≤ S34816x2048.size a := fun i v1 v69 k0_hw3 k0_h1 k0_h7 => k0_hw3 k0_h1 k0_h7

def k0_off15 (v1 : BitVec 32) (k0_t6 : Fin (k0_t6_loop v1).trips) : Fin 2 → Nat :=
  let c0_i32_37 : BitVec 32 := 0#32
  let v57 : BitVec 32 := Scalar.subi v1 c0_i32_37
  let c1_i32_38 : BitVec 32 := 1#32
  let v59 : BitVec 32 := Scalar.divsi v57 c1_i32_38
  let v60 : BitVec 32 := Scalar.muli v59 c1_i32_38
  let v61 : BitVec 32 := Scalar.addi c0_i32_37 v60
  let c1_i32_40 : BitVec 32 := 1#32
  let arg20 : BitVec 32 := Scf.iv v61 c1_i32_40 k0_t6
  let c0_i32_49 : BitVec 32 := 0#32
  ![arg20.toNat, 0]
@[reducible] def k0_t7_loop (v1 : BitVec 32) : Scf.Loop 32 :=
  let c0_i32_42 : BitVec 32 := 0#32
  let c16_i32 : BitVec 32 := 16#32
  let v62 : BitVec 32 := Scalar.minsi v1 c16_i32
  let v63 : BitVec 32 := Scalar.subi v62 c0_i32_42
  let c1_i32_43 : BitVec 32 := 1#32
  let v65 : BitVec 32 := Scalar.divsi v63 c1_i32_43
  let v66 : BitVec 32 := Scalar.muli v65 c1_i32_43
  let v67 : BitVec 32 := Scalar.addi c0_i32_42 v66
  let c1_i32_44 : BitVec 32 := 1#32
  ⟨c0_i32_42, v67, c1_i32_44⟩
@[reducible] def k0_t8_loop (v1 : BitVec 32) : Scf.Loop 32 :=
  let c0_i32_42 : BitVec 32 := 0#32
  let c16_i32 : BitVec 32 := 16#32
  let v62 : BitVec 32 := Scalar.minsi v1 c16_i32
  let v63 : BitVec 32 := Scalar.subi v62 c0_i32_42
  let c1_i32_43 : BitVec 32 := 1#32
  let v65 : BitVec 32 := Scalar.divsi v63 c1_i32_43
  let v66 : BitVec 32 := Scalar.muli v65 c1_i32_43
  let v67 : BitVec 32 := Scalar.addi c0_i32_42 v66
  let v64 : BitVec 32 := Scalar.addi c0_i32_42 v63
  let c1_i32_45 : BitVec 32 := 1#32
  ⟨v67, v64, c1_i32_45⟩

def k0_chk1 (i : grid0.Coords) (v1 : BitVec 32) : Prop :=
  (∀ (k0_h1 : k0_cond1 v1 = 1#1), ∀ (k0_h2 : k0_cond2 i = 1#1), (k0_t1_loop v1).OK) ∧
  (∀ k0_t1 : Fin (k0_t1_loop v1).trips, ∀ (k0_h1 : k0_cond1 v1 = 1#1), ∀ (k0_h2 : k0_cond2 i = 1#1), 384 ∣ (k0_mult2 v1 k0_t1).toNat) ∧
  (∀ k0_t1 : Fin (k0_t1_loop v1).trips, ∀ (k0_h1 : k0_cond1 v1 = 1#1), ∀ (k0_h2 : k0_cond2 i = 1#1), ∀ a, (k0_off2 v1 k0_t1) a + S384x2048.size a ≤ S1152x2048.size a) ∧
  (∀ k0_t1 : Fin (k0_t1_loop v1).trips, ∀ (k0_h1 : k0_cond1 v1 = 1#1), ∀ (k0_h2 : k0_cond2 i = 1#1), ∀ (hinb : ∀ a, (k0_off2 v1 k0_t1) a + S384x2048.size a ≤ S1152x2048.size a), (Rect.unit (s := S1152x2048) (k0_off2 v1 k0_t1) S384x2048.size hinb).PackedRows (EltTy.packing .bf16)) ∧
  (∀ (k0_h1 : k0_cond1 v1 = 1#1), ∀ (k0_h2 : k0_cond2 i = 1#1), (k0_t2_loop v1).OK) ∧
  (∀ k0_t2 : Fin (k0_t2_loop v1).trips, ∀ (k0_h1 : k0_cond1 v1 = 1#1), ∀ (k0_h2 : k0_cond2 i = 1#1), 384 ∣ (k0_mult3 v1 k0_t2).toNat) ∧
  (∀ k0_t2 : Fin (k0_t2_loop v1).trips, ∀ (k0_h1 : k0_cond1 v1 = 1#1), ∀ (k0_h2 : k0_cond2 i = 1#1), ∀ a, (k0_off3 v1 k0_t2) a + S384x2048.size a ≤ S1152x2048.size a) ∧
  (∀ k0_t2 : Fin (k0_t2_loop v1).trips, ∀ (k0_h1 : k0_cond1 v1 = 1#1), ∀ (k0_h2 : k0_cond2 i = 1#1), ∀ (hinb : ∀ a, (k0_off3 v1 k0_t2) a + S384x2048.size a ≤ S1152x2048.size a), (Rect.unit (s := S1152x2048) (k0_off3 v1 k0_t2) S384x2048.size hinb).PackedRows (EltTy.packing .bf16)) ∧
  (∀ (k0_h1 : k0_cond1 v1 = 1#1), (k0_t3_loop v1).OK) ∧
  (∀ k0_t3 : Fin (k0_t3_loop v1).trips, ∀ (k0_h1 : k0_cond1 v1 = 1#1), 384 ∣ (k0_mult4 v1 k0_t3).toNat) ∧
  (∀ k0_t3 : Fin (k0_t3_loop v1).trips, ∀ (k0_h1 : k0_cond1 v1 = 1#1), ∀ a, (k0_off4 v1 k0_t3) a + S384x2048.size a ≤ S1152x2048.size a) ∧
  (∀ k0_t3 : Fin (k0_t3_loop v1).trips, ∀ (k0_h1 : k0_cond1 v1 = 1#1), ∀ (k0_h3 : k0_cond3 i = 1#1), ∀ a, (k0_off5 v1 k0_t3) a + S384x2048.size a ≤ S1152x2048.size a) ∧
  (∀ k0_t3 : Fin (k0_t3_loop v1).trips, ∀ (k0_h1 : k0_cond1 v1 = 1#1), ∀ (k0_h4 : k0_cond4 i = 1#1), ∀ a, (k0_off6 v1 k0_t3) a + S384x2048.size a ≤ S1152x2048.size a) ∧
  (∀ (k0_h1 : k0_cond1 v1 = 1#1), (k0_t4_loop v1).OK) ∧
  (∀ k0_t4 : Fin (k0_t4_loop v1).trips, ∀ (k0_h1 : k0_cond1 v1 = 1#1), 384 ∣ (k0_mult5 v1 k0_t4).toNat) ∧
  (∀ k0_t4 : Fin (k0_t4_loop v1).trips, ∀ (k0_h1 : k0_cond1 v1 = 1#1), ∀ a, (k0_off7 v1 k0_t4) a + S384x2048.size a ≤ S1152x2048.size a) ∧
  (∀ k0_t4 : Fin (k0_t4_loop v1).trips, ∀ (k0_h1 : k0_cond1 v1 = 1#1), ∀ (k0_h5 : k0_cond5 i = 1#1), ∀ a, (k0_off8 v1 k0_t4) a + S384x2048.size a ≤ S1152x2048.size a) ∧
  (∀ k0_t4 : Fin (k0_t4_loop v1).trips, ∀ (k0_h1 : k0_cond1 v1 = 1#1), ∀ (k0_h6 : k0_cond6 i = 1#1), ∀ a, (k0_off9 v1 k0_t4) a + S384x2048.size a ≤ S1152x2048.size a) ∧
  (∀ (k0_h1 : k0_cond1 v1 = 1#1), ∀ (k0_h7 : k0_cond7 i = 1#1), (k0_t5_loop v1).OK) ∧
  (∀ k0_t5 : Fin (k0_t5_loop v1).trips, ∀ (k0_h1 : k0_cond1 v1 = 1#1), ∀ (k0_h7 : k0_cond7 i = 1#1), ∀ a, (k0_off10 v1 k0_t5) a + S1x1x1.size a ≤ S1x1x1152.size a) ∧
  (∀ k0_t5 : Fin (k0_t5_loop v1).trips, ∀ (k0_h1 : k0_cond1 v1 = 1#1), ∀ (k0_h7 : k0_cond7 i = 1#1), ∀ a, (k0_off12 v1 k0_t5) a + S1x2048.size a ≤ S1152x2048.size a) ∧
  (∀ (k0_h1 : k0_cond1 v1 = 1#1), ∀ (k0_h7 : k0_cond7 i = 1#1), (k0_t6_loop v1).OK) ∧
  (∀ k0_t6 : Fin (k0_t6_loop v1).trips, ∀ (k0_h1 : k0_cond1 v1 = 1#1), ∀ (k0_h7 : k0_cond7 i = 1#1), ∀ a, (k0_off13 v1 k0_t6) a + S1x1x1.size a ≤ S1x1x1152.size a) ∧
  (∀ k0_t6 : Fin (k0_t6_loop v1).trips, ∀ (k0_h1 : k0_cond1 v1 = 1#1), ∀ (k0_h7 : k0_cond7 i = 1#1), ∀ a, (k0_off15 v1 k0_t6) a + S1x2048.size a ≤ S1152x2048.size a) ∧
  (∀ (k0_h1 : k0_cond1 v1 = 1#1), ∀ (k0_h7 : k0_cond7 i = 1#1), (k0_t7_loop v1).OK) ∧
  (∀ (k0_h1 : k0_cond1 v1 = 1#1), ∀ (k0_h7 : k0_cond7 i = 1#1), (k0_t8_loop v1).OK)
theorem k0_t1_ok : ∀ (i : grid0.Coords) (v1 : BitVec 32) (k0_hw1 : k0_chk1 i v1), ∀ (k0_h1 : k0_cond1 v1 = 1#1), ∀ (k0_h2 : k0_cond2 i = 1#1), (k0_t1_loop v1).OK := fun i v1 k0_hw1 k0_h1 k0_h2 => k0_hw1.1 k0_h1 k0_h2
theorem k0_mult2_dvd : ∀ (i : grid0.Coords) (v1 : BitVec 32) (k0_hw1 : k0_chk1 i v1) (k0_t1 : Fin (k0_t1_loop v1).trips), ∀ (k0_h1 : k0_cond1 v1 = 1#1), ∀ (k0_h2 : k0_cond2 i = 1#1), 384 ∣ (k0_mult2 v1 k0_t1).toNat := fun i v1 k0_hw1 k0_t1 k0_h1 k0_h2 => k0_hw1.2.1 k0_t1 k0_h1 k0_h2
theorem k0_off2_inb : ∀ (i : grid0.Coords) (v1 : BitVec 32) (k0_hw1 : k0_chk1 i v1) (k0_t1 : Fin (k0_t1_loop v1).trips), ∀ (k0_h1 : k0_cond1 v1 = 1#1), ∀ (k0_h2 : k0_cond2 i = 1#1), ∀ a, (k0_off2 v1 k0_t1) a + S384x2048.size a ≤ S1152x2048.size a := fun i v1 k0_hw1 k0_t1 k0_h1 k0_h2 => k0_hw1.2.2.1 k0_t1 k0_h1 k0_h2
theorem k0_off2_packedbf16 : ∀ (i : grid0.Coords) (v1 : BitVec 32) (k0_hw1 : k0_chk1 i v1) (k0_t1 : Fin (k0_t1_loop v1).trips), ∀ (k0_h1 : k0_cond1 v1 = 1#1), ∀ (k0_h2 : k0_cond2 i = 1#1), (Rect.unit (s := S1152x2048) (k0_off2 v1 k0_t1) S384x2048.size (k0_off2_inb i v1 k0_hw1 k0_t1 k0_h1 k0_h2)).PackedRows (EltTy.packing .bf16) := fun i v1 k0_hw1 k0_t1 k0_h1 k0_h2 => k0_hw1.2.2.2.1 k0_t1 k0_h1 k0_h2 (k0_off2_inb i v1 k0_hw1 k0_t1 k0_h1 k0_h2)
theorem k0_t2_ok : ∀ (i : grid0.Coords) (v1 : BitVec 32) (k0_hw1 : k0_chk1 i v1), ∀ (k0_h1 : k0_cond1 v1 = 1#1), ∀ (k0_h2 : k0_cond2 i = 1#1), (k0_t2_loop v1).OK := fun i v1 k0_hw1 k0_h1 k0_h2 => k0_hw1.2.2.2.2.1 k0_h1 k0_h2
theorem k0_mult3_dvd : ∀ (i : grid0.Coords) (v1 : BitVec 32) (k0_hw1 : k0_chk1 i v1) (k0_t2 : Fin (k0_t2_loop v1).trips), ∀ (k0_h1 : k0_cond1 v1 = 1#1), ∀ (k0_h2 : k0_cond2 i = 1#1), 384 ∣ (k0_mult3 v1 k0_t2).toNat := fun i v1 k0_hw1 k0_t2 k0_h1 k0_h2 => k0_hw1.2.2.2.2.2.1 k0_t2 k0_h1 k0_h2
theorem k0_off3_inb : ∀ (i : grid0.Coords) (v1 : BitVec 32) (k0_hw1 : k0_chk1 i v1) (k0_t2 : Fin (k0_t2_loop v1).trips), ∀ (k0_h1 : k0_cond1 v1 = 1#1), ∀ (k0_h2 : k0_cond2 i = 1#1), ∀ a, (k0_off3 v1 k0_t2) a + S384x2048.size a ≤ S1152x2048.size a := fun i v1 k0_hw1 k0_t2 k0_h1 k0_h2 => k0_hw1.2.2.2.2.2.2.1 k0_t2 k0_h1 k0_h2
theorem k0_off3_packedbf16 : ∀ (i : grid0.Coords) (v1 : BitVec 32) (k0_hw1 : k0_chk1 i v1) (k0_t2 : Fin (k0_t2_loop v1).trips), ∀ (k0_h1 : k0_cond1 v1 = 1#1), ∀ (k0_h2 : k0_cond2 i = 1#1), (Rect.unit (s := S1152x2048) (k0_off3 v1 k0_t2) S384x2048.size (k0_off3_inb i v1 k0_hw1 k0_t2 k0_h1 k0_h2)).PackedRows (EltTy.packing .bf16) := fun i v1 k0_hw1 k0_t2 k0_h1 k0_h2 => k0_hw1.2.2.2.2.2.2.2.1 k0_t2 k0_h1 k0_h2 (k0_off3_inb i v1 k0_hw1 k0_t2 k0_h1 k0_h2)
theorem k0_t3_ok : ∀ (i : grid0.Coords) (v1 : BitVec 32) (k0_hw1 : k0_chk1 i v1), ∀ (k0_h1 : k0_cond1 v1 = 1#1), (k0_t3_loop v1).OK := fun i v1 k0_hw1 k0_h1 => k0_hw1.2.2.2.2.2.2.2.2.1 k0_h1
theorem k0_mult4_dvd : ∀ (i : grid0.Coords) (v1 : BitVec 32) (k0_hw1 : k0_chk1 i v1) (k0_t3 : Fin (k0_t3_loop v1).trips), ∀ (k0_h1 : k0_cond1 v1 = 1#1), 384 ∣ (k0_mult4 v1 k0_t3).toNat := fun i v1 k0_hw1 k0_t3 k0_h1 => k0_hw1.2.2.2.2.2.2.2.2.2.1 k0_t3 k0_h1
theorem k0_off4_inb : ∀ (i : grid0.Coords) (v1 : BitVec 32) (k0_hw1 : k0_chk1 i v1) (k0_t3 : Fin (k0_t3_loop v1).trips), ∀ (k0_h1 : k0_cond1 v1 = 1#1), ∀ a, (k0_off4 v1 k0_t3) a + S384x2048.size a ≤ S1152x2048.size a := fun i v1 k0_hw1 k0_t3 k0_h1 => k0_hw1.2.2.2.2.2.2.2.2.2.2.1 k0_t3 k0_h1
theorem k0_off5_inb : ∀ (i : grid0.Coords) (v1 : BitVec 32) (k0_hw1 : k0_chk1 i v1) (k0_t3 : Fin (k0_t3_loop v1).trips), ∀ (k0_h1 : k0_cond1 v1 = 1#1), ∀ (k0_h3 : k0_cond3 i = 1#1), ∀ a, (k0_off5 v1 k0_t3) a + S384x2048.size a ≤ S1152x2048.size a := fun i v1 k0_hw1 k0_t3 k0_h1 k0_h3 => k0_hw1.2.2.2.2.2.2.2.2.2.2.2.1 k0_t3 k0_h1 k0_h3
theorem k0_off6_inb : ∀ (i : grid0.Coords) (v1 : BitVec 32) (k0_hw1 : k0_chk1 i v1) (k0_t3 : Fin (k0_t3_loop v1).trips), ∀ (k0_h1 : k0_cond1 v1 = 1#1), ∀ (k0_h4 : k0_cond4 i = 1#1), ∀ a, (k0_off6 v1 k0_t3) a + S384x2048.size a ≤ S1152x2048.size a := fun i v1 k0_hw1 k0_t3 k0_h1 k0_h4 => k0_hw1.2.2.2.2.2.2.2.2.2.2.2.2.1 k0_t3 k0_h1 k0_h4
theorem k0_t4_ok : ∀ (i : grid0.Coords) (v1 : BitVec 32) (k0_hw1 : k0_chk1 i v1), ∀ (k0_h1 : k0_cond1 v1 = 1#1), (k0_t4_loop v1).OK := fun i v1 k0_hw1 k0_h1 => k0_hw1.2.2.2.2.2.2.2.2.2.2.2.2.2.1 k0_h1
theorem k0_mult5_dvd : ∀ (i : grid0.Coords) (v1 : BitVec 32) (k0_hw1 : k0_chk1 i v1) (k0_t4 : Fin (k0_t4_loop v1).trips), ∀ (k0_h1 : k0_cond1 v1 = 1#1), 384 ∣ (k0_mult5 v1 k0_t4).toNat := fun i v1 k0_hw1 k0_t4 k0_h1 => k0_hw1.2.2.2.2.2.2.2.2.2.2.2.2.2.2.1 k0_t4 k0_h1
theorem k0_off7_inb : ∀ (i : grid0.Coords) (v1 : BitVec 32) (k0_hw1 : k0_chk1 i v1) (k0_t4 : Fin (k0_t4_loop v1).trips), ∀ (k0_h1 : k0_cond1 v1 = 1#1), ∀ a, (k0_off7 v1 k0_t4) a + S384x2048.size a ≤ S1152x2048.size a := fun i v1 k0_hw1 k0_t4 k0_h1 => k0_hw1.2.2.2.2.2.2.2.2.2.2.2.2.2.2.2.1 k0_t4 k0_h1
theorem k0_off8_inb : ∀ (i : grid0.Coords) (v1 : BitVec 32) (k0_hw1 : k0_chk1 i v1) (k0_t4 : Fin (k0_t4_loop v1).trips), ∀ (k0_h1 : k0_cond1 v1 = 1#1), ∀ (k0_h5 : k0_cond5 i = 1#1), ∀ a, (k0_off8 v1 k0_t4) a + S384x2048.size a ≤ S1152x2048.size a := fun i v1 k0_hw1 k0_t4 k0_h1 k0_h5 => k0_hw1.2.2.2.2.2.2.2.2.2.2.2.2.2.2.2.2.1 k0_t4 k0_h1 k0_h5
theorem k0_off9_inb : ∀ (i : grid0.Coords) (v1 : BitVec 32) (k0_hw1 : k0_chk1 i v1) (k0_t4 : Fin (k0_t4_loop v1).trips), ∀ (k0_h1 : k0_cond1 v1 = 1#1), ∀ (k0_h6 : k0_cond6 i = 1#1), ∀ a, (k0_off9 v1 k0_t4) a + S384x2048.size a ≤ S1152x2048.size a := fun i v1 k0_hw1 k0_t4 k0_h1 k0_h6 => k0_hw1.2.2.2.2.2.2.2.2.2.2.2.2.2.2.2.2.2.1 k0_t4 k0_h1 k0_h6
theorem k0_t5_ok : ∀ (i : grid0.Coords) (v1 : BitVec 32) (k0_hw1 : k0_chk1 i v1), ∀ (k0_h1 : k0_cond1 v1 = 1#1), ∀ (k0_h7 : k0_cond7 i = 1#1), (k0_t5_loop v1).OK := fun i v1 k0_hw1 k0_h1 k0_h7 => k0_hw1.2.2.2.2.2.2.2.2.2.2.2.2.2.2.2.2.2.2.1 k0_h1 k0_h7
theorem k0_off10_inb : ∀ (i : grid0.Coords) (v1 : BitVec 32) (k0_hw1 : k0_chk1 i v1) (k0_t5 : Fin (k0_t5_loop v1).trips), ∀ (k0_h1 : k0_cond1 v1 = 1#1), ∀ (k0_h7 : k0_cond7 i = 1#1), ∀ a, (k0_off10 v1 k0_t5) a + S1x1x1.size a ≤ S1x1x1152.size a := fun i v1 k0_hw1 k0_t5 k0_h1 k0_h7 => k0_hw1.2.2.2.2.2.2.2.2.2.2.2.2.2.2.2.2.2.2.2.1 k0_t5 k0_h1 k0_h7
theorem k0_off12_inb : ∀ (i : grid0.Coords) (v1 : BitVec 32) (k0_hw1 : k0_chk1 i v1) (k0_t5 : Fin (k0_t5_loop v1).trips), ∀ (k0_h1 : k0_cond1 v1 = 1#1), ∀ (k0_h7 : k0_cond7 i = 1#1), ∀ a, (k0_off12 v1 k0_t5) a + S1x2048.size a ≤ S1152x2048.size a := fun i v1 k0_hw1 k0_t5 k0_h1 k0_h7 => k0_hw1.2.2.2.2.2.2.2.2.2.2.2.2.2.2.2.2.2.2.2.2.1 k0_t5 k0_h1 k0_h7
theorem k0_t6_ok : ∀ (i : grid0.Coords) (v1 : BitVec 32) (k0_hw1 : k0_chk1 i v1), ∀ (k0_h1 : k0_cond1 v1 = 1#1), ∀ (k0_h7 : k0_cond7 i = 1#1), (k0_t6_loop v1).OK := fun i v1 k0_hw1 k0_h1 k0_h7 => k0_hw1.2.2.2.2.2.2.2.2.2.2.2.2.2.2.2.2.2.2.2.2.2.1 k0_h1 k0_h7
theorem k0_off13_inb : ∀ (i : grid0.Coords) (v1 : BitVec 32) (k0_hw1 : k0_chk1 i v1) (k0_t6 : Fin (k0_t6_loop v1).trips), ∀ (k0_h1 : k0_cond1 v1 = 1#1), ∀ (k0_h7 : k0_cond7 i = 1#1), ∀ a, (k0_off13 v1 k0_t6) a + S1x1x1.size a ≤ S1x1x1152.size a := fun i v1 k0_hw1 k0_t6 k0_h1 k0_h7 => k0_hw1.2.2.2.2.2.2.2.2.2.2.2.2.2.2.2.2.2.2.2.2.2.2.1 k0_t6 k0_h1 k0_h7
theorem k0_off15_inb : ∀ (i : grid0.Coords) (v1 : BitVec 32) (k0_hw1 : k0_chk1 i v1) (k0_t6 : Fin (k0_t6_loop v1).trips), ∀ (k0_h1 : k0_cond1 v1 = 1#1), ∀ (k0_h7 : k0_cond7 i = 1#1), ∀ a, (k0_off15 v1 k0_t6) a + S1x2048.size a ≤ S1152x2048.size a := fun i v1 k0_hw1 k0_t6 k0_h1 k0_h7 => k0_hw1.2.2.2.2.2.2.2.2.2.2.2.2.2.2.2.2.2.2.2.2.2.2.2.1 k0_t6 k0_h1 k0_h7
theorem k0_t7_ok : ∀ (i : grid0.Coords) (v1 : BitVec 32) (k0_hw1 : k0_chk1 i v1), ∀ (k0_h1 : k0_cond1 v1 = 1#1), ∀ (k0_h7 : k0_cond7 i = 1#1), (k0_t7_loop v1).OK := fun i v1 k0_hw1 k0_h1 k0_h7 => k0_hw1.2.2.2.2.2.2.2.2.2.2.2.2.2.2.2.2.2.2.2.2.2.2.2.2.1 k0_h1 k0_h7
theorem k0_t8_ok : ∀ (i : grid0.Coords) (v1 : BitVec 32) (k0_hw1 : k0_chk1 i v1), ∀ (k0_h1 : k0_cond1 v1 = 1#1), ∀ (k0_h7 : k0_cond7 i = 1#1), (k0_t8_loop v1).OK := fun i v1 k0_hw1 k0_h1 k0_h7 => k0_hw1.2.2.2.2.2.2.2.2.2.2.2.2.2.2.2.2.2.2.2.2.2.2.2.2.2 k0_h1 k0_h7

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (k0_off1_inb : ∀ i : grid0.Coords, ∀ a, (k0_off1 i) a + S1.size a ≤ S62.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S62) ![v0.toNat] S1.size (k0_off1_inb i)) numel1_S1
  let c8_i32 : BitVec 32 := 8#32
  let v2 : BitVec 32 := Scalar.muli v1 c8_i32
  let v3 : BitVec 32 := v2
  let c0_i32 : BitVec 32 := 0#32
  let c0_i32_0 : BitVec 32 := 0#32
  ![v3.toNat, c0_i32.toNat]

def cc0_transform_2 (k0_off1_inb : ∀ i : grid0.Coords, ∀ a, (k0_off1 i) a + S1.size a ≤ S62.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S62) ![v0.toNat] S1.size (k0_off1_inb i)) numel1_S1
  let v2 : Index := Scalar.indexCast arg0
  let v3 : BitVec 32 := pf.at 2 (Rect.unit (s := S62) ![v2.toNat] S1.size (k0_off1_inb i)) numel1_S1
  let c0_i32 : BitVec 32 := 0#32
  let v4 : BitVec 1 := Scalar.cmpi .sgt v3 c0_i32
  let c7_i32 : BitVec 32 := 7#32
  let v5 : BitVec 32 := Scalar.select v4 arg1 c7_i32
  let c0_i32_0 : BitVec 32 := 0#32
  let c0_i32_1 : BitVec 32 := 0#32
  ![v1.toNat, c0_i32_0.toNat, v5.toNat]

def cc0_transform_3 (k0_off1_inb : ∀ i : grid0.Coords, ∀ a, (k0_off1 i) a + S1.size a ≤ S62.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S62) ![v0.toNat] S1.size (k0_off1_inb i)) numel1_S1
  let v2 : Index := Scalar.indexCast arg0
  let v3 : BitVec 32 := pf.at 2 (Rect.unit (s := S62) ![v2.toNat] S1.size (k0_off1_inb i)) numel1_S1
  let c0_i32 : BitVec 32 := 0#32
  let v4 : BitVec 1 := Scalar.cmpi .sgt v3 c0_i32
  let c7_i32 : BitVec 32 := 7#32
  let v5 : BitVec 32 := Scalar.select v4 arg1 c7_i32
  let c8_i32 : BitVec 32 := 8#32
  let v6 : BitVec 32 := Scalar.addi c8_i32 v5
  let c0_i32_0 : BitVec 32 := 0#32
  let c0_i32_1 : BitVec 32 := 0#32
  ![v1.toNat, c0_i32_0.toNat, v6.toNat]

def cc0_transform_4 (k0_off1_inb : ∀ i : grid0.Coords, ∀ a, (k0_off1 i) a + S1.size a ≤ S62.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S62) ![v0.toNat] S1.size (k0_off1_inb i)) numel1_S1
  let v2 : Index := Scalar.indexCast arg0
  let v3 : BitVec 32 := pf.at 2 (Rect.unit (s := S62) ![v2.toNat] S1.size (k0_off1_inb i)) numel1_S1
  let c0_i32 : BitVec 32 := 0#32
  let v4 : BitVec 1 := Scalar.cmpi .sgt v3 c0_i32
  let c7_i32 : BitVec 32 := 7#32
  let v5 : BitVec 32 := Scalar.select v4 arg1 c7_i32
  let c0_i32_0 : BitVec 32 := 0#32
  let c0_i32_1 : BitVec 32 := 0#32
  ![v1.toNat, c0_i32_0.toNat, v5.toNat]

def cc0_transform_5 (k0_off1_inb : ∀ i : grid0.Coords, ∀ a, (k0_off1 i) a + S1.size a ≤ S62.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S62) ![v0.toNat] S1.size (k0_off1_inb i)) numel1_S1
  let v2 : Index := Scalar.indexCast arg0
  let v3 : BitVec 32 := pf.at 2 (Rect.unit (s := S62) ![v2.toNat] S1.size (k0_off1_inb i)) numel1_S1
  let c0_i32 : BitVec 32 := 0#32
  let v4 : BitVec 1 := Scalar.cmpi .sgt v3 c0_i32
  let c7_i32 : BitVec 32 := 7#32
  let v5 : BitVec 32 := Scalar.select v4 arg1 c7_i32
  let c8_i32 : BitVec 32 := 8#32
  let v6 : BitVec 32 := Scalar.addi c8_i32 v5
  let c0_i32_0 : BitVec 32 := 0#32
  let c0_i32_1 : BitVec 32 := 0#32
  ![v1.toNat, c0_i32_0.toNat, v6.toNat]

def cc0_transform_6 (k0_off1_inb : ∀ i : grid0.Coords, ∀ a, (k0_off1 i) a + S1.size a ≤ S62.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S62) ![v0.toNat] S1.size (k0_off1_inb i)) numel1_S1
  let v2 : Index := Scalar.indexCast arg0
  let v3 : BitVec 32 := pf.at 2 (Rect.unit (s := S62) ![v2.toNat] S1.size (k0_off1_inb i)) numel1_S1
  let c0_i32 : BitVec 32 := 0#32
  let v4 : BitVec 1 := Scalar.cmpi .sgt v3 c0_i32
  let c7_i32 : BitVec 32 := 7#32
  let v5 : BitVec 32 := Scalar.select v4 arg1 c7_i32
  let c0_i32_0 : BitVec 32 := 0#32
  let c0_i32_1 : BitVec 32 := 0#32
  ![v1.toNat, v5.toNat, c0_i32_0.toNat]

def cc0_transform_7 (k0_off1_inb : ∀ i : grid0.Coords, ∀ a, (k0_off1 i) a + S1.size a ≤ S62.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S62) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .smem S1x1x1152 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1152x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S8704x2048 : Shape := ⟨2, ![8704, 2048]⟩
abbrev S8704x4 : Shape := ⟨2, ![8704, 4]⟩
abbrev S32 : Shape := ⟨1, ![32]⟩
abbrev S32x2048x4096 : Shape := ⟨3, ![32, 2048, 4096]⟩
abbrev S32x4096 : Shape := ⟨2, ![32, 4096]⟩
abbrev S32x2048x2048 : Shape := ⟨3, ![32, 2048, 2048]⟩
abbrev S32x2048 : Shape := ⟨2, ![32, 2048]⟩
abbrev S32x4096x8704 : Shape := ⟨3, ![32, 4096, 8704]⟩
abbrev S32x8704x4096 : Shape := ⟨3, ![32, 8704, 4096]⟩
abbrev S32x1x4096 : Shape := ⟨3, ![32, 1, 4096]⟩
abbrev S32x8704x2048 : Shape := ⟨3, ![32, 8704, 2048]⟩
abbrev S_ : Shape := ⟨0, ![]⟩
abbrev S32x1x2048 : Shape := ⟨3, ![32, 1, 2048]⟩
abbrev S8704 : Shape := ⟨1, ![8704]⟩
abbrev S8704x1 : Shape := ⟨2, ![8704, 1]⟩
abbrev S8704x4x1 : Shape := ⟨3, ![8704, 4, 1]⟩
abbrev S8704x4x2 : Shape := ⟨3, ![8704, 4, 2]⟩
abbrev S8704x4x2048 : Shape := ⟨3, ![8704, 4, 2048]⟩
abbrev S34816x2048 : Shape := ⟨2, ![34816, 2048]⟩

abbrev nBuf : Space → Nat
  | .hbm => 68
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S8704x4, .i32⟩
  | .hbm, ⟨2, _⟩ => ⟨S8704x4, .i32⟩
  | .hbm, ⟨3, _⟩ => ⟨S32, .i32⟩
  | .hbm, ⟨4, _⟩ => ⟨S32x2048x4096, .f32⟩
  | .hbm, ⟨5, _⟩ => ⟨S32x4096, .f32⟩
  | .hbm, ⟨6, _⟩ => ⟨S32x2048x2048, .f32⟩
  | .hbm, ⟨7, _⟩ => ⟨S32x2048, .f32⟩
  | .hbm, ⟨8, _⟩ => ⟨S32x4096x8704, .f32⟩
  | .hbm, ⟨9, _⟩ => ⟨S32x8704x4096, .f32⟩
  | .hbm, ⟨10, _⟩ => ⟨S32x1x4096, .f32⟩
  | .hbm, ⟨11, _⟩ => ⟨S32x8704x4096, .f32⟩
  | .hbm, ⟨12, _⟩ => ⟨S32x8704x4096, .f32⟩
  | .hbm, ⟨13, _⟩ => ⟨S32x8704x2048, .f32⟩
  | .hbm, ⟨14, _⟩ => ⟨S_, .f32⟩
  | .hbm, ⟨15, _⟩ => ⟨S32x8704x2048, .f32⟩
  | .hbm, ⟨16, _⟩ => ⟨S32x8704x2048, .f32⟩
  | .hbm, ⟨17, _⟩ => ⟨S32x8704x2048, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S32x8704x2048, .f32⟩
  | .hbm, ⟨22, _⟩ => ⟨S32x8704x2048, .f32⟩
  | .hbm, ⟨23, _⟩ => ⟨S_, .f32⟩
  | .hbm, ⟨24, _⟩ => ⟨S32x8704x2048, .f32⟩
  | .hbm, ⟨25, _⟩ => ⟨S32x8704x2048, .f32⟩
  | .hbm, ⟨26, _⟩ => ⟨S_, .f32⟩
  | .hbm, ⟨27, _⟩ => ⟨S32x8704x2048, .f32⟩
  | .hbm, ⟨28, _⟩ => ⟨S32x8704x2048, .f32⟩
  | .hbm, ⟨29, _⟩ => ⟨S_, .f32⟩
  | .hbm, ⟨30, _⟩ => ⟨S32x8704x2048, .f32⟩
  | .hbm, ⟨31, _⟩ => ⟨S32x8704x2048, .f32⟩
  | .hbm, ⟨32, _⟩ => ⟨S32x8704x2048, .f32⟩
  | .hbm, ⟨33, _⟩ => ⟨S32x8704x2048, .f32⟩
  | .hbm, ⟨34, _⟩ => ⟨S_, .f32⟩
  | .hbm, ⟨35, _⟩ => ⟨S32x8704x2048, .f32⟩
  | .hbm, ⟨36, _⟩ => ⟨S32x8704x2048, .f32⟩
  | .hbm, ⟨37, _⟩ => ⟨S_, .f32⟩
  | .hbm, ⟨38, _⟩ => ⟨S32x8704x2048, .f32⟩
  | .hbm, ⟨39, _⟩ => ⟨S32x8704x2048, .f32⟩
  | .hbm, ⟨40, _⟩ => ⟨S32x8704x2048, .f32⟩
  | .hbm, ⟨41, _⟩ => ⟨S32x8704x2048, .f32⟩
  | .hbm, ⟨42, _⟩ => ⟨S32x8704x2048, .f32⟩
  | .hbm, ⟨43, _⟩ => ⟨S32x1x2048, .f32⟩
  | .hbm, ⟨44, _⟩ => ⟨S32x8704x2048, .f32⟩
  | .hbm, ⟨45, _⟩ => ⟨S32x8704x2048, .f32⟩
  | .hbm, ⟨46, _⟩ => ⟨S8704, .i32⟩
  | .hbm, ⟨47, _⟩ => ⟨S8704x1, .i32⟩
  | .hbm, ⟨48, _⟩ => ⟨S_, .i32⟩
  | .hbm, ⟨49, _⟩ => ⟨S8704x4, .i32⟩
  | .hbm, ⟨50, _⟩ => ⟨S8704x4, .i1⟩
  | .hbm, ⟨51, _⟩ => ⟨S_, .i32⟩
  | .hbm, ⟨52, _⟩ => ⟨S8704x4, .i32⟩
  | .hbm, ⟨53, _⟩ => ⟨S8704x4, .i32⟩
  | .hbm, ⟨54, _⟩ => ⟨S8704x4, .i32⟩
  | .hbm, ⟨55, _⟩ => ⟨S_, .i32⟩
  | .hbm, ⟨56, _⟩ => ⟨S8704x1, .i32⟩
  | .hbm, ⟨57, _⟩ => ⟨S8704x1, .i1⟩
  | .hbm, ⟨58, _⟩ => ⟨S_, .i32⟩
  | .hbm, ⟨59, _⟩ => ⟨S8704x1, .i32⟩
  | .hbm, ⟨60, _⟩ => ⟨S8704x1, .i32⟩
  | .hbm, ⟨61, _⟩ => ⟨S8704x1, .i32⟩
  | .hbm, ⟨62, _⟩ => ⟨S8704x4, .i32⟩
  | .hbm, ⟨63, _⟩ => ⟨S8704x4x1, .i32⟩
  | .hbm, ⟨64, _⟩ => ⟨S8704x4x1, .i32⟩
  | .hbm, ⟨65, _⟩ => ⟨S8704x4x2, .i32⟩
  | .hbm, ⟨66, _⟩ => ⟨S8704x4x2048, .f32⟩
  | .hbm, ⟨67, _⟩ => ⟨S34816x2048, .f32⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_cst_1 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_cst_3 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_4 : Ref sig .tc := ⟨.hbm, 34, rfl⟩
abbrev main_v16 : Ref sig .tc := ⟨.hbm, 35, rfl⟩
abbrev main_v17 : Ref sig .tc := ⟨.hbm, 36, rfl⟩
abbrev main_cst_5 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_c : Ref sig .tc := ⟨.hbm, 48, rfl⟩
abbrev main_v28 : Ref sig .tc := ⟨.hbm, 49, rfl⟩
abbrev main_v29 : Ref sig .tc := ⟨.hbm, 50, rfl⟩
abbrev main_c_6 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_c_8 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩

abbrev nD : Nat := 1
abbrev τ : Topo := Topo.v7x

variable {F : FTy → Type} [FloatOps F]
-- ==== Kernel2.lean ====
abbrev S8704x2048 : Shape := ⟨2, ![8704, 2048]⟩
abbrev S2048x9280 : Shape := ⟨2, ![2048, 9280]⟩
abbrev S512 : Shape := ⟨1, ![512]⟩
abbrev S2048x1088 : Shape := ⟨2, ![2048, 1088]⟩
abbrev S1x512 : Shape := ⟨2, ![1, 512]⟩
abbrev S8704x512 : Shape := ⟨2, ![8704, 512]⟩
abbrev S8704x64 : Shape := ⟨2, ![8704, 64]⟩
abbrev S512x2048 : Shape := ⟨2, ![512, 2048]⟩
abbrev S512x512 : Shape := ⟨2, ![512, 512]⟩
abbrev S512x64 : Shape := ⟨2, ![512, 64]⟩
abbrev S512x1088 : Shape := ⟨2, ![512, 1088]⟩
abbrev S512x1 : Shape := ⟨2, ![512, 1]⟩

abbrev nBuf : Space → Nat
  | .hbm => 12
  | .vmem => 11
  | .smem => 0
  | _ => 0

abbrev bufTy : (tb : Table) → Fin (tcTables nBuf tb) → BufTy
  | .hbm, ⟨0, _⟩ => ⟨S8704x2048, .f32⟩
  | .hbm, ⟨1, _⟩ => ⟨S2048x9280, .f32⟩
  | .hbm, ⟨2, _⟩ => ⟨S512, .f32⟩
  | .hbm, ⟨3, _⟩ => ⟨S512, .f32⟩
  | .hbm, ⟨4, _⟩ => ⟨S8704x2048, .bf16⟩
  | .hbm, ⟨5, _⟩ => ⟨S2048x1088, .f32⟩
  | .hbm, ⟨6, _⟩ => ⟨S2048x1088, .bf16⟩
  | .hbm, ⟨7, _⟩ => ⟨S1x512, .f32⟩
  | .hbm, ⟨8, _⟩ => ⟨S1x512, .f32⟩
  | .hbm, ⟨9, _⟩ => ⟨S8704x512, .bf16⟩
  | .hbm, ⟨10, _⟩ => ⟨S8704x512, .f32⟩
  | .hbm, ⟨11, _⟩ => ⟨S8704x64, .f32⟩
  | .local _ .vmem, ⟨0, _⟩ => ⟨S512x2048, .bf16⟩
  | .local _ .vmem, ⟨1, _⟩ => ⟨S512x2048, .bf16⟩
  | .local _ .vmem, ⟨2, _⟩ => ⟨S2048x1088, .bf16⟩
  | .local _ .vmem, ⟨3, _⟩ => ⟨S1x512, .f32⟩
  | .local _ .vmem, ⟨4, _⟩ => ⟨S1x512, .f32⟩
  | .local _ .vmem, ⟨5, _⟩ => ⟨S512x512, .bf16⟩
  | .local _ .vmem, ⟨6, _⟩ => ⟨S512x512, .bf16⟩
  | .local _ .vmem, ⟨7, _⟩ => ⟨S512x512, .f32⟩
  | .local _ .vmem, ⟨8, _⟩ => ⟨S512x512, .f32⟩
  | .local _ .vmem, ⟨9, _⟩ => ⟨S512x64, .f32⟩
  | .local _ .vmem, ⟨10, _⟩ => ⟨S512x64, .f32⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1088 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S8704x2048 : Shape := ⟨2, ![8704, 2048]⟩
abbrev S2048x9280 : Shape := ⟨2, ![2048, 9280]⟩
abbrev S512 : Shape := ⟨1, ![512]⟩
abbrev S8704x9280 : Shape := ⟨2, ![8704, 9280]⟩
abbrev S8704x512 : Shape := ⟨2, ![8704, 512]⟩
abbrev S_ : Shape := ⟨0, ![]⟩
abbrev S8704 : Shape := ⟨1, ![8704]⟩
abbrev S8704x1 : Shape := ⟨2, ![8704, 1]⟩
abbrev S1x512 : Shape := ⟨2, ![1, 512]⟩
abbrev S8704x64 : Shape := ⟨2, ![8704, 64]⟩

abbrev nBuf : Space → Nat
  | .hbm => 41
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S2048x9280, .f32⟩
  | .hbm, ⟨2, _⟩ => ⟨S512, .f32⟩
  | .hbm, ⟨3, _⟩ => ⟨S512, .f32⟩
  | .hbm, ⟨4, _⟩ => ⟨S8704x9280, .f32⟩
  | .hbm, ⟨5, _⟩ => ⟨S8704x512, .f32⟩
  | .hbm, ⟨6, _⟩ => ⟨S8704x512, .f32⟩
  | .hbm, ⟨7, _⟩ => ⟨S_, .f32⟩
  | .hbm, ⟨8, _⟩ => ⟨S8704, .f32⟩
  | .hbm, ⟨9, _⟩ => ⟨S8704x1, .f32⟩
  | .hbm, ⟨10, _⟩ => ⟨S_, .f32⟩
  | .hbm, ⟨11, _⟩ => ⟨S8704x1, .f32⟩
  | .hbm, ⟨12, _⟩ => ⟨S8704x1, .f32⟩
  | .hbm, ⟨13, _⟩ => ⟨S_, .f32⟩
  | .hbm, ⟨14, _⟩ => ⟨S8704x1, .f32⟩
  | .hbm, ⟨15, _⟩ => ⟨S8704x1, .f32⟩
  | .hbm, ⟨16, _⟩ => ⟨S8704x1, .f32⟩
  | .hbm, ⟨17, _⟩ => ⟨S8704x512, .f32⟩
  | .hbm, ⟨18, _⟩ => ⟨S8704x512, .f32⟩
  | .hbm, ⟨19, _⟩ => ⟨S1x512, .f32⟩
  | .hbm, ⟨20, _⟩ => ⟨S8704x512, .f32⟩
  | .hbm, ⟨21, _⟩ => ⟨S8704x512, .f32⟩
  | .hbm, ⟨22, _⟩ => ⟨S8704x512, .bf16⟩
  | .hbm, ⟨23, _⟩ => ⟨S8704x512, .f32⟩
  | .hbm, ⟨24, _⟩ => ⟨S8704x512, .f32⟩
  | .hbm, ⟨25, _⟩ => ⟨S_, .f32⟩
  | .hbm, ⟨26, _⟩ => ⟨S8704, .f32⟩
  | .hbm, ⟨27, _⟩ => ⟨S8704x1, .f32⟩
  | .hbm, ⟨28, _⟩ => ⟨S_, .f32⟩
  | .hbm, ⟨29, _⟩ => ⟨S8704x1, .f32⟩
  | .hbm, ⟨30, _⟩ => ⟨S8704x1, .f32⟩
  | .hbm, ⟨31, _⟩ => ⟨S_, .f32⟩
  | .hbm, ⟨32, _⟩ => ⟨S8704x1, .f32⟩
  | .hbm, ⟨33, _⟩ => ⟨S8704x1, .f32⟩
  | .hbm, ⟨34, _⟩ => ⟨S8704x1, .f32⟩
  | .hbm, ⟨35, _⟩ => ⟨S8704x512, .f32⟩
  | .hbm, ⟨36, _⟩ => ⟨S8704x512, .f32⟩
  | .hbm, ⟨37, _⟩ => ⟨S1x512, .f32⟩
  | .hbm, ⟨38, _⟩ => ⟨S8704x512, .f32⟩
  | .hbm, ⟨39, _⟩ => ⟨S8704x512, .f32⟩
  | .hbm, ⟨40, _⟩ => ⟨S8704x64, .f32⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== Kernel3.lean ====
abbrev S8704x2048 : Shape := ⟨2, ![8704, 2048]⟩
abbrev S2048x9280 : Shape := ⟨2, ![2048, 9280]⟩
abbrev S2048x2048 : Shape := ⟨2, ![2048, 2048]⟩
abbrev S512x2048 : Shape := ⟨2, ![512, 2048]⟩
abbrev S2048x512 : Shape := ⟨2, ![2048, 512]⟩
abbrev S512x512 : Shape := ⟨2, ![512, 512]⟩

abbrev nBuf : Space → Nat
  | .hbm => 8
  | .vmem => 8
  | .smem => 0
  | _ => 0

abbrev bufTy : (tb : Table) → Fin (tcTables nBuf tb) → BufTy
  | .hbm, ⟨0, _⟩ => ⟨S8704x2048, .f32⟩
  | .hbm, ⟨1, _⟩ => ⟨S2048x9280, .f32⟩
  | .hbm, ⟨2, _⟩ => ⟨S8704x2048, .bf16⟩
  | .hbm, ⟨3, _⟩ => ⟨S2048x2048, .f32⟩
  | .hbm, ⟨4, _⟩ => ⟨S2048x2048, .bf16⟩
  | .hbm, ⟨5, _⟩ => ⟨S2048x2048, .f32⟩
  | .hbm, ⟨6, _⟩ => ⟨S2048x2048, .bf16⟩
  | .hbm, ⟨7, _⟩ => ⟨S8704x2048, .f32⟩
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x512, .f32⟩
  | .local _ .vmem, ⟨7, _⟩ => ⟨S512x512, .f32⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S8704x2048 : Shape := ⟨2, ![8704, 2048]⟩
abbrev S2048x9280 : Shape := ⟨2, ![2048, 9280]⟩
abbrev S8704x9280 : Shape := ⟨2, ![8704, 9280]⟩
abbrev S8704x4096 : Shape := ⟨2, ![8704, 4096]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S2048x9280, .f32⟩
  | .hbm, ⟨2, _⟩ => ⟨S8704x9280, .f32⟩
  | .hbm, ⟨3, _⟩ => ⟨S8704x4096, .f32⟩
  | .hbm, ⟨4, _⟩ => ⟨S8704x2048, .f32⟩
  | .hbm, ⟨5, _⟩ => ⟨S8704x2048, .f32⟩
  | .hbm, ⟨6, _⟩ => ⟨S8704x2048, .f32⟩
  | .hbm, ⟨7, _⟩ => ⟨S8704x2048, .f32⟩
  | .hbm, ⟨8, _⟩ => ⟨S_, .f32⟩
  | .hbm, ⟨9, _⟩ => ⟨S8704x2048, .f32⟩
  | .hbm, ⟨10, _⟩ => ⟨S8704x2048, .f32⟩
  | .hbm, ⟨11, _⟩ => ⟨S_, .f32⟩
  | .hbm, ⟨12, _⟩ => ⟨S8704x2048, .f32⟩
  | .hbm, ⟨13, _⟩ => ⟨S8704x2048, .f32⟩
  | .hbm, ⟨14, _⟩ => ⟨S8704x2048, .f32⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel4.lean ====
abbrev S8704x2048 : Shape := ⟨2, ![8704, 2048]⟩
abbrev S2048x9280 : Shape := ⟨2, ![2048, 9280]⟩
abbrev S4096 : Shape := ⟨1, ![4096]⟩
abbrev S2048x4096 : Shape := ⟨2, ![2048, 4096]⟩
abbrev S1x4096 : Shape := ⟨2, ![1, 4096]⟩
abbrev S8704x4096 : Shape := ⟨2, ![8704, 4096]⟩
abbrev S512x2048 : Shape := ⟨2, ![512, 2048]⟩
abbrev S2048x1024 : Shape := ⟨2, ![2048, 1024]⟩
abbrev S1x1024 : Shape := ⟨2, ![1, 1024]⟩
abbrev S512x1024 : Shape := ⟨2, ![512, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8704x2048, .f32⟩
  | .hbm, ⟨1, _⟩ => ⟨S2048x9280, .f32⟩
  | .hbm, ⟨2, _⟩ => ⟨S4096, .f32⟩
  | .hbm, ⟨3, _⟩ => ⟨S8704x2048, .bf16⟩
  | .hbm, ⟨4, _⟩ => ⟨S2048x4096, .f32⟩
  | .hbm, ⟨5, _⟩ => ⟨S2048x4096, .bf16⟩
  | .hbm, ⟨6, _⟩ => ⟨S1x4096, .f32⟩
  | .hbm, ⟨7, _⟩ => ⟨S8704x4096, .bf16⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024, .f32⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S8704x2048 : Shape := ⟨2, ![8704, 2048]⟩
abbrev S2048x9280 : Shape := ⟨2, ![2048, 9280]⟩
abbrev S4096 : Shape := ⟨1, ![4096]⟩
abbrev S8704x9280 : Shape := ⟨2, ![8704, 9280]⟩
abbrev S8704x4096 : Shape := ⟨2, ![8704, 4096]⟩
abbrev S1x4096 : Shape := ⟨2, ![1, 4096]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S2048x9280, .f32⟩
  | .hbm, ⟨2, _⟩ => ⟨S4096, .f32⟩
  | .hbm, ⟨3, _⟩ => ⟨S8704x9280, .f32⟩
  | .hbm, ⟨4, _⟩ => ⟨S8704x4096, .f32⟩
  | .hbm, ⟨5, _⟩ => ⟨S1x4096, .f32⟩
  | .hbm, ⟨6, _⟩ => ⟨S8704x4096, .f32⟩
  | .hbm, ⟨7, _⟩ => ⟨S8704x4096, .f32⟩
  | .hbm, ⟨8, _⟩ => ⟨S8704x4096, .f32⟩
  | .hbm, ⟨9, _⟩ => ⟨S8704x4096, .f32⟩
  | .hbm, ⟨10, _⟩ => ⟨S_, .f32⟩
  | .hbm, ⟨11, _⟩ => ⟨S8704x4096, .f32⟩
  | .hbm, ⟨12, _⟩ => ⟨S8704x4096, .f32⟩
  | .hbm, ⟨13, _⟩ => ⟨S_, .f32⟩
  | .hbm, ⟨14, _⟩ => ⟨S8704x4096, .f32⟩
  | .hbm, ⟨15, _⟩ => ⟨S8704x4096, .f32⟩
  | .hbm, ⟨16, _⟩ => ⟨S8704x4096, .bf16⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Kernel5.lean ====
abbrev S8704x2048 : Shape := ⟨2, ![8704, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8704x2048, .f32⟩
  | .hbm, ⟨1, _⟩ => ⟨S2048, .f32⟩
  | .hbm, ⟨2, _⟩ => ⟨S1x2048, .f32⟩
  | .hbm, ⟨3, _⟩ => ⟨S8704x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference5Ideal.lean ====
abbrev S8704x2048 : Shape := ⟨2, ![8704, 2048]⟩
abbrev S2048 : Shape := ⟨1, ![2048]⟩
abbrev S_ : Shape := ⟨0, ![]⟩
abbrev S8704 : Shape := ⟨1, ![8704]⟩
abbrev S8704x1 : Shape := ⟨2, ![8704, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S2048, .f32⟩
  | .hbm, ⟨2, _⟩ => ⟨S8704x2048, .f32⟩
  | .hbm, ⟨3, _⟩ => ⟨S_, .f32⟩
  | .hbm, ⟨4, _⟩ => ⟨S8704, .f32⟩
  | .hbm, ⟨5, _⟩ => ⟨S8704x1, .f32⟩
  | .hbm, ⟨6, _⟩ => ⟨S_, .f32⟩
  | .hbm, ⟨7, _⟩ => ⟨S8704x1, .f32⟩
  | .hbm, ⟨8, _⟩ => ⟨S8704x1, .f32⟩
  | .hbm, ⟨9, _⟩ => ⟨S_, .f32⟩
  | .hbm, ⟨10, _⟩ => ⟨S8704x1, .f32⟩
  | .hbm, ⟨11, _⟩ => ⟨S8704x1, .f32⟩
  | .hbm, ⟨12, _⟩ => ⟨S8704x1, .f32⟩
  | .hbm, ⟨13, _⟩ => ⟨S8704x2048, .f32⟩
  | .hbm, ⟨14, _⟩ => ⟨S8704x2048, .f32⟩
  | .hbm, ⟨15, _⟩ => ⟨S1x2048, .f32⟩
  | .hbm, ⟨16, _⟩ => ⟨S8704x2048, .f32⟩
  | .hbm, ⟨17, _⟩ => ⟨S8704x2048, .f32⟩
  | .hbm, ⟨18, _⟩ => ⟨S8704x2048, .bf16⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel6.lean ====
abbrev S8704x2048 : Shape := ⟨2, ![8704, 2048]⟩
abbrev S2048x2048 : Shape := ⟨2, ![2048, 2048]⟩
abbrev S8704x4096 : Shape := ⟨2, ![8704, 4096]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 7
  | .vmem => 8
  | .smem => 0
  | _ => 0

abbrev bufTy : (tb : Table) → Fin (tcTables nBuf tb) → BufTy
  | .hbm, ⟨0, _⟩ => ⟨S8704x2048, .f32⟩
  | .hbm, ⟨1, _⟩ => ⟨S2048x2048, .f32⟩
  | .hbm, ⟨2, _⟩ => ⟨S8704x4096, .f32⟩
  | .hbm, ⟨3, _⟩ => ⟨S8704x2048, .bf16⟩
  | .hbm, ⟨4, _⟩ => ⟨S2048x2048, .bf16⟩
  | .hbm, ⟨5, _⟩ => ⟨S8704x4096, .bf16⟩
  | .hbm, ⟨6, _⟩ => ⟨S8704x2048, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S8704x2048 : Shape := ⟨2, ![8704, 2048]⟩
abbrev S2048x2048 : Shape := ⟨2, ![2048, 2048]⟩
abbrev S8704x4096 : Shape := ⟨2, ![8704, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S2048x2048, .f32⟩
  | .hbm, ⟨2, _⟩ => ⟨S8704x4096, .f32⟩
  | .hbm, ⟨3, _⟩ => ⟨S8704x2048, .f32⟩
  | .hbm, ⟨4, _⟩ => ⟨S8704x2048, .f32⟩
  | .hbm, ⟨5, _⟩ => ⟨S8704x2048, .f32⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel7.lean ====
abbrev S8704x16x128 : Shape := ⟨3, ![8704, 16, 128]⟩
abbrev S2048x2048 : Shape := ⟨2, ![2048, 2048]⟩
abbrev S8704x2048 : Shape := ⟨2, ![8704, 2048]⟩
abbrev S8704x4096 : Shape := ⟨2, ![8704, 4096]⟩
abbrev S16x8704x128 : Shape := ⟨3, ![16, 8704, 128]⟩
abbrev S16x256x128 : Shape := ⟨3, ![16, 256, 128]⟩
abbrev S256x2048 : Shape := ⟨2, ![256, 2048]⟩
abbrev S1x256x128 : Shape := ⟨3, ![1, 256, 128]⟩
abbrev S256x128 : Shape := ⟨2, ![256, 128]⟩

abbrev nBuf : Space → Nat
  | .hbm => 9
  | .vmem => 9
  | .smem => 0
  | _ => 0

abbrev bufTy : (tb : Table) → Fin (tcTables nBuf tb) → BufTy
  | .hbm, ⟨0, _⟩ => ⟨S8704x16x128, .f32⟩
  | .hbm, ⟨1, _⟩ => ⟨S2048x2048, .f32⟩
  | .hbm, ⟨2, _⟩ => ⟨S8704x2048, .f32⟩
  | .hbm, ⟨3, _⟩ => ⟨S8704x4096, .f32⟩
  | .hbm, ⟨4, _⟩ => ⟨S16x8704x128, .f32⟩
  | .hbm, ⟨5, _⟩ => ⟨S16x8704x128, .bf16⟩
  | .hbm, ⟨6, _⟩ => ⟨S2048x2048, .bf16⟩
  | .hbm, ⟨7, _⟩ => ⟨S8704x4096, .bf16⟩
  | .hbm, ⟨8, _⟩ => ⟨S8704x2048, .bf16⟩
  | .local _ .vmem, ⟨0, _⟩ => ⟨S16x256x128, .bf16⟩
  | .local _ .vmem, ⟨1, _⟩ => ⟨S16x256x128, .bf16⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | _, _ => ⟨S8704x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![34], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference7Ideal.lean ====
abbrev S8704x16x128 : Shape := ⟨3, ![8704, 16, 128]⟩
abbrev S2048x2048 : Shape := ⟨2, ![2048, 2048]⟩
abbrev S8704x2048 : Shape := ⟨2, ![8704, 2048]⟩
abbrev S8704x4096 : Shape := ⟨2, ![8704, 4096]⟩

abbrev nBuf : Space → Nat
  | .hbm => 10
  | .vmem => 0
  | .smem => 0
  | _ => 0

abbrev bufTy : (tb : Table) → Fin (tcTables nBuf tb) → BufTy
  | .hbm, ⟨0, _⟩ => ⟨S8704x16x128, .f32⟩
  | .hbm, ⟨1, _⟩ => ⟨S2048x2048, .f32⟩
  | .hbm, ⟨2, _⟩ => ⟨S8704x2048, .f32⟩
  | .hbm, ⟨3, _⟩ => ⟨S8704x4096, .f32⟩
  | .hbm, ⟨4, _⟩ => ⟨S8704x2048, .f32⟩
  | .hbm, ⟨5, _⟩ => ⟨S8704x2048, .f32⟩
  | .hbm, ⟨6, _⟩ => ⟨S8704x2048, .f32⟩
  | .hbm, ⟨7, _⟩ => ⟨S8704x2048, .f32⟩
  | .hbm, ⟨8, _⟩ => ⟨S8704x2048, .f32⟩
  | .hbm, ⟨9, _⟩ => ⟨S8704x2048, .bf16⟩
  | _, _ => ⟨S8704x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel8.lean ====
abbrev S8704x2048 : Shape := ⟨2, ![8704, 2048]⟩
abbrev S2048x2048 : Shape := ⟨2, ![2048, 2048]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 6
  | .vmem => 8
  | .smem => 0
  | _ => 0

abbrev bufTy : (tb : Table) → Fin (tcTables nBuf tb) → BufTy
  | .hbm, ⟨0, _⟩ => ⟨S8704x2048, .f32⟩
  | .hbm, ⟨1, _⟩ => ⟨S2048x2048, .f32⟩
  | .hbm, ⟨2, _⟩ => ⟨S8704x2048, .f32⟩
  | .hbm, ⟨3, _⟩ => ⟨S8704x2048, .bf16⟩
  | .hbm, ⟨4, _⟩ => ⟨S2048x2048, .bf16⟩
  | .hbm, ⟨5, _⟩ => ⟨S8704x2048, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S8704x2048 : Shape := ⟨2, ![8704, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S2048x2048, .f32⟩
  | .hbm, ⟨2, _⟩ => ⟨S8704x2048, .f32⟩
  | .hbm, ⟨3, _⟩ => ⟨S8704x2048, .f32⟩
  | .hbm, ⟨4, _⟩ => ⟨S8704x2048, .f32⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel9.lean ====
abbrev S8704x2048 : Shape := ⟨2, ![8704, 2048]⟩
abbrev S8704x4x2048 : Shape := ⟨3, ![8704, 4, 2048]⟩
abbrev S8704x4 : Shape := ⟨2, ![8704, 4]⟩
abbrev S8192x256 : Shape := ⟨2, ![8192, 256]⟩
abbrev S2048 : Shape := ⟨1, ![2048]⟩
abbrev S2048x2048 : Shape := ⟨2, ![2048, 2048]⟩
abbrev S256x2048 : Shape := ⟨2, ![256, 2048]⟩
abbrev S8704x8192 : Shape := ⟨2, ![8704, 8192]⟩
abbrev S_ : Shape := ⟨0, ![]⟩
abbrev S8704x128 : Shape := ⟨2, ![8704, 128]⟩
abbrev S1x2048 : Shape := ⟨2, ![1, 2048]⟩
abbrev S8192x2048 : Shape := ⟨2, ![8192, 2048]⟩
abbrev S256x8192 : Shape := ⟨2, ![256, 8192]⟩
abbrev S256x128 : Shape := ⟨2, ![256, 128]⟩
abbrev S256x256 : Shape := ⟨2, ![256, 256]⟩
abbrev S256x1 : Shape := ⟨2, ![256, 1]⟩
abbrev S256 : Shape := ⟨1, ![256]⟩

abbrev nBuf : Space → Nat
  | .hbm => 15
  | .vmem => 13
  | .smem => 0
  | _ => 0

abbrev bufTy : (tb : Table) → Fin (tcTables nBuf tb) → BufTy
  | .hbm, ⟨0, _⟩ => ⟨S8704x2048, .f32⟩
  | .hbm, ⟨1, _⟩ => ⟨S8704x4x2048, .f32⟩
  | .hbm, ⟨2, _⟩ => ⟨S8704x4, .f32⟩
  | .hbm, ⟨3, _⟩ => ⟨S8192x256, .f32⟩
  | .hbm, ⟨4, _⟩ => ⟨S2048, .f32⟩
  | .hbm, ⟨5, _⟩ => ⟨S2048x2048, .f32⟩
  | .hbm, ⟨6, _⟩ => ⟨S256x2048, .f32⟩
  | .hbm, ⟨7, _⟩ => ⟨S8704x8192, .f32⟩
  | .hbm, ⟨8, _⟩ => ⟨S_, .i32⟩
  | .hbm, ⟨9, _⟩ => ⟨S_, .f32⟩
  | .hbm, ⟨10, _⟩ => ⟨S8704x128, .f32⟩
  | .hbm, ⟨11, _⟩ => ⟨S2048x2048, .bf16⟩
  | .hbm, ⟨12, _⟩ => ⟨S256x2048, .bf16⟩
  | .hbm, ⟨13, _⟩ => ⟨S1x2048, .f32⟩
  | .hbm, ⟨14, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S256x8192, .f32⟩
  | .local _ .vmem, ⟨3, _⟩ => ⟨S256x8192, .f32⟩
  | .local _ .vmem, ⟨4, _⟩ => ⟨S256x128, .f32⟩
  | .local _ .vmem, ⟨5, _⟩ => ⟨S256x128, .f32⟩
  | .local _ .vmem, ⟨6, _⟩ => ⟨S256x256, .f32⟩
  | .local _ .vmem, ⟨7, _⟩ => ⟨S256x256, .f32⟩
  | .local _ .vmem, ⟨8, _⟩ => ⟨S1x2048, .f32⟩
  | .local _ .vmem, ⟨9, _⟩ => ⟨S2048x2048, .bf16⟩
  | .local _ .vmem, ⟨10, _⟩ => ⟨S256x2048, .bf16⟩
  | .local _ .vmem, ⟨11, _⟩ => ⟨S256x2048, .f32⟩
  | .local _ .vmem, ⟨12, _⟩ => ⟨S256x2048, .f32⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference9Ideal.lean ====
abbrev S8704x2048 : Shape := ⟨2, ![8704, 2048]⟩
abbrev S8704x4x2048 : Shape := ⟨3, ![8704, 4, 2048]⟩
abbrev S8704x4 : Shape := ⟨2, ![8704, 4]⟩
abbrev S8192x256 : Shape := ⟨2, ![8192, 256]⟩
abbrev S2048 : Shape := ⟨1, ![2048]⟩
abbrev S2048x2048 : Shape := ⟨2, ![2048, 2048]⟩
abbrev S256x2048 : Shape := ⟨2, ![256, 2048]⟩
abbrev S8192x2048 : Shape := ⟨2, ![8192, 2048]⟩
abbrev S8192x4x2048 : Shape := ⟨3, ![8192, 4, 2048]⟩
abbrev S8192x4 : Shape := ⟨2, ![8192, 4]⟩
abbrev S8192x4x1 : Shape := ⟨3, ![8192, 4, 1]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 44
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S8704x4x2048, .f32⟩
  | .hbm, ⟨2, _⟩ => ⟨S8704x4, .f32⟩
  | .hbm, ⟨3, _⟩ => ⟨S8192x256, .f32⟩
  | .hbm, ⟨4, _⟩ => ⟨S2048, .f32⟩
  | .hbm, ⟨5, _⟩ => ⟨S2048x2048, .f32⟩
  | .hbm, ⟨6, _⟩ => ⟨S256x2048, .f32⟩
  | .hbm, ⟨7, _⟩ => ⟨S8192x2048, .f32⟩
  | .hbm, ⟨8, _⟩ => ⟨S8192x4x2048, .f32⟩
  | .hbm, ⟨9, _⟩ => ⟨S8192x4, .f32⟩
  | .hbm, ⟨10, _⟩ => ⟨S8192x4x1, .f32⟩
  | .hbm, ⟨11, _⟩ => ⟨S8192x4x2048, .f32⟩
  | .hbm, ⟨12, _⟩ => ⟨S8192x4x2048, .f32⟩
  | .hbm, ⟨13, _⟩ => ⟨S_, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S8192x2048, .f32⟩
  | .hbm, ⟨28, _⟩ => ⟨S8192x2048, .f32⟩
  | .hbm, ⟨29, _⟩ => ⟨S1x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S_, .f32⟩
  | .hbm, ⟨36, _⟩ => ⟨S8192x2048, .f32⟩
  | .hbm, ⟨37, _⟩ => ⟨S8192x2048, .f32⟩
  | .hbm, ⟨38, _⟩ => ⟨S_, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S8192x2048, .f32⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== Kernel10.lean ====
abbrev S8704x2048 : Shape := ⟨2, ![8704, 2048]⟩
abbrev S8704x4x2048 : Shape := ⟨3, ![8704, 4, 2048]⟩
abbrev S8704x4 : Shape := ⟨2, ![8704, 4]⟩
abbrev S512x256 : Shape := ⟨2, ![512, 256]⟩
abbrev S2048 : Shape := ⟨1, ![2048]⟩
abbrev S2048x2048 : Shape := ⟨2, ![2048, 2048]⟩
abbrev S256x2048 : Shape := ⟨2, ![256, 2048]⟩
abbrev S8704x8192 : Shape := ⟨2, ![8704, 8192]⟩
abbrev S_ : Shape := ⟨0, ![]⟩
abbrev S8704x128 : Shape := ⟨2, ![8704, 128]⟩
abbrev S1x2048 : Shape := ⟨2, ![1, 2048]⟩
abbrev S512x2048 : Shape := ⟨2, ![512, 2048]⟩
abbrev S256x8192 : Shape := ⟨2, ![256, 8192]⟩
abbrev S256x128 : Shape := ⟨2, ![256, 128]⟩
abbrev S256x256 : Shape := ⟨2, ![256, 256]⟩
abbrev S256x1 : Shape := ⟨2, ![256, 1]⟩
abbrev S256 : Shape := ⟨1, ![256]⟩

abbrev nBuf : Space → Nat
  | .hbm => 15
  | .vmem => 13
  | .smem => 0
  | _ => 0

abbrev bufTy : (tb : Table) → Fin (tcTables nBuf tb) → BufTy
  | .hbm, ⟨0, _⟩ => ⟨S8704x2048, .f32⟩
  | .hbm, ⟨1, _⟩ => ⟨S8704x4x2048, .f32⟩
  | .hbm, ⟨2, _⟩ => ⟨S8704x4, .f32⟩
  | .hbm, ⟨3, _⟩ => ⟨S512x256, .f32⟩
  | .hbm, ⟨4, _⟩ => ⟨S2048, .f32⟩
  | .hbm, ⟨5, _⟩ => ⟨S2048x2048, .f32⟩
  | .hbm, ⟨6, _⟩ => ⟨S256x2048, .f32⟩
  | .hbm, ⟨7, _⟩ => ⟨S8704x8192, .f32⟩
  | .hbm, ⟨8, _⟩ => ⟨S_, .i32⟩
  | .hbm, ⟨9, _⟩ => ⟨S_, .f32⟩
  | .hbm, ⟨10, _⟩ => ⟨S8704x128, .f32⟩
  | .hbm, ⟨11, _⟩ => ⟨S2048x2048, .bf16⟩
  | .hbm, ⟨12, _⟩ => ⟨S256x2048, .bf16⟩
  | .hbm, ⟨13, _⟩ => ⟨S1x2048, .f32⟩
  | .hbm, ⟨14, _⟩ => ⟨S512x2048, .f32⟩
  | .local _ .vmem, ⟨0, _⟩ => ⟨S256x2048, .f32⟩
  | .local _ .vmem, ⟨1, _⟩ => ⟨S256x2048, .f32⟩
  | .local _ .vmem, ⟨2, _⟩ => ⟨S256x8192, .f32⟩
  | .local _ .vmem, ⟨3, _⟩ => ⟨S256x8192, .f32⟩
  | .local _ .vmem, ⟨4, _⟩ => ⟨S256x128, .f32⟩
  | .local _ .vmem, ⟨5, _⟩ => ⟨S256x128, .f32⟩
  | .local _ .vmem, ⟨6, _⟩ => ⟨S256x256, .f32⟩
  | .local _ .vmem, ⟨7, _⟩ => ⟨S256x256, .f32⟩
  | .local _ .vmem, ⟨8, _⟩ => ⟨S1x2048, .f32⟩
  | .local _ .vmem, ⟨9, _⟩ => ⟨S2048x2048, .bf16⟩
  | .local _ .vmem, ⟨10, _⟩ => ⟨S256x2048, .bf16⟩
  | .local _ .vmem, ⟨11, _⟩ => ⟨S256x2048, .f32⟩
  | .local _ .vmem, ⟨12, _⟩ => ⟨S256x2048, .f32⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference10Ideal.lean ====
abbrev S8704x2048 : Shape := ⟨2, ![8704, 2048]⟩
abbrev S8704x4x2048 : Shape := ⟨3, ![8704, 4, 2048]⟩
abbrev S8704x4 : Shape := ⟨2, ![8704, 4]⟩
abbrev S512x256 : Shape := ⟨2, ![512, 256]⟩
abbrev S2048 : Shape := ⟨1, ![2048]⟩
abbrev S2048x2048 : Shape := ⟨2, ![2048, 2048]⟩
abbrev S256x2048 : Shape := ⟨2, ![256, 2048]⟩
abbrev S512x2048 : Shape := ⟨2, ![512, 2048]⟩
abbrev S512x4x2048 : Shape := ⟨3, ![512, 4, 2048]⟩
abbrev S512x4 : Shape := ⟨2, ![512, 4]⟩
abbrev S512x4x1 : Shape := ⟨3, ![512, 4, 1]⟩
abbrev S_ : Shape := ⟨0, ![]⟩
abbrev S512 : Shape := ⟨1, ![512]⟩
abbrev S512x1 : Shape := ⟨2, ![512, 1]⟩
abbrev S1x2048 : Shape := ⟨2, ![1, 2048]⟩

abbrev nBuf : Space → Nat
  | .hbm => 44
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S8704x4x2048, .f32⟩
  | .hbm, ⟨2, _⟩ => ⟨S8704x4, .f32⟩
  | .hbm, ⟨3, _⟩ => ⟨S512x256, .f32⟩
  | .hbm, ⟨4, _⟩ => ⟨S2048, .f32⟩
  | .hbm, ⟨5, _⟩ => ⟨S2048x2048, .f32⟩
  | .hbm, ⟨6, _⟩ => ⟨S256x2048, .f32⟩
  | .hbm, ⟨7, _⟩ => ⟨S512x2048, .f32⟩
  | .hbm, ⟨8, _⟩ => ⟨S512x4x2048, .f32⟩
  | .hbm, ⟨9, _⟩ => ⟨S512x4, .f32⟩
  | .hbm, ⟨10, _⟩ => ⟨S512x4x1, .f32⟩
  | .hbm, ⟨11, _⟩ => ⟨S512x4x2048, .f32⟩
  | .hbm, ⟨12, _⟩ => ⟨S512x4x2048, .f32⟩
  | .hbm, ⟨13, _⟩ => ⟨S_, .f32⟩
  | .hbm, ⟨14, _⟩ => ⟨S512x2048, .f32⟩
  | .hbm, ⟨15, _⟩ => ⟨S512x2048, .f32⟩
  | .hbm, ⟨16, _⟩ => ⟨S512x2048, .f32⟩
  | .hbm, ⟨17, _⟩ => ⟨S_, .f32⟩
  | .hbm, ⟨18, _⟩ => ⟨S512, .f32⟩
  | .hbm, ⟨19, _⟩ => ⟨S512x1, .f32⟩
  | .hbm, ⟨20, _⟩ => ⟨S_, .f32⟩
  | .hbm, ⟨21, _⟩ => ⟨S512x1, .f32⟩
  | .hbm, ⟨22, _⟩ => ⟨S512x1, .f32⟩
  | .hbm, ⟨23, _⟩ => ⟨S_, .f32⟩
  | .hbm, ⟨24, _⟩ => ⟨S512x1, .f32⟩
  | .hbm, ⟨25, _⟩ => ⟨S512x1, .f32⟩
  | .hbm, ⟨26, _⟩ => ⟨S512x1, .f32⟩
  | .hbm, ⟨27, _⟩ => ⟨S512x2048, .f32⟩
  | .hbm, ⟨28, _⟩ => ⟨S512x2048, .f32⟩
  | .hbm, ⟨29, _⟩ => ⟨S1x2048, .f32⟩
  | .hbm, ⟨30, _⟩ => ⟨S512x2048, .f32⟩
  | .hbm, ⟨31, _⟩ => ⟨S512x2048, .f32⟩
  | .hbm, ⟨32, _⟩ => ⟨S512x2048, .f32⟩
  | .hbm, ⟨33, _⟩ => ⟨S512x2048, .f32⟩
  | .hbm, ⟨34, _⟩ => ⟨S512x2048, .f32⟩
  | .hbm, ⟨35, _⟩ => ⟨S_, .f32⟩
  | .hbm, ⟨36, _⟩ => ⟨S512x2048, .f32⟩
  | .hbm, ⟨37, _⟩ => ⟨S512x2048, .f32⟩
  | .hbm, ⟨38, _⟩ => ⟨S_, .f32⟩
  | .hbm, ⟨39, _⟩ => ⟨S512x2048, .f32⟩
  | .hbm, ⟨40, _⟩ => ⟨S512x2048, .f32⟩
  | .hbm, ⟨41, _⟩ => ⟨S512x2048, .f32⟩
  | .hbm, ⟨42, _⟩ => ⟨S512x2048, .f32⟩
  | .hbm, ⟨43, _⟩ => ⟨S512x2048, .f32⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== Kernel11.lean ====
abbrev S2x4096x2048 : Shape := ⟨3, ![2, 4096, 2048]⟩
abbrev S8x64x2048 : Shape := ⟨3, ![8, 64, 2048]⟩
abbrev S1x8x30x2048 : Shape := ⟨4, ![1, 8, 30, 2048]⟩
abbrev S1x2048 : Shape := ⟨2, ![1, 2048]⟩
abbrev S1x2048x9280 : Shape := ⟨3, ![1, 2048, 9280]⟩
abbrev S1x512 : Shape := ⟨2, ![1, 512]⟩
abbrev S8192x2048 : Shape := ⟨2, ![8192, 2048]⟩
abbrev S512x2048 : Shape := ⟨2, ![512, 2048]⟩
abbrev S8704x2048 : Shape := ⟨2, ![8704, 2048]⟩
abbrev S2048 : Shape := ⟨1, ![2048]⟩
abbrev S512 : Shape := ⟨1, ![512]⟩
abbrev S512x1 : Shape := ⟨2, ![512, 1]⟩
abbrev S2048x9280 : Shape := ⟨2, ![2048, 9280]⟩
abbrev S2048x2048 : Shape := ⟨2, ![2048, 2048]⟩
abbrev S2048x512 : Shape := ⟨2, ![2048, 512]⟩
abbrev S512x512 : Shape := ⟨2, ![512, 512]⟩
abbrev S2048x1088 : Shape := ⟨2, ![2048, 1088]⟩
abbrev S8704x512 : Shape := ⟨2, ![8704, 512]⟩
abbrev S8704x64 : Shape := ⟨2, ![8704, 64]⟩
abbrev S512x64 : Shape := ⟨2, ![512, 64]⟩
abbrev S512x1088 : Shape := ⟨2, ![512, 1088]⟩
abbrev S2x30x2048 : Shape := ⟨3, ![2, 30, 2048]⟩
abbrev S8x30x2048 : Shape := ⟨3, ![8, 30, 2048]⟩
abbrev S8x94x2048 : Shape := ⟨3, ![8, 94, 2048]⟩
abbrev S8192x512 : Shape := ⟨2, ![8192, 512]⟩
abbrev S1x2x4096x512 : Shape := ⟨4, ![1, 2, 4096, 512]⟩
abbrev S8192x64 : Shape := ⟨2, ![8192, 64]⟩
abbrev S1x2x4096x64 : Shape := ⟨4, ![1, 2, 4096, 64]⟩
abbrev S1x2x30x2048 : Shape := ⟨4, ![1, 2, 30, 2048]⟩
abbrev S1x8x64x512 : Shape := ⟨4, ![1, 8, 64, 512]⟩
abbrev S1x8x64x64 : Shape := ⟨4, ![1, 8, 64, 64]⟩

abbrev nBuf : Space → Nat
  | .hbm => 48
  | .vmem => 24
  | .smem => 0
  | _ => 0

abbrev bufTy : (tb : Table) → Fin (tcTables nBuf tb) → BufTy
  | .hbm, ⟨0, _⟩ => ⟨S2x4096x2048, .f32⟩
  | .hbm, ⟨1, _⟩ => ⟨S8x64x2048, .f32⟩
  | .hbm, ⟨2, _⟩ => ⟨S1x8x30x2048, .f32⟩
  | .hbm, ⟨3, _⟩ => ⟨S1x2048, .f32⟩
  | .hbm, ⟨4, _⟩ => ⟨S1x2048x9280, .f32⟩
  | .hbm, ⟨5, _⟩ => ⟨S1x512, .f32⟩
  | .hbm, ⟨6, _⟩ => ⟨S1x512, .f32⟩
  | .hbm, ⟨7, _⟩ => ⟨S8192x2048, .f32⟩
  | .hbm, ⟨8, _⟩ => ⟨S512x2048, .f32⟩
  | .hbm, ⟨9, _⟩ => ⟨S8704x2048, .f32⟩
  | .hbm, ⟨10, _⟩ => ⟨S2048, .f32⟩
  | .hbm, ⟨11, _⟩ => ⟨S1x2048, .f32⟩
  | .hbm, ⟨12, _⟩ => ⟨S8704x2048, .bf16⟩
  | .hbm, ⟨13, _⟩ => ⟨S2048x9280, .f32⟩
  | .hbm, ⟨14, _⟩ => ⟨S2048x2048, .f32⟩
  | .hbm, ⟨15, _⟩ => ⟨S2048x2048, .bf16⟩
  | .hbm, ⟨16, _⟩ => ⟨S2048x9280, .f32⟩
  | .hbm, ⟨17, _⟩ => ⟨S2048x2048, .f32⟩
  | .hbm, ⟨18, _⟩ => ⟨S2048x2048, .bf16⟩
  | .hbm, ⟨19, _⟩ => ⟨S8704x2048, .f32⟩
  | .hbm, ⟨20, _⟩ => ⟨S2048x9280, .f32⟩
  | .hbm, ⟨21, _⟩ => ⟨S2048x1088, .f32⟩
  | .hbm, ⟨22, _⟩ => ⟨S2048x1088, .bf16⟩
  | .hbm, ⟨23, _⟩ => ⟨S512, .f32⟩
  | .hbm, ⟨24, _⟩ => ⟨S512, .f32⟩
  | .hbm, ⟨25, _⟩ => ⟨S1x512, .f32⟩
  | .hbm, ⟨26, _⟩ => ⟨S1x512, .f32⟩
  | .hbm, ⟨27, _⟩ => ⟨S8704x512, .bf16⟩
  | .hbm, ⟨28, _⟩ => ⟨S8704x512, .f32⟩
  | .hbm, ⟨29, _⟩ => ⟨S8704x64, .f32⟩
  | .hbm, ⟨30, _⟩ => ⟨S8192x2048, .f32⟩
  | .hbm, ⟨31, _⟩ => ⟨S2x4096x2048, .f32⟩
  | .hbm, ⟨32, _⟩ => ⟨S512x2048, .f32⟩
  | .hbm, ⟨33, _⟩ => ⟨S8x64x2048, .f32⟩
  | .hbm, ⟨34, _⟩ => ⟨S2x30x2048, .f32⟩
  | .hbm, ⟨35, _⟩ => ⟨S8x30x2048, .f32⟩
  | .hbm, ⟨36, _⟩ => ⟨S8x94x2048, .f32⟩
  | .hbm, ⟨37, _⟩ => ⟨S8x30x2048, .f32⟩
  | .hbm, ⟨38, _⟩ => ⟨S8192x512, .f32⟩
  | .hbm, ⟨39, _⟩ => ⟨S1x2x4096x512, .f32⟩
  | .hbm, ⟨40, _⟩ => ⟨S8192x64, .f32⟩
  | .hbm, ⟨41, _⟩ => ⟨S1x2x4096x64, .f32⟩
  | .hbm, ⟨42, _⟩ => ⟨S1x2x30x2048, .f32⟩
  | .hbm, ⟨43, _⟩ => ⟨S512x512, .f32⟩
  | .hbm, ⟨44, _⟩ => ⟨S1x8x64x512, .f32⟩
  | .hbm, ⟨45, _⟩ => ⟨S512x64, .f32⟩
  | .hbm, ⟨46, _⟩ => ⟨S1x8x64x64, .f32⟩
  | .hbm, ⟨47, _⟩ => ⟨S1x8x30x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S512x512, .f32⟩
  | .local _ .vmem, ⟨12, _⟩ => ⟨S512x512, .f32⟩
  | .local _ .vmem, ⟨13, _⟩ => ⟨S512x2048, .bf16⟩
  | .local _ .vmem, ⟨14, _⟩ => ⟨S512x2048, .bf16⟩
  | .local _ .vmem, ⟨15, _⟩ => ⟨S2048x1088, .bf16⟩
  | .local _ .vmem, ⟨16, _⟩ => ⟨S1x512, .f32⟩
  | .local _ .vmem, ⟨17, _⟩ => ⟨S1x512, .f32⟩
  | .local _ .vmem, ⟨18, _⟩ => ⟨S512x512, .bf16⟩
  | .local _ .vmem, ⟨19, _⟩ => ⟨S512x512, .bf16⟩
  | .local _ .vmem, ⟨20, _⟩ => ⟨S512x512, .f32⟩
  | .local _ .vmem, ⟨21, _⟩ => ⟨S512x512, .f32⟩
  | .local _ .vmem, ⟨22, _⟩ => ⟨S512x64, .f32⟩
  | .local _ .vmem, ⟨23, _⟩ => ⟨S512x64, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20_0 : Ref sig .tc := ⟨.hbm, 27, rfl⟩
abbrev main_v20_1 : Ref sig .tc := ⟨.hbm, 28, rfl⟩
abbrev main_v20_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg4_1 : Ref sig .tc := ⟨.vmem, 19, rfl⟩
abbrev cc2_stg5_0 : Ref sig .tc := ⟨.vmem, 20, rfl⟩
abbrev cc2_stg5_1 : Ref sig .tc := ⟨.vmem, 21, rfl⟩
abbrev cc2_stg6_0 : Ref sig .tc := ⟨.vmem, 22, rfl⟩
abbrev cc2_stg6_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem4_1 : DmaSem sig := 19
abbrev cc2_sem5_0 : DmaSem sig := 20
abbrev cc2_sem5_1 : DmaSem sig := 21
abbrev cc2_sem6_0 : DmaSem sig := 22
abbrev cc2_sem6_1 : DmaSem sig := 23

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 17], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S2048x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![17], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2048x1088 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S512x512 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S512x512 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S512x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]
-- ==== Reference11Ideal.lean ====
abbrev S2x4096x2048 : Shape := ⟨3, ![2, 4096, 2048]⟩
abbrev S8x64x2048 : Shape := ⟨3, ![8, 64, 2048]⟩
abbrev S1x8x30x2048 : Shape := ⟨4, ![1, 8, 30, 2048]⟩
abbrev S1x2048 : Shape := ⟨2, ![1, 2048]⟩
abbrev S1x2048x9280 : Shape := ⟨3, ![1, 2048, 9280]⟩
abbrev S1x512 : Shape := ⟨2, ![1, 512]⟩
abbrev S_ : Shape := ⟨0, ![]⟩
abbrev S2x30x2048 : Shape := ⟨3, ![2, 30, 2048]⟩
abbrev S2048 : Shape := ⟨1, ![2048]⟩
abbrev S2048x9280 : Shape := ⟨2, ![2048, 9280]⟩
abbrev S512 : Shape := ⟨1, ![512]⟩
abbrev S2x4096 : Shape := ⟨2, ![2, 4096]⟩
abbrev S2x4096x1 : Shape := ⟨3, ![2, 4096, 1]⟩
abbrev S1x1x2048 : Shape := ⟨3, ![1, 1, 2048]⟩
abbrev S2x4096x9280 : Shape := ⟨3, ![2, 4096, 9280]⟩
abbrev S2x4096x4096 : Shape := ⟨3, ![2, 4096, 4096]⟩
abbrev S2x4126x2048 : Shape := ⟨3, ![2, 4126, 2048]⟩
abbrev S2x4096x512 : Shape := ⟨3, ![2, 4096, 512]⟩
abbrev S1x1x512 : Shape := ⟨3, ![1, 1, 512]⟩
abbrev S2x4096x64 : Shape := ⟨3, ![2, 4096, 64]⟩
abbrev S8x30x2048 : Shape := ⟨3, ![8, 30, 2048]⟩
abbrev S8x64 : Shape := ⟨2, ![8, 64]⟩
abbrev S8x64x1 : Shape := ⟨3, ![8, 64, 1]⟩
abbrev S8x64x9280 : Shape := ⟨3, ![8, 64, 9280]⟩
abbrev S8x64x4096 : Shape := ⟨3, ![8, 64, 4096]⟩
abbrev S8x94x2048 : Shape := ⟨3, ![8, 94, 2048]⟩
abbrev S8x64x512 : Shape := ⟨3, ![8, 64, 512]⟩
abbrev S8x64x64 : Shape := ⟨3, ![8, 64, 64]⟩
abbrev S1x2x4096x512 : Shape := ⟨4, ![1, 2, 4096, 512]⟩
abbrev S1x2x4096x64 : Shape := ⟨4, ![1, 2, 4096, 64]⟩
abbrev S1x2x30x2048 : Shape := ⟨4, ![1, 2, 30, 2048]⟩
abbrev S1x8x64x512 : Shape := ⟨4, ![1, 8, 64, 512]⟩
abbrev S1x8x64x64 : Shape := ⟨4, ![1, 8, 64, 64]⟩

abbrev nBuf : Space → Nat
  | .hbm => 120
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S8x64x2048, .f32⟩
  | .hbm, ⟨2, _⟩ => ⟨S1x8x30x2048, .f32⟩
  | .hbm, ⟨3, _⟩ => ⟨S1x2048, .f32⟩
  | .hbm, ⟨4, _⟩ => ⟨S1x2048x9280, .f32⟩
  | .hbm, ⟨5, _⟩ => ⟨S1x512, .f32⟩
  | .hbm, ⟨6, _⟩ => ⟨S1x512, .f32⟩
  | .hbm, ⟨7, _⟩ => ⟨S_, .f32⟩
  | .hbm, ⟨8, _⟩ => ⟨S2x30x2048, .f32⟩
  | .hbm, ⟨9, _⟩ => ⟨S2048, .f32⟩
  | .hbm, ⟨10, _⟩ => ⟨S2048x9280, .f32⟩
  | .hbm, ⟨11, _⟩ => ⟨S512, .f32⟩
  | .hbm, ⟨12, _⟩ => ⟨S2x4096x2048, .f32⟩
  | .hbm, ⟨13, _⟩ => ⟨S_, .f32⟩
  | .hbm, ⟨14, _⟩ => ⟨S2x4096, .f32⟩
  | .hbm, ⟨15, _⟩ => ⟨S2x4096x1, .f32⟩
  | .hbm, ⟨16, _⟩ => ⟨S_, .f32⟩
  | .hbm, ⟨17, _⟩ => ⟨S2x4096x1, .f32⟩
  | .hbm, ⟨18, _⟩ => ⟨S2x4096x1, .f32⟩
  | .hbm, ⟨19, _⟩ => ⟨S_, .f32⟩
  | .hbm, ⟨20, _⟩ => ⟨S2x4096x1, .f32⟩
  | .hbm, ⟨21, _⟩ => ⟨S2x4096x1, .f32⟩
  | .hbm, ⟨22, _⟩ => ⟨S2x4096x1, .f32⟩
  | .hbm, ⟨23, _⟩ => ⟨S2x4096x2048, .f32⟩
  | .hbm, ⟨24, _⟩ => ⟨S2x4096x2048, .f32⟩
  | .hbm, ⟨25, _⟩ => ⟨S1x1x2048, .f32⟩
  | .hbm, ⟨26, _⟩ => ⟨S2x4096x2048, .f32⟩
  | .hbm, ⟨27, _⟩ => ⟨S2x4096x2048, .f32⟩
  | .hbm, ⟨28, _⟩ => ⟨S2x4096x9280, .f32⟩
  | .hbm, ⟨29, _⟩ => ⟨S2x4096x4096, .f32⟩
  | .hbm, ⟨30, _⟩ => ⟨S2x4096x2048, .f32⟩
  | .hbm, ⟨31, _⟩ => ⟨S2x4096x2048, .f32⟩
  | .hbm, ⟨32, _⟩ => ⟨S2x4096x2048, .f32⟩
  | .hbm, ⟨33, _⟩ => ⟨S2x4096x2048, .f32⟩
  | .hbm, ⟨34, _⟩ => ⟨S_, .f32⟩
  | .hbm, ⟨35, _⟩ => ⟨S2x4096x2048, .f32⟩
  | .hbm, ⟨36, _⟩ => ⟨S2x4096x2048, .f32⟩
  | .hbm, ⟨37, _⟩ => ⟨S_, .f32⟩
  | .hbm, ⟨38, _⟩ => ⟨S2x4096x2048, .f32⟩
  | .hbm, ⟨39, _⟩ => ⟨S2x4096x2048, .f32⟩
  | .hbm, ⟨40, _⟩ => ⟨S2x4096x2048, .f32⟩
  | .hbm, ⟨41, _⟩ => ⟨S2x4126x2048, .f32⟩
  | .hbm, ⟨42, _⟩ => ⟨S2x4096x512, .f32⟩
  | .hbm, ⟨43, _⟩ => ⟨S2x4096x512, .f32⟩
  | .hbm, ⟨44, _⟩ => ⟨S_, .f32⟩
  | .hbm, ⟨45, _⟩ => ⟨S2x4096, .f32⟩
  | .hbm, ⟨46, _⟩ => ⟨S2x4096x1, .f32⟩
  | .hbm, ⟨47, _⟩ => ⟨S_, .f32⟩
  | .hbm, ⟨48, _⟩ => ⟨S2x4096x1, .f32⟩
  | .hbm, ⟨49, _⟩ => ⟨S2x4096x1, .f32⟩
  | .hbm, ⟨50, _⟩ => ⟨S_, .f32⟩
  | .hbm, ⟨51, _⟩ => ⟨S2x4096x1, .f32⟩
  | .hbm, ⟨52, _⟩ => ⟨S2x4096x1, .f32⟩
  | .hbm, ⟨53, _⟩ => ⟨S2x4096x1, .f32⟩
  | .hbm, ⟨54, _⟩ => ⟨S2x4096x512, .f32⟩
  | .hbm, ⟨55, _⟩ => ⟨S2x4096x512, .f32⟩
  | .hbm, ⟨56, _⟩ => ⟨S1x1x512, .f32⟩
  | .hbm, ⟨57, _⟩ => ⟨S2x4096x512, .f32⟩
  | .hbm, ⟨58, _⟩ => ⟨S2x4096x512, .f32⟩
  | .hbm, ⟨59, _⟩ => ⟨S2x4096x64, .f32⟩
  | .hbm, ⟨60, _⟩ => ⟨S2x30x2048, .f32⟩
  | .hbm, ⟨61, _⟩ => ⟨S8x30x2048, .f32⟩
  | .hbm, ⟨62, _⟩ => ⟨S2048, .f32⟩
  | .hbm, ⟨63, _⟩ => ⟨S2048x9280, .f32⟩
  | .hbm, ⟨64, _⟩ => ⟨S512, .f32⟩
  | .hbm, ⟨65, _⟩ => ⟨S8x64x2048, .f32⟩
  | .hbm, ⟨66, _⟩ => ⟨S_, .f32⟩
  | .hbm, ⟨67, _⟩ => ⟨S8x64, .f32⟩
  | .hbm, ⟨68, _⟩ => ⟨S8x64x1, .f32⟩
  | .hbm, ⟨69, _⟩ => ⟨S_, .f32⟩
  | .hbm, ⟨70, _⟩ => ⟨S8x64x1, .f32⟩
  | .hbm, ⟨71, _⟩ => ⟨S8x64x1, .f32⟩
  | .hbm, ⟨72, _⟩ => ⟨S_, .f32⟩
  | .hbm, ⟨73, _⟩ => ⟨S8x64x1, .f32⟩
  | .hbm, ⟨74, _⟩ => ⟨S8x64x1, .f32⟩
  | .hbm, ⟨75, _⟩ => ⟨S8x64x1, .f32⟩
  | .hbm, ⟨76, _⟩ => ⟨S8x64x2048, .f32⟩
  | .hbm, ⟨77, _⟩ => ⟨S8x64x2048, .f32⟩
  | .hbm, ⟨78, _⟩ => ⟨S1x1x2048, .f32⟩
  | .hbm, ⟨79, _⟩ => ⟨S8x64x2048, .f32⟩
  | .hbm, ⟨80, _⟩ => ⟨S8x64x2048, .f32⟩
  | .hbm, ⟨81, _⟩ => ⟨S8x64x9280, .f32⟩
  | .hbm, ⟨82, _⟩ => ⟨S8x64x4096, .f32⟩
  | .hbm, ⟨83, _⟩ => ⟨S8x64x2048, .f32⟩
  | .hbm, ⟨84, _⟩ => ⟨S8x64x2048, .f32⟩
  | .hbm, ⟨85, _⟩ => ⟨S8x64x2048, .f32⟩
  | .hbm, ⟨86, _⟩ => ⟨S8x64x2048, .f32⟩
  | .hbm, ⟨87, _⟩ => ⟨S_, .f32⟩
  | .hbm, ⟨88, _⟩ => ⟨S8x64x2048, .f32⟩
  | .hbm, ⟨89, _⟩ => ⟨S8x64x2048, .f32⟩
  | .hbm, ⟨90, _⟩ => ⟨S_, .f32⟩
  | .hbm, ⟨91, _⟩ => ⟨S8x64x2048, .f32⟩
  | .hbm, ⟨92, _⟩ => ⟨S8x64x2048, .f32⟩
  | .hbm, ⟨93, _⟩ => ⟨S8x64x2048, .f32⟩
  | .hbm, ⟨94, _⟩ => ⟨S8x94x2048, .f32⟩
  | .hbm, ⟨95, _⟩ => ⟨S8x64x512, .f32⟩
  | .hbm, ⟨96, _⟩ => ⟨S8x64x512, .f32⟩
  | .hbm, ⟨97, _⟩ => ⟨S_, .f32⟩
  | .hbm, ⟨98, _⟩ => ⟨S8x64, .f32⟩
  | .hbm, ⟨99, _⟩ => ⟨S8x64x1, .f32⟩
  | .hbm, ⟨100, _⟩ => ⟨S_, .f32⟩
  | .hbm, ⟨101, _⟩ => ⟨S8x64x1, .f32⟩
  | .hbm, ⟨102, _⟩ => ⟨S8x64x1, .f32⟩
  | .hbm, ⟨103, _⟩ => ⟨S_, .f32⟩
  | .hbm, ⟨104, _⟩ => ⟨S8x64x1, .f32⟩
  | .hbm, ⟨105, _⟩ => ⟨S8x64x1, .f32⟩
  | .hbm, ⟨106, _⟩ => ⟨S8x64x1, .f32⟩
  | .hbm, ⟨107, _⟩ => ⟨S8x64x512, .f32⟩
  | .hbm, ⟨108, _⟩ => ⟨S8x64x512, .f32⟩
  | .hbm, ⟨109, _⟩ => ⟨S1x1x512, .f32⟩
  | .hbm, ⟨110, _⟩ => ⟨S8x64x512, .f32⟩
  | .hbm, ⟨111, _⟩ => ⟨S8x64x512, .f32⟩
  | .hbm, ⟨112, _⟩ => ⟨S8x64x64, .f32⟩
  | .hbm, ⟨113, _⟩ => ⟨S8x30x2048, .f32⟩
  | .hbm, ⟨114, _⟩ => ⟨S1x2x4096x512, .f32⟩
  | .hbm, ⟨115, _⟩ => ⟨S1x2x4096x64, .f32⟩
  | .hbm, ⟨116, _⟩ => ⟨S1x2x30x2048, .f32⟩
  | .hbm, ⟨117, _⟩ => ⟨S1x8x64x512, .f32⟩
  | .hbm, ⟨118, _⟩ => ⟨S1x8x64x64, .f32⟩
  | .hbm, ⟨119, _⟩ => ⟨S1x8x30x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_8 : Ref sig .tc := ⟨.hbm, 66, rfl⟩
abbrev main_v50 : Ref sig .tc := ⟨.hbm, 67, rfl⟩
abbrev main_v51 : Ref sig .tc := ⟨.hbm, 68, rfl⟩
abbrev main_cst_9 : Ref sig .tc := ⟨.hbm, 69, rfl⟩
abbrev main_v52 : Ref sig .tc := ⟨.hbm, 70, rfl⟩
abbrev main_v53 : Ref sig .tc := ⟨.hbm, 71, rfl⟩
abbrev main_cst_10 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_11 : Ref sig .tc := ⟨.hbm, 87, rfl⟩
abbrev main_v68 : Ref sig .tc := ⟨.hbm, 88, rfl⟩
abbrev main_v69 : Ref sig .tc := ⟨.hbm, 89, rfl⟩
abbrev main_cst_12 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_cst_13 : Ref sig .tc := ⟨.hbm, 97, rfl⟩
abbrev main_v76 : Ref sig .tc := ⟨.hbm, 98, rfl⟩
abbrev main_v77 : Ref sig .tc := ⟨.hbm, 99, rfl⟩
abbrev main_cst_14 : Ref sig .tc := ⟨.hbm, 100, rfl⟩
abbrev main_v78 : Ref sig .tc := ⟨.hbm, 101, rfl⟩
abbrev main_v79 : Ref sig .tc := ⟨.hbm, 102, rfl⟩
abbrev main_cst_15 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩

abbrev nD : Nat := 1
abbrev τ : Topo := Topo.v7x

variable {F : FTy → Type} [FloatOps F]
-- ==== Proof.Same0.lean ====
/- The module printed for the given floats and the one printed for the ideal instance have the same @main: window 0 of its statements. -/
module

public import proofs.«01_k».proof.Defs
public import proofs.«01_k».proof.Proof.Gen.Kernel
public import proofs.«01_k».proof.Proof.Gen.KernelIdeal

@[expose] public section

noncomputable section

namespace Cert.Proof

open Idealize.ShloMosaic Idealize.ShloMosaic.TcCoe Idealize.SL

set_option maxHeartbeats 8000000 in
set_option maxRecDepth 100000 in
theorem part0_same : @Cert.Kernel.main_part0 Bits _ Cert.Kernel.Gen.facts = @Cert.KernelIdeal.main_part0 Bits _ Cert.KernelIdeal.Gen.facts := by
  unfold Cert.Kernel.main_part0 Cert.KernelIdeal.main_part0
  rfl

end Cert.Proof
-- ==== Proof.Same1.lean ====
/- The module printed for the given floats and the one printed for the ideal instance have the same @main: window 1 of its statements. -/
module

public import proofs.«01_k».proof.Defs
public import proofs.«01_k».proof.Proof.Gen.Kernel
public import proofs.«01_k».proof.Proof.Gen.KernelIdeal

@[expose] public section

noncomputable section

namespace Cert.Proof

open Idealize.ShloMosaic Idealize.ShloMosaic.TcCoe Idealize.SL

set_option maxHeartbeats 8000000 in
set_option maxRecDepth 100000 in
theorem part1_same : @Cert.Kernel.main_part1 Bits _ Cert.Kernel.Gen.facts = @Cert.KernelIdeal.main_part1 Bits _ Cert.KernelIdeal.Gen.facts := by
  unfold Cert.Kernel.main_part1 Cert.KernelIdeal.main_part1
  rfl

end Cert.Proof
-- ==== Proof.Same2.lean ====
/- The module printed for the given floats and the one printed for the ideal instance have the same @main: window 2 of its statements. -/
module

public import proofs.«01_k».proof.Defs
public import proofs.«01_k».proof.Proof.Gen.Kernel
public import proofs.«01_k».proof.Proof.Gen.KernelIdeal

@[expose] public section

noncomputable section

namespace Cert.Proof

open Idealize.ShloMosaic Idealize.ShloMosaic.TcCoe Idealize.SL

set_option maxHeartbeats 8000000 in
set_option maxRecDepth 100000 in
theorem part2_same : @Cert.Kernel.main_part2 Bits _ Cert.Kernel.Gen.facts = @Cert.KernelIdeal.main_part2 Bits _ Cert.KernelIdeal.Gen.facts := by
  unfold Cert.Kernel.main_part2 Cert.KernelIdeal.main_part2
  rfl

end Cert.Proof
-- ==== Proof.Words.lean ====
/- The kernel's words at an item of `n ≤ 1152` rows: the loop bounds it computes from the row count, and the side
   conditions it assumes of that count. -/
module

public import proofs.«01_k».proof.Proof.Gen.KernelIdeal
public import Idealize.ShloMosaic.Lib.LoopRemainder

@[expose] public section

noncomputable section

namespace Cert.Proof.Expert

open Cert.KernelIdeal
open Idealize.ShloMosaic

/-- The sub-blocks of 384 rows that `n` rows fill. -/
abbrev nsub (n : ℕ) : ℕ := (n + 383) / 384

/-- A counted loop of `k` unit steps from zero. -/
abbrev upTo (k : ℕ) : Scf.Loop 32 := ⟨0#32, BitVec.ofNat 32 k, 1#32⟩

theorem loops_eq : ∀ n : Fin 1153,
    (k0_t1_loop (BitVec.ofNat 32 n.val)).ub = BitVec.ofNat 32 (nsub n.val)
    ∧ (k0_t2_loop (BitVec.ofNat 32 n.val)).lb = BitVec.ofNat 32 (nsub n.val)
    ∧ (k0_t2_loop (BitVec.ofNat 32 n.val)).ub = BitVec.ofNat 32 (nsub n.val)
    ∧ (k0_t5_loop (BitVec.ofNat 32 n.val)).ub = BitVec.ofNat 32 n.val
    ∧ (k0_t6_loop (BitVec.ofNat 32 n.val)).lb = BitVec.ofNat 32 n.val
    ∧ (k0_t6_loop (BitVec.ofNat 32 n.val)).ub = BitVec.ofNat 32 n.val
    ∧ (k0_t7_loop (BitVec.ofNat 32 n.val)).ub = BitVec.ofNat 32 (min n.val 16)
    ∧ (k0_t8_loop (BitVec.ofNat 32 n.val)).lb = BitVec.ofNat 32 (min n.val 16)
    ∧ (k0_t8_loop (BitVec.ofNat 32 n.val)).ub = BitVec.ofNat 32 (min n.val 16) := by
  decide +kernel

theorem toInt_small {k : ℕ} (hk : k < 1153) : (BitVec.ofNat 32 k).toInt = k := by
  have h := BitVec.toInt_eq_toNat_of_lt (x := BitVec.ofNat 32 k) (by rw [BitVec.toNat_ofNat]; omega)
  rw [h, BitVec.toNat_ofNat]; omega

theorem trips_upTo {k : ℕ} (hk : k < 1153) : Scf.trips (0#32) (BitVec.ofNat 32 k) (1#32) = k := by
  have h1 : (1#32 : BitVec 32).toInt = 1 := by decide
  have h0 : (0#32 : BitVec 32).toInt = 0 := by decide
  unfold Scf.trips; rw [h1, h0, toInt_small hk]; omega

theorem ok_upTo {k : ℕ} (hk : k < 1153) : Scf.OK (0#32) (BitVec.ofNat 32 k) (1#32) := by
  have h1 : (1#32 : BitVec 32).toInt = 1 := by decide
  have h0 : (0#32 : BitVec 32).toInt = 0 := by decide
  unfold Scf.OK; rw [trips_upTo hk, h1, h0]; constructor <;> omega

section At
variable {n : ℕ} (hn : n ≤ 1152)
include hn

theorem t1_loop_eq : k0_t1_loop (BitVec.ofNat 32 n) = upTo (nsub n) := by
  have h := (loops_eq ⟨n, by omega⟩).1
  show Scf.Loop.mk _ _ _ = Scf.Loop.mk _ _ _
  rw [Scf.Loop.mk.injEq]; exact ⟨rfl, h, rfl⟩
theorem t3_loop_eq : k0_t3_loop (BitVec.ofNat 32 n) = upTo (nsub n) := t1_loop_eq hn
theorem t5_loop_eq : k0_t5_loop (BitVec.ofNat 32 n) = upTo n := by
  have h := (loops_eq ⟨n, by omega⟩).2.2.2.1
  show Scf.Loop.mk _ _ _ = Scf.Loop.mk _ _ _
  rw [Scf.Loop.mk.injEq]; exact ⟨rfl, h, rfl⟩
theorem t7_loop_eq : k0_t7_loop (BitVec.ofNat 32 n) = upTo (min n 16) := by
  have h := (loops_eq ⟨n, by omega⟩).2.2.2.2.2.2.1
  show Scf.Loop.mk _ _ _ = Scf.Loop.mk _ _ _
  rw [Scf.Loop.mk.injEq]; exact ⟨rfl, h, rfl⟩

theorem t1_trips : (k0_t1_loop (BitVec.ofNat 32 n)).trips = nsub n := by
  rw [t1_loop_eq hn]; exact trips_upTo (by unfold nsub; omega)
theorem t3_trips : (k0_t3_loop (BitVec.ofNat 32 n)).trips = nsub n := by
  rw [t3_loop_eq hn]; exact trips_upTo (by unfold nsub; omega)
theorem t5_trips : (k0_t5_loop (BitVec.ofNat 32 n)).trips = n := by
  rw [t5_loop_eq hn]; exact trips_upTo (by omega)
theorem t7_trips : (k0_t7_loop (BitVec.ofNat 32 n)).trips = min n 16 := by
  rw [t7_loop_eq hn]; exact trips_upTo (by omega)

end At

/-- The induction variable of a unit-step loop from zero is its trip. -/
theorem iv_unit (k : ℕ) : Scf.iv (0#32) (1#32) k = BitVec.ofNat 32 k := by
  simp [Scf.iv]

theorem cond1_of_pos {n : ℕ} (h0 : 0 < n) (hn : n ≤ 1152) : k0_cond1 (BitVec.ofNat 32 n) = 1#1 := by
  have : ∀ n : Fin 1153, 0 < n.val → k0_cond1 (BitVec.ofNat 32 n.val) = 1#1 := by decide +kernel
  exact this ⟨n, by omega⟩ h0
theorem cond1_zero : ¬ k0_cond1 (BitVec.ofNat 32 0) = 1#1 := by decide

theorem sub_word {k : ℕ} (hk : k < 3) : (Scalar.muli (Scf.iv (0#32) (1#32) k) 384#32 : BitVec 32).toNat = 384 * k := by
  rw [iv_unit]
  match k, hk with
  | 0, _ => rfl
  | 1, _ => rfl
  | 2, _ => rfl

theorem off2_eq {v : BitVec 32} (k : Fin (k0_t1_loop v).trips) (hk : k.val < 3) : k0_off2 v k = ![384 * k.val, 0] := by
  have h := sub_word hk
  unfold k0_off2; dsimp only
  rw [show (Scalar.indexCast (Scalar.muli (Scf.iv 0#32 1#32 k.val) 384#32) : Index).toNat = 384 * k.val from h]
theorem off4_eq {v : BitVec 32} (k : Fin (k0_t3_loop v).trips) (hk : k.val < 3) : k0_off4 v k = ![384 * k.val, 0] := off2_eq (v := v) k hk
theorem off5_eq {v : BitVec 32} (k : Fin (k0_t3_loop v).trips) (hk : k.val < 3) : k0_off5 v k = ![384 * k.val, 0] := off2_eq (v := v) k hk
theorem off6_eq {v : BitVec 32} (k : Fin (k0_t3_loop v).trips) (hk : k.val < 3) : k0_off6 v k = ![384 * k.val, 0] := off2_eq (v := v) k hk
theorem off10_eq {v : BitVec 32} (k : Fin (k0_t5_loop v).trips) (hk : k.val < 1152) : k0_off10 v k = ![0, 0, k.val] := by
  unfold k0_off10; dsimp only; rw [iv_unit]
  rw [show (Scalar.indexCast (BitVec.ofNat 32 k.val) : Index).toNat = k.val from by
    show (BitVec.ofNat 32 k.val).toNat = _; rw [BitVec.toNat_ofNat]; omega]
theorem off12_eq {v : BitVec 32} (k : Fin (k0_t5_loop v).trips) (hk : k.val < 1152) : k0_off12 v k = ![k.val, 0] := by
  unfold k0_off12; dsimp only; rw [iv_unit, BitVec.toNat_ofNat]
  rw [show k.val % 2 ^ 32 = k.val by omega]

theorem sub_inb {k : ℕ} (hk : k < 3) : ∀ a, (![384 * k, 0] : Fin 2 → ℕ) a + S384x2048.size a ≤ S1152x2048.size a := by
  intro a; fin_cases a
  · show 384 * k + 384 ≤ 1152; omega
  · show 0 + 2048 ≤ 2048; omega

theorem row_inb {k : ℕ} (hk : k < 1152) : ∀ a, (![k, 0] : Fin 2 → ℕ) a + S1x2048.size a ≤ S1152x2048.size a := by
  intro a; fin_cases a
  · show k + 1 ≤ 1152; omega
  · show 0 + 2048 ≤ 2048; omega

theorem sub_packed {k : ℕ} (hk : k < 3) (off : Fin 2 → ℕ) (ho : off = ![384 * k, 0])
    (hinb : ∀ a, off a + S384x2048.size a ≤ S1152x2048.size a) :
    (Rect.unit (s := S1152x2048) off S384x2048.size hinb).PackedRows (EltTy.packing .bf16) := by
  subst ho
  refine Affine.packed_dvd (by decide) ?_ ?_
  · show 2 ∣ 384 * k; omega
  · show 2 ∣ 384; decide

/-- What the body assumes of the row count. -/
theorem chk1_of {n : ℕ} (hn : n ≤ 1152) (i : grid0.Coords) : k0_chk1 i (BitVec.ofNat 32 n) := by
  have b3 : nsub n ≤ 3 := by show (n + 383) / 384 ≤ 3; omega
  have ok1 : (k0_t1_loop (BitVec.ofNat 32 n)).OK := by rw [t1_loop_eq hn]; exact ok_upTo (by omega)
  have ok5 : (k0_t5_loop (BitVec.ofNat 32 n)).OK := by rw [t5_loop_eq hn]; exact ok_upTo (by omega)
  have ok7 : (k0_t7_loop (BitVec.ofNat 32 n)).OK := by rw [t7_loop_eq hn]; exact ok_upTo (by omega)
  have k1 : ∀ k : Fin (k0_t1_loop (BitVec.ofNat 32 n)).trips, k.val < 3 := fun k => by
    have h := k.isLt.trans_eq (t1_trips hn); omega
  have k5 : ∀ k : Fin (k0_t5_loop (BitVec.ofNat 32 n)).trips, k.val < 1152 := fun k => by
    have h := k.isLt.trans_eq (t5_trips hn); omega
  have dv : ∀ k : Fin (k0_t1_loop (BitVec.ofNat 32 n)).trips, 384 ∣ (k0_mult2 (BitVec.ofNat 32 n) k).toNat := fun k => by
    have h := sub_word (k1 k)
    exact ⟨k.val, h⟩
  have ib : ∀ k : Fin (k0_t1_loop (BitVec.ofNat 32 n)).trips, ∀ a, (k0_off2 (BitVec.ofNat 32 n) k) a + S384x2048.size a ≤ S1152x2048.size a := fun k => by
    rw [off2_eq k (k1 k)]; exact sub_inb (k1 k)
  have z2 : ∀ k : Fin (k0_t2_loop (BitVec.ofNat 32 n)).trips, False := fun k => Scf.rem_no_trip _ _ k
  have z6 : ∀ k : Fin (k0_t6_loop (BitVec.ofNat 32 n)).trips, False := fun k => Scf.rem_no_trip _ _ k
  exact ⟨fun _ _ => ok1, fun k _ _ => dv k, fun k _ _ => ib k, fun k _ _ hinb => sub_packed (k1 k) _ (off2_eq k (k1 k)) hinb,
    fun _ _ => Scf.rem_ok _ _, fun k => (z2 k).elim, fun k => (z2 k).elim, fun k => (z2 k).elim,
    fun _ => ok1, fun k _ => dv k, fun k _ => ib k, fun k _ _ => ib k, fun k _ _ => ib k,
    fun _ => Scf.rem_ok _ _, fun k => (z2 k).elim, fun k => (z2 k).elim, fun k => (z2 k).elim, fun k => (z2 k).elim,
    fun _ _ => ok5, fun k _ _ a => by
      rw [off10_eq k (k5 k)]
      have := k5 k
      fin_cases a
      · show 0 + 1 ≤ 1; omega
      · show 0 + 1 ≤ 1; omega
      · show k.val + 1 ≤ 1152; omega,
    fun k _ _ => by rw [off12_eq k (k5 k)]; exact row_inb (k5 k),
    fun _ _ => Scf.rem_ok _ _, fun k => (z6 k).elim, fun k => (z6 k).elim, fun _ _ => ok7, fun _ _ => Scf.rem_ok _ _⟩

end Cert.Proof.Expert
-- ==== Proof.Tile.lean ====
/- The two counted loops of a tile: the item's rows cast into the bf16 copy, and a sub-block's part of the feed-forward
   added into the accumulator, each as an invariant over the sub-blocks done. -/
module

public import proofs.«01_k».proof.Proof.Gen.KernelIdeal.Launch
public import proofs.«01_k».proof.Proof.Gen.KernelIdeal.Loops
public import proofs.«01_k».proof.Proof.Words
public import Idealize.ShloMosaic.Lib.Pipeline.Frame
public import Idealize.ShloMosaic.Lib.WritesUnit
public import Idealize.ShloMosaic.Lib.VecWindow
public import Idealize.ShloMosaic.Lib.Tactic

@[expose] public section

noncomputable section

namespace Cert.Proof.Expert

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## Sub-blocks of 384 rows -/

/-- Row `r` of sub-block `j`, column `x 1`. -/
def subIx (j : Fin 3) (x : S384x2048.Idx) : S1152x2048.Idx :=
  (Rect.unit (s := S1152x2048) ![384 * j.val, 0] S384x2048.size (sub_inb j.isLt)).emb x

/-- Sub-block `j` of an array of 1152 rows. -/
def sub {α : Type} (X : S1152x2048.Idx → α) (j : Fin 3) : S384x2048.Idx → α := fun x => X (subIx j x)

theorem subIx_val0 (j : Fin 3) (x : S384x2048.Idx) : (subIx j x (0 : Fin 2)).val = 384 * j.val + (x (0 : Fin 2)).val := by
  show 384 * j.val + 1 * (x (0 : Fin 2)).val = _; omega
theorem subIx_val1 (j : Fin 3) (x : S384x2048.Idx) : (subIx j x (1 : Fin 2)).val = (x (1 : Fin 2)).val := by
  show 0 + 1 * (x (1 : Fin 2)).val = _; omega

section Views
variable {κ : Kind} {sp : Space} {e : EltTy} (v : View sig κ sp S1152x2048 e) (f : v.ty.Contents (Elt F))

theorem readAt_sub (j : Fin 3) {off : Fin 2 → ℕ} (ho : off = ![384 * j.val, 0])
    (inb : ∀ a, off a + S384x2048.size a ≤ S1152x2048.size a) :
    v.readAt (Elt F) (Rect.unit (s := S1152x2048) off S384x2048.size inb).toLoadRect f = sub (v.read (Elt F) f) j := by
  subst ho; rfl

theorem sub_writes (j k : Fin 3) {off : Fin 2 → ℕ} (ho : off = ![384 * k.val, 0])
    (inb : ∀ a, off a + S384x2048.size a ≤ S1152x2048.size a) (w : S384x2048.Idx → Elt F e) :
    sub (v.read (Elt F) (v.writes (Elt F) f [⟨Rect.unit (s := S1152x2048) off S384x2048.size inb, w⟩])) j
      = if j = k then w else sub (v.read (Elt F) f) j := by
  funext x
  have hx := (x (0 : Fin 2)).isLt
  have hx' : (x (0 : Fin 2)).val < 384 := hx
  by_cases h : j = k
  · subst h
    rw [if_pos rfl]
    exact View.read_writes_cons_rows_of_mem (d := S1152x2048.size) v f inb w [] (subIx j x) x ho (subIx_val0 j x) (subIx_val1 j x)
  · rw [if_neg h]
    refine View.read_writes_cons_rows_of_not_mem (d := S1152x2048.size) (W := 384) v f inb w [] (subIx j x) ho rfl ?_
    have hne : j.val ≠ k.val := fun e => h (Fin.ext e)
    have h0 := subIx_val0 j x
    have : (subIx j x (0 : Fin 2)).val < 384 * k.val ∨ 384 * k.val + 384 ≤ (subIx j x (0 : Fin 2)).val := by omega
    exact this
end Views

/-! ## The loops -/

variable (c : Dev nD) (𝒱 : Variants) (bd : Option 𝒱.V) (E : Set ℕ) (i : grid0.Coords)
  (arg2 : Memref sig .tc .smem S62 .i32) (harg2 : arg2.IsWhole) (arg3 : Memref sig .tc .smem S62 .i32) (harg3 : arg3.IsWhole) (arg4 : Memref sig .tc .smem S62 .i32) (harg4 : arg4.IsWhole) (arg5 : Memref sig .tc .smem S1x1x1152 .i32) (harg5 : arg5.IsWhole) (arg6 : Memref sig .tc .vmem S1152x2048 .f32) (harg6 : arg6.IsWhole) (arg7 : Memref sig .tc .vmem S1x2048x256 .f32) (harg7 : arg7.IsWhole) (arg8 : Memref sig .tc .vmem S1x2048x256 .f32) (harg8 : arg8.IsWhole) (arg9 : Memref sig .tc .vmem S1x1x256 .f32) (harg9 : arg9.IsWhole) (arg10 : Memref sig .tc .vmem S1x1x256 .f32) (harg10 : arg10.IsWhole) (arg11 : Memref sig .tc .vmem S1x256x2048 .f32) (harg11 : arg11.IsWhole) (arg12 : Memref sig .tc .vmem S1x1x2048 .f32) (harg12 : arg12.IsWhole) (arg13 : Memref sig .tc .hbm S34816x2048 .f32) (harg13 : arg13.IsWhole) (arg14 : Memref sig .tc .vmem S1152x2048 .bf16) (harg14 : arg14.IsWhole) (arg15 : Memref sig .tc .vmem S1152x2048 .f32) (harg15 : arg15.IsWhole) (arg16 : Memref sig .tc .vmem S2048x256 .bf16) (harg16 : arg16.IsWhole) (arg17 : Memref sig .tc .vmem S2048x256 .bf16) (harg17 : arg17.IsWhole) (arg18 : Memref sig .tc .vmem S256x2048 .bf16) (harg18 : arg18.IsWhole)
  (arg19 : DmaSems sig S_) (arg1 : BitVec 32) {n : ℕ} (hn : n ≤ 1152) (k0_hw1 : k0_chk1 i (BitVec.ofNat 32 n))
  (k0_h1 : k0_cond1 (BitVec.ofNat 32 n) = 1#1)

/-- After `k` sub-blocks: those of the bf16 copy are the item's rows, cast. -/
def castInv (X6 : arg6.view.ty.Contents (Elt F)) (k : ℕ) (_ : Unit) : sProp 𝕄 :=
  iprop((arg6.view.loc (c : Thread nD τ) ↦[arg6.view.set]{fullShare} X6)
    ∗ ∃ f, (arg14.view.loc (c : Thread nD τ) ↦[arg14.view.set]{fullShare} f)
      ∗ ⌜∀ j : Fin 3, j.val < k → sub (arg14.view.read (Elt F) f) j = k0_pay7 (sub (arg6.view.read (Elt F) X6) j)⌝)

include hn in
theorem cast_step (v20 : BitVec 32) (k0_h2 : k0_cond2 i = 1#1) (X6 : arg6.view.ty.Contents (Elt F))
    (k : Fin (k0_t1_loop (BitVec.ofNat 32 n)).trips) (acc : Unit) :
    castInv (F := F) c arg6 arg14 X6 k.val acc
      ⊢ wp frame (wpE (defs₀ (F := F)) 𝒱 (c : Thread nD τ) bd) E
        (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg1 (BitVec.ofNat 32 n) k0_hw1 v20 k0_h1 k0_h2 k acc)
        (fun a => castInv (F := F) c arg6 arg14 X6 (k.val + 1) a) := by
  have hk : k.val < 3 := by have h := k.isLt.trans_eq (t1_trips hn); unfold nsub at h; omega
  unfold castInv
  iintro ⟨H6, %f, H14, %hf⟩
  sl_unfold [k0_t1_body]
  sl_exec
  sl_step
  isplitl [H6]; · iexact H6
  iexists _
  isplitl [H14]; · iexact H14
  ipureintro
  intro j hj
  rw [sub_writes arg14.view f j ⟨k.val, hk⟩ (off2_eq k hk), readAt_sub arg6.view X6 ⟨k.val, hk⟩ (off2_eq k hk)]
  by_cases h : j = ⟨k.val, hk⟩
  · rw [if_pos h, h]
  · rw [if_neg h]
    have hne : j.val ≠ k.val := fun e => h (Fin.ext e)
    exact hf j (by omega)

/-- A sub-block's accumulator after a tile: from the rows `xb`, the biases `v46 v48` and the weights `wg wu wd` of the
    tile; the first tile writes it with the output bias `b`, the later ones add to `old`. -/
def accStep (i : grid0.Coords) (v46 v48 : FVec F S1x256 .f32) (wg wu : Vec F S2048x256 .bf16) (wd : Vec F S256x2048 .bf16)
    (b : Vec F S1x1x2048 .f32) (xb : Vec F S384x2048 .bf16) (old : Vec F S384x2048 .f32) : Vec F S384x2048 .f32 :=
  if k0_cond3 i = 1#1 then k0_pay4 v46 v48 xb wg wu wd b else k0_pay1 (k0_pay3 v46 v48 xb wg wu wd) old

/-- After `k` sub-blocks of a tile: those of the accumulator have taken the tile, the later ones are as found. -/
def accInv (v46 v48 : FVec F S1x256 .f32) (X12 : arg12.view.ty.Contents (Elt F)) (X14 : arg14.view.ty.Contents (Elt F))
    (X16 : arg16.view.ty.Contents (Elt F)) (X17 : arg17.view.ty.Contents (Elt F)) (X18 : arg18.view.ty.Contents (Elt F))
    (A : S1152x2048.Idx → F .f32) (k : ℕ) (_ : Unit) : sProp 𝕄 :=
  iprop((arg12.view.loc (c : Thread nD τ) ↦[arg12.view.set]{fullShare} X12) ∗ (arg14.view.loc (c : Thread nD τ) ↦[arg14.view.set]{fullShare} X14)
    ∗ (arg16.view.loc (c : Thread nD τ) ↦[arg16.view.set]{fullShare} X16) ∗ (arg17.view.loc (c : Thread nD τ) ↦[arg17.view.set]{fullShare} X17)
    ∗ (arg18.view.loc (c : Thread nD τ) ↦[arg18.view.set]{fullShare} X18)
    ∗ ∃ f, (arg15.view.loc (c : Thread nD τ) ↦[arg15.view.set]{fullShare} f)
      ∗ ⌜∀ j : Fin 3, sub (arg15.view.read (Elt F) f) j = if j.val < k then
          accStep i v46 v48 (arg16.view.read (Elt F) X16) (arg17.view.read (Elt F) X17) (arg18.view.read (Elt F) X18)
            (arg12.view.read (Elt F) X12) (sub (arg14.view.read (Elt F) X14) j) (sub A j)
          else sub A j⌝)

include hn in
theorem acc_step (v46 v48 : FVec F S1x256 .f32) (X12 : arg12.view.ty.Contents (Elt F)) (X14 : arg14.view.ty.Contents (Elt F))
    (X16 : arg16.view.ty.Contents (Elt F)) (X17 : arg17.view.ty.Contents (Elt F)) (X18 : arg18.view.ty.Contents (Elt F))
    (A : S1152x2048.Idx → F .f32) (h34 : k0_cond4 i = 1#1 ↔ ¬ k0_cond3 i = 1#1)
    (k : Fin (k0_t3_loop (BitVec.ofNat 32 n)).trips) (acc : Unit) :
    accInv (F := F) c i arg12 arg14 arg15 arg16 arg17 arg18 v46 v48 X12 X14 X16 X17 X18 A k.val acc
      ⊢ wp frame (wpE (defs₀ (F := F)) 𝒱 (c : Thread nD τ) bd) E
        (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg1 (BitVec.ofNat 32 n) k0_hw1 k0_h1 v46 v48 0#32 k acc)
        (fun a => accInv (F := F) c i arg12 arg14 arg15 arg16 arg17 arg18 v46 v48 X12 X14 X16 X17 X18 A (k.val + 1) a) := by
  have hk : k.val < 3 := by have h := k.isLt.trans_eq (t3_trips hn); unfold nsub at h; omega
  unfold accInv
  iintro ⟨H12, H14, H16, H17, H18, %f, H15, %hf⟩
  by_cases k0_h3 : k0_cond3 i = 1#1
  · have k0_h4 : ¬ k0_cond4 i = 1#1 := fun h => h34.mp h k0_h3
    unfold k0_t3_body
    simp only [dif_neg k0_h4]
    sl_exec
    sl_step
    iframe
    iexists _
    isplitl [H15]; · iexact H15
    ipureintro
    intro j
    rw [sub_writes arg15.view f j ⟨k.val, hk⟩ (off5_eq k hk), readAt_sub arg14.view X14 ⟨k.val, hk⟩ (off4_eq k hk),
      View.readAt_full, View.readAt_full, View.readAt_full, View.readAt_full, hf j]
    unfold accStep
    rw [if_pos k0_h3]
    by_cases h : j = ⟨k.val, hk⟩
    · rw [if_pos h, h, if_pos (Nat.lt_succ_self _)]
    · have hne : j.val ≠ k.val := fun e => h (Fin.ext e)
      rw [if_neg h]
      exact if_congr (by omega) rfl rfl
  · have k0_h4 : k0_cond4 i = 1#1 := h34.mpr k0_h3
    unfold k0_t3_body
    simp only [dif_pos k0_h4]
    sl_exec
    sl_step
    iframe
    iexists _
    isplitl [H15]; · iexact H15
    ipureintro
    intro j
    unfold acc_step.sl.r_1 acc_step.sl.v98
    rw [sub_writes arg15.view f j ⟨k.val, hk⟩ (off6_eq k hk), readAt_sub arg14.view X14 ⟨k.val, hk⟩ (off4_eq k hk),
      readAt_sub arg15.view f ⟨k.val, hk⟩ (off6_eq k hk), View.readAt_full, View.readAt_full, View.readAt_full, hf j]
    unfold accStep
    rw [if_neg k0_h3]
    by_cases h : j = ⟨k.val, hk⟩
    · rw [if_pos h, h, if_pos (Nat.lt_succ_self _), hf ⟨k.val, hk⟩, if_neg (Nat.lt_irrefl _)]
    · have hne : j.val ≠ k.val := fun e => h (Fin.ext e)
      rw [if_neg h]
      exact if_congr (by omega) rfl rfl

end Cert.Proof.Expert
-- ==== Proof.Scatter.lean ====
/- The item's last point scatters: row `r < n` of the accumulator is copied to row `asg r` of the result by a transfer of
   its own, all on one semaphore cell, sixteen in flight, then the rest awaited. The transfers are one batch whose
   delivery `r` is row `asg r` of the result at its new contents. -/
module

public import proofs.«01_k».proof.Proof.Tile
public import Idealize.ShloMosaic.Lib.Ring
public import Idealize.ShloMosaic.Lib.Batch

@[expose] public section

noncomputable section

namespace Cert.Proof.Expert

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

theorem rowY_inb (a : Fin 34816) : ∀ x, (![a.val, 0] : Fin 2 → ℕ) x + S1x2048.size x ≤ S34816x2048.size x := by
  have := a.isLt
  intro x; fin_cases x
  · show a.val + 1 ≤ 34816; omega
  · show 0 + 2048 ≤ 2048; omega

/-- Row `a` of the result, and row `r` of the accumulator, as the transfers' ends. -/
def rowY (a : Fin 34816) : Memref sig .tc .hbm S1x2048 .f32 :=
  (Memref.whole main_v130).slice (Rect.unit (s := S34816x2048) ![a.val, 0] S1x2048.size (rowY_inb a)) (fun _ => rfl)
def rowA (r : Fin 1152) : Memref sig .tc .vmem S1x2048 .f32 :=
  (Memref.whole cc0_scratch1).slice (Rect.unit (s := S1152x2048) ![r.val, 0] S1x2048.size (row_inb r.isLt)) (fun _ => rfl)

/-- Their elements, in the arrays they are rows of. -/
def setY (a : Fin 34816) : Finset S34816x2048.Idx := (rowY a).view.set
def setA (r : Fin 1152) : Finset S1152x2048.Idx := (rowA r).view.set

theorem mem_setY (a : Fin 34816) (x : S34816x2048.Idx) : x ∈ setY a ↔ (x (0 : Fin 2)).val = a.val := by
  have h : setY a = (Rect.unit (s := S34816x2048) ![a.val, 0] S1x2048.size (rowY_inb a)).set :=
    View.set_slice_whole main_v130 _
  rw [h, Rect.mem_set_unit]
  have h1 : (x (1 : Fin 2)).val < 2048 := (x (1 : Fin 2)).isLt
  constructor
  · intro hx
    have h0 : a.val ≤ (x (0 : Fin 2)).val ∧ (x (0 : Fin 2)).val < a.val + 1 := hx 0
    omega
  · intro hx y
    fin_cases y
    · show a.val ≤ (x (0 : Fin 2)).val ∧ (x (0 : Fin 2)).val < a.val + 1; omega
    · show 0 ≤ (x (1 : Fin 2)).val ∧ (x (1 : Fin 2)).val < 0 + 2048; omega

theorem mem_setA (a : Fin 1152) (x : S1152x2048.Idx) : x ∈ setA a ↔ (x (0 : Fin 2)).val = a.val := by
  have h : setA a = (Rect.unit (s := S1152x2048) ![a.val, 0] S1x2048.size (row_inb a.isLt)).set :=
    View.set_slice_whole cc0_scratch1 _
  rw [h, Rect.mem_set_unit]
  have h1 : (x (1 : Fin 2)).val < 2048 := (x (1 : Fin 2)).isLt
  constructor
  · intro hx
    have h0 : a.val ≤ (x (0 : Fin 2)).val ∧ (x (0 : Fin 2)).val < a.val + 1 := hx 0
    omega
  · intro hx y
    fin_cases y
    · show a.val ≤ (x (0 : Fin 2)).val ∧ (x (0 : Fin 2)).val < a.val + 1; omega
    · show 0 ≤ (x (1 : Fin 2)).val ∧ (x (1 : Fin 2)).val < 0 + 2048; omega

/-- Entry `(r, j)` of the accumulator's shape. -/
def ixA (r : Fin 1152) (j : Fin 2048) : S1152x2048.Idx := fun a => match a with | 0 => r | 1 => j
def ixY (r : Fin 34816) (j : Fin 2048) : S34816x2048.Idx := fun a => match a with | 0 => r | 1 => j

open Classical in
/-- The result once the first `n` rows of `A` are scattered over `g`: row `asg r` is row `r` of `A`. -/
def put {α : Type} {n : ℕ} (hn : n ≤ 1152) (asg : Fin n → Fin 34816) (A : S1152x2048.Idx → α) (g : S34816x2048.Idx → α) :
    S34816x2048.Idx → α := fun x =>
  if h : ∃ r : Fin n, asg r = x (0 : Fin 2) then A (ixA (h.choose.castLE hn) (x (1 : Fin 2))) else g x

theorem put_row {α : Type} {n : ℕ} (hn : n ≤ 1152) (asg : Fin n → Fin 34816) (hinj : Function.Injective asg)
    (A : S1152x2048.Idx → α) (g : S34816x2048.Idx → α) (r : Fin n) (x : S34816x2048.Idx) (hx : x (0 : Fin 2) = asg r) :
    put hn asg A g x = A (ixA (r.castLE hn) (x (1 : Fin 2))) := by
  have h : ∃ r : Fin n, asg r = x (0 : Fin 2) := ⟨r, hx.symm⟩
  unfold put
  rw [dif_pos h, hinj (h.choose_spec.trans hx)]

theorem put_rest {α : Type} {n : ℕ} (hn : n ≤ 1152) (asg : Fin n → Fin 34816) (A : S1152x2048.Idx → α) (g : S34816x2048.Idx → α)
    (x : S34816x2048.Idx) (hx : ∀ r, asg r ≠ x (0 : Fin 2)) : put hn asg A g x = g x := by
  unfold put; rw [dif_neg (fun ⟨r, h⟩ => hx r h)]

/-! ## The result and the accumulator, row by row -/

section Family
variable {ℓ : Loc nD τ sig} {n : ℕ}

/-- An array held whole; one of its element sets; what a family of its element sets leaves of it. -/
def whole (ℓ : Loc nD τ sig) (f : Buf (Elt F) ℓ) : sProp 𝕄 := ℓ ↦[Finset.univ]{fullShare} f
def part (ℓ : Loc nD τ sig) (K : Finset (Idx ℓ)) (f : Buf (Elt F) ℓ) : sProp 𝕄 := ℓ ↦[K]{fullShare} f
def rest (ℓ : Loc nD τ sig) (K : Fin n → Finset (Idx ℓ)) (f : Buf (Elt F) ℓ) : sProp 𝕄 := ℓ ↦[Finset.univ \ Finset.univ.biUnion K]{fullShare} f

instance part_storable (K : Finset (Idx ℓ)) (f : Buf (Elt F) ℓ) : BI.Storable (upEmb : UEmb _ 𝕄) (part (F := F) ℓ K f) := by
  unfold part; infer_instance

/-- An array and a family of disjoint sets of its elements: each set apart, and the rest. -/
theorem split_family (K : Fin n → Finset (Idx ℓ)) (hd : ∀ t t', t ≠ t' → Disjoint (K t) (K t')) (f : Buf (Elt F) ℓ) :
    whole (F := F) ℓ f ⊣⊢ iprop((bigSep Finset.univ fun r : Fin n => part (F := F) ℓ (K r) f) ∗ rest (F := F) ℓ K f) := by
  unfold whole part rest
  have h : (ℓ ↦[Finset.univ]{fullShare} f : sProp 𝕄) ⊣⊢ iprop((ℓ ↦[Finset.univ.biUnion K]{fullShare} f) ∗ ℓ ↦[Finset.univ \ Finset.univ.biUnion K]{fullShare} f) :=
    pointsTo_split_subset (Finset.subset_univ _)
  rw [pointsTo_biUnion Finset.univ K fun t _ t' _ => hd t t'] at h
  exact h

theorem rest_congr (K : Fin n → Finset (Idx ℓ)) {f g : Buf (Elt F) ℓ} (h : ∀ x, (∀ r, x ∉ K r) → f x = g x) :
    rest (F := F) ℓ K f = rest (F := F) ℓ K g := by
  unfold rest
  refine pointsTo_congr fun x hx => h x fun r hr => (Finset.mem_sdiff.mp hx).2 (Finset.mem_biUnion.mpr ⟨r, Finset.mem_univ _, hr⟩)

theorem part_congr (K : Finset (Idx ℓ)) {f g : Buf (Elt F) ℓ} (h : ∀ x ∈ K, f x = g x) :
    part (F := F) ℓ K f = part (F := F) ℓ K g := pointsTo_congr h

end Family

section Rows
variable (c : Dev nD) {n : ℕ} (hn : n ≤ 1152) (asg : Fin n → Fin 34816) (hinj : Function.Injective asg)

abbrev locY : Loc nD τ sig := Thread.loc (c : Thread nD τ) main_v130
abbrev locA : Loc nD τ sig := Thread.loc (c : Thread nD τ) cc0_scratch1

/-- Row `asg r` of the result; row `r` of the accumulator. -/
abbrev famY (r : Fin n) : Finset (Idx (locY c)) := setY (asg r)
abbrev famA (r : Fin n) : Finset (Idx (locA c)) := setA (r.castLE hn)

include hinj in
theorem famY_disj (t t' : Fin n) (hne : t ≠ t') : Disjoint (famY c asg t) (famY c asg t') :=
  Finset.disjoint_left.mpr fun x hx hx' =>
    hne (hinj (Fin.ext (((mem_setY _ x).mp hx).symm.trans ((mem_setY _ x).mp hx'))))
theorem famA_disj (t t' : Fin n) (hne : t ≠ t') : Disjoint (famA c hn t) (famA c hn t') :=
  Finset.disjoint_left.mpr fun x hx hx' =>
    hne (Fin.ext (((mem_setA _ x).mp hx).symm.trans ((mem_setA _ x).mp hx')))

/-- What transfer `r` delivers. -/
def land (A : S1152x2048.Idx → F .f32) (g : S34816x2048.Idx → F .f32) (r : Fin n) : sProp 𝕄 :=
  iprop(part (F := F) (locY c) (famY c asg r) (put hn asg A g) ∗ part (F := F) (locA c) (famA c hn r) A)

instance land_storable (A : S1152x2048.Idx → F .f32) (g : S34816x2048.Idx → F .f32) (r : Fin n) :
    BI.Storable (upEmb : UEmb _ 𝕄) (land (F := F) c hn asg A g r) := by
  unfold land; infer_instance

include hinj in
/-- Every delivery and the rows left: the result scattered, the accumulator whole. -/
theorem join_land (A : S1152x2048.Idx → F .f32) (g : S34816x2048.Idx → F .f32) :
    iprop((bigSep Finset.univ (land (F := F) c hn asg A g)) ∗ rest (F := F) (locY c) (famY c asg) g ∗ rest (F := F) (locA c) (famA c hn) A)
      ⊢ iprop(whole (F := F) (locY c) (put hn asg A g) ∗ whole (F := F) (locA c) A) := by
  have hrest : rest (F := F) (locY c) (famY c asg) g = rest (F := F) (locY c) (famY c asg) (put hn asg A g) :=
    rest_congr (F := F) (famY c asg) fun x hx => (put_rest hn asg A g x fun r hr => hx r ((mem_setY _ _).mpr (by rw [← hr]))).symm
  have hsep : bigSep Finset.univ (land (F := F) c hn asg A g)
      = iprop((bigSep Finset.univ fun r : Fin n => part (F := F) (locY c) (famY c asg r) (put hn asg A g)) ∗ (bigSep Finset.univ fun r : Fin n => part (F := F) (locA c) (famA c hn r) A)) :=
    BI.bigSep_sep Finset.univ _ _
  rw [hrest, hsep]
  iintro ⟨⟨H1, H2⟩, HY, HA⟩
  isplitl [H1 HY]
  · iapply (split_family (F := F) (famY c asg) (famY_disj c asg hinj) _).2
    isplitl [H1] <;> iassumption
  · iapply (split_family (F := F) (famA c hn) (famA_disj c hn) A).2
    isplitl [H2] <;> iassumption

end Rows

end Cert.Proof.Expert
-- ==== Proof.Issue.lean ====
/- The two loops of the scatter: the transfers issued, sixteen in flight, and the rest awaited. -/
module

public import proofs.«01_k».proof.Proof.Scatter

@[expose] public section

noncomputable section

namespace Cert.Proof.Expert

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- One row's units on the cell. -/
abbrev rowN : ℕ := 256

theorem rowN_eq (a : Fin 34816) : (rowY a).view.amount (.dma cc0_scratch5.sem : SemLoc sig) = rowN :=
  show RefSig.tileCredit S1x2048 .f32 = 256 by decide

theorem ix3_inb {k : ℕ} (hk : k < 1152) : ∀ x, (![0, 0, k] : Fin 3 → ℕ) x + S1x1x1.size x ≤ S1x1x1152.size x := by
  intro x; fin_cases x
  · show 0 + 1 ≤ 1; omega
  · show 0 + 1 ≤ 1; omega
  · show k + 1 ≤ 1152; omega

/-- Entry `r` of the item's list of rows. -/
def ixS (r : Fin 1152) : S1x1x1152.Idx := fun a => match a with | 0 => (0 : Fin 1) | 1 => (0 : Fin 1) | 2 => r

theorem off11_eq (a : Fin 34816) : k0_off11 (BitVec.ofNat 32 a.val) = ![a.val, 0] := by
  unfold k0_off11
  rw [BitVec.toNat_ofNat, Nat.mod_eq_of_lt (by have := a.isLt; omega)]

theorem chk2_of (i : grid0.Coords) (v1 : BitVec 32) (a : Fin 34816) : k0_chk2 i v1 (BitVec.ofNat 32 a.val) := by
  intro _ _
  rw [off11_eq]
  exact rowY_inb a

/-- A row written from a row. -/
theorem write_row {F : FTy → Type} (a : Fin 34816) (r : Fin 1152) (A : S1152x2048.Idx → F .f32) (g : S34816x2048.Idx → F .f32)
    (x : S34816x2048.Idx) (hx : x ∈ setY a) :
    (rowY a).view.write (Elt F) g ((rowA r).view.read (Elt F) A) Finset.univ x = A (ixA r (x (1 : Fin 2))) := by
  obtain ⟨y, -, rfl⟩ := Finset.mem_map.mp hx
  refine (View.write_emb_of_mem (Val := Elt F) (v := (rowY a).view) g _ (Finset.mem_univ y)).trans ?_
  refine congrArg A ?_
  funext b
  fin_cases b
  · refine Fin.ext ?_
    have : (y (0 : Fin 2)).val < 1 := (y (0 : Fin 2)).isLt
    show r.val + 1 * (y (0 : Fin 2)).val = r.val
    omega
  · refine Fin.ext ?_
    show 0 + 1 * (y (1 : Fin 2)).val = 0 + 1 * (y (1 : Fin 2)).val
    rfl

/-- The test of the window: sixteen in flight. -/
theorem window_iff (k : ℕ) (hk : k < 1152) :
    Scalar.cmpi .ne (Scalar.extui (Scalar.cmpi .sge (Scf.iv (0#32) (1#32) k) 16#32) : BitVec 32) 0#32 = 1#1 ↔ 16 ≤ k := by
  have : ∀ k : Fin 1152, Scalar.cmpi .ne (Scalar.extui (Scalar.cmpi .sge (BitVec.ofNat 32 k.val) 16#32) : BitVec 32) 0#32 = 1#1 ↔ 16 ≤ k.val := by
    decide +kernel
  rw [iv_unit]
  exact this ⟨k, hk⟩

variable (c : Dev nD) (𝒱 : Variants) (bd : Option 𝒱.V) (i : grid0.Coords)
  (arg2 : Memref sig .tc .smem S62 .i32) (harg2 : arg2.IsWhole) (arg3 : Memref sig .tc .smem S62 .i32) (harg3 : arg3.IsWhole) (arg4 : Memref sig .tc .smem S62 .i32) (harg4 : arg4.IsWhole) (arg5 : Memref sig .tc .smem S1x1x1152 .i32) (harg5 : arg5.IsWhole) (arg6 : Memref sig .tc .vmem S1152x2048 .f32) (harg6 : arg6.IsWhole) (arg7 : Memref sig .tc .vmem S1x2048x256 .f32) (harg7 : arg7.IsWhole) (arg8 : Memref sig .tc .vmem S1x2048x256 .f32) (harg8 : arg8.IsWhole) (arg9 : Memref sig .tc .vmem S1x1x256 .f32) (harg9 : arg9.IsWhole) (arg10 : Memref sig .tc .vmem S1x1x256 .f32) (harg10 : arg10.IsWhole) (arg11 : Memref sig .tc .vmem S1x256x2048 .f32) (harg11 : arg11.IsWhole) (arg12 : Memref sig .tc .vmem S1x1x2048 .f32) (harg12 : arg12.IsWhole) (arg14 : Memref sig .tc .vmem S1152x2048 .bf16) (harg14 : arg14.IsWhole) (arg16 : Memref sig .tc .vmem S2048x256 .bf16) (harg16 : arg16.IsWhole) (arg17 : Memref sig .tc .vmem S2048x256 .bf16) (harg17 : arg17.IsWhole) (arg18 : Memref sig .tc .vmem S256x2048 .bf16) (harg18 : arg18.IsWhole)
  {n : ℕ} (hn : n ≤ 1152) (k0_hw1 : k0_chk1 i (BitVec.ofNat 32 n))
  (k0_h1 : k0_cond1 (BitVec.ofNat 32 n) = 1#1) (k0_h7 : k0_cond7 i = 1#1)
  (asg : Fin n → Fin 34816) (hinj : Function.Injective asg) (A : S1152x2048.Idx → F .f32) (g : S34816x2048.Idx → F .f32) (X5 : arg5.view.ty.Contents (Elt F))

/-- The batch of the item's transfers, `j` issued, `u` units consumed. -/
abbrev rows (j u : ℕ) : sProp 𝕄 :=
  Transfers.Batch (countersEmb (U := Pipeline.UD sig nD τ)) (c : Thread nD τ) (.dma cc0_scratch5.sem) () rowN (land (F := F) c hn asg A g) j u

include hinj in
/-- One transfer: the row of the accumulator to its row of the result. -/
theorem issue_one {j : ℕ} (hj : j < n) {v70 : Memref sig .tc .hbm S1x2048 .f32} {v71 : Memref sig .tc .vmem S1x2048 .f32}
    (h70 : v70 = rowY (asg ⟨j, hj⟩)) (h71 : v71 = rowA (Fin.castLE hn ⟨j, hj⟩)) {u : ℕ} (hu : u ≤ j * rowN)
    {hsrc : v71.view.WordExact} {hdst : v70.view.WordExact} {hsem : DmaTarget.Typed (nD := nD) (τ := τ) (p := .tc) Space.vmem (.dma cc0_scratch5.sem) (.here v70)}
    {kont : PUnit → Prog (TpuEff nD τ sig (Elt F) Λ₀ .tc) Unit} {Q : Unit → sProp 𝕄} :
    iprop(part (F := F) (locY c) (famY c asg ⟨j, hj⟩) g ∗ part (F := F) (locA c) (famA c hn ⟨j, hj⟩) A ∗ rows (F := F) c hn asg A g j u)
      ⊢ iprop((rows (F := F) c hn asg A g (j + 1) u -∗ wp frame (wpE (defs₀ (F := F)) 𝒱 (c : Thread nD τ) bd) Set.univ (kont ⟨⟩) Q)
        -∗ wp frame (wpE (defs₀ (F := F)) 𝒱 (c : Thread nD τ) bd) Set.univ
            (.op (.enqueueDma v71 (.here v70) (.dma cc0_scratch5.sem) hsrc hdst hsem) kont) Q) := by
  subst h70; subst h71
  have hput : part (F := F) (locY c) (famY c asg ⟨j, hj⟩) ((rowY (asg ⟨j, hj⟩)).view.write (Elt F) g ((rowA (Fin.castLE hn ⟨j, hj⟩)).view.read (Elt F) A) Finset.univ)
      = part (F := F) (locY c) (famY c asg ⟨j, hj⟩) (put hn asg A g) :=
    part_congr (F := F) _ fun x hx => (write_row (F := F) (asg ⟨j, hj⟩) (Fin.castLE hn ⟨j, hj⟩) A g x hx).trans (put_row hn asg hinj A g ⟨j, hj⟩ x (Fin.ext ((mem_setY _ x).mp hx))).symm
  have hD : iprop(part (F := F) (locY c) (famY c asg ⟨j, hj⟩) ((rowY (asg ⟨j, hj⟩)).view.write (Elt F) g ((rowA (Fin.castLE hn ⟨j, hj⟩)).view.read (Elt F) A) Finset.univ)
      ∗ part (F := F) (locA c) (famA c hn ⟨j, hj⟩) A) ⊢ land (F := F) c hn asg A g ⟨j, hj⟩ := by
    rw [hput]; exact .rfl
  unfold part at hD ⊢
  iintro ⟨HY, HA, HB⟩ Hk
  have h := Transfers.wp_dmaBatch (countersEmb (U := Pipeline.UD sig nD τ)) 𝒱 (c : Thread nD τ) bd (defs := defs₀ (F := F)) (src := rowA (Fin.castLE hn ⟨j, hj⟩)) (dst := rowY (asg ⟨j, hj⟩))
    (via := .same) (sm := .dma cc0_scratch5.sem) (hsrc := hsrc) (hdst := hdst) (hsem := hsem) (k := kont) (Q := Q) (D := land (F := F) c hn asg A g)
    (Sd := (rowY (asg ⟨j, hj⟩)).view.set) (q := fullShare) (fs := A) (fd := g) () rowN (rowN_eq (asg ⟨j, hj⟩)) (Finset.Subset.refl _) hj hu hD
  iapply h $$ [HY HA HB]
  · isplitl [HA]; · iexact HA
    isplitl [HY]; · iexact HY
    iexact HB
  · iexact Hk

/-- Before trip `k`: `k` transfers issued, the first `k - 16` awaited, the rows from `k` on in hand. -/
def issueInv (k : ℕ) (_ : Unit) : sProp 𝕄 :=
  iprop((arg5.view.loc (c : Thread nD τ) ↦[arg5.view.set]{fullShare} X5) ∗ (∃ W, owes (c : Thread nD τ) 0 W)
    ∗ rows (F := F) c hn asg A g k ((k - 16) * rowN)
    ∗ (bigSep (Ring.rangeSet n k n) fun r => part (F := F) (locY c) (famY c asg r) g)
    ∗ (bigSep (Ring.rangeSet n k n) fun r => part (F := F) (locA c) (famA c hn r) A))

include hinj in
theorem issue_step (hX5 : ∀ r : Fin n, arg5.view.read (Elt F) X5 (ixS (r.castLE hn)) = BitVec.ofNat 32 (asg r).val)
    (plan : Transfers.InterleavedWaits (c : Thread nD τ) (SemLoc.dma (sig := sig) cc0_scratch5.sem))
    (k : Fin (k0_t5_loop (BitVec.ofNat 32 n)).trips) (acc : Unit) :
    issueInv (F := F) c arg5 hn asg A g X5 k.val acc
      ⊢ wp frame (wpE (defs₀ (F := F)) 𝒱 (c : Thread nD τ) bd) Set.univ
        (k0_t5_body (F := F) i arg2 harg2 arg3 harg3 arg4 harg4 arg5 harg5 arg6 harg6 arg7 harg7 arg8 harg8 arg9 harg9 arg10 harg10 arg11 harg11 arg12 harg12 (Memref.whole main_v130) (Memref.isWhole_whole _) arg14 harg14 (Memref.whole cc0_scratch1) (Memref.isWhole_whole _) arg16 harg16 arg17 harg17 arg18 harg18 cc0_scratch5 (BitVec.ofNat 32 n) k0_hw1 k0_h1 k0_h7 k acc)
        (fun a => issueInv (F := F) c arg5 hn asg A g X5 (k.val + 1) a) := by
  have hk : k.val < n := k.isLt.trans_eq (t5_trips hn)
  have hk' : k.val < 1152 := by omega
  unfold issueInv
  rw [Ring.bigSep_rangeSet_head (lo := k.val) (Φ := fun r => part (F := F) (locY c) (famY c asg r) g) (by omega) (by omega),
    Ring.bigSep_rangeSet_head (lo := k.val) (Φ := fun r => part (F := F) (locA c) (famA c hn r) A) (by omega) (by omega)]
  iintro ⟨H5, ⟨%W, HO⟩, HB, ⟨HY, HYs⟩, ⟨HA, HAs⟩⟩
  sl_unfold [k0_t5_body]
  sl_exec
  have hr : issue_step.sl.r (F := F) i arg5 k0_hw1 k0_h1 k0_h7 X5 k = BitVec.ofNat 32 (asg ⟨k.val, hk⟩).val := by
    unfold issue_step.sl.r
    rw [← hX5 ⟨k.val, hk⟩, View.readAt_unit (h := off10_eq k hk') (inb' := ix3_inb hk')]
    refine congrArg (View.read (Elt F) arg5.view X5) ?_
    funext a
    match a with
    | 0 => rfl
    | 1 => rfl
    | 2 => exact Fin.ext (by show k.val + 1 * 0 = k.val; omega)
  have hck : k0_chk2 i (BitVec.ofNat 32 n) (issue_step.sl.r (F := F) i arg5 k0_hw1 k0_h1 k0_h7 X5 k) := by
    rw [hr]; exact chk2_of i _ _
  sl_exec
  have hY : (Memref.whole main_v130).slice (Rect.unit (s := S34816x2048) (k0_off11 (issue_step.sl.r (F := F) i arg5 k0_hw1 k0_h1 k0_h7 X5 k)) S1x2048.size (k0_off11_inb i _ _ hck k0_h1 k0_h7)) (fun _ => rfl)
      = rowY (asg ⟨k.val, hk⟩) := Memref.slice_unit_congr _ ((congrArg k0_off11 hr).trans (off11_eq _)) _ _ _ (fun _ => rfl)
  have hA : (Memref.whole cc0_scratch1).slice (Rect.unit (s := S1152x2048) (k0_off12 (BitVec.ofNat 32 n) k) S1x2048.size (k0_off12_inb i _ k0_hw1 k k0_h1 k0_h7)) (fun _ => rfl)
      = rowA ⟨k.val, hk'⟩ := Memref.slice_unit_congr _ (off12_eq k hk') _ _ _ (fun _ => rfl)
  iapply (issue_one (F := F) c 𝒱 bd hn asg hinj A g hk hY hA (u := (k.val - 16) * rowN) (by simp only [rowN]; omega)) $$ [HB HY HA]
  · isplitl [HY]; · iexact HY
    isplitl [HA]; · iexact HA
    iexact HB
  iintro HB
  by_cases h16 : 16 ≤ k.val
  · have hw := (window_iff k.val hk').mpr h16
    rw [show (k.val + 1 - 16) * rowN = (k.val - 16) * rowN + 1 * rowN by simp only [rowN]; omega]
    sl_exec
    sl_exec
    sl_step
    isplitl [H5]; · iexact H5
    isplitl [HO]; · iexists _; iexact HO
    isplitl [HB]; · iexact HB
    isplitl [HYs]; · iexact HYs
    iexact HAs
  · have hw : ¬ Scalar.cmpi .ne (Scalar.extui (Scalar.cmpi .sge (Scf.iv (0#32) (1#32) k.val) 16#32) : BitVec 32) 0#32 = 1#1 := fun h => h16 ((window_iff k.val hk').mp h)
    rw [show (k.val + 1 - 16) * rowN = (k.val - 16) * rowN by simp only [rowN]; omega]
    sl_exec
    sl_step
    isplitl [H5]; · iexact H5
    isplitl [HO]; · iexists _; iexact HO
    isplitl [HB]; · iexact HB
    isplitl [HYs]; · iexact HYs
    iexact HAs

/-- Before trip `k` of the last loop: every transfer issued, all but the last sixteen and `k` more awaited. -/
def drainInv (k : ℕ) (_ : Unit) : sProp 𝕄 :=
  iprop((∃ W, owes (c : Thread nD τ) 0 W) ∗ rows (F := F) c hn asg A g n (((n - 16) + k) * rowN))

theorem drain_step (plan : Transfers.InterleavedWaits (c : Thread nD τ) (SemLoc.dma (sig := sig) cc0_scratch5.sem))
    (k : Fin (k0_t7_loop (BitVec.ofNat 32 n)).trips) (acc : Unit) :
    drainInv (F := F) c hn asg A g k.val acc
      ⊢ wp frame (wpE (defs₀ (F := F)) 𝒱 (c : Thread nD τ) bd) Set.univ
        (k0_t7_body (F := F) i arg2 harg2 arg3 harg3 arg4 harg4 arg5 harg5 arg6 harg6 arg7 harg7 arg8 harg8 arg9 harg9 arg10 harg10 arg11 harg11 arg12 harg12 (Memref.whole main_v130) (Memref.isWhole_whole _) arg14 harg14 (Memref.whole cc0_scratch1) (Memref.isWhole_whole _) arg16 harg16 arg17 harg17 arg18 harg18 cc0_scratch5 (BitVec.ofNat 32 n) k0_hw1 k0_h1 k0_h7 k acc)
        (fun a => drainInv (F := F) c hn asg A g (k.val + 1) a) := by
  have hk : k.val < min n 16 := k.isLt.trans_eq (t7_trips hn)
  unfold drainInv
  rw [show ((n - 16) + (k.val + 1)) * rowN = ((n - 16) + k.val) * rowN + 1 * rowN by simp only [rowN]; omega]
  iintro ⟨⟨%W, HO⟩, HB⟩
  sl_unfold [k0_t7_body]
  sl_exec
  sl_step
  isplitl [HO]; · iexists _; iexact HO
  iexact HB

end Cert.Proof.Expert
-- ==== Proof.Body.lean ====
/- One grid point: the body, at its item's row count and its tile. -/
module

public import proofs.«01_k».proof.Proof.Issue

@[expose] public section

noncomputable section

namespace Cert.Proof.Expert

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (𝒱 : Variants) (bd : Option 𝒱.V) (i : grid0.Coords)
  (arg2 : Memref sig .tc .smem S62 .i32) (harg2 : arg2.IsWhole) (arg3 : Memref sig .tc .smem S62 .i32) (harg3 : arg3.IsWhole) (arg4 : Memref sig .tc .smem S62 .i32) (harg4 : arg4.IsWhole) (arg5 : Memref sig .tc .smem S1x1x1152 .i32) (harg5 : arg5.IsWhole) (arg6 : Memref sig .tc .vmem S1152x2048 .f32) (harg6 : arg6.IsWhole) (arg7 : Memref sig .tc .vmem S1x2048x256 .f32) (harg7 : arg7.IsWhole) (arg8 : Memref sig .tc .vmem S1x2048x256 .f32) (harg8 : arg8.IsWhole) (arg9 : Memref sig .tc .vmem S1x1x256 .f32) (harg9 : arg9.IsWhole) (arg10 : Memref sig .tc .vmem S1x1x256 .f32) (harg10 : arg10.IsWhole) (arg11 : Memref sig .tc .vmem S1x256x2048 .f32) (harg11 : arg11.IsWhole) (arg12 : Memref sig .tc .vmem S1x1x2048 .f32) (harg12 : arg12.IsWhole) (arg14 : Memref sig .tc .vmem S1152x2048 .bf16) (harg14 : arg14.IsWhole) (arg16 : Memref sig .tc .vmem S2048x256 .bf16) (harg16 : arg16.IsWhole) (arg17 : Memref sig .tc .vmem S2048x256 .bf16) (harg17 : arg17.IsWhole) (arg18 : Memref sig .tc .vmem S256x2048 .bf16) (harg18 : arg18.IsWhole)
  {n : ℕ} (hn : n ≤ 1152)

theorem conds (i : grid0.Coords) : (k0_cond2 i = 1#1 ↔ (i 1).val = 0) ∧ (k0_cond3 i = 1#1 ↔ (i 1).val = 0) ∧ (k0_cond4 i = 1#1 ↔ ¬ (i 1).val = 0)
    ∧ (k0_cond7 i = 1#1 ↔ (i 1).val = 7) := by
  have h : ∀ f : Fin 8, (Scalar.cmpi .ne (Scalar.extui (Scalar.cmpi .eq (BitVec.ofNat 32 f.val) 0#32) : BitVec 32) 0#32 = 1#1 ↔ f.val = 0)
      ∧ (Scalar.cmpi .ne (Scalar.extui (Scalar.cmpi .ne (BitVec.ofNat 32 f.val) 0#32) : BitVec 32) 0#32 = 1#1 ↔ ¬ f.val = 0)
      ∧ (Scalar.cmpi .ne (Scalar.extui (Scalar.cmpi .eq (BitVec.ofNat 32 f.val) 7#32) : BitVec 32) 0#32 = 1#1 ↔ f.val = 7) := by decide
  have h' := h ⟨(i 1).val, (i 1).isLt⟩
  exact ⟨h'.1, h'.1, h'.2.1, h'.2.2⟩

/-- The windows the tile reads, each holding its block. -/
def blocks (X6 : arg6.view.ty.Contents (Elt F)) (X7 : arg7.view.ty.Contents (Elt F)) (X8 : arg8.view.ty.Contents (Elt F)) (X9 : arg9.view.ty.Contents (Elt F))
    (X10 : arg10.view.ty.Contents (Elt F)) (X11 : arg11.view.ty.Contents (Elt F)) (X12 : arg12.view.ty.Contents (Elt F)) : sProp 𝕄 :=
  iprop((arg6.view.loc (c : Thread nD τ) ↦[arg6.view.set]{fullShare} X6) ∗ (arg7.view.loc (c : Thread nD τ) ↦[arg7.view.set]{fullShare} X7)
    ∗ (arg8.view.loc (c : Thread nD τ) ↦[arg8.view.set]{fullShare} X8) ∗ (arg9.view.loc (c : Thread nD τ) ↦[arg9.view.set]{fullShare} X9)
    ∗ (arg10.view.loc (c : Thread nD τ) ↦[arg10.view.set]{fullShare} X10) ∗ (arg11.view.loc (c : Thread nD τ) ↦[arg11.view.set]{fullShare} X11)
    ∗ (arg12.view.loc (c : Thread nD τ) ↦[arg12.view.set]{fullShare} X12))

/-- The tile's scratch: the rows' copy, and the weights' copies, of any contents. -/
def weights : sProp 𝕄 :=
  iprop((∃ f, arg16.view.loc (c : Thread nD τ) ↦[arg16.view.set]{fullShare} f) ∗ (∃ f, arg17.view.loc (c : Thread nD τ) ↦[arg17.view.set]{fullShare} f)
    ∗ (∃ f, arg18.view.loc (c : Thread nD τ) ↦[arg18.view.set]{fullShare} f))

include hn in
/-- After the loop over the sub-blocks. -/
theorem acc_done (X9 : arg9.view.ty.Contents (Elt F)) (X10 : arg10.view.ty.Contents (Elt F)) (X12 : arg12.view.ty.Contents (Elt F)) (X14 : arg14.view.ty.Contents (Elt F))
    (X16 : arg16.view.ty.Contents (Elt F)) (X17 : arg17.view.ty.Contents (Elt F)) (X18 : arg18.view.ty.Contents (Elt F)) (A : S1152x2048.Idx → F .f32)
    {b9 : Vec F S1x1x256 .f32} {b10 : Vec F S1x1x256 .f32} {wg wu : Vec F S2048x256 .bf16} {wd : Vec F S256x2048 .bf16}
    (h9 : b9 = arg9.view.read (Elt F) X9) (h10 : b10 = arg10.view.read (Elt F) X10)
    (h16 : arg16.view.read (Elt F) X16 = wg) (h17 : arg17.view.read (Elt F) X17 = wu) (h18 : arg18.view.read (Elt F) X18 = wd) (acc : Unit) :
    accInv (F := F) c i arg12 arg14 (Memref.whole cc0_scratch1) arg16 arg17 arg18 (k0_pay12 b9) (k0_pay13 b10) X12 X14 X16 X17 X18 A
        (Scf.trips (k0_t3_loop (BitVec.ofNat 32 n)).lb (k0_t3_loop (BitVec.ofNat 32 n)).ub (k0_t3_loop (BitVec.ofNat 32 n)).st) acc
      ⊢ iprop((arg12.view.loc (c : Thread nD τ) ↦[arg12.view.set]{fullShare} X12) ∗ (arg14.view.loc (c : Thread nD τ) ↦[arg14.view.set]{fullShare} X14)
        ∗ weights (F := F) c arg16 arg17 arg18
        ∗ ∃ A', whole (F := F) (locA c) A'
          ∗ ⌜∀ j : Fin 3, sub A' j = if j.val < nsub n then
              accStep i (k0_pay12 (arg9.view.read (Elt F) X9)) (k0_pay13 (arg10.view.read (Elt F) X10)) wg wu wd
                (arg12.view.read (Elt F) X12) (sub (arg14.view.read (Elt F) X14) j) (sub A j)
              else sub A j⌝) := by
  have ht : Scf.trips (k0_t3_loop (BitVec.ofNat 32 n)).lb (k0_t3_loop (BitVec.ofNat 32 n)).ub (k0_t3_loop (BitVec.ofNat 32 n)).st = nsub n := t3_trips hn
  rw [ht]
  subst h9 h10 h16 h17 h18
  unfold accInv weights whole
  iintro ⟨H12, H14, H16, H17, H18, %f, H15, %hf⟩
  iframe
  isplitl [H16 H17 H18]
  · isplitl [H16]; · iexists _; iexact H16
    isplitl [H17]; · iexists _; iexact H17
    iexists _; iexact H18
  iexists f
  isplitl [H15]; · rw [View.set_whole]; iexact H15
  ipureintro
  exact hf

include hn in
theorem body_mid (X4 : arg4.view.ty.Contents (Elt F)) (q4 : PosShare TreeShare)
    (X6 : arg6.view.ty.Contents (Elt F)) (X7 : arg7.view.ty.Contents (Elt F)) (X8 : arg8.view.ty.Contents (Elt F)) (X9 : arg9.view.ty.Contents (Elt F))
    (X10 : arg10.view.ty.Contents (Elt F)) (X11 : arg11.view.ty.Contents (Elt F)) (X12 : arg12.view.ty.Contents (Elt F))
    (X14 : arg14.view.ty.Contents (Elt F)) (A : S1152x2048.Idx → F .f32)
    (hw : ∀ p, arg4.view.readAt (Elt F) (Rect.unit (s := S62) (k0_off1 i) S1.size (k0_off1_inb i)).toLoadRect X4 (Shape.Idx.first p) = BitVec.ofNat 32 n)
    (h0 : 0 < n) (hf0 : ¬ (i 1).val = 0) (hf7 : ¬ (i 1).val = 7) :
    iprop((arg4.view.loc (c : Thread nD τ) ↦[arg4.view.set]{q4} X4)
        ∗ blocks (F := F) c arg6 arg7 arg8 arg9 arg10 arg11 arg12 X6 X7 X8 X9 X10 X11 X12
        ∗ (arg14.view.loc (c : Thread nD τ) ↦[arg14.view.set]{fullShare} X14)
        ∗ weights (F := F) c arg16 arg17 arg18
        ∗ whole (F := F) (locA c) A)
      ⊢ wp frame (wpE (defs₀ (F := F)) 𝒱 (c : Thread nD τ) bd) Set.univ
        (cc0_moe_expert_ffn (F := F) i arg2 harg2 arg3 harg3 arg4 harg4 arg5 harg5 arg6 harg6 arg7 harg7 arg8 harg8 arg9 harg9 arg10 harg10 arg11 harg11 arg12 harg12 (Memref.whole main_v130) (Memref.isWhole_whole _) arg14 harg14 (Memref.whole cc0_scratch1) (Memref.isWhole_whole _) arg16 harg16 arg17 harg17 arg18 harg18 cc0_scratch5)
        (fun _ => iprop((arg4.view.loc (c : Thread nD τ) ↦[arg4.view.set]{q4} X4)
        ∗ blocks (F := F) c arg6 arg7 arg8 arg9 arg10 arg11 arg12 X6 X7 X8 X9 X10 X11 X12
        ∗ (arg14.view.loc (c : Thread nD τ) ↦[arg14.view.set]{fullShare} X14)
        ∗ weights (F := F) c arg16 arg17 arg18
        ∗ ∃ A', whole (F := F) (locA c) A'
          ∗ ⌜∀ j : Fin 3, sub A' j = if j.val < nsub n then
              accStep i (k0_pay12 (arg9.view.read (Elt F) X9)) (k0_pay13 (arg10.view.read (Elt F) X10)) (k0_pay9 (arg7.view.read (Elt F) X7)) (k0_pay10 (arg8.view.read (Elt F) X8)) (k0_pay11 (arg11.view.read (Elt F) X11))
                (arg12.view.read (Elt F) X12) (sub (arg14.view.read (Elt F) X14) j) (sub A j)
              else sub A j⌝)) := by
  have hc := conds i
  have k0_h2 : ¬ k0_cond2 i = 1#1 := fun h => hf0 (hc.1.mp h)
  have k0_h7 : ¬ k0_cond7 i = 1#1 := fun h => hf7 (hc.2.2.2.mp h)
  have h34 : k0_cond4 i = 1#1 ↔ ¬ k0_cond3 i = 1#1 := hc.2.2.1.trans (not_congr hc.2.1).symm
  have k0_h1 := cond1_of_pos h0 hn
  have k0_hw1 := chk1_of hn i
  unfold blocks weights whole
  iintro ⟨H4, ⟨H6, H7, H8, H9, H10, H11, H12⟩, H14, ⟨⟨%f16, H16⟩, ⟨%f17, H17⟩, ⟨%f18, H18⟩⟩, H15⟩
  sl_unfold [cc0_moe_expert_ffn]
  sl_exec
  have hr : body_mid.sl.r (F := F) i arg4 X4 = BitVec.ofNat 32 n := hw _
  generalize body_mid.sl.r (F := F) i arg4 X4 = v1 at hr ⊢
  subst hr
  sl_exec
  sl_for (accInv (F := F) c i arg12 arg14 (Memref.whole cc0_scratch1) arg16 arg17 arg18 (body_mid.sl.r_1 arg9 X9) (body_mid.sl.r_2 arg10 X10) X12 X14 (arg16.view.writes (Elt F) arg16.view.junk (body_mid.sl.H16_1 arg7 X7)) (arg17.view.writes (Elt F) arg17.view.junk (body_mid.sl.H17_1 arg8 X8)) (arg18.view.writes (Elt F) arg18.view.junk (body_mid.sl.H18_1 arg11 X11)) A) $$ [H12 H14 H16 H17 H18 H15]
  · intro k acc
    exact acc_step (F := F) c 𝒱 bd Set.univ i arg2 harg2 arg3 harg3 arg4 harg4 arg5 harg5 arg6 harg6 arg7 harg7 arg8 harg8 arg9 harg9 arg10 harg10 arg11 harg11 arg12 harg12 (Memref.whole main_v130) (Memref.isWhole_whole _) arg14 harg14 (Memref.whole cc0_scratch1) (Memref.isWhole_whole _) arg16 harg16 arg17 harg17 arg18 harg18 cc0_scratch5 _ hn k0_hw1 k0_h1 _ _ X12 X14 _ _ _ A h34 k acc
  · unfold accInv
    iframe
    iexists A
    isplitl [H15]; · rw [View.set_whole]; iexact H15
    ipureintro
    intro j
    rw [if_neg (Nat.not_lt_zero _)]; rfl
  iintro %acc HI
  unfold body_mid.sl.r_1 body_mid.sl.r_2 body_mid.sl.H16_1 body_mid.sl.H17_1 body_mid.sl.H18_1
  ihave HI' := (acc_done (F := F) c i arg9 arg10 arg12 arg14 arg16 arg17 arg18 hn X9 X10 X12 X14 _ _ _ A (View.readAt_full arg9.view X9 _) (View.readAt_full arg10.view X10 _)
    ((View.read_writes_full arg16.view _ _ _ []).trans (congrArg k0_pay9 (View.readAt_full arg7.view X7 _)))
    ((View.read_writes_full arg17.view _ _ _ []).trans (congrArg k0_pay10 (View.readAt_full arg8.view X8 _)))
    ((View.read_writes_full arg18.view _ _ _ []).trans (congrArg k0_pay11 (View.readAt_full arg11.view X11 _))) acc) $$ HI
  icases HI' with ⟨H12, H14, Hw, %A', H15, %hA'⟩
  sl_exec
  sl_step
  isplitl [H4]; · iexact H4
  isplitl [H6 H7 H8 H9 H10 H11 H12]
  · iframe
  isplitl [H14]; · iexact H14
  isplitl [Hw]; · unfold weights; iexact Hw
  iexists A'
  isplitl [H15]; · unfold whole; iexact H15
  ipureintro; exact hA'

include hn in
theorem body_first (X4 : arg4.view.ty.Contents (Elt F)) (q4 : PosShare TreeShare)
    (X6 : arg6.view.ty.Contents (Elt F)) (X7 : arg7.view.ty.Contents (Elt F)) (X8 : arg8.view.ty.Contents (Elt F)) (X9 : arg9.view.ty.Contents (Elt F))
    (X10 : arg10.view.ty.Contents (Elt F)) (X11 : arg11.view.ty.Contents (Elt F)) (X12 : arg12.view.ty.Contents (Elt F))
    (X14 : arg14.view.ty.Contents (Elt F)) (A : S1152x2048.Idx → F .f32)
    (hw : ∀ p, arg4.view.readAt (Elt F) (Rect.unit (s := S62) (k0_off1 i) S1.size (k0_off1_inb i)).toLoadRect X4 (Shape.Idx.first p) = BitVec.ofNat 32 n)
    (h0 : 0 < n) (hf0 : (i 1).val = 0) :
    iprop((arg4.view.loc (c : Thread nD τ) ↦[arg4.view.set]{q4} X4)
        ∗ blocks (F := F) c arg6 arg7 arg8 arg9 arg10 arg11 arg12 X6 X7 X8 X9 X10 X11 X12
        ∗ (arg14.view.loc (c : Thread nD τ) ↦[arg14.view.set]{fullShare} X14)
        ∗ weights (F := F) c arg16 arg17 arg18
        ∗ whole (F := F) (locA c) A)
      ⊢ wp frame (wpE (defs₀ (F := F)) 𝒱 (c : Thread nD τ) bd) Set.univ
        (cc0_moe_expert_ffn (F := F) i arg2 harg2 arg3 harg3 arg4 harg4 arg5 harg5 arg6 harg6 arg7 harg7 arg8 harg8 arg9 harg9 arg10 harg10 arg11 harg11 arg12 harg12 (Memref.whole main_v130) (Memref.isWhole_whole _) arg14 harg14 (Memref.whole cc0_scratch1) (Memref.isWhole_whole _) arg16 harg16 arg17 harg17 arg18 harg18 cc0_scratch5)
        (fun _ => iprop((arg4.view.loc (c : Thread nD τ) ↦[arg4.view.set]{q4} X4)
        ∗ blocks (F := F) c arg6 arg7 arg8 arg9 arg10 arg11 arg12 X6 X7 X8 X9 X10 X11 X12
        ∗ (∃ f, (arg14.view.loc (c : Thread nD τ) ↦[arg14.view.set]{fullShare} f)
            ∗ ⌜∀ j : Fin 3, j.val < nsub n → sub (arg14.view.read (Elt F) f) j = k0_pay7 (sub (arg6.view.read (Elt F) X6) j)⌝)
        ∗ weights (F := F) c arg16 arg17 arg18
        ∗ ∃ A', whole (F := F) (locA c) A'
          ∗ ⌜∀ j : Fin 3, sub A' j = if j.val < nsub n then
              accStep i (k0_pay12 (arg9.view.read (Elt F) X9)) (k0_pay13 (arg10.view.read (Elt F) X10)) (k0_pay9 (arg7.view.read (Elt F) X7)) (k0_pay10 (arg8.view.read (Elt F) X8)) (k0_pay11 (arg11.view.read (Elt F) X11))
                (arg12.view.read (Elt F) X12) (k0_pay7 (sub (arg6.view.read (Elt F) X6) j)) (sub A j)
              else sub A j⌝)) := by
  have hc := conds i
  have k0_h2 : k0_cond2 i = 1#1 := hc.1.mpr hf0
  have k0_h7 : ¬ k0_cond7 i = 1#1 := fun h => by have := hc.2.2.2.mp h; omega
  have h34 : k0_cond4 i = 1#1 ↔ ¬ k0_cond3 i = 1#1 := hc.2.2.1.trans (not_congr hc.2.1).symm
  have k0_h1 := cond1_of_pos h0 hn
  have k0_hw1 := chk1_of hn i
  unfold blocks weights whole
  iintro ⟨H4, ⟨H6, H7, H8, H9, H10, H11, H12⟩, H14, ⟨⟨%f16, H16⟩, ⟨%f17, H17⟩, ⟨%f18, H18⟩⟩, H15⟩
  sl_unfold [cc0_moe_expert_ffn]
  sl_exec
  have hr : body_first.sl.r (F := F) i arg4 X4 = BitVec.ofNat 32 n := hw _
  generalize body_first.sl.r (F := F) i arg4 X4 = v1 at hr ⊢
  subst hr
  sl_exec
  sl_for (castInv (F := F) c arg6 arg14 X6) $$ [H6 H14]
  · intro k acc
    exact cast_step (F := F) c 𝒱 bd Set.univ i arg2 harg2 arg3 harg3 arg4 harg4 arg5 harg5 arg6 harg6 arg7 harg7 arg8 harg8 arg9 harg9 arg10 harg10 arg11 harg11 arg12 harg12 (Memref.whole main_v130) (Memref.isWhole_whole _) arg14 harg14 (Memref.whole cc0_scratch1) (Memref.isWhole_whole _) arg16 harg16 arg17 harg17 arg18 harg18 cc0_scratch5 _ hn k0_hw1 k0_h1 _ k0_h2 X6 k acc
  · unfold castInv
    iframe
    iexists X14
    isplitl [H14]; · iexact H14
    ipureintro
    intro j hj
    omega
  iintro %acc0 HI
  unfold castInv
  icases HI with ⟨H6, %Y14, H14, %hY14⟩
  sl_exec
  sl_for (accInv (F := F) c i arg12 arg14 (Memref.whole cc0_scratch1) arg16 arg17 arg18 (body_first.sl.r_1 arg9 X9) (body_first.sl.r_2 arg10 X10) X12 Y14 (arg16.view.writes (Elt F) arg16.view.junk (body_first.sl.H16_1 arg7 X7)) (arg17.view.writes (Elt F) arg17.view.junk (body_first.sl.H17_1 arg8 X8)) (arg18.view.writes (Elt F) arg18.view.junk (body_first.sl.H18_1 arg11 X11)) A) $$ [H12 H14 H16 H17 H18 H15]
  · intro k acc
    exact acc_step (F := F) c 𝒱 bd Set.univ i arg2 harg2 arg3 harg3 arg4 harg4 arg5 harg5 arg6 harg6 arg7 harg7 arg8 harg8 arg9 harg9 arg10 harg10 arg11 harg11 arg12 harg12 (Memref.whole main_v130) (Memref.isWhole_whole _) arg14 harg14 (Memref.whole cc0_scratch1) (Memref.isWhole_whole _) arg16 harg16 arg17 harg17 arg18 harg18 cc0_scratch5 _ hn k0_hw1 k0_h1 _ _ X12 Y14 _ _ _ A h34 k acc
  · unfold accInv
    iframe
    iexists A
    isplitl [H15]; · rw [View.set_whole]; iexact H15
    ipureintro
    intro j
    rw [if_neg (Nat.not_lt_zero _)]; rfl
  iintro %acc HI
  unfold body_first.sl.r_1 body_first.sl.r_2 body_first.sl.H16_1 body_first.sl.H17_1 body_first.sl.H18_1
  ihave HI' := (acc_done (F := F) c i arg9 arg10 arg12 arg14 arg16 arg17 arg18 hn X9 X10 X12 Y14 _ _ _ A (View.readAt_full arg9.view X9 _) (View.readAt_full arg10.view X10 _)
    ((View.read_writes_full arg16.view _ _ _ []).trans (congrArg k0_pay9 (View.readAt_full arg7.view X7 _)))
    ((View.read_writes_full arg17.view _ _ _ []).trans (congrArg k0_pay10 (View.readAt_full arg8.view X8 _)))
    ((View.read_writes_full arg18.view _ _ _ []).trans (congrArg k0_pay11 (View.readAt_full arg11.view X11 _))) acc) $$ HI
  icases HI' with ⟨H12, H14, Hw, %A', H15, %hA'⟩
  have hc14 : ∀ j : Fin 3, j.val < nsub n → sub (arg14.view.read (Elt F) Y14) j = k0_pay7 (sub (arg6.view.read (Elt F) X6) j) :=
    fun j hj => hY14 j (hj.trans_eq (t1_trips hn).symm)
  sl_exec
  sl_step
  isplitl [H4]; · iexact H4
  isplitl [H6 H7 H8 H9 H10 H11 H12]
  · iframe
  isplitl [H14]
  · iexists Y14
    isplitl [H14]; · iexact H14
    ipureintro; exact hc14
  isplitl [Hw]; · unfold weights; iexact Hw
  iexists A'
  isplitl [H15]; · unfold whole; iexact H15
  ipureintro
  intro j
  rw [hA' j]
  by_cases h : j.val < nsub n
  · rw [if_pos h, if_pos h, hc14 j h]
  · rw [if_neg h, if_neg h]

include hn in
theorem body_last (X4 : arg4.view.ty.Contents (Elt F)) (q4 : PosShare TreeShare)
    (X6 : arg6.view.ty.Contents (Elt F)) (X7 : arg7.view.ty.Contents (Elt F)) (X8 : arg8.view.ty.Contents (Elt F)) (X9 : arg9.view.ty.Contents (Elt F))
    (X10 : arg10.view.ty.Contents (Elt F)) (X11 : arg11.view.ty.Contents (Elt F)) (X12 : arg12.view.ty.Contents (Elt F))
    (X14 : arg14.view.ty.Contents (Elt F)) (A : S1152x2048.Idx → F .f32)
    (hw : ∀ p, arg4.view.readAt (Elt F) (Rect.unit (s := S62) (k0_off1 i) S1.size (k0_off1_inb i)).toLoadRect X4 (Shape.Idx.first p) = BitVec.ofNat 32 n)
    (h0 : 0 < n) (hf7 : (i 1).val = 7)
    (X5 : arg5.view.ty.Contents (Elt F)) (asg : Fin n → Fin 34816) (hinj : Function.Injective asg) (g : S34816x2048.Idx → F .f32)
    (hX5 : ∀ r : Fin n, arg5.view.read (Elt F) X5 (ixS (r.castLE hn)) = BitVec.ofNat 32 (asg r).val) :
    iprop((arg4.view.loc (c : Thread nD τ) ↦[arg4.view.set]{q4} X4)
        ∗ blocks (F := F) c arg6 arg7 arg8 arg9 arg10 arg11 arg12 X6 X7 X8 X9 X10 X11 X12
        ∗ (arg14.view.loc (c : Thread nD τ) ↦[arg14.view.set]{fullShare} X14)
        ∗ weights (F := F) c arg16 arg17 arg18
        ∗ whole (F := F) (locA c) A
        ∗ (arg5.view.loc (c : Thread nD τ) ↦[arg5.view.set]{fullShare} X5)
        ∗ (∃ W, owes (c : Thread nD τ) 0 W) ∗ semVal ((c : Thread nD τ), SemLoc.dma cc0_scratch5.sem) 0
        ∗ whole (F := F) (locY c) g)
      ⊢ wp frame (wpE (defs₀ (F := F)) 𝒱 (c : Thread nD τ) bd) Set.univ
        (cc0_moe_expert_ffn (F := F) i arg2 harg2 arg3 harg3 arg4 harg4 arg5 harg5 arg6 harg6 arg7 harg7 arg8 harg8 arg9 harg9 arg10 harg10 arg11 harg11 arg12 harg12 (Memref.whole main_v130) (Memref.isWhole_whole _) arg14 harg14 (Memref.whole cc0_scratch1) (Memref.isWhole_whole _) arg16 harg16 arg17 harg17 arg18 harg18 cc0_scratch5)
        (fun _ => iprop((arg4.view.loc (c : Thread nD τ) ↦[arg4.view.set]{q4} X4)
        ∗ blocks (F := F) c arg6 arg7 arg8 arg9 arg10 arg11 arg12 X6 X7 X8 X9 X10 X11 X12
        ∗ (arg14.view.loc (c : Thread nD τ) ↦[arg14.view.set]{fullShare} X14)
        ∗ weights (F := F) c arg16 arg17 arg18
        ∗ (arg5.view.loc (c : Thread nD τ) ↦[arg5.view.set]{fullShare} X5)
        ∗ (∃ W, owes (c : Thread nD τ) 0 W) ∗ semVal ((c : Thread nD τ), SemLoc.dma cc0_scratch5.sem) 0
        ∗ ∃ A', whole (F := F) (locA c) A' ∗ whole (F := F) (locY c) (put hn asg A' g)
          ∗ ⌜∀ j : Fin 3, sub A' j = if j.val < nsub n then
              accStep i (k0_pay12 (arg9.view.read (Elt F) X9)) (k0_pay13 (arg10.view.read (Elt F) X10)) (k0_pay9 (arg7.view.read (Elt F) X7)) (k0_pay10 (arg8.view.read (Elt F) X8)) (k0_pay11 (arg11.view.read (Elt F) X11))
                (arg12.view.read (Elt F) X12) (sub (arg14.view.read (Elt F) X14) j) (sub A j)
              else sub A j⌝)) := by
  have hc := conds i
  have k0_h2 : ¬ k0_cond2 i = 1#1 := fun h => by have := hc.1.mp h; omega
  have k0_h7 : k0_cond7 i = 1#1 := hc.2.2.2.mpr hf7
  have plan : Transfers.InterleavedWaits (c : Thread nD τ) (SemLoc.dma (sig := sig) cc0_scratch5.sem) := by trivial
  have h34 : k0_cond4 i = 1#1 ↔ ¬ k0_cond3 i = 1#1 := hc.2.2.1.trans (not_congr hc.2.1).symm
  have k0_h1 := cond1_of_pos h0 hn
  have k0_hw1 := chk1_of hn i
  rw [show whole (F := F) (locA c) A = (locA c ↦[Finset.univ]{fullShare} A : sProp 𝕄) from rfl]
  unfold blocks weights
  iintro ⟨H4, ⟨H6, H7, H8, H9, H10, H11, H12⟩, H14, ⟨⟨%f16, H16⟩, ⟨%f17, H17⟩, ⟨%f18, H18⟩⟩, H15, H5, ⟨%W, HO⟩, Hcell, HY⟩
  sl_unfold [cc0_moe_expert_ffn]
  sl_exec
  have hr : body_last.sl.r (F := F) i arg4 X4 = BitVec.ofNat 32 n := hw _
  generalize body_last.sl.r (F := F) i arg4 X4 = v1 at hr ⊢
  subst hr
  sl_exec
  sl_for (accInv (F := F) c i arg12 arg14 (Memref.whole cc0_scratch1) arg16 arg17 arg18 (body_last.sl.r_1 arg9 X9) (body_last.sl.r_2 arg10 X10) X12 X14 (arg16.view.writes (Elt F) arg16.view.junk (body_last.sl.H16_1 arg7 X7)) (arg17.view.writes (Elt F) arg17.view.junk (body_last.sl.H17_1 arg8 X8)) (arg18.view.writes (Elt F) arg18.view.junk (body_last.sl.H18_1 arg11 X11)) A) $$ [H12 H14 H16 H17 H18 H15]
  · intro k acc
    exact acc_step (F := F) c 𝒱 bd Set.univ i arg2 harg2 arg3 harg3 arg4 harg4 arg5 harg5 arg6 harg6 arg7 harg7 arg8 harg8 arg9 harg9 arg10 harg10 arg11 harg11 arg12 harg12 (Memref.whole main_v130) (Memref.isWhole_whole _) arg14 harg14 (Memref.whole cc0_scratch1) (Memref.isWhole_whole _) arg16 harg16 arg17 harg17 arg18 harg18 cc0_scratch5 _ hn k0_hw1 k0_h1 _ _ X12 X14 _ _ _ A h34 k acc
  · unfold accInv
    iframe
    iexists A
    isplitl [H15]; · rw [View.set_whole]; iexact H15
    ipureintro
    intro j
    rw [if_neg (Nat.not_lt_zero _)]; rfl
  iintro %acc HI
  unfold body_last.sl.r_1 body_last.sl.r_2 body_last.sl.H16_1 body_last.sl.H17_1 body_last.sl.H18_1
  ihave HI' := (acc_done (F := F) c i arg9 arg10 arg12 arg14 arg16 arg17 arg18 hn X9 X10 X12 X14 _ _ _ A (View.readAt_full arg9.view X9 _) (View.readAt_full arg10.view X10 _)
    ((View.read_writes_full arg16.view _ _ _ []).trans (congrArg k0_pay9 (View.readAt_full arg7.view X7 _)))
    ((View.read_writes_full arg17.view _ _ _ []).trans (congrArg k0_pay10 (View.readAt_full arg8.view X8 _)))
    ((View.read_writes_full arg18.view _ _ _ []).trans (congrArg k0_pay11 (View.readAt_full arg11.view X11 _))) acc) $$ HI
  icases HI' with ⟨H12, H14, Hw, %A', H15, %hA'⟩
  imod (Transfers.batch_alloc' (Lvl := ℕ) (countersEmb (U := Pipeline.UD sig nD τ)) (c : Thread nD τ) () rowN (land (F := F) c hn asg A' g) (sm := .dma cc0_scratch5.sem) (E := Set.univ)) $$ Hcell with HB
  ihave HY' := ((split_family (F := F) (famY c asg) (famY_disj c asg hinj) g).1) $$ HY
  ihave HA' := ((split_family (F := F) (famA c hn) (famA_disj c hn) A').1) $$ H15
  icases HY' with ⟨HYs, HYr⟩
  icases HA' with ⟨HAs, HAr⟩
  rw [← Ring.rangeSet_univ]
  sl_exec
  sl_for (issueInv (F := F) c arg5 hn asg A' g X5) $$ [H5 HO HB HYs HAs]
  · intro k acc
    exact issue_step (F := F) c 𝒱 bd i arg2 harg2 arg3 harg3 arg4 harg4 arg5 harg5 arg6 harg6 arg7 harg7 arg8 harg8 arg9 harg9 arg10 harg10 arg11 harg11 arg12 harg12 arg14 harg14 arg16 harg16 arg17 harg17 arg18 harg18 hn k0_hw1 k0_h1 k0_h7 asg hinj A' g X5 hX5 plan k acc
  · unfold issueInv
    isplitl [H5]; · iexact H5
    isplitl [HO]; · iexists _; iexact HO
    isplitl [HB]; · rw [Nat.zero_sub, Nat.zero_mul]; iexact HB
    isplitl [HYs]; · iexact HYs
    iexact HAs
  iintro %acc5 HI
  unfold issueInv
  icases HI with ⟨H5, ⟨%W5, HO⟩, HB, -, -⟩
  have ht5 : Scf.trips (k0_t5_loop (BitVec.ofNat 32 n)).lb (k0_t5_loop (BitVec.ofNat 32 n)).ub (k0_t5_loop (BitVec.ofNat 32 n)).st = n := t5_trips hn
  have ht7 : Scf.trips (k0_t7_loop (BitVec.ofNat 32 n)).lb (k0_t7_loop (BitVec.ofNat 32 n)).ub (k0_t7_loop (BitVec.ofNat 32 n)).st = min n 16 := t7_trips hn
  rw [ht5]
  sl_exec
  sl_for (drainInv (F := F) c hn asg A' g) $$ [HO HB]
  · intro k acc
    exact drain_step (F := F) c 𝒱 bd i arg2 harg2 arg3 harg3 arg4 harg4 arg5 harg5 arg6 harg6 arg7 harg7 arg8 harg8 arg9 harg9 arg10 harg10 arg11 harg11 arg12 harg12 arg14 harg14 arg16 harg16 arg17 harg17 arg18 harg18 hn k0_hw1 k0_h1 k0_h7 asg A' g plan k acc
  · unfold drainInv
    isplitl [HO]; · iexists _; iexact HO
    iexact HB
  iintro %acc7 HI
  unfold drainInv
  icases HI with ⟨⟨%W7, HO⟩, HB⟩
  rw [ht7, show (n - 16 + min n 16) * rowN = rowN * n by simp only [rowN]; omega]
  imod (Transfers.batch_collect' (countersEmb (U := Pipeline.UD sig nD τ)) (c : Thread nD τ) (N := rowN) (by decide) (D := land (F := F) c hn asg A' g)) $$ HB with ⟨Hall, Hcell⟩
  ihave HJ := (join_land (F := F) c hn asg hinj A' g) $$ [Hall HYr HAr]
  · isplitl [Hall]; · iexact Hall
    isplitl [HYr]; · iexact HYr
    iexact HAr
  icases HJ with ⟨HY, H15⟩
  sl_exec
  sl_step
  isplitl [H4]; · iexact H4
  isplitl [H6 H7 H8 H9 H10 H11 H12]
  · iframe
  isplitl [H14]; · iexact H14
  isplitl [Hw]; · unfold weights; iexact Hw
  isplitl [H5]; · iexact H5
  isplitl [HO]; · iexists _; iexact HO
  isplitl [Hcell]; · iexact Hcell
  iexists A'
  isplitl [H15]; · iexact H15
  isplitl [HY]; · iexact HY
  ipureintro; exact hA'

end Cert.Proof.Expert
-- ==== Proof.Point.lean ====
/- One grid point of any kind, in one statement. -/
module

public import proofs.«01_k».proof.Proof.Body

@[expose] public section

noncomputable section

namespace Cert.Proof.Expert

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The array whose sub-blocks are `B`. -/
def join {α : Type} (B : Fin 3 → S384x2048.Idx → α) : S1152x2048.Idx → α := fun x =>
  B ⟨(x (0 : Fin 2)).val / 384, by have h : (x (0 : Fin 2)).val < 1152 := (x (0 : Fin 2)).isLt; omega⟩
    (fun a => match a with
      | 0 => (⟨(x (0 : Fin 2)).val % 384, Nat.mod_lt _ (by decide)⟩ : Fin 384)
      | 1 => (⟨(x (1 : Fin 2)).val, (x (1 : Fin 2)).isLt⟩ : Fin 2048))

theorem sub_at {α : Type} (X : S1152x2048.Idx → α) (x : S1152x2048.Idx) : join (sub X) x = X x := by
  unfold join sub
  congr 1
  funext a
  have h : (x (0 : Fin 2)).val < 1152 := (x (0 : Fin 2)).isLt
  fin_cases a
  · refine Fin.ext ((subIx_val0 _ _).trans ?_)
    show 384 * ((x (0 : Fin 2)).val / 384) + (x (0 : Fin 2)).val % 384 = (x (0 : Fin 2)).val
    omega
  · exact Fin.ext (subIx_val1 _ _)

/-- What is scattered is read off the sub-blocks in use. -/
theorem put_join {α : Type} {n : ℕ} (hn : n ≤ 1152) (asg : Fin n → Fin 34816) (A : S1152x2048.Idx → α) (B : Fin 3 → S384x2048.Idx → α)
    (g : S34816x2048.Idx → α) (h : ∀ j : Fin 3, j.val < nsub n → sub A j = B j) : put hn asg A g = put hn asg (join B) g := by
  funext x
  unfold put
  split
  · rename_i hx
    have hr := hx.choose.isLt
    generalize hx.choose = r at hr ⊢
    rw [← sub_at A]
    unfold join
    rw [h]
    show r.val / 384 < nsub n
    unfold nsub; omega
  · rfl

variable (c : Dev nD) (𝒱 : Variants) (bd : Option 𝒱.V) (i : grid0.Coords)
  (arg2 : Memref sig .tc .smem S62 .i32) (harg2 : arg2.IsWhole) (arg3 : Memref sig .tc .smem S62 .i32) (harg3 : arg3.IsWhole) (arg4 : Memref sig .tc .smem S62 .i32) (harg4 : arg4.IsWhole) (arg5 : Memref sig .tc .smem S1x1x1152 .i32) (harg5 : arg5.IsWhole) (arg6 : Memref sig .tc .vmem S1152x2048 .f32) (harg6 : arg6.IsWhole) (arg7 : Memref sig .tc .vmem S1x2048x256 .f32) (harg7 : arg7.IsWhole) (arg8 : Memref sig .tc .vmem S1x2048x256 .f32) (harg8 : arg8.IsWhole) (arg9 : Memref sig .tc .vmem S1x1x256 .f32) (harg9 : arg9.IsWhole) (arg10 : Memref sig .tc .vmem S1x1x256 .f32) (harg10 : arg10.IsWhole) (arg11 : Memref sig .tc .vmem S1x256x2048 .f32) (harg11 : arg11.IsWhole) (arg12 : Memref sig .tc .vmem S1x1x2048 .f32) (harg12 : arg12.IsWhole) (arg14 : Memref sig .tc .vmem S1152x2048 .bf16) (harg14 : arg14.IsWhole) (arg16 : Memref sig .tc .vmem S2048x256 .bf16) (harg16 : arg16.IsWhole) (arg17 : Memref sig .tc .vmem S2048x256 .bf16) (harg17 : arg17.IsWhole) (arg18 : Memref sig .tc .vmem S256x2048 .bf16) (harg18 : arg18.IsWhole)
  {n : ℕ} (hn : n ≤ 1152)

theorem accStep_first (hf0 : (i 1).val = 0) (v46 v48 : FVec F S1x256 .f32) (wg wu : Vec F S2048x256 .bf16) (wd : Vec F S256x2048 .bf16)
    (b : Vec F S1x1x2048 .f32) (xb : Vec F S384x2048 .bf16) (old old' : Vec F S384x2048 .f32) :
    accStep i v46 v48 wg wu wd b xb old = accStep i v46 v48 wg wu wd b xb old' := by
  unfold accStep
  rw [if_pos ((conds i).2.1.mpr hf0), if_pos ((conds i).2.1.mpr hf0)]

theorem body_idle (X4 : arg4.view.ty.Contents (Elt F)) (q4 : PosShare TreeShare)
    (hw : ∀ p, arg4.view.readAt (Elt F) (Rect.unit (s := S62) (k0_off1 i) S1.size (k0_off1_inb i)).toLoadRect X4 (Shape.Idx.first p) = BitVec.ofNat 32 0) :
    (arg4.view.loc (c : Thread nD τ) ↦[arg4.view.set]{q4} X4 : sProp 𝕄)
      ⊢ wp frame (wpE (defs₀ (F := F)) 𝒱 (c : Thread nD τ) bd) Set.univ
        (cc0_moe_expert_ffn (F := F) i arg2 harg2 arg3 harg3 arg4 harg4 arg5 harg5 arg6 harg6 arg7 harg7 arg8 harg8 arg9 harg9 arg10 harg10 arg11 harg11 arg12 harg12 (Memref.whole main_v130) (Memref.isWhole_whole _) arg14 harg14 (Memref.whole cc0_scratch1) (Memref.isWhole_whole _) arg16 harg16 arg17 harg17 arg18 harg18 cc0_scratch5)
        (fun _ => (arg4.view.loc (c : Thread nD τ) ↦[arg4.view.set]{q4} X4 : sProp 𝕄)) := by
  have k0_h1 := cond1_zero
  have k0_hw1 := chk1_of (Nat.zero_le 1152) i
  iintro H4
  sl_unfold [cc0_moe_expert_ffn]
  sl_exec
  have hr : body_idle.sl.r (F := F) i arg4 X4 = BitVec.ofNat 32 0 := hw _
  generalize body_idle.sl.r (F := F) i arg4 X4 = v1 at hr ⊢
  subst hr
  sl_exec
  sl_step
  iexact H4

theorem body_point (X4 : arg4.view.ty.Contents (Elt F)) (q4 : PosShare TreeShare)
    (X6 : arg6.view.ty.Contents (Elt F)) (X7 : arg7.view.ty.Contents (Elt F)) (X8 : arg8.view.ty.Contents (Elt F)) (X9 : arg9.view.ty.Contents (Elt F))
    (X10 : arg10.view.ty.Contents (Elt F)) (X11 : arg11.view.ty.Contents (Elt F)) (X12 : arg12.view.ty.Contents (Elt F))
    (hw : ∀ p, arg4.view.readAt (Elt F) (Rect.unit (s := S62) (k0_off1 i) S1.size (k0_off1_inb i)).toLoadRect X4 (Shape.Idx.first p) = BitVec.ofNat 32 n)
    (X5 : arg5.view.ty.Contents (Elt F)) (asg : Fin n → Fin 34816) (hinj : Function.Injective asg) (g : S34816x2048.Idx → F .f32)
    (hX5 : ∀ r : Fin n, arg5.view.read (Elt F) X5 (ixS (r.castLE hn)) = BitVec.ofNat 32 (asg r).val)
    (old : Fin 3 → Vec F S384x2048 .f32) :
    iprop((arg4.view.loc (c : Thread nD τ) ↦[arg4.view.set]{q4} X4)
        ∗ blocks (F := F) c arg6 arg7 arg8 arg9 arg10 arg11 arg12 X6 X7 X8 X9 X10 X11 X12
        ∗ (∃ X14, (arg14.view.loc (c : Thread nD τ) ↦[arg14.view.set]{fullShare} X14)
            ∗ ⌜¬ (i 1).val = 0 → ∀ j : Fin 3, j.val < nsub n → sub (arg14.view.read (Elt F) X14) j = k0_pay7 (sub (arg6.view.read (Elt F) X6) j)⌝)
        ∗ weights (F := F) c arg16 arg17 arg18
        ∗ (∃ A, whole (F := F) (locA c) A ∗ ⌜¬ (i 1).val = 0 → ∀ j : Fin 3, j.val < nsub n → sub A j = old j⌝)
        ∗ (arg5.view.loc (c : Thread nD τ) ↦[arg5.view.set]{fullShare} X5)
        ∗ (∃ W, owes (c : Thread nD τ) 0 W) ∗ semVal ((c : Thread nD τ), SemLoc.dma cc0_scratch5.sem) 0
        ∗ whole (F := F) (locY c) g)
      ⊢ wp frame (wpE (defs₀ (F := F)) 𝒱 (c : Thread nD τ) bd) Set.univ
        (cc0_moe_expert_ffn (F := F) i arg2 harg2 arg3 harg3 arg4 harg4 arg5 harg5 arg6 harg6 arg7 harg7 arg8 harg8 arg9 harg9 arg10 harg10 arg11 harg11 arg12 harg12 (Memref.whole main_v130) (Memref.isWhole_whole _) arg14 harg14 (Memref.whole cc0_scratch1) (Memref.isWhole_whole _) arg16 harg16 arg17 harg17 arg18 harg18 cc0_scratch5)
        (fun _ => iprop((arg4.view.loc (c : Thread nD τ) ↦[arg4.view.set]{q4} X4)
        ∗ blocks (F := F) c arg6 arg7 arg8 arg9 arg10 arg11 arg12 X6 X7 X8 X9 X10 X11 X12
        ∗ (∃ X14, (arg14.view.loc (c : Thread nD τ) ↦[arg14.view.set]{fullShare} X14)
            ∗ ⌜∀ j : Fin 3, j.val < nsub n → sub (arg14.view.read (Elt F) X14) j = k0_pay7 (sub (arg6.view.read (Elt F) X6) j)⌝)
        ∗ weights (F := F) c arg16 arg17 arg18
        ∗ (∃ A, whole (F := F) (locA c) A ∗ ⌜∀ j : Fin 3, j.val < nsub n → sub A j = accStep i (k0_pay12 (arg9.view.read (Elt F) X9)) (k0_pay13 (arg10.view.read (Elt F) X10)) (k0_pay9 (arg7.view.read (Elt F) X7)) (k0_pay10 (arg8.view.read (Elt F) X8)) (k0_pay11 (arg11.view.read (Elt F) X11)) (arg12.view.read (Elt F) X12) (k0_pay7 (sub (arg6.view.read (Elt F) X6) j)) (old j)⌝)
        ∗ (arg5.view.loc (c : Thread nD τ) ↦[arg5.view.set]{fullShare} X5)
        ∗ (∃ W, owes (c : Thread nD τ) 0 W) ∗ semVal ((c : Thread nD τ), SemLoc.dma cc0_scratch5.sem) 0
        ∗ whole (F := F) (locY c) (if (i 1).val = 7 then put hn asg (join fun j => accStep i (k0_pay12 (arg9.view.read (Elt F) X9)) (k0_pay13 (arg10.view.read (Elt F) X10)) (k0_pay9 (arg7.view.read (Elt F) X7)) (k0_pay10 (arg8.view.read (Elt F) X8)) (k0_pay11 (arg11.view.read (Elt F) X11)) (arg12.view.read (Elt F) X12) (k0_pay7 (sub (arg6.view.read (Elt F) X6) j)) (old j)) g else g))) := by
  rcases Nat.eq_zero_or_pos n with h0 | h0
  · subst h0
    have hy : (if (i 1).val = 7 then put hn asg (join fun j => accStep i (k0_pay12 (arg9.view.read (Elt F) X9)) (k0_pay13 (arg10.view.read (Elt F) X10)) (k0_pay9 (arg7.view.read (Elt F) X7)) (k0_pay10 (arg8.view.read (Elt F) X8)) (k0_pay11 (arg11.view.read (Elt F) X11)) (arg12.view.read (Elt F) X12) (k0_pay7 (sub (arg6.view.read (Elt F) X6) j)) (old j)) g else g) = g := by
      split
      · funext x; exact put_rest hn asg _ g x (fun r => r.elim0)
      · rfl
    rw [hy]
    have hz : ∀ j : Fin 3, ¬ j.val < nsub 0 := fun j h => absurd h (by unfold nsub; omega)
    iintro ⟨H4, Hb, ⟨%X14, H14, -⟩, Hw, ⟨%A, HA, -⟩, Hr⟩
    iapply (wp_wand frame (wpE (defs₀ (F := F)) 𝒱 (c : Thread nD τ) bd) Set.univ) $$ [H4]
    · iapply (body_idle (F := F) c 𝒱 bd i arg2 harg2 arg3 harg3 arg4 harg4 arg5 harg5 arg6 harg6 arg7 harg7 arg8 harg8 arg9 harg9 arg10 harg10 arg11 harg11 arg12 harg12 arg14 harg14 arg16 harg16 arg17 harg17 arg18 harg18 X4 q4 hw); iexact H4
    iintro %u H4
    iframe
    isplitl [H14]
    · iexists X14; iframe; ipureintro; exact fun j h => absurd h (hz j)
    iexists A; iframe; ipureintro; exact fun j h => absurd h (hz j)
  by_cases hf0 : (i 1).val = 0
  · have hf7 : ¬ (i 1).val = 7 := by omega
    rw [if_neg hf7]
    iintro ⟨H4, Hb, ⟨%X14, H14, -⟩, Hw, ⟨%A, HA, -⟩, Hr⟩
    iapply (wp_wand frame (wpE (defs₀ (F := F)) 𝒱 (c : Thread nD τ) bd) Set.univ) $$ [H4 Hb H14 Hw HA]
    · iapply (body_first (F := F) c 𝒱 bd i arg2 harg2 arg3 harg3 arg4 harg4 arg5 harg5 arg6 harg6 arg7 harg7 arg8 harg8 arg9 harg9 arg10 harg10 arg11 harg11 arg12 harg12 arg14 harg14 arg16 harg16 arg17 harg17 arg18 harg18 hn X4 q4 X6 X7 X8 X9 X10 X11 X12 X14 A hw h0 hf0)
      iframe
    iintro %u ⟨H4, Hb, ⟨%f, H14, %hf⟩, Hw, %A', HA, %hA⟩
    iframe
    isplitl [H14]
    · iexists f; iframe; ipureintro; exact hf
    iexists A'; iframe; ipureintro
    intro j hj
    rw [hA j, if_pos hj]
    exact accStep_first i hf0 _ _ _ _ _ _ _ _ _
  by_cases hf7 : (i 1).val = 7
  · rw [if_pos hf7]
    iintro ⟨H4, Hb, ⟨%X14, H14, %hx⟩, Hw, ⟨%A, HA, %ha⟩, Hr⟩
    iapply (wp_wand frame (wpE (defs₀ (F := F)) 𝒱 (c : Thread nD τ) bd) Set.univ) $$ [H4 Hb H14 Hw HA Hr]
    · iapply (body_last (F := F) c 𝒱 bd i arg2 harg2 arg3 harg3 arg4 harg4 arg5 harg5 arg6 harg6 arg7 harg7 arg8 harg8 arg9 harg9 arg10 harg10 arg11 harg11 arg12 harg12 arg14 harg14 arg16 harg16 arg17 harg17 arg18 harg18 hn X4 q4 X6 X7 X8 X9 X10 X11 X12 X14 A hw h0 hf7 X5 asg hinj g hX5)
      iframe
    iintro %u ⟨H4, Hb, H14, Hw, H5, HO, Hc, %A', HA, HY, %hA⟩
    have hn' : ∀ j : Fin 3, j.val < nsub n → sub A' j = accStep i (k0_pay12 (arg9.view.read (Elt F) X9)) (k0_pay13 (arg10.view.read (Elt F) X10)) (k0_pay9 (arg7.view.read (Elt F) X7)) (k0_pay10 (arg8.view.read (Elt F) X8)) (k0_pay11 (arg11.view.read (Elt F) X11)) (arg12.view.read (Elt F) X12) (k0_pay7 (sub (arg6.view.read (Elt F) X6) j)) (old j) := fun j hj => by
      rw [hA j, if_pos hj, hx hf0 j hj, ha hf0 j hj]
    rw [put_join hn asg A' _ g hn']
    iframe
    isplitl [H14]
    · iexists X14; iframe; ipureintro; exact hx hf0
    iexists A'; iframe; ipureintro
    exact hn'
  · rw [if_neg hf7]
    iintro ⟨H4, Hb, ⟨%X14, H14, %hx⟩, Hw, ⟨%A, HA, %ha⟩, Hr⟩
    iapply (wp_wand frame (wpE (defs₀ (F := F)) 𝒱 (c : Thread nD τ) bd) Set.univ) $$ [H4 Hb H14 Hw HA]
    · iapply (body_mid (F := F) c 𝒱 bd i arg2 harg2 arg3 harg3 arg4 harg4 arg5 harg5 arg6 harg6 arg7 harg7 arg8 harg8 arg9 harg9 arg10 harg10 arg11 harg11 arg12 harg12 arg14 harg14 arg16 harg16 arg17 harg17 arg18 harg18 hn X4 q4 X6 X7 X8 X9 X10 X11 X12 X14 A hw h0 hf0 hf7)
      iframe
    iintro %u ⟨H4, Hb, H14, Hw, %A', HA, %hA⟩
    iframe
    isplitl [H14]
    · iexists X14; iframe; ipureintro; exact hx hf0
    iexists A'; iframe; ipureintro
    intro j hj
    rw [hA j, if_pos hj, hx hf0 j hj, ha hf0 j hj]

end Cert.Proof.Expert
-- ==== Proof.Tables.lean ====
/- What the launch needs of the tables, and where its windows then lie. -/
module

public import proofs.«01_k».proof.Proof.Gen.KernelIdeal.Launch
public import Idealize.ShloMosaic.Lib.WordCmp

@[expose] public section

noncomputable section

namespace Cert.Proof.Expert

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.Sem

variable {F : FTy → Type} [FloatOps F]

/-- Item `s`, and row `r` of item `s`, as indices of the tables. -/
def ix1 (s : Fin 62) : S62.Idx := fun a => match a with | 0 => s
def ix2 (s : Fin 62) (r : Fin 1152) : S62x1152.Idx := fun a => match a with | 0 => s | 1 => r

/-- The tables name experts, blocks of rows and assignments in range, and no item lists an assignment twice. -/
structure Tables (e a n : IVec S62 32) (asg : IVec S62x1152 32) : Prop where
  e_lt : ∀ s, (e (ix1 s)).toNat < 32
  a_le : ∀ s, (a (ix1 s)).toNat ≤ 4464
  n_le : ∀ s, (n (ix1 s)).toNat ≤ 1152
  asg_lt : ∀ s r, (asg (ix2 s r)).toNat < 34816
  inj : ∀ s (r r' : Fin 1152), r.val < (n (ix1 s)).toNat → r'.val < (n (ix1 s)).toNat → asg (ix2 s r) = asg (ix2 s r') → r = r'

theorem and_one {p q : Bool} (h : IntOp.andi (BitVec.ofBool p) (BitVec.ofBool q) = 1#1) : p = true ∧ q = true := by
  revert h; cases p <;> cases q <;> decide

theorem lt_of {x : BitVec 32} {k : ℕ} (hk : k < 2 ^ 31) (h : IntOp.andi (IntOp.cmpi .sge x 0#32) (IntOp.cmpi .slt x (BitVec.ofNat 32 k)) = 1#1) :
    x.toNat < k := by
  obtain ⟨h0, h1⟩ := and_one h
  have h0' : (0#32 : BitVec 32).toInt ≤ x.toInt := of_decide_eq_true h0
  have h1' : x.toInt < (BitVec.ofNat 32 k).toInt := of_decide_eq_true h1
  rw [WordCmp.toInt_eq_toNat_of_lt_half (x := BitVec.ofNat 32 k) (by rw [BitVec.toNat_ofNat]; omega), BitVec.toNat_ofNat, Nat.mod_eq_of_lt (by omega : k < 2 ^ 32)] at h1'
  rw [show (0#32 : BitVec 32).toInt = 0 from rfl] at h0'
  rw [BitVec.toInt_eq_toNat_cond] at h0' h1'
  have := x.isLt
  split at h0' <;> omega

theorem le_of {x : BitVec 32} {k : ℕ} (hk : k < 2 ^ 31) (h : IntOp.andi (IntOp.cmpi .sge x 0#32) (IntOp.cmpi .sle x (BitVec.ofNat 32 k)) = 1#1) :
    x.toNat ≤ k := by
  obtain ⟨h0, h1⟩ := and_one h
  have h0' : (0#32 : BitVec 32).toInt ≤ x.toInt := of_decide_eq_true h0
  have h1' : x.toInt ≤ (BitVec.ofNat 32 k).toInt := of_decide_eq_true h1
  rw [WordCmp.toInt_eq_toNat_of_lt_half (x := BitVec.ofNat 32 k) (by rw [BitVec.toNat_ofNat]; omega), BitVec.toNat_ofNat, Nat.mod_eq_of_lt (by omega : k < 2 ^ 32)] at h1'
  rw [show (0#32 : BitVec 32).toInt = 0 from rfl] at h0'
  rw [BitVec.toInt_eq_toNat_cond] at h0' h1'
  have := x.isLt
  split at h0' <;> omega

/-! ## The windows' offsets -/

variable (pf : pre0.Contents (Elt F)) (i : grid0.Coords)

/-- The item and the column step of a point; an item's expert, its first block of rows, and its number of rows. -/
def item (i : grid0.Coords) : Fin 62 := i 0
def step (i : grid0.Coords) : ℕ := (i 1).val
def tE (s : Fin 62) : BitVec 32 := pf 0 (ix1 s)
def tA (s : Fin 62) : BitVec 32 := pf 1 (ix1 s)
def tN (s : Fin 62) : BitVec 32 := pf 2 (ix1 s)

theorem at_ix : (Rect.unit (s := S62) ![(Scalar.indexCast (BitVec.ofNat 32 (i 0).val)).toNat] S1.size (k0_off1_inb i)).emb
    (Shape.Idx.first (numel1_S1.symm ▸ Nat.one_pos)) = ix1 (item i) := by
  funext b
  fin_cases b
  refine Fin.ext ?_
  show (BitVec.ofNat 32 (i 0).val).toNat + 1 * 0 = (i 0).val
  have : (i 0).val < 62 := (i 0).isLt
  rw [BitVec.toNat_ofNat, Nat.mod_eq_of_lt (by omega)]
  omega

/-- The column block an item's step reads: the step's, or the last where the item is empty. -/
def tileOf (n : BitVec 32) (f : ℕ) : BitVec 32 := Scalar.select (Scalar.cmpi .sgt n 0#32) (BitVec.ofNat 32 f) 7#32

theorem tileOf_lt (n : BitVec 32) (f : ℕ) (hf : f < 8) : (tileOf n f).toNat < 8 := by
  rcases BitVec.eq_zero_or_eq_one (Scalar.cmpi .sgt n 0#32) with h | h
  · rw [tileOf, WordCmp.select_of_eq_zero h]; decide
  · rw [tileOf, WordCmp.select_of_eq_one h, BitVec.toNat_ofNat]; omega

theorem tileOf_pos {n : ℕ} (h0 : 0 < n) (hn : n ≤ 1152) (f : ℕ) (hf : f < 8) : (tileOf (BitVec.ofNat 32 n) f).toNat = f := by
  rw [tileOf, WordCmp.select_of_eq_one, BitVec.toNat_ofNat]
  · omega
  · exact (WordCmp.cmpi_sgt_ofNat_eq_one_iff (w := 32) (a := n) (b := 0) (by omega) (by omega)).mpr h0

theorem transform_1_eq : cc0_transform_1 k0_off1_inb numel1_S1 pf i = ![(IntOp.muli (tA pf (item i)) 8#32).toNat, 0] := by
  simp only [tE, tA, tN]; rw [← at_ix i]; rfl
theorem transform_2_eq : cc0_transform_2 k0_off1_inb numel1_S1 pf i =
    ![(tE pf (item i)).toNat, 0, (tileOf (tN pf (item i)) (step i)).toNat] := by simp only [tE, tA, tN]; rw [← at_ix i]; rfl
theorem transform_3_eq : cc0_transform_3 k0_off1_inb numel1_S1 pf i =
    ![(tE pf (item i)).toNat, 0, (IntOp.addi 8#32 (tileOf (tN pf (item i)) (step i))).toNat] := by simp only [tE, tA, tN]; rw [← at_ix i]; rfl
theorem transform_4_eq : cc0_transform_4 k0_off1_inb numel1_S1 pf i =
    ![(tE pf (item i)).toNat, 0, (tileOf (tN pf (item i)) (step i)).toNat] := by simp only [tE, tA, tN]; rw [← at_ix i]; rfl
theorem transform_5_eq : cc0_transform_5 k0_off1_inb numel1_S1 pf i =
    ![(tE pf (item i)).toNat, 0, (IntOp.addi 8#32 (tileOf (tN pf (item i)) (step i))).toNat] := by simp only [tE, tA, tN]; rw [← at_ix i]; rfl
theorem transform_6_eq : cc0_transform_6 k0_off1_inb numel1_S1 pf i =
    ![(tE pf (item i)).toNat, (tileOf (tN pf (item i)) (step i)).toNat, 0] := by simp only [tE, tA, tN]; rw [← at_ix i]; rfl
theorem transform_7_eq : cc0_transform_7 k0_off1_inb numel1_S1 pf i = ![(tE pf (item i)).toNat, 0, 0] := by simp only [tE, tA, tN]; rw [← at_ix i]; rfl

theorem mult1_eq : k0_mult1 pf i = IntOp.muli (tA pf (item i)) 8#32 := by
  unfold tA
  have h : ∀ a, (![(Scalar.indexCast (BitVec.ofNat 32 (i 0).val)).toNat] : Fin 1 → ℕ) a + 1 ≤ S62.size a := by
    intro a; fin_cases a
    show (BitVec.ofNat 32 (i 0).val).toNat + 1 ≤ 62
    have : (i 0).val < 62 := (i 0).isLt
    rw [BitVec.toNat_ofNat, Nat.mod_eq_of_lt (by omega)]
    omega
  unfold k0_mult1
  dsimp only
  refine congrArg (fun z => IntOp.muli z 8#32) ((dif_pos h).trans (congrArg (pf 1) ?_))
  funext b; fin_cases b
  refine Fin.ext ?_
  show (BitVec.ofNat 32 (i 0).val).toNat = (i 0).val
  have : (i 0).val < 62 := (i 0).isLt
  rw [BitVec.toNat_ofNat, Nat.mod_eq_of_lt (by omega)]

theorem add8_lt {x : BitVec 32} (h : x.toNat < 8) : (IntOp.addi 8#32 x).toNat = 8 + x.toNat := by
  show (8#32 + x).toNat = _
  rw [BitVec.toNat_add, show (8#32 : BitVec 32).toNat = 8 from rfl]; omega

theorem mul8_toNat {x : BitVec 32} (h : x.toNat ≤ 4464) : (IntOp.muli x 8#32).toNat = x.toNat * 8 := by
  show (x * 8#32).toNat = _
  rw [BitVec.toNat_mul, show (8#32 : BitVec 32).toNat = 8 from rfl]; omega

/-- The tables in range, every block the windows fetch is inside its array. -/
theorem ok0_of (he : ∀ s, (tE pf s).toNat < 32) (ha : ∀ s, (tA pf s).toNat ≤ 4464) : ok0 pf := by
  have hf : ∀ i : grid0.Coords, step i < 8 := fun i => (i 1).isLt
  refine ⟨fun i => ?_, fun i => ⟨?_, .inl rfl⟩, fun i => ⟨?_, .inl rfl⟩, fun i => ⟨?_, .inl rfl⟩, fun i => ⟨?_, .inl rfl⟩, fun i => ⟨?_, .inl rfl⟩,
    fun i => ⟨?_, .inl rfl⟩, fun i => ⟨?_, .inl rfl⟩⟩
  · rw [mult1_eq, WordCmp.toInt_eq_toNat_of_lt_half (by rw [mul8_toNat (ha _)]; have := ha (item i); omega), mul8_toNat (ha _)]
    exact ⟨_, by push_cast; exact mul_comm _ _⟩
  · rw [transform_1_eq, mul8_toNat (ha _)]
    intro b; fin_cases b
    · show (tA pf (item i)).toNat * 8 + 1152 ≤ 36864; have := ha (item i); omega
    · show 0 + 2048 ≤ 2048; omega
  · rw [transform_2_eq]
    intro b; fin_cases b
    · show ((tE pf (item i)).toNat + 1) * 1 ≤ 32; have := he (item i); omega
    · show (0 + 1) * 2048 ≤ 2048; omega
    · show ((tileOf (tN pf (item i)) (step i)).toNat + 1) * 256 ≤ 4096; have := tileOf_lt (tN pf (item i)) _ (hf i); omega
  · rw [transform_3_eq, add8_lt (tileOf_lt _ _ (hf i))]
    intro b; fin_cases b
    · show ((tE pf (item i)).toNat + 1) * 1 ≤ 32; have := he (item i); omega
    · show (0 + 1) * 2048 ≤ 2048; omega
    · show (8 + (tileOf (tN pf (item i)) (step i)).toNat + 1) * 256 ≤ 4096; have := tileOf_lt (tN pf (item i)) _ (hf i); omega
  · rw [transform_4_eq]
    intro b; fin_cases b
    · show ((tE pf (item i)).toNat + 1) * 1 ≤ 32; have := he (item i); omega
    · show (0 + 1) * 1 ≤ 1; omega
    · show ((tileOf (tN pf (item i)) (step i)).toNat + 1) * 256 ≤ 4096; have := tileOf_lt (tN pf (item i)) _ (hf i); omega
  · rw [transform_5_eq, add8_lt (tileOf_lt _ _ (hf i))]
    intro b; fin_cases b
    · show ((tE pf (item i)).toNat + 1) * 1 ≤ 32; have := he (item i); omega
    · show (0 + 1) * 1 ≤ 1; omega
    · show (8 + (tileOf (tN pf (item i)) (step i)).toNat + 1) * 256 ≤ 4096; have := tileOf_lt (tN pf (item i)) _ (hf i); omega
  · rw [transform_6_eq]
    intro b; fin_cases b
    · show ((tE pf (item i)).toNat + 1) * 1 ≤ 32; have := he (item i); omega
    · show ((tileOf (tN pf (item i)) (step i)).toNat + 1) * 256 ≤ 2048; have := tileOf_lt (tN pf (item i)) _ (hf i); omega
    · show (0 + 1) * 2048 ≤ 2048; omega
  · rw [transform_7_eq]
    intro b; fin_cases b
    · show ((tE pf (item i)).toNat + 1) * 1 ≤ 32; have := he (item i); omega
    · show (0 + 1) * 1 ≤ 1; omega
    · show (0 + 1) * 2048 ≤ 2048; omega

end Cert.Proof.Expert
-- ==== Proof.Data.lean ====
/- What each grid point reads, and what the accumulator and the result hold after it. -/
module

public import proofs.«01_k».proof.Proof.Point
public import proofs.«01_k».proof.Proof.Tables

@[expose] public section

noncomputable section

namespace Cert.Proof.Expert

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

/-! ## Points -/

theorem coord_vals : ∀ t : Fin 496, (grid0.coords t 0).val = t.val / 8 ∧ (grid0.coords t 1).val = t.val % 8 := by decide +kernel

theorem coord0 (t : Fin grid0.N) : (item (grid0.coords t)).val = t.val / 8 := (coord_vals t).1
theorem coord1 (t : Fin grid0.N) : (grid0.coords t 1).val = t.val % 8 := (coord_vals t).2

/-- Row `r` of item `s` in the rows' lists. -/
def ixW (s : Fin 62) (r : Fin 1152) : S62x1x1152.Idx := fun a => match a with | 0 => s | 1 => (0 : Fin 1) | 2 => r

/-- The rows' lists: of the rows an item has, each names an assignment, and no two name one. -/
structure Lists (pf : pre0.Contents (Elt F)) (L : S62x1x1152.Idx → BitVec 32) : Prop where
  n_le : ∀ s, (tN pf s).toNat ≤ 1152
  lt : ∀ s (r : Fin 1152), r.val < (tN pf s).toNat → (L (ixW s r)).toNat < 34816
  inj : ∀ s (r r' : Fin 1152), r.val < (tN pf s).toNat → r'.val < (tN pf s).toNat → L (ixW s r) = L (ixW s r') → r = r'

section
variable {pf : pre0.Contents (Elt F)} {L : S62x1x1152.Idx → BitVec 32} (hL : Lists pf L)

/-- The assignment row `r` of item `s` is. -/
def dest (s : Fin 62) (r : Fin (tN pf s).toNat) : Fin 34816 :=
  ⟨(L (ixW s (r.castLE (hL.n_le s)))).toNat, hL.lt s _ r.isLt⟩

theorem dest_inj (s : Fin 62) : Function.Injective (dest hL s) := fun r r' h => by
  have h1 : (L (ixW s (r.castLE (hL.n_le s)))).toNat = (L (ixW s (r'.castLE (hL.n_le s)))).toNat := congrArg (fun z : Fin 34816 => z.val) h
  have h2 := hL.inj s _ _ r.isLt r'.isLt (BitVec.eq_of_toNat_eq h1)
  exact Fin.ext (congrArg (fun z : Fin 1152 => z.val) h2)
end

section
variable (a : (pcfg0 (F := F)).Adm) (V : (c : Dev nD) → (b : Ref sig .tc) → Buf (Elt F) ((c : Thread nD τ).loc b)) (c : Dev nD)

/-- A window's block at a point. -/
def iblk (w : Fin (cfg0 a).W) (t : Fin (cfg0 a).N) : (((cfg0 a).win w).xblock ((cfg0 a).grid.coords t)).Idx → Elt F ((cfg0 a).win w).elt :=
  (((cfg0 a).win w).blk t).view.read (Elt F) (V c (Pipeline.arrRef spec0 w))

def b0 (t : Fin (cfg0 a).N) : Vec F S1x1x1152 .i32 := iblk a V c 0 t
def b1 (t : Fin (cfg0 a).N) : Vec F S1152x2048 .f32 := iblk a V c 1 t
def b2 (t : Fin (cfg0 a).N) : Vec F S1x2048x256 .f32 := iblk a V c 2 t
def b3 (t : Fin (cfg0 a).N) : Vec F S1x2048x256 .f32 := iblk a V c 3 t
def b4 (t : Fin (cfg0 a).N) : Vec F S1x1x256 .f32 := iblk a V c 4 t
def b5 (t : Fin (cfg0 a).N) : Vec F S1x1x256 .f32 := iblk a V c 5 t
def b6 (t : Fin (cfg0 a).N) : Vec F S1x256x2048 .f32 := iblk a V c 6 t
def b7 (t : Fin (cfg0 a).N) : Vec F S1x1x2048 .f32 := iblk a V c 7 t

theorem b0_at (t : Fin (cfg0 a).N) (r : Fin 1152) : b0 a V c t (ixS r) = V c main_v126 (ixW (item (grid0.coords t)) r) := by
  refine congrArg (V c main_v126) ?_
  funext b
  have h : (item (grid0.coords t)).val < 62 := (item (grid0.coords t)).isLt
  fin_cases b
  · refine Fin.ext ?_
    show (BitVec.ofNat 32 (item (grid0.coords t)).val).toNat * 1 + 1 * 0 = (item (grid0.coords t)).val
    rw [BitVec.toNat_ofNat, Nat.mod_eq_of_lt (by omega)]; omega
  · refine Fin.ext ?_
    show 0 * 1 + 1 * 0 = 0
    rfl
  · refine Fin.ext ?_
    show 0 * 1152 + 1 * r.val = r.val
    omega

/-- The block of `x` an entry of the window over it lies in: it starts at the item's eighth row. -/
theorem b1_at (t : Fin (cfg0 a).N) (x : S1152x2048.Idx) (y : S36864x2048.Idx)
    (h0 : (y (0 : Fin 2)).val = (IntOp.muli (tA a.1 (item (grid0.coords t))) 8#32).toNat + (x (0 : Fin 2)).val) (h1 : (y (1 : Fin 2)).val = (x (1 : Fin 2)).val) :
    b1 a V c t x = V c main_v125 y := by
  refine congrArg (V c main_v125) ?_
  have e := transform_1_eq a.1 (grid0.coords t)
  funext b
  fin_cases b
  · refine Fin.ext ?_
    show cc0_transform_1 k0_off1_inb numel1_S1 a.1 (grid0.coords t) 0 + 1 * (x (0 : Fin 2)).val = (y (0 : Fin 2)).val
    rw [e, h0, one_mul]; rfl
  · refine Fin.ext ?_
    show cc0_transform_1 k0_off1_inb numel1_S1 a.1 (grid0.coords t) 1 + 1 * (x (1 : Fin 2)).val = (y (1 : Fin 2)).val
    rw [e, h1, one_mul]; exact Nat.zero_add _

theorem b1_congr (t t' : Fin (cfg0 a).N) (h : item (grid0.coords t) = item (grid0.coords t')) : b1 a V c t = b1 a V c t' := by
  funext x
  refine congrArg (V c main_v125) ?_
  have e := transform_1_eq a.1 (grid0.coords t)
  have e' := transform_1_eq a.1 (grid0.coords t')
  funext b
  fin_cases b
  · refine Fin.ext ?_
    show cc0_transform_1 k0_off1_inb numel1_S1 a.1 (grid0.coords t) 0 + 1 * (x (0 : Fin 2)).val = cc0_transform_1 k0_off1_inb numel1_S1 a.1 (grid0.coords t') 0 + 1 * (x (0 : Fin 2)).val
    rw [e, e', h]
  · refine Fin.ext ?_
    show cc0_transform_1 k0_off1_inb numel1_S1 a.1 (grid0.coords t) 1 + 1 * (x (1 : Fin 2)).val = cc0_transform_1 k0_off1_inb numel1_S1 a.1 (grid0.coords t') 1 + 1 * (x (1 : Fin 2)).val
    rw [e, e', h]

/-- One point's step of the accumulator. -/
def newAt (t : Fin (cfg0 a).N) (old : Fin 3 → Vec F S384x2048 .f32) (j : Fin 3) : Vec F S384x2048 .f32 :=
  accStep (grid0.coords t) (k0_pay12 (b4 a V c t)) (k0_pay13 (b5 a V c t)) (k0_pay9 (b2 a V c t)) (k0_pay10 (b3 a V c t)) (k0_pay11 (b6 a V c t)) (b7 a V c t)
    (k0_pay7 (sub (b1 a V c t) j)) (old j)

/-- The accumulator's sub-blocks before point `k`. -/
def accAt : ℕ → Fin 3 → Vec F S384x2048 .f32
  | 0 => sub (V c cc0_scratch1)
  | k + 1 => fun j => if h : k < (cfg0 a).N then newAt a V c ⟨k, h⟩ (accAt k) j else accAt k j

variable (hL : Lists a.1 (V c main_v126))

/-- The result before point `k`. -/
def yAt : ℕ → S34816x2048.Idx → F .f32
  | 0 => V c main_v130
  | k + 1 => if h : k < (cfg0 a).N then
      (if (grid0.coords (⟨k, h⟩ : Fin grid0.N) 1).val = 7 then
        put (hL.n_le (item (grid0.coords (⟨k, h⟩ : Fin grid0.N)))) (dest hL _) (join (newAt a V c ⟨k, h⟩ (accAt a V c k))) (yAt k) else yAt k)
    else yAt k

theorem accAt_succ (t : Fin (cfg0 a).N) : accAt a V c (t.val + 1) = newAt a V c t (accAt a V c t.val) := by
  funext j
  exact dif_pos t.isLt
theorem yAt_succ (t : Fin (cfg0 a).N) : yAt a V c hL (t.val + 1) = if (grid0.coords t 1).val = 7 then
    put (hL.n_le (item (grid0.coords t))) (dest hL _) (join (newAt a V c t (accAt a V c t.val))) (yAt a V c hL t.val) else yAt a V c hL t.val :=
  dif_pos t.isLt
end

end Cert.Proof.Expert
-- ==== Proof.Run.lean ====
/- The launch: the body at every grid point, and the run. -/
module

public import proofs.«01_k».proof.Proof.Data
public import Idealize.ShloMosaic.Lib.Pipeline.FrameBody
public import Idealize.ShloMosaic.Lib.Pipeline.FrameValue

@[expose] public section

noncomputable section

namespace Cert.Proof.Expert

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

section
variable (a : (pcfg0 (F := F)).Adm) (V : (c : Dev nD) → (b : Ref sig .tc) → Buf (Elt F) ((c : Thread nD τ).loc b)) (c : Dev nD)
  (hL : ∀ c, Lists a.1 (V c main_v126))

/-- The scatter's semaphore. -/
abbrev osem0 : Fin 1 → SemLoc sig := fun j => (![SemLoc.dma 16] : Fin 1 → SemLoc sig) j
theorem ownSemFacts0 : Pipeline.OwnSemFacts spec0 osem0 := by decide
theorem ownSems00_eq : (Pipeline.ownSems0 (Ix := Unit) (Name := ℕ) (U := Pipeline.UD sig nD τ) (Lvl := ℕ) (Val := Elt F) (τ := τ) osem0 c : sProp 𝕄)
    = semVal ((c : Thread nD τ), SemLoc.dma 16) 0 := by
  rw [Pipeline.ownSems0_eq_of_list c osem0 [0] (by decide) (by decide)]; rfl

/-- The scoped buffers before point `k`: the item's rows and the accumulator as the item's earlier points left them. -/
def scratch (k : ℕ) : sProp 𝕄 :=
  iprop((∃ X, ((c : Thread nD τ).loc cc0_scratch0 ↦{fullShare} X)
      ∗ ⌜∀ h : k < (cfg0 a).N, ¬ (grid0.coords (⟨k, h⟩ : Fin grid0.N) 1).val = 0 → ∀ j : Fin 3, j.val < nsub (tN a.1 (item (grid0.coords (⟨k, h⟩ : Fin grid0.N)))).toNat →
        sub ((Memref.whole cc0_scratch0 : Memref sig .tc .vmem S1152x2048 .bf16).view.read (Elt F) X) j = k0_pay7 (sub (b1 a V c ⟨k, h⟩) j)⌝)
    ∗ (∃ A, whole (F := F) (locA c) A
      ∗ ⌜∀ h : k < (cfg0 a).N, ¬ (grid0.coords (⟨k, h⟩ : Fin grid0.N) 1).val = 0 → ∀ j : Fin 3, j.val < nsub (tN a.1 (item (grid0.coords (⟨k, h⟩ : Fin grid0.N)))).toNat →
        sub A j = accAt a V c k j⌝)
    ∗ weights (F := F) c (Memref.whole cc0_scratch2) (Memref.whole cc0_scratch3) (Memref.whole cc0_scratch4))

/-- What is held before point `k`. -/
def inv (k : ℕ) (_ : k ≤ (cfg0 a).N) : sProp 𝕄 :=
  iprop(scratch a V c k ∗ (∃ r, prngReg c r) ∗ semVal ((c : Thread nD τ), SemLoc.dma cc0_scratch5.sem) 0
    ∗ whole (F := F) (locY c) (yAt a V c (hL c) k) ∗ Pipeline.ΦT (U := Pipeline.UD sig nD τ) pre0 a.1 c)

def dats (_ : Fin 1) (c : Dev nD) : Dat τ (Elt F) Unit ℕ (Pipeline.UD sig nD τ) ℕ (cfg0 a) c where
  A w := V c (Pipeline.arrRef spec0 w)
  after w t := iblk a V c w t
  Φ t := inv a V c hL t.val (Nat.le_of_lt_succ t.isLt)
  q w := Pipeline.shareOf spec0 w
  owed _ := 0

theorem A_eq (w : Fin (cfg0 a).W) : (dats a V hL 0 c).A w = V c (Pipeline.arrRef spec0 w) := by dsimp only [dats]

theorem before_of (w : Fin 8) (hw : ((cfg0 a).win w).isOut = false) (t : Fin (cfg0 a).N) (d) :
    (dats a V hL 0 c).before w t d = iblk a V c w t :=
  ((dats a V hL 0 c).before_in_eq_fetched w hw (fun _ => rfl) (fun _ _ _ => rfl) (fun _ => rfl) t d).trans (by
    unfold Dat.fetched Dat.blockOf iblk; funext j; exact Window.fill_xinj _ _ d _ j)

abbrev m0 (t : Fin (cfg0 a).N) : Memref sig .tc .smem S1x1x1152 .i32 := spec0_0.stage ((cfg0 a).slots t (0 : Fin 8))
abbrev m1 (t : Fin (cfg0 a).N) : Memref sig .tc .vmem S1152x2048 .f32 := spec0_1.stage ((cfg0 a).slots t (1 : Fin 8))
abbrev m2 (t : Fin (cfg0 a).N) : Memref sig .tc .vmem S1x2048x256 .f32 := spec0_2.stage ((cfg0 a).slots t (2 : Fin 8))
abbrev m3 (t : Fin (cfg0 a).N) : Memref sig .tc .vmem S1x2048x256 .f32 := spec0_3.stage ((cfg0 a).slots t (3 : Fin 8))
abbrev m4 (t : Fin (cfg0 a).N) : Memref sig .tc .vmem S1x1x256 .f32 := spec0_4.stage ((cfg0 a).slots t (4 : Fin 8))
abbrev m5 (t : Fin (cfg0 a).N) : Memref sig .tc .vmem S1x1x256 .f32 := spec0_5.stage ((cfg0 a).slots t (5 : Fin 8))
abbrev m6 (t : Fin (cfg0 a).N) : Memref sig .tc .vmem S1x256x2048 .f32 := spec0_6.stage ((cfg0 a).slots t (6 : Fin 8))
abbrev m7 (t : Fin (cfg0 a).N) : Memref sig .tc .vmem S1x1x2048 .f32 := spec0_7.stage ((cfg0 a).slots t (7 : Fin 8))

abbrev bodyAt0 (t : Fin (cfg0 a).N) := cc0_moe_expert_ffn (F := F) (grid0.coords t) (Memref.whole main_v86) (Memref.isWhole_whole _) (Memref.whole main_v115) (Memref.isWhole_whole _) (Memref.whole main_v93) (Memref.isWhole_whole _)
  (m0 a t) (hstage0_0 (((cfg0 a).slots t (0 : Fin 8)).cast nbuf0_0)) (m1 a t) (hstage0_1 (((cfg0 a).slots t (1 : Fin 8)).cast nbuf0_1)) (m2 a t) (hstage0_2 (((cfg0 a).slots t (2 : Fin 8)).cast nbuf0_2))
  (m3 a t) (hstage0_3 (((cfg0 a).slots t (3 : Fin 8)).cast nbuf0_3)) (m4 a t) (hstage0_4 (((cfg0 a).slots t (4 : Fin 8)).cast nbuf0_4)) (m5 a t) (hstage0_5 (((cfg0 a).slots t (5 : Fin 8)).cast nbuf0_5))
  (m6 a t) (hstage0_6 (((cfg0 a).slots t (6 : Fin 8)).cast nbuf0_6)) (m7 a t) (hstage0_7 (((cfg0 a).slots t (7 : Fin 8)).cast nbuf0_7)) (Memref.whole main_v130) (Memref.isWhole_whole _)
  (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5

theorem defs₀_row (t : Fin (cfg0 a).N) : defs₀ (F := F) .tc (cfg0 a).body ((cfg0 a).bodyArgs t ((cfg0 a).slots t)) = bodyAt0 a t := by
  unfold defs₀; rw [Defs.onTc_tc]

/-- The tables, one by one. -/
theorem tables_eq : (Pipeline.ΦT (U := Pipeline.UD sig nD τ) pre0 a.1 c : sProp 𝕄)
    = iprop(((c : Thread nD τ).loc main_v86 ↦{fullShare.right} a.1 0) ∗ ((c : Thread nD τ).loc main_v115 ↦{fullShare.right} a.1 1)
      ∗ ((c : Thread nD τ).loc main_v93 ↦{fullShare.right} a.1 2)) := by
  unfold Pipeline.ΦT Pipeline.prefHeld
  exact bigSep_univ_eq_bigSepL [(0 : Fin 3), (1 : Fin 3), (2 : Fin 3)] (by decide) (by decide) _

/-- The word the body reads: the item's number of rows. -/
theorem word_n (t : Fin (cfg0 a).N) (p) :
    (Memref.whole main_v93 : Memref sig .tc .smem S62 .i32).view.readAt (Elt F) (Rect.unit (s := S62) (k0_off1 (grid0.coords t)) S1.size (k0_off1_inb (grid0.coords t))).toLoadRect (a.1 2) (Shape.Idx.first p)
      = BitVec.ofNat 32 (tN a.1 (item (grid0.coords t))).toNat := by
  rw [BitVec.ofNat_toNat, BitVec.setWidth_eq]
  exact congrArg (a.1 2) (at_ix (grid0.coords t))

def bodyPre (t : Fin (cfg0 a).N) : sProp 𝕄 :=
  iprop((dats a V hL 0 c).Φ t.castSucc ∗ (dats a V hL 0 c).owesAt () t.castSucc
    ∗ (∃ d, owns (c : Thread nD τ) (m0 a t) fullShare ((dats a V hL 0 c).before (0 : Fin 8) t d))
    ∗ (∃ d, owns (c : Thread nD τ) (m1 a t) fullShare ((dats a V hL 0 c).before (1 : Fin 8) t d))
    ∗ (∃ d, owns (c : Thread nD τ) (m2 a t) fullShare ((dats a V hL 0 c).before (2 : Fin 8) t d))
    ∗ (∃ d, owns (c : Thread nD τ) (m3 a t) fullShare ((dats a V hL 0 c).before (3 : Fin 8) t d))
    ∗ (∃ d, owns (c : Thread nD τ) (m4 a t) fullShare ((dats a V hL 0 c).before (4 : Fin 8) t d))
    ∗ (∃ d, owns (c : Thread nD τ) (m5 a t) fullShare ((dats a V hL 0 c).before (5 : Fin 8) t d))
    ∗ (∃ d, owns (c : Thread nD τ) (m6 a t) fullShare ((dats a V hL 0 c).before (6 : Fin 8) t d))
    ∗ (∃ d, owns (c : Thread nD τ) (m7 a t) fullShare ((dats a V hL 0 c).before (7 : Fin 8) t d)))
def bodyPost (t : Fin (cfg0 a).N) : sProp 𝕄 :=
  iprop((dats a V hL 0 c).Φ t.succ ∗ (dats a V hL 0 c).owesAt () t.succ
    ∗ owns (c : Thread nD τ) (m0 a t) fullShare (b0 a V c t) ∗ owns (c : Thread nD τ) (m1 a t) fullShare (b1 a V c t)
    ∗ owns (c : Thread nD τ) (m2 a t) fullShare (b2 a V c t) ∗ owns (c : Thread nD τ) (m3 a t) fullShare (b3 a V c t)
    ∗ owns (c : Thread nD τ) (m4 a t) fullShare (b4 a V c t) ∗ owns (c : Thread nD τ) (m5 a t) fullShare (b5 a V c t)
    ∗ owns (c : Thread nD τ) (m6 a t) fullShare (b6 a V c t) ∗ owns (c : Thread nD τ) (m7 a t) fullShare (b7 a V c t))

theorem body_obligation_of (h : ∀ t, bodyPre a V c hL t ⊢ wp frame (wpE (defs₀ (F := F)) Variants.none (c : Thread nD τ) none) Set.univ (bodyAt0 a t) (fun _ => bodyPost a V c hL t)) :
    BodyObligation (dats (F := F) a V hL 0 c) (defs₀ (F := F)) Variants.none () Set.univ := fun t => by
  rw [bigSep_W0, bigSep_W0, defs₀_row]
  exact triple_restated (h t) rfl .rfl fun _ => .rfl

/-- The next point of an item is a point of that item. -/
theorem next_item (t : Fin (cfg0 a).N) (h : t.val + 1 < (cfg0 a).N) (hf : ¬ (grid0.coords (⟨t.val + 1, h⟩ : Fin grid0.N) 1).val = 0) :
    item (grid0.coords (⟨t.val + 1, h⟩ : Fin grid0.N)) = item (grid0.coords t) := by
  refine Fin.ext ?_
  rw [coord1] at hf
  rw [coord0, coord0]
  have : (t.val + 1) % 8 ≠ 0 := hf
  show (t.val + 1) / 8 = t.val / 8
  omega

theorem sound_body (t : Fin (cfg0 a).N) :
    bodyPre a V c hL t ⊢ wp frame (wpE (defs₀ (F := F)) Variants.none (c : Thread nD τ) none) Set.univ (bodyAt0 a t) (fun _ => bodyPost a V c hL t) := by
  unfold bodyPre bodyPost
  rw [show (dats a V hL 0 c).Φ t.castSucc = inv a V c hL t.val (Nat.le_of_lt t.isLt) from rfl,
    show (dats a V hL 0 c).Φ t.succ = inv a V c hL (t.val + 1) t.isLt from rfl]
  unfold Dat.owesAt Pipeline.owesWithin
  rw [show (dats a V hL 0 c).owed t.castSucc = 0 from rfl, show (dats a V hL 0 c).owed t.succ = 0 from rfl]
  simp only [before_of a V c hL (0 : Fin 8) rfl, before_of a V c hL (1 : Fin 8) rfl, before_of a V c hL (2 : Fin 8) rfl, before_of a V c hL (3 : Fin 8) rfl, before_of a V c hL (4 : Fin 8) rfl,
    before_of a V c hL (5 : Fin 8) rfl, before_of a V c hL (6 : Fin 8) rfl, before_of a V c hL (7 : Fin 8) rfl]
  unfold inv scratch owns
  rw [tables_eq]
  iintro ⟨⟨⟨⟨%X14, H14, %hx⟩, ⟨%A, HA, %ha⟩, Hw⟩, Hg, Hs, HY, Ht0, Ht1, Ht2⟩, ⟨%W, -, HW⟩, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩, ⟨%d6, %f6, %h6, H6⟩, ⟨%d7, %f7, %h7, H7⟩⟩
  have h0' : (m0 a t).view.read (Elt F) f0 = b0 a V c t := h0
  have h1' : (m1 a t).view.read (Elt F) f1 = b1 a V c t := h1
  have h2' : (m2 a t).view.read (Elt F) f2 = b2 a V c t := h2
  have h3' : (m3 a t).view.read (Elt F) f3 = b3 a V c t := h3
  have h4' : (m4 a t).view.read (Elt F) f4 = b4 a V c t := h4
  have h5' : (m5 a t).view.read (Elt F) f5 = b5 a V c t := h5
  have h6' : (m6 a t).view.read (Elt F) f6 = b6 a V c t := h6
  have h7' : (m7 a t).view.read (Elt F) f7 = b7 a V c t := h7
  have key := body_point (F := F) c Variants.none none (grid0.coords t) (Memref.whole main_v86) (Memref.isWhole_whole _) (Memref.whole main_v115) (Memref.isWhole_whole _) (Memref.whole main_v93) (Memref.isWhole_whole _)
    (m0 a t) (hstage0_0 (((cfg0 a).slots t (0 : Fin 8)).cast nbuf0_0)) (m1 a t) (hstage0_1 (((cfg0 a).slots t (1 : Fin 8)).cast nbuf0_1)) (m2 a t) (hstage0_2 (((cfg0 a).slots t (2 : Fin 8)).cast nbuf0_2))
    (m3 a t) (hstage0_3 (((cfg0 a).slots t (3 : Fin 8)).cast nbuf0_3)) (m4 a t) (hstage0_4 (((cfg0 a).slots t (4 : Fin 8)).cast nbuf0_4)) (m5 a t) (hstage0_5 (((cfg0 a).slots t (5 : Fin 8)).cast nbuf0_5))
    (m6 a t) (hstage0_6 (((cfg0 a).slots t (6 : Fin 8)).cast nbuf0_6)) (m7 a t) (hstage0_7 (((cfg0 a).slots t (7 : Fin 8)).cast nbuf0_7))
    (Memref.whole cc0_scratch0) (Memref.isWhole_whole _) (Memref.whole cc0_scratch2) (Memref.isWhole_whole _) (Memref.whole cc0_scratch3) (Memref.isWhole_whole _) (Memref.whole cc0_scratch4) (Memref.isWhole_whole _)
    ((hL c).n_le (item (grid0.coords t))) (a.1 2) fullShare.right f1 f2 f3 f4 f5 f6 f7 (word_n a t) f0 (dest (hL c) (item (grid0.coords t))) (dest_inj (hL c) _) (yAt a V c (hL c) t.val)
    (fun r => by
      rw [h0', b0_at]
      show V c main_v126 _ = BitVec.ofNat 32 (V c main_v126 _).toNat
      rw [BitVec.ofNat_toNat, BitVec.setWidth_eq])
    (accAt a V c t.val)
  rw [h1', h2', h3', h4', h5', h6', h7'] at key
  iapply (wp_wand frame (wpE (defs₀ (F := F)) Variants.none (c : Thread nD τ) none) Set.univ) $$ [Ht2 H1 H2 H3 H4 H5 H6 H7 H14 Hw HA H0 HW Hs HY]
  · iapply key
    unfold blocks
    isplitl [Ht2]
    · rw [View.set_whole]; iexact Ht2
    isplitl [H1 H2 H3 H4 H5 H6 H7]
    · iframe
    isplitl [H14]
    · iexists X14
      isplitl [H14]
      · rw [View.set_whole]; iexact H14
      ipureintro; exact hx t.isLt
    isplitl [Hw]; · iexact Hw
    isplitl [HA]
    · iexists A
      isplitl [HA]; · iexact HA
      ipureintro; exact ha t.isLt
    isplitl [H0]; · iexact H0
    isplitl [HW]; · iexists W; iexact HW
    isplitl [Hs]; · iexact Hs
    iexact HY
  iintro %u ⟨Ht2, Hb, ⟨%X14', H14, %hx'⟩, Hw, ⟨%A', HA, %ha'⟩, H0, ⟨%W', HW⟩, Hs, HY⟩
  unfold blocks
  icases Hb with ⟨H1, H2, H3, H4, H5, H6, H7⟩
  isplitl [H14 HA Hw Hg Hs HY Ht0 Ht1 Ht2]
  · isplitl [H14 HA Hw]
    · isplitl [H14]
      · iexists X14'
        isplitl [H14]
        · rw [View.set_whole]; iexact H14
        ipureintro
        intro h hf j hj
        rw [next_item a t h hf] at hj
        rw [b1_congr a V c _ t (next_item a t h hf)]
        exact hx' j hj
      isplitl [HA]
      · iexists A'
        isplitl [HA]; · iexact HA
        ipureintro
        intro h hf j hj
        rw [next_item a t h hf] at hj
        rw [accAt_succ]
        exact ha' j hj
      iexact Hw
    isplitl [Hg]; · iexact Hg
    isplitl [Hs]; · iexact Hs
    isplitl [HY]
    · rw [yAt_succ]; iexact HY
    isplitl [Ht0]; · iexact Ht0
    isplitl [Ht1]; · iexact Ht1
    rw [View.set_whole]; iexact Ht2
  isplitl [HW]
  · iexists W'; isplitr; · ipureintro; exact fun _ _ => Or.inl trivial
    iexact HW
  isplitl [H0]; · iexists f0; isplitr; · ipureintro; exact h0'
                  iexact H0
  isplitl [H1]; · iexists f1; isplitr; · ipureintro; exact h1'
                  iexact H1
  isplitl [H2]; · iexists f2; isplitr; · ipureintro; exact h2'
                  iexact H2
  isplitl [H3]; · iexists f3; isplitr; · ipureintro; exact h3'
                  iexact H3
  isplitl [H4]; · iexists f4; isplitr; · ipureintro; exact h4'
                  iexact H4
  isplitl [H5]; · iexists f5; isplitr; · ipureintro; exact h5'
                  iexact H5
  isplitl [H6]; · iexists f6; isplitr; · ipureintro; exact h6'
                  iexact H6
  iexists f7; isplitr; · ipureintro; exact h7'
  iexact H7

/-- The written result. -/
def R0 : Finset (Ref sig .tc) := {main_v130}

theorem H0_sub : (∅ : Finset (Ref sig .tc)) ⊆ Pipeline.restRefsP sig pre0 spec0 := by decide
theorem R0_sub : R0 ⊆ Pipeline.restRefsP sig pre0 spec0 \ ∅ := by decide

/-- The buffers when the region is left: the result at its last contents. -/
def G (b : Ref sig .tc) : Buf (Elt F) ((c : Thread nD τ).loc b) := Function.update (V c) main_v130 (yAt a V c (hL c) (cfg0 a).N) b

theorem routed_eq (W : (b : Ref sig .tc) → Buf (Elt F) ((c : Thread nD τ).loc b)) :
    (Pipeline.routed R0 c W : sProp 𝕄) = whole (F := F) (locY c) (W main_v130) := by
  unfold Pipeline.routed R0
  rw [bigSep_singleton]
  rfl

end

set_option backward.isDefEq.respectTransparency.types false in
theorem run_main (a : (pcfg0 (F := F)).Adm) (V : (c : Dev nD) → (b : Ref sig .tc) → Buf (Elt F) ((c : Thread nD τ).loc b))
    (hL : ∀ c, Lists a.1 (V c main_v126)) (m : (ℓ : Loc nD τ sig) → Buf (Elt F) ℓ) (ρ : Dev nD → PrngReg)
    (hmain : Pipeline.HMainP (Ix := Unit) (Name := ℕ) (U := Pipeline.UD sig nD τ) (Lvl := ℕ) pcfgs 0 defs₀ Variants.none m (main (F := F)) V)
    (hpf : ∀ c k, V c (pre0.ref k) = a.1 k) :
    θ_run defs (onTc (τ := τ) (main (F := F))) (s₀ m ρ)
      (fun r => Pipeline.FramePostRG (Pipeline.pin pcfgs fun _ => a) (dats a V hL) 0 R0 V (fun c => G a V c hL) r ∧ r.2.sem = fun _ => 0) :=
  Pipeline.θ_run_frameP_dmaRG_shared (Q' := _) pcfgs (fun _ => a) (dats a V hL) (0 : Fin 1) launch₀0 osem0 defs₀ Variants.none ownSemFacts0 ∅ R0 H0_sub R0_sub m ρ main
    (hbody := fun c => (body_obligation_of a V c hL (sound_body a V c hL)).loose) (hq := fun _ _ _ => rfl)
    (howed := fun _ _ => rfl) (V := V) (hmain := hmain) (hA := fun c w => A_eq a V c hL w) (hpf := hpf) (G := fun c => G a V c hL)
    (hin := fun c => by
      rw [Pipeline.ΦDRG_eq, scopedRest0_eq, ownSems00_eq, routed_eq]
      show _ ⊢ inv a V c hL 0 (Nat.zero_le _)
      unfold inv scratch weights whole
      iintro ⟨⟨⟨⟨%X0, H0⟩, ⟨%X1, H1⟩, H2, H3, H4⟩, Hg, Hs, He, HY⟩, HT⟩
      isplitl [H0 H1 H2 H3 H4]
      · isplitl [H0]
        · iexists X0
          isplitl [H0]; · iexact H0
          ipureintro; intro h hf; exact absurd (coord1 (⟨0, h⟩ : Fin grid0.N)) hf
        isplitl [H1]
        · iexists X1
          isplitl [H1]; · iexact H1
          ipureintro; intro h hf; exact absurd (coord1 (⟨0, h⟩ : Fin grid0.N)) hf
        rw [View.set_whole, View.set_whole, View.set_whole]
        isplitl [H2]; · iexact H2
        isplitl [H3]; · iexact H3
        iexact H4
      isplitl [Hg]; · iexact Hg
      isplitl [Hs]; · iexact Hs
      isplitl [HY]; · iexact HY
      iexact HT)
    (hout := fun c => by
      rw [Pipeline.ΦDRG_eq, scopedRest0_eq, ownSems00_eq, routed_eq]
      show inv a V c hL (cfg0 a).N le_rfl ⊢ _
      unfold inv scratch weights G whole
      rw [Function.update_self]
      iintro ⟨⟨⟨%X0, H0, -⟩, ⟨%X1, H1, -⟩, H2, H3, H4⟩, Hg, Hs, HY, HT⟩
      isplitl [H0 H1 H2 H3 H4]
      · isplitl [H0]; · iexists X0; iexact H0
        isplitl [H1]; · iexists X1; iexact H1
        rw [View.set_whole, View.set_whole, View.set_whole]
        isplitl [H2]; · iexact H2
        isplitl [H3]; · iexact H3
        iexact H4
      isplitl [Hg]; · iexact Hg
      isplitl [Hs]; · iexact Hs
      isplitr
      · rw [bigSep_empty]; iempintro
      iexact HY)

end Cert.Proof.Expert
-- ==== Proof.Frame.lean ====
/- The buffers as the call finds them, and the call's run from a launch memory whose tables are in range: its frame, and what the result holds. -/
module

public import proofs.«01_k».proof.Proof.Run
public import Idealize.ShloMosaic.Lib.StableHlo.RunRead
public import Idealize.ShloMosaic.Lib.Pipeline.Value

@[expose] public section

noncomputable section

namespace Cert.Proof.Expert

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

section
variable (m : (ℓ : Loc nD τ sig) → Buf (Elt F) ℓ) (ρ : Dev nD → PrngReg)

/-! ## The host lines, cut where a table is complete -/

abbrev ops1 : List (HloOp τ sig (Elt F)) := hostOps0 ++ (hostOps0_1 ++ (hostOps0_2 ++ hostOps0_3))
abbrev ops2 : List (HloOp τ sig (Elt F)) := hostOps0_4 ++ (hostOps0_5 ++ hostOps0_6)
abbrev ops3 : List (HloOp τ sig (Elt F)) := hostOps0_7
abbrev ops4 : List (HloOp τ sig (Elt F)) := hostOps0_8 ++ hostOps0_9
abbrev ops4b : List (HloOp τ sig (Elt F)) := hostOps0_10 ++ hostOps0_11
abbrev ops4c : List (HloOp τ sig (Elt F)) := hostOps0_12 ++ (hostOps0_13 ++ hostOps0_14)
abbrev ops5 : List (HloOp τ sig (Elt F)) := hostOps0_15 ++ hostOps0_16
abbrev ops6 : List (HloOp τ sig (Elt F)) := hostOps0_17 ++ (hostOps0_18 ++ (hostOps0_19 ++ hostOps0_20))
abbrev ops7 : List (HloOp τ sig (Elt F)) := hostOps0_21

def W0 (c : Dev nD) : Valuation τ sig (Elt F) := fun b => m (c, b)
def W1 (c : Dev nD) : Valuation τ sig (Elt F) := StableHlo.after ops1 (W0 m c)
def W2 (c : Dev nD) : Valuation τ sig (Elt F) := StableHlo.after ops2 (W1 m c)
def W3 (c : Dev nD) : Valuation τ sig (Elt F) := StableHlo.after ops3 (W2 m c)
def W4 (c : Dev nD) : Valuation τ sig (Elt F) := StableHlo.after ops4 (W3 m c)
def W4b (c : Dev nD) : Valuation τ sig (Elt F) := StableHlo.after ops4b (W4 m c)
def W4c (c : Dev nD) : Valuation τ sig (Elt F) := StableHlo.after ops4c (W4b m c)
def W5 (c : Dev nD) : Valuation τ sig (Elt F) := StableHlo.after ops5 (W4c m c)
def W6 (c : Dev nD) : Valuation τ sig (Elt F) := StableHlo.after ops6 (W5 m c)
def W7 (c : Dev nD) : Valuation τ sig (Elt F) := StableHlo.after ops7 (W6 m c)

/-- The buffers as the region finds them. -/
def V (c : Dev nD) (b : Ref sig .tc) : Buf (Elt F) ((c : Thread nD τ).loc b) := W7 m c (Proc.devRef .tc b)

abbrev opss : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12,
    hostOps0_13, hostOps0_14, hostOps0_15, hostOps0_16, hostOps0_17, hostOps0_18, hostOps0_19, hostOps0_20, hostOps0_21]

theorem W7_eq (c : Dev nD) : StableHlo.after opss.flatten (fun b => m (c, b)) = W7 m c := by
  unfold W7 W6 W5 W4c W4b W4 W3 W2 W1 W0
  simp only [opss, ops1, ops2, ops3, ops4, ops4b, ops4c, ops5, ops6, ops7, List.flatten_cons, List.flatten_nil, List.append_nil, StableHlo.after_append]

theorem V_arg0 (c : Dev nD) : V m c main_arg0 = m ((c : Thread nD τ).loc main_arg0) := by
  unfold V W7 W6 W5 W4c W4b W4 W3 W2 W1; after_reads_simp; rfl
theorem V_arg1 (c : Dev nD) : V m c main_arg1 = m ((c : Thread nD τ).loc main_arg1) := by
  unfold V W7 W6 W5 W4c W4b W4 W3 W2 W1; after_reads_simp; rfl
theorem V_arg2 (c : Dev nD) : V m c main_arg2 = m ((c : Thread nD τ).loc main_arg2) := by
  unfold V W7 W6 W5 W4c W4b W4 W3 W2 W1; after_reads_simp; rfl
theorem V_arg3 (c : Dev nD) : V m c main_arg3 = m ((c : Thread nD τ).loc main_arg3) := by
  unfold V W7 W6 W5 W4c W4b W4 W3 W2 W1; after_reads_simp; rfl
theorem V_arg4 (c : Dev nD) : V m c main_arg4 = m ((c : Thread nD τ).loc main_arg4) := by
  unfold V W7 W6 W5 W4c W4b W4 W3 W2 W1; after_reads_simp; rfl
theorem V_arg5 (c : Dev nD) : V m c main_arg5 = m ((c : Thread nD τ).loc main_arg5) := by
  unfold V W7 W6 W5 W4c W4b W4 W3 W2 W1; after_reads_simp; rfl
theorem V_arg6 (c : Dev nD) : V m c main_arg6 = m ((c : Thread nD τ).loc main_arg6) := by
  unfold V W7 W6 W5 W4c W4b W4 W3 W2 W1; after_reads_simp; rfl
theorem V_arg7 (c : Dev nD) : V m c main_arg7 = m ((c : Thread nD τ).loc main_arg7) := by
  unfold V W7 W6 W5 W4c W4b W4 W3 W2 W1; after_reads_simp; rfl

variable (hT : ∀ c : Dev nD, Tables (V m c main_v86) (V m c main_v115) (V m c main_v93) (V m c main_v114))

/-- The tables as the region finds them. -/
def tabs : pre0.Contents (Elt F) := fun k => V m 0 (pre0.ref k)

theorem tE_eq (s : Fin 62) : tE (tabs m) s = V m 0 main_v86 (ix1 s) := rfl
theorem tA_eq (s : Fin 62) : tA (tabs m) s = V m 0 main_v115 (ix1 s) := rfl
theorem tN_eq (s : Fin 62) : tN (tabs m) s = V m 0 main_v93 (ix1 s) := rfl

include hT in
theorem tabs_ok : ok0 (tabs m) :=
  ok0_of _ (fun s => by rw [tE_eq]; exact (hT 0).e_lt s) (fun s => by rw [tA_eq]; exact (hT 0).a_le s)

def adm : (pcfg0 (F := F)).Adm := ⟨tabs m, tabs_ok m hT⟩

theorem V_v126 (c : Dev nD) (s : Fin 62) (r : Fin 1152) : V m c main_v126 (ixW s r) = V m c main_v114 (ix2 s r) := by
  have h : V m c main_v126 = shapeCast S62x1x1152 (V m c main_v114) shapeCasts_S62x1152_S62x1x1152 := by
    unfold V W7
    after_reads_simp
    rfl
  rw [h]
  refine Idealize.ShloMosaic.shapeCast_apply _ _ _ _ ?_
  refine (Shape.rowMajor_val_two _).trans (Eq.trans ?_ (Shape.rowMajor_val_three _).symm)
  show s.val * 1152 + r.val = (s.val * 1 + 0) * 1152 + r.val
  omega

theorem lists (c : Dev nD) : Lists (adm m hT).1 (V m c main_v126) := by
  obtain rfl : c = 0 := Subsingleton.elim _ _
  have h := hT 0
  refine ⟨fun s => ?_, fun s r hr => ?_, fun s r r' hr hr' he => ?_⟩
  · show (tN (tabs m) s).toNat ≤ 1152
    rw [tN_eq]; exact h.n_le s
  · rw [V_v126]; exact h.asg_lt s r
  · rw [V_v126, V_v126] at he
    change r.val < (tN (tabs m) s).toNat at hr
    change r'.val < (tN (tabs m) s).toNat at hr'
    rw [tN_eq] at hr hr'
    exact h.inj s r r' hr hr' he

theorem hostOps0_fresh : (hostOps0 : List (HloOp τ sig (Elt F))).Forall fun op => op.fresh = ∅ := ⟨rfl, rfl, rfl, rfl, rfl, rfl, rfl⟩
theorem hostOps0_1_fresh : (hostOps0_1 : List (HloOp τ sig (Elt F))).Forall fun op => op.fresh = ∅ := ⟨rfl, rfl, rfl, rfl, rfl, rfl, rfl, rfl, rfl, rfl, rfl, rfl, rfl, rfl, rfl, rfl, rfl⟩
theorem hostOps0_2_fresh : (hostOps0_2 : List (HloOp τ sig (Elt F))).Forall fun op => op.fresh = ∅ := ⟨rfl, rfl, rfl⟩
theorem hostOps0_3_fresh : (hostOps0_3 : List (HloOp τ sig (Elt F))).Forall fun op => op.fresh = ∅ := ⟨rfl, rfl, rfl⟩
theorem hostOps0_4_fresh : (hostOps0_4 : List (HloOp τ sig (Elt F))).Forall fun op => op.fresh = ∅ := ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem hostOps0_5_fresh : (hostOps0_5 : List (HloOp τ sig (Elt F))).Forall fun op => op.fresh = ∅ := ⟨rfl, rfl, rfl, rfl, rfl, rfl, rfl, rfl, rfl, rfl, rfl, rfl, rfl, rfl, rfl, rfl, rfl⟩
theorem hostOps0_6_fresh : (hostOps0_6 : List (HloOp τ sig (Elt F))).Forall fun op => op.fresh = ∅ := ⟨rfl, rfl, rfl⟩
theorem hostOps0_7_fresh : (hostOps0_7 : List (HloOp τ sig (Elt F))).Forall fun op => op.fresh = ∅ := ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem hostOps0_8_fresh : (hostOps0_8 : List (HloOp τ sig (Elt F))).Forall fun op => op.fresh = ∅ := ⟨rfl, rfl, rfl, rfl, rfl, rfl⟩
theorem hostOps0_9_fresh : (hostOps0_9 : List (HloOp τ sig (Elt F))).Forall fun op => op.fresh = ∅ := ⟨rfl, rfl, rfl, rfl, rfl, rfl, rfl, rfl, rfl, rfl, rfl⟩
theorem hostOps0_10_fresh : (hostOps0_10 : List (HloOp τ sig (Elt F))).Forall fun op => op.fresh = ∅ := ⟨rfl, rfl⟩
theorem hostOps0_11_fresh : (hostOps0_11 : List (HloOp τ sig (Elt F))).Forall fun op => op.fresh = ∅ := ⟨rfl, rfl, rfl, rfl, rfl, rfl, rfl⟩
theorem hostOps0_12_fresh : (hostOps0_12 : List (HloOp τ sig (Elt F))).Forall fun op => op.fresh = ∅ := ⟨rfl, rfl⟩
theorem hostOps0_13_fresh : (hostOps0_13 : List (HloOp τ sig (Elt F))).Forall fun op => op.fresh = ∅ := rfl
theorem hostOps0_14_fresh : (hostOps0_14 : List (HloOp τ sig (Elt F))).Forall fun op => op.fresh = ∅ := ⟨rfl, rfl, rfl⟩
theorem hostOps0_15_fresh : (hostOps0_15 : List (HloOp τ sig (Elt F))).Forall fun op => op.fresh = ∅ := ⟨rfl, rfl, rfl, rfl, rfl, rfl, rfl, rfl, rfl, rfl, rfl, rfl, rfl, rfl, rfl, rfl, rfl, rfl, rfl, rfl, rfl, rfl, rfl, rfl⟩
theorem hostOps0_16_fresh : (hostOps0_16 : List (HloOp τ sig (Elt F))).Forall fun op => op.fresh = ∅ := ⟨rfl, rfl, rfl⟩
theorem hostOps0_17_fresh : (hostOps0_17 : List (HloOp τ sig (Elt F))).Forall fun op => op.fresh = ∅ := rfl
theorem hostOps0_18_fresh : (hostOps0_18 : List (HloOp τ sig (Elt F))).Forall fun op => op.fresh = ∅ := ⟨rfl, rfl, rfl, rfl, rfl, rfl, rfl, rfl, rfl, rfl, rfl, rfl, rfl, rfl, rfl, rfl, rfl⟩
theorem hostOps0_19_fresh : (hostOps0_19 : List (HloOp τ sig (Elt F))).Forall fun op => op.fresh = ∅ := ⟨rfl, rfl, rfl, rfl⟩
theorem hostOps0_20_fresh : (hostOps0_20 : List (HloOp τ sig (Elt F))).Forall fun op => op.fresh = ∅ := ⟨rfl, rfl, rfl, rfl, rfl, rfl, rfl, rfl, rfl, rfl, rfl, rfl, rfl, rfl, rfl, rfl, rfl⟩
theorem hostOps0_21_fresh : (hostOps0_21 : List (HloOp τ sig (Elt F))).Forall fun op => op.fresh = ∅ := ⟨rfl, rfl, rfl, rfl, rfl, rfl, rfl, rfl, rfl, rfl, rfl, rfl, rfl⟩

theorem main_runs : Pipeline.HMainP (Ix := Unit) (Name := ℕ) (U := Pipeline.UD sig nD τ) (Lvl := ℕ) pcfgs 0 defs₀ Variants.none m (main (F := F)) (fun c b => V m c b) := by
  have h := Pipeline.hmainP_prefixes (Ix := Unit) (Name := ℕ) (U := Pipeline.UD sig nD τ) (Lvl := ℕ) pcfgs 0 defs₀ Variants.none m (main (F := F)) opss
    ⟨hostOps0_sub, hostOps0_1_sub, hostOps0_2_sub, hostOps0_3_sub, hostOps0_4_sub, hostOps0_5_sub, hostOps0_6_sub, hostOps0_7_sub, hostOps0_8_sub, hostOps0_9_sub,
      hostOps0_10_sub, hostOps0_11_sub, hostOps0_12_sub, hostOps0_13_sub, hostOps0_14_sub, hostOps0_15_sub, hostOps0_16_sub, hostOps0_17_sub, hostOps0_18_sub,
      hostOps0_19_sub, hostOps0_20_sub, hostOps0_21_sub⟩
    ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh, hostOps0_20_fresh, hostOps0_21_fresh⟩ main_chain
  simp only [W7_eq] at h
  exact h

theorem run_of : θ_run defs (onTc (τ := τ) (main (F := F))) (s₀ m ρ)
    (fun r => Pipeline.FramePostRG (Pipeline.pin pcfgs fun _ => adm m hT) (dats (adm m hT) (V m) (lists m hT)) 0 R0 (V m) (fun c => G (adm m hT) (V m) c (lists m hT)) r ∧ r.2.sem = fun _ => 0) :=
  run_main (adm m hT) (V m) (lists m hT) m ρ (main_runs m) (fun c k => by obtain rfl : c = 0 := Subsingleton.elim _ _; rfl)

theorem frame_of : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
     )
      ∧ r.2.mem ((c.tc : Thread nD τ).loc main_v130) = yAt (adm m hT) (V m) c (lists m hT c) (cfg0 (adm m hT)).N)
      ∧ r.2.sem = fun _ => 0) := by
  refine (θ_run defs _ _).mono (fun r h => ⟨fun c => ⟨⟨?_, ?_, ?_, ?_, ?_, ?_, ?_, ?_⟩, ?_⟩, h.2⟩) (run_of m ρ hT)
  · exact ((h.1.toR c).2 main_arg0 (Finset.mem_sdiff.mpr ⟨Pipeline.mem_restRefs_of main_arg0 (by decide) (fun (w : Fin 8) => by fin_cases w <;> (intro hw; cases hw)), by decide⟩)).trans (V_arg0 m c)
  · exact ((h.1.toR c).2 main_arg1 (Finset.mem_sdiff.mpr ⟨Pipeline.mem_restRefs_of main_arg1 (by decide) (fun (w : Fin 8) => by fin_cases w <;> (intro hw; cases hw)), by decide⟩)).trans (V_arg1 m c)
  · exact ((h.1.toR c).2 main_arg2 (Finset.mem_sdiff.mpr ⟨Pipeline.mem_restRefs_of main_arg2 (by decide) (fun (w : Fin 8) => by fin_cases w <;> (intro hw; cases hw)), by decide⟩)).trans (V_arg2 m c)
  · exact ((h.1.toR c).2 main_arg3 (Finset.mem_sdiff.mpr ⟨Pipeline.mem_restRefs_of main_arg3 (by decide) (fun (w : Fin 8) => by fin_cases w <;> (intro hw; cases hw)), by decide⟩)).trans (V_arg3 m c)
  · exact ((h.1.toR c).1 (2 : Fin 8)).trans (((dats (adm m hT) (V m) (lists m hT) 0 c).arrAt_in (2 : Fin 8) rfl _).trans (V_arg4 m c))
  · exact ((h.1.toR c).2 main_arg5 (Finset.mem_sdiff.mpr ⟨Pipeline.mem_restRefs_of main_arg5 (by decide) (fun (w : Fin 8) => by fin_cases w <;> (intro hw; cases hw)), by decide⟩)).trans (V_arg5 m c)
  · exact ((h.1.toR c).1 (6 : Fin 8)).trans (((dats (adm m hT) (V m) (lists m hT) 0 c).arrAt_in (6 : Fin 8) rfl _).trans (V_arg6 m c))
  · exact ((h.1.toR c).2 main_arg7 (Finset.mem_sdiff.mpr ⟨Pipeline.mem_restRefs_of main_arg7 (by decide) (fun (w : Fin 8) => by fin_cases w <;> (intro hw; cases hw)), by decide⟩)).trans (V_arg7 m c)
  · exact (h.1.written c (by decide)).trans (by unfold G; rw [Function.update_self])
end

end Cert.Proof.Expert
-- ==== Proof.Plan.lean ====
/- The plan of the grouped call, over the naturals: where each expert's rows lie, and which item holds which of them. -/
module

public import Mathlib.Data.Nat.Count
public import Mathlib.Algebra.BigOperators.Group.Finset.Sigma
public import Mathlib.Data.Finset.Card
public import Mathlib.Tactic.IntervalCases
public import Mathlib.Tactic.Linarith

@[expose] public section

namespace Cert.Proof.Plan

/-- The sum of the first `e` values. -/
def total (f : ℕ → ℕ) (e : ℕ) : ℕ := ((List.range e).map f).sum

theorem total_succ (f : ℕ → ℕ) (e : ℕ) : total f (e + 1) = total f e + f e := by
  simp [total, List.range_succ]

theorem total_mono (f : ℕ → ℕ) {e e' : ℕ} (h : e ≤ e') : total f e ≤ total f e' := by
  induction h with
  | refl => exact le_rfl
  | step _ ih => rw [total_succ]; omega

theorem total_eq (f : ℕ → ℕ) (e : ℕ) : total f e = ∑ i ∈ Finset.range e, f i := by
  induction e with
  | zero => rfl
  | succ n ih => rw [total_succ, Finset.sum_range_succ, ih]

/-- Of a property that passes to smaller numbers, the count is where it stops. -/
theorem lt_count_iff (Q : ℕ → Prop) [DecidablePred Q] (hQ : ∀ i j, i ≤ j → Q j → Q i) : ∀ n i, i < n → (Q i ↔ i < Nat.count Q n)
  | 0, _, h => absurd h (Nat.not_lt_zero _)
  | n + 1, i, h => by
    rw [Nat.count_succ]
    have ih := lt_count_iff Q hQ n
    have hle : Nat.count Q n ≤ n := Nat.count_le _
    by_cases hn : Q n
    · have hc : Nat.count Q n = n := by
        by_contra hne
        have hlt : Nat.count Q n < n := by omega
        exact absurd ((ih _ hlt).mp (hQ _ _ hlt.le hn)) (lt_irrefl _)
      rw [if_pos hn, hc]
      exact ⟨fun _ => h, fun _ => hQ _ _ (by omega) hn⟩
    · rw [if_neg hn, Nat.add_zero]
      rcases Nat.lt_or_ge i n with hi | hi
      · exact ih i hi
      · obtain rfl : i = n := by omega
        exact ⟨fun hq => absurd hq hn, fun hq => by omega⟩

section
variable (cn : ℕ → ℕ)

/-- An expert's rows rounded up to blocks of eight, its first row, the items it takes, its first item. -/
def padded (e : ℕ) : ℕ := (cn e + 7) / 8 * 8
def rows (e : ℕ) : ℕ := total (padded cn) e
def parts (e : ℕ) : ℕ := (cn e + 1151) / 1152
def first (e : ℕ) : ℕ := total (parts cn) e
/-- An item's expert, which of the expert's items it is, its first row and how many rows it holds. -/
def ex (s : ℕ) : ℕ := Nat.count (fun e => first cn (e + 1) ≤ s) 32
def part (s : ℕ) : ℕ := s - first cn (ex cn s)
def row0 (s : ℕ) : ℕ := rows cn (ex cn s) + part cn s * 1152
def len (s : ℕ) : ℕ := min (cn (ex cn s) - part cn s * 1152) 1152
/-- The item whose expert and rows item `s` names: itself, or the last one that holds rows. -/
def live (s : ℕ) : ℕ := min s (first cn 32 - 1)

theorem rows_succ (e : ℕ) : rows cn (e + 1) = rows cn e + padded cn e := total_succ _ _
theorem first_succ (e : ℕ) : first cn (e + 1) = first cn e + parts cn e := total_succ _ _
theorem rows_mono {e e' : ℕ} (h : e ≤ e') : rows cn e ≤ rows cn e' := total_mono _ h
theorem first_mono {e e' : ℕ} (h : e ≤ e') : first cn e ≤ first cn e' := total_mono _ h
theorem le_padded (e : ℕ) : cn e ≤ padded cn e := by unfold padded; omega
theorem rows_dvd (e : ℕ) : 8 ∣ rows cn e := by
  induction e with
  | zero => exact ⟨0, rfl⟩
  | succ n ih => rw [rows_succ]; exact Nat.dvd_add ih ⟨_, mul_comm _ _⟩

theorem rows_le (e : ℕ) : rows cn e ≤ total cn e + 7 * e := by
  induction e with
  | zero => exact Nat.le_refl _
  | succ n ih => rw [rows_succ, total_succ]; unfold padded; omega
theorem first_le' (e : ℕ) : 1152 * first cn e ≤ total cn e + 1151 * e := by
  induction e with
  | zero => exact Nat.le_refl _
  | succ n ih => rw [first_succ, total_succ]; unfold parts; omega
theorem le_first' (e : ℕ) : total cn e ≤ 1152 * first cn e := by
  induction e with
  | zero => exact Nat.le_refl _
  | succ n ih => rw [first_succ, total_succ]; unfold parts; omega

theorem lt_ex_iff (s : ℕ) {e : ℕ} (he : e < 32) : first cn (e + 1) ≤ s ↔ e < ex cn s :=
  lt_count_iff (fun e => first cn (e + 1) ≤ s) (fun _ _ hij h => (first_mono cn (by omega)).trans h) 32 e he
theorem ex_le (s : ℕ) : ex cn s ≤ 32 := Nat.count_le _

section
variable {cn} {s : ℕ} (hs : s < first cn 32)
include hs
theorem ex_lt : ex cn s < 32 := by
  have h := (lt_ex_iff cn s (show 31 < 32 by omega)).not.mp (by change ¬ first cn 32 ≤ s; omega)
  omega
theorem ex_first : first cn (ex cn s) ≤ s := by
  rcases Nat.eq_zero_or_pos (ex cn s) with h | h
  · rw [h]; exact Nat.zero_le _
  · have := (lt_ex_iff cn s (e := ex cn s - 1) (by have := ex_lt hs; omega)).mpr (by omega)
    rwa [show ex cn s - 1 + 1 = ex cn s by omega] at this
theorem lt_ex_succ : s < first cn (ex cn s + 1) := by
  have := (lt_ex_iff cn s (ex_lt hs)).not.mpr (lt_irrefl _)
  omega
theorem part_lt : part cn s < parts cn (ex cn s) := by
  have h1 := ex_first hs
  have h2 := lt_ex_succ hs
  rw [first_succ] at h2
  unfold part; omega
theorem part_rows : part cn s * 1152 < cn (ex cn s) := by
  have := part_lt hs
  unfold parts at this; omega
theorem len_pos : 0 < len cn s := by have := part_rows hs; unfold len; omega
theorem row_lt {r : ℕ} (hr : r < len cn s) : part cn s * 1152 + r < cn (ex cn s) := by
  have := part_rows hs; unfold len at hr; omega
theorem row0_add_lt {r : ℕ} (hr : r < len cn s) : row0 cn s + r < rows cn 32 := by
  have h1 := row_lt hs hr
  have h2 := le_padded cn (ex cn s)
  have h3 := rows_mono cn (show ex cn s + 1 ≤ 32 from ex_lt hs)
  rw [rows_succ] at h3
  unfold row0; omega
end

theorem len_le (s : ℕ) : len cn s ≤ 1152 := Nat.min_le_right _ _
theorem row0_dvd (s : ℕ) : 8 ∣ row0 cn s := Nat.dvd_add (rows_dvd cn _) ⟨part cn s * 144, by omega⟩

theorem ex_eq {e s : ℕ} (he : e < 32) (h1 : first cn e ≤ s) (h2 : s < first cn (e + 1)) : ex cn s = e := by
  have h3 := (lt_ex_iff cn s he).not.mp (by omega)
  rcases Nat.eq_zero_or_pos e with h | h
  · omega
  · have := (lt_ex_iff cn s (e := e - 1) (by omega)).mp (by rwa [show e - 1 + 1 = e by omega])
    omega

end

/-- Assignment `A`'s expert and its number among that expert's, all of them, none twice. -/
structure Counts (cn eA qA : ℕ → ℕ) : Prop where
  e_lt : ∀ A, A < 34816 → eA A < 32
  q_lt : ∀ A, A < 34816 → qA A < cn (eA A)
  sum : total cn 32 = 34816
  inj : ∀ A A', A < 34816 → A' < 34816 → eA A = eA A' → qA A = qA A' → A = A'

namespace Counts
variable {cn eA qA : ℕ → ℕ} (h : Counts cn eA qA)
include h

theorem rows_le : rows cn 32 ≤ 35040 := by have := Plan.rows_le cn 32; rw [h.sum] at this; omega
theorem first_le : first cn 32 ≤ 62 := by have := first_le' cn 32; rw [h.sum] at this; omega
theorem first_pos : 0 < first cn 32 := by have := le_first' cn 32; rw [h.sum] at this; omega
theorem live_lt (s : ℕ) : live cn s < first cn 32 := by have := h.first_pos; unfold live; omega
theorem live_eq {s : ℕ} (hs : s < first cn 32) : live cn s = s := by unfold live; omega
theorem cn_le {e : ℕ} (he : e < 32) : cn e ≤ 34816 := by
  have h1 := total_mono cn (show e + 1 ≤ 32 by omega)
  rw [total_succ, h.sum] at h1; omega
theorem row0_lt (s : ℕ) (hs : s < first cn 32) : row0 cn s < 35040 := by
  have := row0_add_lt hs (len_pos hs); have := h.rows_le; omega

/-- Where assignment `A`'s row lies. -/
theorem dst_lt {A : ℕ} (hA : A < 34816) : rows cn (eA A) + qA A < 35040 := by
  have h1 := h.q_lt A hA
  have h2 := le_padded cn (eA A)
  have h3 := rows_mono cn (show eA A + 1 ≤ 32 from h.e_lt A hA)
  rw [rows_succ] at h3
  have := h.rows_le; omega

theorem dst_inj {A A' : ℕ} (hA : A < 34816) (hA' : A' < 34816) (he : rows cn (eA A) + qA A = rows cn (eA A') + qA A') : A = A' := by
  have key : ∀ B B', B < 34816 → B' < 34816 → rows cn (eA B) + qA B = rows cn (eA B') + qA B' → ¬ eA B < eA B' := fun B B' hB hB' hBB hlt => by
    have h1 := h.q_lt B hB
    have h2 := le_padded cn (eA B)
    have h3 := rows_mono cn (show eA B + 1 ≤ eA B' from hlt)
    rw [rows_succ] at h3
    omega
  have h1 := key A A' hA hA' he
  have h2 := key A' A hA' hA he.symm
  have h3 : eA A = eA A' := by omega
  exact h.inj A A' hA hA' h3 (by rw [h3] at he; omega)

theorem surj {e q : ℕ} (he : e < 32) (hq : q < cn e) : ∃ A, A < 34816 ∧ eA A = e ∧ qA A = q := by
  let T : Finset (Σ _ : ℕ, ℕ) := (Finset.range 32).sigma fun e => Finset.range (cn e)
  let f : ℕ → (Σ _ : ℕ, ℕ) := fun A => ⟨eA A, qA A⟩
  have hT : T.card = 34816 := by
    rw [Finset.card_sigma, ← h.sum, total_eq]
    exact Finset.sum_congr rfl fun i _ => Finset.card_range _
  have hI : ((Finset.range 34816).image f).card = 34816 := by
    rw [Finset.card_image_of_injOn, Finset.card_range]
    intro A hA A' hA' hAA
    have h1 : eA A = eA A' := congrArg Sigma.fst hAA
    have h2 : qA A = qA A' := by
      have h3 : f A = f A' := hAA
      exact congrArg (fun p : (Σ _ : ℕ, ℕ) => p.2) h3
    exact h.inj A A' (Finset.mem_range.mp hA) (Finset.mem_range.mp hA') h1 h2
  have hsub : (Finset.range 34816).image f ⊆ T := by
    intro p hp
    obtain ⟨A, hA, rfl⟩ := Finset.mem_image.mp hp
    exact Finset.mem_sigma.mpr ⟨Finset.mem_range.mpr (h.e_lt A (Finset.mem_range.mp hA)), Finset.mem_range.mpr (h.q_lt A (Finset.mem_range.mp hA))⟩
  have heq := Finset.eq_of_subset_of_card_le hsub (by rw [hT, hI])
  have hmem : (⟨e, q⟩ : Σ _ : ℕ, ℕ) ∈ (Finset.range 34816).image f := by
    rw [heq]; exact Finset.mem_sigma.mpr ⟨Finset.mem_range.mpr he, Finset.mem_range.mpr hq⟩
  obtain ⟨A, hA, hf⟩ := Finset.mem_image.mp hmem
  exact ⟨A, Finset.mem_range.mp hA, congrArg Sigma.fst hf, congrArg (fun p : (Σ _ : ℕ, ℕ) => p.2) hf⟩

/-- Every row an item holds is an assignment's. -/
theorem row_asg {s r : ℕ} (hs : s < first cn 32) (hr : r < len cn s) :
    ∃ A, A < 34816 ∧ eA A = ex cn s ∧ qA A = part cn s * 1152 + r ∧ row0 cn s + r = rows cn (eA A) + qA A := by
  obtain ⟨A, hA, he, hq⟩ := h.surj (ex_lt hs) (row_lt hs hr)
  exact ⟨A, hA, he, hq, by rw [he, hq]; unfold row0; omega⟩

/-- Every assignment's row is one an item holds. -/
theorem asg_row {A : ℕ} (hA : A < 34816) : ∃ s r, s < first cn 32 ∧ r < len cn s ∧ ex cn s = eA A ∧ row0 cn s + r = rows cn (eA A) + qA A := by
  have he := h.e_lt A hA
  have hq := h.q_lt A hA
  have hp : qA A / 1152 < parts cn (eA A) := by unfold parts; omega
  have h1 : first cn (eA A) + qA A / 1152 < first cn (eA A + 1) := by rw [first_succ]; omega
  have hx := ex_eq cn he (Nat.le_add_right _ _) h1
  have hpt : part cn (first cn (eA A) + qA A / 1152) = qA A / 1152 := by unfold part; rw [hx]; omega
  refine ⟨first cn (eA A) + qA A / 1152, qA A % 1152, h1.trans_le (first_mono cn he), ?_, hx, ?_⟩
  · unfold len; rw [hx, hpt]; omega
  · unfold row0; rw [hx, hpt]; omega

/-- Two items that hold one row are one item. -/
theorem item_unique {s s' r r' : ℕ} (hs : s < first cn 32) (hs' : s' < first cn 32) (hr : r < len cn s) (hr' : r' < len cn s')
    (he : row0 cn s + r = row0 cn s' + r') : s = s' := by
  obtain ⟨A, hA, e1, q1, d1⟩ := h.row_asg hs hr
  obtain ⟨A', hA', e2, q2, d2⟩ := h.row_asg hs' hr'
  obtain rfl := h.dst_inj hA hA' (by rw [← d1, ← d2, he])
  have h1 := ex_first hs
  have h2 := ex_first hs'
  have l1 := len_le cn s
  have l2 := len_le cn s'
  have e3 : ex cn s = ex cn s' := by rw [← e1, ← e2]
  have q3 : part cn s * 1152 + r = part cn s' * 1152 + r' := by rw [← q1, ← q2]
  have p3 : part cn s = part cn s' := by omega
  unfold part at p3
  rw [e3] at p3 h1
  omega

end Counts

end Cert.Proof.Plan
-- ==== Proof.Host.lean ====
/- What the host lines leave in the tables, at each index, as naturals. -/
module

public import proofs.«01_k».proof.Proof.Frame
public import proofs.«01_k».proof.Proof.Plan
public import Idealize.ShloMosaic.Lib.Routing.OpsSet
public import Idealize.ShloMosaic.Lib.Routing.OpsPair
public import Idealize.ShloMosaic.Lib.Routing.OpsSearch
public import Idealize.ShloMosaic.Lib.Pointwise

@[expose] public section

noncomputable section

namespace Cert.Proof.Expert

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx renaming ix0 → vx0, ix1 → vx1, ix2 → vx2, ix3 → vx3
open Idealize.ShloMosaic.Routing

variable {F : FTy → Type} [FloatOps F]

local notation "𝕄" => MT nD τ sig Unit (Elt F) ℕ (Pipeline.UD sig nD τ) ℕ

section
variable (m : (ℓ : Loc nD τ sig) → Buf (Elt F) ℓ) (c : Dev nD) {cn eA qA : ℕ → ℕ} (hC : Plan.Counts cn eA qA)
  (hcn : ∀ e : Fin 32, (m ((c : Thread nD τ).loc main_arg3) : IVec S32 32) (vx1 e) = BitVec.ofNat 32 (cn e.val))
  (hE : ∀ (t : Fin 8704) (k : Fin 4), (m ((c : Thread nD τ).loc main_arg1) : IVec S8704x4 32) (vx2 t k) = BitVec.ofNat 32 (eA (t.val * 4 + k.val)))
  (hQ : ∀ (t : Fin 8704) (k : Fin 4), (m ((c : Thread nD τ).loc main_arg2) : IVec S8704x4 32) (vx2 t k) = BitVec.ofNat 32 (qA (t.val * 4 + k.val)))

theorem rd_v6 : (W1 m c main_v6 : IVec S32 32) = muli (pyDiv bcast_S_S32 (subi (addi (W0 m c main_arg3 : IVec S32 32) (broadcastInDim S32 ![] bcast_S_S32 (constantI S_ 32 8#32))) (broadcastInDim S32 ![] bcast_S_S32 (constantI S_ 32 1#32))) (constantI S_ 32 8#32)) (broadcastInDim S32 ![] bcast_S_S32 (constantI S_ 32 8#32)) := by
  unfold W1; after_reads_simp
  all_goals try simp -implicitDefEqProofs only [StableHlo.TRef.toBuf, StableHlo.TRef.ofBuf, cast_cast, cast_eq, id, pyDiv]
  all_goals rfl

theorem rd_v7 : (W1 m c main_v7 : IVec S32 32) = Host.reduceWindow IntOp.addi ![32] ![1] ![31] ![0] (W1 m c main_v6 : IVec S32 32) (broadcastInDim S_ ![] bcast_S_S_ (constantI S_ 32 0#32)) reduceWindows_S32_S32_w32s1p31_0 h_S_ := by
  unfold W1; after_reads_simp
  all_goals try simp -implicitDefEqProofs only [StableHlo.TRef.toBuf, StableHlo.TRef.ofBuf, cast_cast, cast_eq, id, pyDiv]
  all_goals rfl

theorem rd_v8 : (W2 m c main_v8 : IVec S32 32) = subi (W1 m c main_v7 : IVec S32 32) (W1 m c main_v6 : IVec S32 32) := by
  unfold W2; after_reads_simp
  all_goals try simp -implicitDefEqProofs only [StableHlo.TRef.toBuf, StableHlo.TRef.ofBuf, cast_cast, cast_eq, id, pyDiv]
  all_goals rfl

theorem rd_v20 : (W2 m c main_v20 : IVec S34816 32) = shapeCast S34816 (addi (Host.gather gather_S32_S8704x4x1_S8704x4_n_0_n_n_0_2_1 (W2 m c main_v8 : IVec S32 32) (broadcastInDim S8704x4x1 ![0, 1] bcast_S8704x4_S8704x4x1_0_1 (select (cmpi .slt (W1 m c main_arg1 : IVec S8704x4 32) (broadcastInDim S8704x4 ![] bcast_S_S8704x4 (constantI S_ 32 0#32))) (addi (W1 m c main_arg1 : IVec S8704x4 32) (broadcastInDim S8704x4 ![] bcast_S_S8704x4 (constantI S_ 32 32#32))) (W1 m c main_arg1 : IVec S8704x4 32)))) (W1 m c main_arg2 : IVec S8704x4 32)) shapeCasts_S8704x4_S34816 := by
  unfold W2; after_reads_simp
  all_goals try simp -implicitDefEqProofs only [StableHlo.TRef.toBuf, StableHlo.TRef.ofBuf, cast_cast, cast_eq, id, pyDiv]
  all_goals rfl

theorem rd_v28 : (W2 m c main_v28 : IVec S36864 32) = Host.scatter scatter_S36864_S34816x1_S34816_n_0_0_1 (fun _ b => b) (broadcastInDim S36864 ![] bcast_S_S36864 (constantI S_ 32 4294967295#32)) (broadcastInDim S34816x1 ![0] bcast_S34816_S34816x1_0 (select (cmpi .slt (W2 m c main_v20 : IVec S34816 32) (broadcastInDim S34816 ![] bcast_S_S34816 (constantI S_ 32 0#32))) (addi (W2 m c main_v20 : IVec S34816 32) (broadcastInDim S34816 ![] bcast_S_S34816 (constantI S_ 32 36864#32))) (W2 m c main_v20 : IVec S34816 32))) (shapeCast S34816 (shapeCast S8704x4 (iotaInDim S34816 32 0) shapeCasts_S34816_S8704x4) shapeCasts_S8704x4_S34816) := by
  unfold W2; after_reads_simp
  all_goals try simp -implicitDefEqProofs only [StableHlo.TRef.toBuf, StableHlo.TRef.ofBuf, cast_cast, cast_eq, id, pyDiv]
  all_goals rfl

theorem rd_v33 : (W2 m c main_v33 : IVec S32 32) = pyDiv bcast_S_S32 (subi (addi (W1 m c main_arg3 : IVec S32 32) (broadcastInDim S32 ![] bcast_S_S32 (constantI S_ 32 1152#32))) (broadcastInDim S32 ![] bcast_S_S32 (constantI S_ 32 1#32))) (constantI S_ 32 1152#32) := by
  unfold W2; after_reads_simp
  all_goals try simp -implicitDefEqProofs only [StableHlo.TRef.toBuf, StableHlo.TRef.ofBuf, cast_cast, cast_eq, id, pyDiv]
  all_goals rfl

theorem rd_v34 : (W2 m c main_v34 : IVec S32 32) = Host.reduceWindow IntOp.addi ![32] ![1] ![31] ![0] (W2 m c main_v33 : IVec S32 32) (broadcastInDim S_ ![] bcast_S_S_ (constantI S_ 32 0#32)) reduceWindows_S32_S32_w32s1p31_0 h_S_ := by
  unfold W2; after_reads_simp
  all_goals try simp -implicitDefEqProofs only [StableHlo.TRef.toBuf, StableHlo.TRef.ofBuf, cast_cast, cast_eq, id, pyDiv]
  all_goals rfl

theorem rd_v38 : (W3 m c main_v38 : IVec S_ 32) = shapeCast S_ (extractStridedSlice S1 ![31] (W2 m c main_v34 : IVec S32 32) slices_S32_S1_31) shapeCasts_S1_S_ := by
  unfold W3; after_reads_simp
  all_goals try simp -implicitDefEqProofs only [StableHlo.TRef.toBuf, StableHlo.TRef.ofBuf, cast_cast, cast_eq, id, pyDiv]
  all_goals rfl

theorem rd_v40 : (W3 m c main_v40 : IVec S62 1) = cmpi .slt (iotaInDim S62 32 0) (broadcastInDim S62 ![] bcast_S_S62 (W3 m c main_v38 : IVec S_ 32)) := by
  unfold W3; after_reads_simp
  all_goals try simp -implicitDefEqProofs only [StableHlo.TRef.toBuf, StableHlo.TRef.ofBuf, cast_cast, cast_eq, id, pyDiv]
  all_goals rfl

theorem rd_v49 : (W3 m c main_v49 : IVec S62 32) = minsi (Host.reduce IntOp.addi (extui 32 (cmpi .sle (broadcastInDim S62x32 ![0, 1] bcast_S1x32_S62x32_0_1 (broadcastInDim S1x32 ![1] bcast_S32_S1x32_1 (W2 m c main_v34 : IVec S32 32))) (broadcastInDim S62x32 ![0, 1] bcast_S62x1_S62x32_0_1 (broadcastInDim S62x1 ![0] bcast_S62_S62x1_0 (iotaInDim S62 32 0)))) natLt_1_32) (constantI S_ 32 0#32) reducesTo_S62x32_S62_d1 h_S_) (broadcastInDim S62 ![] bcast_S_S62 (constantI S_ 32 31#32)) := by
  unfold W3; after_reads_simp
  all_goals try simp -implicitDefEqProofs only [StableHlo.TRef.toBuf, StableHlo.TRef.ofBuf, cast_cast, cast_eq, id, pyDiv]
  all_goals rfl

theorem rd_v57 : (W3 m c main_v57 : IVec S62 32) = subi (iotaInDim S62 32 0) (Host.gather gather_S32_S62x1_S62_n_0_n_n_0_1_1 (subi (W2 m c main_v34 : IVec S32 32) (W2 m c main_v33 : IVec S32 32)) (broadcastInDim S62x1 ![0] bcast_S62_S62x1_0 (select (cmpi .slt (W3 m c main_v49 : IVec S62 32) (broadcastInDim S62 ![] bcast_S_S62 (constantI S_ 32 0#32))) (addi (W3 m c main_v49 : IVec S62 32) (broadcastInDim S62 ![] bcast_S_S62 (constantI S_ 32 32#32))) (W3 m c main_v49 : IVec S62 32)))) := by
  unfold W3; after_reads_simp
  all_goals try simp -implicitDefEqProofs only [StableHlo.TRef.toBuf, StableHlo.TRef.ofBuf, cast_cast, cast_eq, id, pyDiv]
  all_goals rfl

theorem rd_v67 : (W3 m c main_v67 : IVec S62 32) = addi (Host.gather gather_S32_S62x1_S62_n_0_n_n_0_1_1 (W2 m c main_v8 : IVec S32 32) (broadcastInDim S62x1 ![0] bcast_S62_S62x1_0 (select (cmpi .slt (W3 m c main_v49 : IVec S62 32) (broadcastInDim S62 ![] bcast_S_S62 (constantI S_ 32 0#32))) (addi (W3 m c main_v49 : IVec S62 32) (broadcastInDim S62 ![] bcast_S_S62 (constantI S_ 32 32#32))) (W3 m c main_v49 : IVec S62 32)))) (muli (W3 m c main_v57 : IVec S62 32) (broadcastInDim S62 ![] bcast_S_S62 (constantI S_ 32 1152#32))) := by
  unfold W3; after_reads_simp
  all_goals try simp -implicitDefEqProofs only [StableHlo.TRef.toBuf, StableHlo.TRef.ofBuf, cast_cast, cast_eq, id, pyDiv]
  all_goals rfl

theorem rd_v77 : (W3 m c main_v77 : IVec S62 32) = subi (Host.gather gather_S32_S62x1_S62_n_0_n_n_0_1_1 (W2 m c main_arg3 : IVec S32 32) (broadcastInDim S62x1 ![0] bcast_S62_S62x1_0 (select (cmpi .slt (W3 m c main_v49 : IVec S62 32) (broadcastInDim S62 ![] bcast_S_S62 (constantI S_ 32 0#32))) (addi (W3 m c main_v49 : IVec S62 32) (broadcastInDim S62 ![] bcast_S_S62 (constantI S_ 32 32#32))) (W3 m c main_v49 : IVec S62 32)))) (muli (W3 m c main_v57 : IVec S62 32) (broadcastInDim S62 ![] bcast_S_S62 (constantI S_ 32 1152#32))) := by
  unfold W3; after_reads_simp
  all_goals try simp -implicitDefEqProofs only [StableHlo.TRef.toBuf, StableHlo.TRef.ofBuf, cast_cast, cast_eq, id, pyDiv]
  all_goals rfl

theorem rd_v78 : (W4 m c main_v78 : IVec S62 32) = minsi (broadcastInDim S62 ![] bcast_S_S62 (constantI S_ 32 1152#32)) (maxsi (broadcastInDim S62 ![] bcast_S_S62 (constantI S_ 32 0#32)) (W3 m c main_v77 : IVec S62 32)) := by
  unfold W4; after_reads_simp
  all_goals try simp -implicitDefEqProofs only [StableHlo.TRef.toBuf, StableHlo.TRef.ofBuf, cast_cast, cast_eq, id, pyDiv]
  all_goals rfl

theorem rd_v80 : (W4 m c main_v80 : IVec S_ 32) = maxsi (subi (W3 m c main_v38 : IVec S_ 32) (constantI S_ 32 1#32)) (constantI S_ 32 0#32) := by
  unfold W4; after_reads_simp
  all_goals try simp -implicitDefEqProofs only [StableHlo.TRef.toBuf, StableHlo.TRef.ofBuf, cast_cast, cast_eq, id, pyDiv]
  all_goals rfl

theorem rd_v85 : (W4 m c main_v85 : IVec S_ 32) = shapeCast S_ (Host.dynamicSlice S1 (W3 m c main_v49 : IVec S62 32) (fun _ => ((select (cmpi .slt (W4 m c main_v80 : IVec S_ 32) (constantI S_ 32 0#32)) (addi (W4 m c main_v80 : IVec S_ 32) (constantI S_ 32 62#32)) (W4 m c main_v80 : IVec S_ 32)) (Shape.Idx.first h_S_)).toInt) sliceFits_S62_S1) shapeCasts_S1_S_ := by
  unfold W4; after_reads_simp
  refine congrArg (fun z => shapeCast S_ z shapeCasts_S1_S_) (congrArg (fun st => Host.dynamicSlice S1 _ st sliceFits_S62_S1) (funext fun k => ?_))
  obtain rfl : k = 0 := Subsingleton.elim _ _
  change BitVec.toInt ((StableHlo.upto ops4 (W3 m c) 15 (Proc.devRef .tc main_v83) : IVec S_ 32) (Shape.Idx.first h_S_)) = _
  after_reads_simp

theorem rd_v86 : (W4b m c main_v86 : IVec S62 32) = select (W4 m c main_v40 : IVec S62 1) (W4 m c main_v49 : IVec S62 32) (broadcastInDim S62 ![] bcast_S_S62 (W4 m c main_v85 : IVec S_ 32)) := by
  unfold W4b; after_reads_simp
  all_goals try simp -implicitDefEqProofs only [StableHlo.TRef.toBuf, StableHlo.TRef.ofBuf, cast_cast, cast_eq, id, pyDiv]
  all_goals rfl

theorem rd_v91 : (W4b m c main_v91 : IVec S_ 32) = shapeCast S_ (Host.dynamicSlice S1 (W4 m c main_v67 : IVec S62 32) (fun _ => ((select (cmpi .slt (W4 m c main_v80 : IVec S_ 32) (constantI S_ 32 0#32)) (addi (W4 m c main_v80 : IVec S_ 32) (constantI S_ 32 62#32)) (W4 m c main_v80 : IVec S_ 32)) (Shape.Idx.first h_S_)).toInt) sliceFits_S62_S1) shapeCasts_S1_S_ := by
  unfold W4b; after_reads_simp
  refine congrArg (fun z => shapeCast S_ z shapeCasts_S1_S_) (congrArg (fun st => Host.dynamicSlice S1 _ st sliceFits_S62_S1) (funext fun k => ?_))
  obtain rfl : k = 0 := Subsingleton.elim _ _
  change BitVec.toInt ((StableHlo.upto ops4b (W4 m c) 7 (Proc.devRef .tc main_v89) : IVec S_ 32) (Shape.Idx.first h_S_)) = _
  after_reads_simp

theorem rd_v92 : (W4c m c main_v92 : IVec S62 32) = select (W4b m c main_v40 : IVec S62 1) (W4b m c main_v67 : IVec S62 32) (broadcastInDim S62 ![] bcast_S_S62 (W4b m c main_v91 : IVec S_ 32)) := by
  unfold W4c; after_reads_simp
  all_goals try simp -implicitDefEqProofs only [StableHlo.TRef.toBuf, StableHlo.TRef.ofBuf, cast_cast, cast_eq, id, pyDiv]
  all_goals rfl

theorem rd_v93 : (W4c m c main_v93 : IVec S62 32) = select (W4b m c main_v40 : IVec S62 1) (W4b m c main_v78 : IVec S62 32) (broadcastInDim S62 ![] bcast_S_S62 (constantI S_ 32 0#32)) := by
  unfold W4c; after_reads_simp
  all_goals try simp -implicitDefEqProofs only [StableHlo.TRef.toBuf, StableHlo.TRef.ofBuf, cast_cast, cast_eq, id, pyDiv]
  all_goals rfl

theorem rd_v101 : (W5 m c main_v101 : IVec S62x1152 32) = minsi (addi (broadcastInDim S62x1152 ![0, 1] bcast_S62x1_S62x1152_0_1 (broadcastInDim S62x1 ![0] bcast_S62_S62x1_0 (W4c m c main_v92 : IVec S62 32))) (broadcastInDim S62x1152 ![0, 1] bcast_S1x1152_S62x1152_0_1 (broadcastInDim S1x1152 ![1] bcast_S1152_S1x1152_1 (iotaInDim S1152 32 0)))) (broadcastInDim S62x1152 ![] bcast_S_S62x1152 (constantI S_ 32 36863#32)) := by
  unfold W5; after_reads_simp
  all_goals try simp -implicitDefEqProofs only [StableHlo.TRef.toBuf, StableHlo.TRef.ofBuf, cast_cast, cast_eq, id, pyDiv]
  all_goals rfl

theorem rd_v114 : (W5 m c main_v114 : IVec S62x1152 32) = select (cmpi .slt (broadcastInDim S62x1152 ![0, 1] bcast_S1x1152_S62x1152_0_1 (broadcastInDim S1x1152 ![1] bcast_S1152_S1x1152_1 (iotaInDim S1152 32 0))) (broadcastInDim S62x1152 ![0, 1] bcast_S62x1_S62x1152_0_1 (broadcastInDim S62x1 ![0] bcast_S62_S62x1_0 (W4c m c main_v93 : IVec S62 32)))) (Host.gather gather_S36864_S62x1152x1_S62x1152_n_0_n_n_0_2_1 (W4c m c main_v28 : IVec S36864 32) (broadcastInDim S62x1152x1 ![0, 1] bcast_S62x1152_S62x1152x1_0_1 (select (cmpi .slt (W5 m c main_v101 : IVec S62x1152 32) (broadcastInDim S62x1152 ![] bcast_S_S62x1152 (constantI S_ 32 0#32))) (addi (W5 m c main_v101 : IVec S62x1152 32) (broadcastInDim S62x1152 ![] bcast_S_S62x1152 (constantI S_ 32 36864#32))) (W5 m c main_v101 : IVec S62x1152 32)))) (broadcastInDim S62x1152 ![] bcast_S_S62x1152 (constantI S_ 32 0#32)) := by
  unfold W5; after_reads_simp
  all_goals try simp -implicitDefEqProofs only [StableHlo.TRef.toBuf, StableHlo.TRef.ofBuf, cast_cast, cast_eq, id, pyDiv]
  all_goals rfl

theorem rd_v115 : (W6 m c main_v115 : IVec S62 32) = pyDiv bcast_S_S62 (W5 m c main_v92 : IVec S62 32) (constantI S_ 32 8#32) := by
  unfold W6; after_reads_simp
  all_goals try simp -implicitDefEqProofs only [StableHlo.TRef.toBuf, StableHlo.TRef.ofBuf, cast_cast, cast_eq, id, pyDiv]
  all_goals rfl

theorem rd_v118 : (W6 m c main_v118 : IVec S36864 32) = pyDiv bcast_S_S36864 (maxsi (W5 m c main_v28 : IVec S36864 32) (broadcastInDim S36864 ![] bcast_S_S36864 (constantI S_ 32 0#32))) (constantI S_ 32 4#32) := by
  unfold W6; after_reads_simp
  all_goals try simp -implicitDefEqProofs only [StableHlo.TRef.toBuf, StableHlo.TRef.ofBuf, cast_cast, cast_eq, id, pyDiv]
  all_goals rfl

theorem rd_v125 : (W7 m c main_v125 : FVec F S36864x2048 .f32) = Host.gather gather_S8704x2048_S36864x1_S36864x2048_1_0_n_n_0_1_12048 (W6 m c main_arg0 : FVec F S8704x2048 .f32) (broadcastInDim S36864x1 ![0] bcast_S36864_S36864x1_0 (select (cmpi .slt (W6 m c main_v118 : IVec S36864 32) (broadcastInDim S36864 ![] bcast_S_S36864 (constantI S_ 32 0#32))) (addi (W6 m c main_v118 : IVec S36864 32) (broadcastInDim S36864 ![] bcast_S_S36864 (constantI S_ 32 8704#32))) (W6 m c main_v118 : IVec S36864 32))) := by
  unfold W7; after_reads_simp
  all_goals try simp -implicitDefEqProofs only [StableHlo.TRef.toBuf, StableHlo.TRef.ofBuf, cast_cast, cast_eq, id, pyDiv]
  all_goals rfl

theorem kp_arg3_1 : W1 m c main_arg3 = m ((c : Thread nD τ).loc main_arg3) := by
  unfold W1; after_reads_simp; rfl

theorem kp_arg3_2 : W2 m c main_arg3 = m ((c : Thread nD τ).loc main_arg3) := by
  unfold W2 W1; after_reads_simp; rfl

theorem kp_arg1 : W1 m c main_arg1 = m ((c : Thread nD τ).loc main_arg1) := by
  unfold W1; after_reads_simp; rfl

theorem kp_arg2 : W1 m c main_arg2 = m ((c : Thread nD τ).loc main_arg2) := by
  unfold W1; after_reads_simp; rfl

theorem kp_arg0 : W6 m c main_arg0 = m ((c : Thread nD τ).loc main_arg0) := by
  unfold W6 W5 W4c W4b W4 W3 W2 W1; after_reads_simp; rfl

theorem kp_v28_4 : W4c m c main_v28 = W2 m c main_v28 := by
  unfold W4c W4b W4 W3; after_reads_simp

theorem kp_v28_5 : W5 m c main_v28 = W2 m c main_v28 := by
  unfold W5 W4c W4b W4 W3; after_reads_simp

theorem kp_v92_5 : W5 m c main_v92 = W4c m c main_v92 := by
  unfold W5; after_reads_simp

theorem kp_v86 : W7 m c main_v86 = W4b m c main_v86 := by
  unfold W7 W6 W5 W4c; after_reads_simp

theorem kp_v93 : W7 m c main_v93 = W4c m c main_v93 := by
  unfold W7 W6 W5; after_reads_simp

theorem kp_v114 : W7 m c main_v114 = W5 m c main_v114 := by
  unfold W7 W6; after_reads_simp

theorem kp_v115 : W7 m c main_v115 = W6 m c main_v115 := by
  unfold W7; after_reads_simp

theorem kp_v40_4 : W4 m c main_v40 = W3 m c main_v40 := by
  unfold W4; after_reads_simp

theorem kp_v49_4 : W4 m c main_v49 = W3 m c main_v49 := by
  unfold W4; after_reads_simp

theorem kp_v67_4 : W4 m c main_v67 = W3 m c main_v67 := by
  unfold W4; after_reads_simp

theorem kp_v40_5 : W4b m c main_v40 = W3 m c main_v40 := by
  unfold W4b W4; after_reads_simp

theorem kp_v67_5 : W4b m c main_v67 = W3 m c main_v67 := by
  unfold W4b W4; after_reads_simp

theorem kp_v78 : W4b m c main_v78 = W4 m c main_v78 := by
  unfold W4b; after_reads_simp

end

end Cert.Proof.Expert
-- ==== Proof.Land.lean ====
/- Gathers and scatters of whole elements, at an index. -/
module

public import Idealize.ShloMosaic.Lib.Routing.OpsSet
public import Idealize.ShloMosaic.Lib.Routing.OpsPair
public import Idealize.ShloMosaic.Lib.Routing.OpsSearch

@[expose] public section

namespace Cert.Proof.Expert

open Idealize.ShloMosaic
open Idealize.ShloMosaic.ValueIdx renaming ix0 → vx0, ix1 → vx1, ix2 → vx2, ix3 → vx3
open Idealize.ShloMosaic.Routing

/-- The element at place `k` of a list that is `[0, 1]`. -/
theorem pair_at (l : List (Fin 2)) (k : ℕ) (hk : k < l.length) (q : Fin 2) (hl : l = [0, 1]) (hq : k = q.val) : l[k]'hk = q := by
  subst hl; subst hq; fin_cases q <;> rfl

/-- Elements of a vector taken at a matrix of places. -/
theorem take2 {α : Type} {N a b : ℕ} (d : GatherDims (shape1 N) (shape3 a b 1) (shape2 a b)) (hoff : d.offsetDims = []) (hcoll : d.collapsedSliceDims = [0])
    (hob : d.operandBatchingDims = []) (hsim : d.startIndexMap = [0]) (hivd : d.indexVectorDim = 2) (x : (shape1 N).Idx → α) (idx : IVec (shape3 a b 1) 32)
    (p : Fin a) (q : Fin b) (k : Fin N) (hN : N < 2 ^ 31) (hk : idx (vx3 p q 0) = BitVec.ofNat 32 k.val) :
    Host.gather d x idx (vx2 p q) = x (vx1 k) := by
  unfold Host.gather
  refine congrArg x (funext fun e => ?_)
  obtain rfl : e = 0 := Subsingleton.elim _ _
  apply Fin.ext
  have hb : (0 : Fin 1) ∉ d.operandBatchingDims := by rw [hob]; exact List.not_mem_nil
  have hs : (0 : Fin 1) ∉ d.sKept := by rw [GatherDims.mem_sKept, hcoll]; simp
  have hm : (0 : Fin 1) ∈ d.startIndexMap := by rw [hsim]; exact List.mem_singleton.mpr rfl
  have hsl : d.sliceSizes 0 = 1 := d.slice_collapsed 0 (by rw [hcoll]; exact List.mem_singleton.mpr rfl)
  have hsk : d.siKept = [0, 1] := by
    show (List.finRange 3).filter (fun y => decide (y.val ≠ d.indexVectorDim)) = _
    rw [hivd]; rfl
  have hbd : d.batchDims = [0, 1] := by
    show (shape2 a b).kept d.offsetDims = _
    rw [hoff]; rfl
  have hi : d.siIdx (vx2 p q) ⟨d.startIndexMap.idxOf 0, List.idxOf_lt_length_iff.2 hm⟩ = vx3 p q 0 := by
    funext y
    apply Fin.ext
    match y with
    | ⟨0, _⟩ =>
      unfold GatherDims.siIdx
      rw [dif_neg (by rw [hivd]; exact (by decide : (0 : ℕ) ≠ 2))]
      unfold GatherDims.siCoord
      simp only [Fin.val_cast]
      rw [pair_at _ _ _ 0 hbd (by rw [hsk]; rfl)]
    | ⟨1, _⟩ =>
      unfold GatherDims.siIdx
      rw [dif_neg (by rw [hivd]; exact (by decide : (1 : ℕ) ≠ 2))]
      unfold GatherDims.siCoord
      simp only [Fin.val_cast]
      rw [pair_at _ _ _ 1 hbd (by rw [hsk]; rfl)]
    | ⟨2, _⟩ =>
      unfold GatherDims.siIdx
      rw [dif_pos (by rw [hivd])]
      show List.idxOf (0 : Fin 1) d.startIndexMap = 0
      rw [hsim]; simp
  show d.start (vx2 p q) idx 0 + d.batchCoord (vx2 p q) 0 + d.offCoord (vx2 p q) 0 = k.val
  rw [d.batchCoord_eq_zero _ _ hb, d.offCoord_eq_zero _ _ hs]
  unfold GatherDims.start
  rw [dif_pos hm, hi, hk, hsl, StableHlo.Predicate.toInt_ofNat_small _ (by have := k.isLt; omega), Int.toNat_natCast]
  show min k.val (N - 1) + 0 + 0 = k.val
  have := k.isLt
  omega

/-- Where update `A` of a vector lands. -/
theorem lands1 {N n : ℕ} (d : ScatterDims (shape1 N) (shape2 n 1) (shape1 n)) (hiw : d.insertedWindowDims = [0])
    (hsd : d.scatterDimsToOperandDims = [0]) (hivd : d.indexVectorDim = 1) (idx : IVec (shape2 n 1) 32) (A : Fin n) (e : Fin N) :
    d.resultIdx? (vx1 A) idx = some (vx1 e) ↔ (idx (vx2 A 0)).toInt = e.val := by
  have huw : d.updateWindowDims = [] := List.eq_nil_of_length_eq_zero (by
    rw [d.window_length]
    show ((shape1 N).kept d.insertedWindowDims).length = 0
    rw [hiw]
    rfl)
  have hm : (0 : Fin 1) ∈ d.scatterDimsToOperandDims := by rw [hsd]; exact List.mem_singleton.mpr rfl
  have hwin : d.window (vx1 A) 0 = 0 := by
    unfold ScatterDims.window
    rw [dif_neg fun h => (of_decide_eq_true (List.mem_filter.1 h).2) (by rw [hiw]; exact List.mem_singleton.mpr rfl)]
  have hi : d.siIdx (vx1 A) ⟨d.scatterDimsToOperandDims.idxOf 0, List.idxOf_lt_length_iff.2 hm⟩ = vx2 A 0 := by
    funext y
    apply Fin.ext
    match y with
    | ⟨0, _⟩ =>
      unfold ScatterDims.siIdx
      rw [dif_neg (by rw [hivd]; exact (by decide : (0 : ℕ) ≠ 1))]
      unfold ScatterDims.siCoord
      simp only [Fin.val_cast]
      have he : ∀ X : Fin 1, ((vx1 A : (shape1 n).Idx) X).val = A.val := fun X => by
        obtain rfl : X = 0 := Subsingleton.elim _ _
        rfl
      exact he _
    | ⟨1, _⟩ =>
      unfold ScatterDims.siIdx
      rw [dif_pos (by rw [hivd])]
      show List.idxOf (0 : Fin 1) d.scatterDimsToOperandDims = 0
      rw [hsd]; simp
  rw [resultIdx?_ix1, hwin]
  unfold ScatterDims.start
  rw [dif_pos hm, hi]
  simp

/-- Elements of a matrix taken at pairs of places: equal pairs, equal elements. -/
theorem take_pairs {α : Type} {R C n : ℕ} (d : GatherDims (shape2 R C) (shape2 n 2) (shape1 n)) (hoff : d.offsetDims = []) (hcoll : d.collapsedSliceDims = [0, 1])
    (hob : d.operandBatchingDims = []) (hsim : d.startIndexMap = [0, 1]) (hivd : d.indexVectorDim = 1) (x : (shape2 R C).Idx → α) (idx : IVec (shape2 n 2) 32)
    (A A' : Fin n) (h : ∀ q : Fin 2, idx (vx2 A q) = idx (vx2 A' q)) : Host.gather d x idx (vx1 A) = Host.gather d x idx (vx1 A') := by
  unfold Host.gather
  refine congrArg x (funext fun e => Fin.ext ?_)
  have hb : ∀ e, e ∉ d.operandBatchingDims := fun e => by rw [hob]; exact List.not_mem_nil
  have hs : ∀ e : Fin 2, e ∉ d.sKept := fun e => by rw [GatherDims.mem_sKept, hcoll]; fin_cases e <;> simp
  have hm : ∀ e : Fin 2, e ∈ d.startIndexMap := fun e => by rw [hsim]; fin_cases e <;> simp
  have hi : ∀ (B : Fin n) (e : Fin 2), d.siIdx (vx1 B) ⟨d.startIndexMap.idxOf e, List.idxOf_lt_length_iff.2 (hm e)⟩ = vx2 B e := fun B e => by
    funext y
    apply Fin.ext
    match y with
    | ⟨0, _⟩ =>
      unfold GatherDims.siIdx
      rw [dif_neg (by rw [hivd]; exact (by decide : (0 : ℕ) ≠ 1))]
      unfold GatherDims.siCoord
      simp only [Fin.val_cast]
      have he : ∀ X : Fin 1, ((vx1 B : (shape1 n).Idx) X).val = B.val := fun X => by
        obtain rfl : X = 0 := Subsingleton.elim _ _
        rfl
      exact he _
    | ⟨1, _⟩ =>
      unfold GatherDims.siIdx
      rw [dif_pos (by rw [hivd])]
      show List.idxOf e d.startIndexMap = e.val
      rw [hsim]; fin_cases e <;> rfl
  show d.start (vx1 A) idx e + d.batchCoord (vx1 A) e + d.offCoord (vx1 A) e = d.start (vx1 A') idx e + d.batchCoord (vx1 A') e + d.offCoord (vx1 A') e
  rw [d.batchCoord_eq_zero _ _ (hb e), d.batchCoord_eq_zero _ _ (hb e), d.offCoord_eq_zero _ _ (hs e), d.offCoord_eq_zero _ _ (hs e)]
  unfold GatherDims.start
  rw [dif_pos (hm e), dif_pos (hm e), hi A e, hi A' e]
  exact congrArg (fun w => min (BitVec.toInt w).toNat _ + 0 + 0) (h e)

/-- A single element, as a scalar. -/
theorem cast10 {α : Type} (x : (shape1 1).Idx → α) (h : (shape1 1).ShapeCasts shape0) (i : shape0.Idx) : shapeCast shape0 x h i = x (vx1 0) := by
  unfold shapeCast
  refine congrArg x (funext fun a => ?_)
  obtain rfl : a = 0 := Subsingleton.elim _ _
  exact Subsingleton.elim (α := Fin 1) _ _

/-! Words that hold small numbers. -/

theorem word_add (a b : ℕ) : IntOp.addi (BitVec.ofNat 32 a) (BitVec.ofNat 32 b) = BitVec.ofNat 32 (a + b) := (BitVec.ofNat_add a b).symm

theorem word_sub {a b : ℕ} (h : b ≤ a) : IntOp.subi (BitVec.ofNat 32 a) (BitVec.ofNat 32 b) = BitVec.ofNat 32 (a - b) := by
  change BitVec.ofNat 32 a - BitVec.ofNat 32 b = _
  exact BitVec.eq_of_toNat_eq (by simp only [BitVec.toNat_sub, BitVec.toNat_ofNat]; omega)

theorem word_mul (a b : ℕ) : IntOp.muli (BitVec.ofNat 32 a) (BitVec.ofNat 32 b) = BitVec.ofNat 32 (a * b) := (BitVec.ofNat_mul a b).symm

theorem word_min {a b : ℕ} (ha : a < 2 ^ 31) (hb : b < 2 ^ 31) : IntOp.minsi (BitVec.ofNat 32 a) (BitVec.ofNat 32 b) = BitVec.ofNat 32 (min a b) := by
  have h := clip_word (x := b) (lo := 0) (hi := a) hb (by omega) ha
  have h0 := maxsi_zero_left hb
  rw [show BitVec.ofNat 32 0 = 0#32 from rfl, h0] at h
  rw [h]; congr 1; omega

theorem word_pred {a : ℕ} (ha : a < 2 ^ 31) : IntOp.maxsi (IntOp.subi (BitVec.ofNat 32 a) 1#32) 0#32 = BitVec.ofNat 32 (a - 1) := maxsi_pred ha

theorem word_wrap {a : ℕ} (ha : a < 2 ^ 31) (y : BitVec 32) : Scalar.select (IntOp.cmpi .slt (BitVec.ofNat 32 a) 0#32) y (BitVec.ofNat 32 a) = BitVec.ofNat 32 a :=
  wrap_of_lt _ _ (by rw [BitVec.toNat_ofNat]; omega)

theorem word_slt {a b : ℕ} (ha : a < 2 ^ 31) (hb : b < 2 ^ 31) : IntOp.cmpi .slt (BitVec.ofNat 32 a) (BitVec.ofNat 32 b) = BitVec.ofBool (decide (a < b)) :=
  WordCmp.cmpi_slt_ofNat ha hb

end Cert.Proof.Expert
-- ==== Proof.HostAt.lean ====
/- What the host lines leave in the tables, at each index. -/
module

public import proofs.«01_k».proof.Proof.Host
public import proofs.«01_k».proof.Proof.Land
public import Idealize.ShloMosaic.Lib.Routing.OpsSet
public import Idealize.ShloMosaic.Lib.Routing.OpsPair
public import Idealize.ShloMosaic.Lib.Routing.OpsSearch
public import Idealize.ShloMosaic.Lib.Pointwise

@[expose] public section

noncomputable section

namespace Cert.Proof.Expert
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx renaming ix0 → vx0, ix1 → vx1, ix2 → vx2, ix3 → vx3
open Idealize.ShloMosaic.Routing

variable {F : FTy → Type} [FloatOps F]

local notation "𝕄" => MT nD τ sig Unit (Elt F) ℕ (Pipeline.UD sig nD τ) ℕ

section
variable (m : (ℓ : Loc nD τ sig) → Buf (Elt F) ℓ) (c : Dev nD) {cn eA qA : ℕ → ℕ} (hC : Plan.Counts cn eA qA)
  (hcn : ∀ e : Fin 32, (m ((c : Thread nD τ).loc main_arg3) : IVec S32 32) (vx1 e) = BitVec.ofNat 32 (cn e.val))
  (hE : ∀ (t : Fin 8704) (k : Fin 4), (m ((c : Thread nD τ).loc main_arg1) : IVec S8704x4 32) (vx2 t k) = BitVec.ofNat 32 (eA (t.val * 4 + k.val)))
  (hQ : ∀ (t : Fin 8704) (k : Fin 4), (m ((c : Thread nD τ).loc main_arg2) : IVec S8704x4 32) (vx2 t k) = BitVec.ofNat 32 (qA (t.val * 4 + k.val)))

include hC hcn

theorem at_v6 (e : Fin 32) : (W1 m c main_v6 : IVec S32 32) (vx1 e) = BitVec.ofNat 32 (Plan.padded cn e) := by
  have hle := hC.cn_le e.isLt
  rw [rd_v6]
  have h := pyDiv_ap (hb := bcast_S_S32) (subi (addi (W0 m c main_arg3 : IVec S32 32) (broadcastInDim S32 ![] bcast_S_S32 (constantI S_ 32 8#32))) (broadcastInDim S32 ![] bcast_S_S32 (constantI S_ 32 1#32)))
    (constantI S_ 32 8#32) (vx1 e) (a := cn e + 7) (b := 8) (by
      change IntOp.subi (IntOp.addi ((m ((c : Thread nD τ).loc main_arg3) : IVec S32 32) (vx1 e)) (BitVec.ofNat 32 8)) (BitVec.ofNat 32 1) = _
      rw [hcn, word_add, word_sub (by omega)]; rfl) rfl (by omega) (by omega) (by omega)
  refine (congrArg (fun z : BitVec 32 => IntOp.muli z (BitVec.ofNat 32 8)) h).trans ?_
  rw [word_mul]; rfl

theorem at_v7 (e : Fin 32) : (W1 m c main_v7 : IVec S32 32) (vx1 e) = BitVec.ofNat 32 (Plan.rows cn (e + 1)) := by
  rw [rd_v7]
  exact cumsum1 (by rfl) _ (Plan.padded cn) (at_v6 m c hC hcn) _ rfl _ _ e

theorem at_v8 (e : Fin 32) : (W2 m c main_v8 : IVec S32 32) (vx1 e) = BitVec.ofNat 32 (Plan.rows cn e) := by
  rw [rd_v8]
  change IntOp.subi ((W1 m c main_v7 : IVec S32 32) (vx1 e)) ((W1 m c main_v6 : IVec S32 32) (vx1 e)) = _
  rw [at_v7 m c hC hcn, at_v6 m c hC hcn, Plan.rows_succ, word_sub (by omega)]
  congr 1; omega

theorem at_v33 (e : Fin 32) : (W2 m c main_v33 : IVec S32 32) (vx1 e) = BitVec.ofNat 32 (Plan.parts cn e) := by
  have hle := hC.cn_le e.isLt
  rw [rd_v33, kp_arg3_1]
  exact pyDiv_ap (hb := bcast_S_S32) _
    (constantI S_ 32 1152#32) (vx1 e) (a := cn e + 1151) (b := 1152) (by
      change IntOp.subi (IntOp.addi ((m ((c : Thread nD τ).loc main_arg3) : IVec S32 32) (vx1 e)) (BitVec.ofNat 32 1152)) (BitVec.ofNat 32 1) = _
      rw [hcn, word_add, word_sub (by omega)]; rfl) rfl (by omega) (by omega) (by omega)

theorem at_v34 (e : Fin 32) : (W2 m c main_v34 : IVec S32 32) (vx1 e) = BitVec.ofNat 32 (Plan.first cn (e + 1)) := by
  rw [rd_v34]
  exact cumsum1 (by rfl) _ (Plan.parts cn) (at_v33 m c hC hcn) _ rfl _ _ e

theorem at_v38 (i : S_.Idx) : (W3 m c main_v38 : IVec S_ 32) i = BitVec.ofNat 32 (Plan.first cn 32) := by
  rw [rd_v38]
  exact (cast10 _ _ i).trans ((slice1 31 (W2 m c main_v34 : IVec S32 32) slices_S32_S1_31 (0 : Fin 1) (by decide)).trans (at_v34 m c hC hcn (31 : Fin 32)))

theorem at_v40 (s : Fin 62) : (W3 m c main_v40 : IVec S62 1) (vx1 s) = BitVec.ofBool (decide (s.val < Plan.first cn 32)) := by
  have hf := hC.first_le
  rw [rd_v40]
  change IntOp.cmpi .slt (BitVec.ofNat 32 s.val) ((W3 m c main_v38 : IVec S_ 32) _) = _
  rw [at_v38 m c hC hcn, WordCmp.cmpi_slt_ofNat (by have := s.isLt; omega) (by omega)]

theorem at_v49 (s : Fin 62) : (W3 m c main_v49 : IVec S62 32) (vx1 s) = BitVec.ofNat 32 (min (Plan.ex cn s) 31) := by
  have hf := hC.first_le
  rw [rd_v49]
  have h := reduce_count (n := 62) (m := 32) (by decide) (cmpi .sle (broadcastInDim S62x32 ![0, 1] bcast_S1x32_S62x32_0_1 (broadcastInDim S1x32 ![1] bcast_S32_S1x32_1 (W2 m c main_v34 : IVec S32 32))) (broadcastInDim S62x32 ![0, 1] bcast_S62x1_S62x32_0_1 (broadcastInDim S62x1 ![0] bcast_S62_S62x1_0 (iotaInDim S62 32 0))))
    natLt_1_32 reducesTo_S62x32_S62_d1 h_S_ s (fun e => Plan.first cn (e + 1) ≤ s) (fun q => by
      change IntOp.cmpi .sle (broadcastInDim S62x32 ![0, 1] bcast_S1x32_S62x32_0_1 (broadcastInDim S1x32 ![1] bcast_S32_S1x32_1 (W2 m c main_v34 : IVec S32 32)) (vx2 s q)) (broadcastInDim S62x32 ![0, 1] bcast_S62x1_S62x32_0_1 (broadcastInDim S62x1 ![0] bcast_S62_S62x1_0 (iotaInDim S62 32 0)) (vx2 s q)) = 1#1 ↔ _
      have hm := Plan.first_mono cn (show q.val + 1 ≤ 32 from q.isLt)
      rw [bcCols, bcRows, at_v34 m c hC hcn]
      exact WordCmp.cmpi_sle_ofNat_eq_one_iff (w := 32) (a := Plan.first cn (q + 1)) (b := s.val) (by omega) (by have := s.isLt; omega))
  refine (congrArg (fun z : BitVec 32 => IntOp.minsi z (BitVec.ofNat 32 31)) h).trans ?_
  have hx : Nat.count (fun e => Plan.first cn (e + 1) ≤ s) 32 ≤ 32 := Nat.count_le _
  rw [word_min (by omega) (by omega)]; rfl

/-- A vector over the experts, read at the items' experts. -/
theorem take_ex (x : IVec S32 32) (s : Fin 62) : Host.gather gather_S32_S62x1_S62_n_0_n_n_0_1_1 x (broadcastInDim S62x1 ![0] bcast_S62_S62x1_0 (select (cmpi .slt (W3 m c main_v49 : IVec S62 32) (broadcastInDim S62 ![] bcast_S_S62 (constantI S_ 32 0#32))) (addi (W3 m c main_v49 : IVec S62 32) (broadcastInDim S62 ![] bcast_S_S62 (constantI S_ 32 32#32))) (W3 m c main_v49 : IVec S62 32))) (vx1 s)
    = x (vx1 ⟨min (Plan.ex cn s) 31, by omega⟩) := by
  refine take_ap gather_S32_S62x1_S62_n_0_n_n_0_1_1 rfl rfl rfl rfl x _ s (by omega) (by omega) ?_
  rw [bcCol]
  change Scalar.select (IntOp.cmpi .slt ((W3 m c main_v49 : IVec S62 32) (vx1 s)) 0#32) _ ((W3 m c main_v49 : IVec S62 32) (vx1 s)) = _
  rw [at_v49 m c hC hcn, word_wrap (by omega)]

theorem at_v57 (s : Fin 62) (hs : s.val < Plan.first cn 32) : (W3 m c main_v57 : IVec S62 32) (vx1 s) = BitVec.ofNat 32 (Plan.part cn s) := by
  have hx := Plan.ex_lt hs
  have hf := Plan.ex_first hs
  rw [rd_v57]
  refine (congrArg (fun z : BitVec 32 => IntOp.subi (BitVec.ofNat 32 s.val) z) (take_ex m c hC hcn _ s)).trans ?_
  change IntOp.subi _ (IntOp.subi ((W2 m c main_v34 : IVec S32 32) (vx1 _)) ((W2 m c main_v33 : IVec S32 32) (vx1 _))) = _
  rw [at_v34 m c hC hcn, at_v33 m c hC hcn, Plan.first_succ, word_sub (by omega)]
  have e : min (Plan.ex cn s) 31 = Plan.ex cn s := by omega
  rw [Nat.add_sub_cancel, word_sub (by show Plan.first cn (min (Plan.ex cn s) 31) ≤ _; rw [e]; exact hf)]
  show BitVec.ofNat 32 (s.val - Plan.first cn (min (Plan.ex cn s) 31)) = _
  rw [e]; rfl

theorem at_v67 (s : Fin 62) (hs : s.val < Plan.first cn 32) : (W3 m c main_v67 : IVec S62 32) (vx1 s) = BitVec.ofNat 32 (Plan.row0 cn s) := by
  have hx := Plan.ex_lt hs
  have e : min (Plan.ex cn s) 31 = Plan.ex cn s := by omega
  rw [rd_v67]
  refine (congrArg₂ (fun y z : BitVec 32 => IntOp.addi y (IntOp.muli z (BitVec.ofNat 32 1152))) (take_ex m c hC hcn _ s) (at_v57 m c hC hcn s hs)).trans ?_
  rw [at_v8 m c hC hcn, word_mul, word_add]
  show BitVec.ofNat 32 (Plan.rows cn (min (Plan.ex cn s) 31) + _) = _
  rw [e]; rfl

theorem at_v77 (s : Fin 62) (hs : s.val < Plan.first cn 32) : (W3 m c main_v77 : IVec S62 32) (vx1 s) = BitVec.ofNat 32 (cn (Plan.ex cn s) - Plan.part cn s * 1152) := by
  have hx := Plan.ex_lt hs
  have hp := Plan.part_rows hs
  have e : min (Plan.ex cn s) 31 = Plan.ex cn s := by omega
  rw [rd_v77, kp_arg3_2]
  refine (congrArg₂ (fun y z : BitVec 32 => IntOp.subi y (IntOp.muli z (BitVec.ofNat 32 1152))) (take_ex m c hC hcn _ s) (at_v57 m c hC hcn s hs)).trans ?_
  rw [hcn, word_mul]
  show IntOp.subi (BitVec.ofNat 32 (cn (min (Plan.ex cn s) 31))) _ = _
  rw [e, word_sub (by omega)]

theorem at_v78 (s : Fin 62) (hs : s.val < Plan.first cn 32) : (W4 m c main_v78 : IVec S62 32) (vx1 s) = BitVec.ofNat 32 (Plan.len cn s) := by
  have hx := hC.cn_le (Plan.ex_lt hs)
  rw [rd_v78]
  change IntOp.minsi (BitVec.ofNat 32 1152) (IntOp.maxsi (BitVec.ofNat 32 0) ((W3 m c main_v77 : IVec S62 32) (vx1 s))) = _
  rw [at_v77 m c hC hcn s hs, clip_word (by omega) (by omega) (by omega)]
  unfold Plan.len
  congr 2; omega

theorem at_v80 (i : S_.Idx) : (W4 m c main_v80 : IVec S_ 32) i = BitVec.ofNat 32 (Plan.first cn 32 - 1) := by
  have hf := hC.first_le
  rw [rd_v80]
  change IntOp.maxsi (IntOp.subi ((W3 m c main_v38 : IVec S_ 32) i) 1#32) 0#32 = _
  rw [at_v38 m c hC hcn, word_pred (by omega)]

/-- The last item that holds rows. -/
def lastItem : Fin 62 := ⟨Plan.first cn 32 - 1, by have := hC.first_le; omega⟩

theorem start_last : ((select (cmpi .slt (W4 m c main_v80 : IVec S_ 32) (constantI S_ 32 0#32)) (addi (W4 m c main_v80 : IVec S_ 32) (constantI S_ 32 62#32)) (W4 m c main_v80 : IVec S_ 32)) (Shape.Idx.first h_S_)).toInt = ((lastItem hC).val : ℤ) := by
  have hf := hC.first_le
  refine (congrArg BitVec.toInt (?_ : _ = BitVec.ofNat 32 (Plan.first cn 32 - 1))).trans ?_
  · change Scalar.select (IntOp.cmpi .slt ((W4 m c main_v80 : IVec S_ 32) _) 0#32) _ ((W4 m c main_v80 : IVec S_ 32) _) = _
    rw [at_v80 m c hC hcn, word_wrap (by omega)]
  · rw [StableHlo.Predicate.toInt_ofNat_small _ (by omega)]; rfl

omit hC hcn in
/-- A vector over the items, read at one item. -/
theorem slice_at (x : IVec S62 32) (z : ℤ) (k : Fin 62) (hz : z = (k.val : ℤ)) (i : S_.Idx) : shapeCast S_ (Host.dynamicSlice S1 x (fun _ => z) sliceFits_S62_S1) shapeCasts_S1_S_ i
    = x (vx1 k) := by
  subst hz
  refine (cast10 _ _ i).trans ((Host.dynamicSlice_apply x _ sliceFits_S62_S1 (vx1 0)).trans ?_)
  refine congrArg x (funext fun a => Fin.ext ?_)
  obtain rfl : a = 0 := Subsingleton.elim _ _
  exact Host.clampedStart_of_le (s := S62) (t := S1) rfl (fun _ => ((k.val : ℕ) : ℤ)) 0 k.val rfl (by show k.val + 1 ≤ 62; omega)

theorem at_v85 (i : S_.Idx) : (W4 m c main_v85 : IVec S_ 32) i = BitVec.ofNat 32 (Plan.ex cn (Plan.first cn 32 - 1)) := by
  have hx := Plan.ex_lt (show Plan.first cn 32 - 1 < Plan.first cn 32 by have := hC.first_pos; omega)
  rw [rd_v85]
  refine (slice_at _ _ (lastItem hC) (start_last m c hC hcn) i).trans ((at_v49 m c hC hcn _).trans ?_)
  show BitVec.ofNat 32 (min (Plan.ex cn (Plan.first cn 32 - 1)) 31) = _
  congr 1; omega

theorem at_v91 (i : S_.Idx) : (W4b m c main_v91 : IVec S_ 32) i = BitVec.ofNat 32 (Plan.row0 cn (Plan.first cn 32 - 1)) := by
  rw [rd_v91, kp_v67_4]
  exact (slice_at _ _ (lastItem hC) (start_last m c hC hcn) i).trans (at_v67 m c hC hcn _ (by show Plan.first cn 32 - 1 < _; have := hC.first_pos; omega))

/-- A choice by which items hold rows. -/
theorem choose_live (P Q : Prop) [Decidable P] (x y : BitVec 32) (a b : ℕ) (h1 : P → x = BitVec.ofNat 32 a) (h2 : ¬ P → y = BitVec.ofNat 32 b) :
    Scalar.select (BitVec.ofBool (decide P)) x y = BitVec.ofNat 32 (if P then a else b) := by
  by_cases h : P
  · rw [if_pos h, ← h1 h, decide_eq_true h]; rfl
  · rw [if_neg h, ← h2 h, decide_eq_false h]; rfl

theorem at_v86 (s : Fin 62) : (W7 m c main_v86 : IVec S62 32) (vx1 s) = BitVec.ofNat 32 (Plan.ex cn (Plan.live cn s)) := by
  rw [kp_v86, rd_v86, kp_v40_4, kp_v49_4]
  change Scalar.select ((W3 m c main_v40 : IVec S62 1) (vx1 s)) ((W3 m c main_v49 : IVec S62 32) (vx1 s)) ((W4 m c main_v85 : IVec S_ 32) _) = _
  rw [at_v40 m c hC hcn, at_v49 m c hC hcn, at_v85 m c hC hcn, choose_live m c hC hcn (s.val < Plan.first cn 32) True _ _ _ _ (fun _ => rfl) (fun _ => rfl)]
  refine congrArg (BitVec.ofNat 32) ?_
  by_cases h : s.val < Plan.first cn 32
  · have := Plan.ex_lt h
    rw [if_pos h, hC.live_eq h]; omega
  · rw [if_neg h, show Plan.live cn s = Plan.first cn 32 - 1 by unfold Plan.live; omega]

theorem at_v92 (s : Fin 62) : (W4c m c main_v92 : IVec S62 32) (vx1 s) = BitVec.ofNat 32 (Plan.row0 cn (Plan.live cn s)) := by
  rw [rd_v92, kp_v40_5, kp_v67_5]
  change Scalar.select ((W3 m c main_v40 : IVec S62 1) (vx1 s)) ((W3 m c main_v67 : IVec S62 32) (vx1 s)) ((W4b m c main_v91 : IVec S_ 32) _) = _
  rw [at_v40 m c hC hcn, at_v91 m c hC hcn, choose_live m c hC hcn (s.val < Plan.first cn 32) True _ _ _ _ (fun h => at_v67 m c hC hcn s h) (fun _ => rfl)]
  refine congrArg (BitVec.ofNat 32) ?_
  by_cases h : s.val < Plan.first cn 32
  · rw [if_pos h, hC.live_eq h]
  · rw [if_neg h, show Plan.live cn s = Plan.first cn 32 - 1 by unfold Plan.live; omega]

theorem at_v93 (s : Fin 62) : (W4c m c main_v93 : IVec S62 32) (vx1 s) = BitVec.ofNat 32 (if s.val < Plan.first cn 32 then Plan.len cn s else 0) := by
  rw [rd_v93, kp_v40_5, kp_v78]
  change Scalar.select ((W3 m c main_v40 : IVec S62 1) (vx1 s)) ((W4 m c main_v78 : IVec S62 32) (vx1 s)) (BitVec.ofNat 32 0) = _
  rw [at_v40 m c hC hcn, choose_live m c hC hcn (s.val < Plan.first cn 32) True _ _ _ _ (fun h => at_v78 m c hC hcn s h) (fun _ => rfl)]

theorem at_v115 (s : Fin 62) : (W7 m c main_v115 : IVec S62 32) (vx1 s) = BitVec.ofNat 32 (Plan.row0 cn (Plan.live cn s) / 8) := by
  have h := hC.row0_lt _ (hC.live_lt s)
  rw [kp_v115, rd_v115, kp_v92_5]
  exact pyDiv_ap (hb := bcast_S_S62) _ (constantI S_ 32 8#32) (vx1 s) (at_v92 m c hC hcn s) rfl (by omega) (by omega) (by omega)

theorem at_v101 (s : Fin 62) (r : Fin 1152) : (W5 m c main_v101 : IVec S62x1152 32) (vx2 s r) = BitVec.ofNat 32 (min (Plan.row0 cn (Plan.live cn s) + r) 36863) := by
  have h := hC.row0_lt _ (hC.live_lt s)
  rw [rd_v101]
  change IntOp.minsi (IntOp.addi (broadcastInDim S62x1152 ![0, 1] bcast_S62x1_S62x1152_0_1 (broadcastInDim S62x1 ![0] bcast_S62_S62x1_0 (W4c m c main_v92 : IVec S62 32)) (vx2 s r)) (broadcastInDim S62x1152 ![0, 1] bcast_S1x1152_S62x1152_0_1 (broadcastInDim S1x1152 ![1] bcast_S1152_S1x1152_1 (iotaInDim S1152 32 0)) (vx2 s r))) (BitVec.ofNat 32 36863) = _
  rw [bcRows, bcCols, at_v92 m c hC hcn]
  change IntOp.minsi (IntOp.addi _ (BitVec.ofNat 32 r.val)) _ = _
  rw [word_add, word_min (by have := r.isLt; omega) (by omega)]

section
include hE hQ

theorem at_v20 (A : Fin 34816) : (W2 m c main_v20 : IVec S34816 32) (vx1 A) = BitVec.ofNat 32 (Plan.rows cn (eA A) + qA A) := by
  have ht : A.val / 4 < 8704 := by have := A.isLt; omega
  have hk : A.val % 4 < 4 := Nat.mod_lt _ (by omega)
  have hA : A.val / 4 * 4 + A.val % 4 = A.val := by omega
  have he := hC.e_lt A A.isLt
  rw [rd_v20, kp_arg1, kp_arg2]
  refine (cast21 _ _ (⟨A.val / 4, ht⟩ : Fin 8704) (⟨A.val % 4, hk⟩ : Fin 4) A hA.symm).trans ?_
  refine (congrArg₂ IntOp.addi (take2 gather_S32_S8704x4x1_S8704x4_n_0_n_n_0_2_1 rfl rfl rfl rfl rfl (W2 m c main_v8 : IVec S32 32) _ _ _ ⟨eA A, he⟩ (by omega) ?_) (hQ _ _)).trans ?_
  · rw [bcLane]
    change Scalar.select (IntOp.cmpi .slt ((m ((c : Thread nD τ).loc main_arg1) : IVec S8704x4 32) (vx2 _ _)) 0#32) _ ((m ((c : Thread nD τ).loc main_arg1) : IVec S8704x4 32) (vx2 _ _)) = _
    rw [hE, word_wrap (by show eA (A.val / 4 * 4 + A.val % 4) < _; rw [hA]; omega)]
    show BitVec.ofNat 32 (eA (A.val / 4 * 4 + A.val % 4)) = _
    rw [hA]
  · rw [at_v8 m c hC hcn, word_add]
    show BitVec.ofNat 32 (Plan.rows cn (eA A) + qA (A.val / 4 * 4 + A.val % 4)) = _
    rw [hA]

theorem at_v28 (A : Fin 34816) : (W2 m c main_v28 : IVec S36864 32) (vx1 ⟨Plan.rows cn (eA A) + qA A, by have := hC.dst_lt A.isLt; omega⟩) = BitVec.ofNat 32 A := by
  have hd := hC.dst_lt A.isLt
  rw [rd_v28]
  have hidx : ∀ B : Fin 34816, (broadcastInDim S34816x1 ![0] bcast_S34816_S34816x1_0 (select (cmpi .slt (W2 m c main_v20 : IVec S34816 32) (broadcastInDim S34816 ![] bcast_S_S34816 (constantI S_ 32 0#32))) (addi (W2 m c main_v20 : IVec S34816 32) (broadcastInDim S34816 ![] bcast_S_S34816 (constantI S_ 32 36864#32))) (W2 m c main_v20 : IVec S34816 32)) (vx2 B 0)).toInt = ((Plan.rows cn (eA B) + qA B : ℕ) : ℤ) := fun B => by
    have hd := hC.dst_lt B.isLt
    refine (congrArg BitVec.toInt (?_ : _ = BitVec.ofNat 32 (Plan.rows cn (eA B) + qA B))).trans (StableHlo.Predicate.toInt_ofNat_small _ (by omega))
    rw [bcCol]
    change Scalar.select (IntOp.cmpi .slt ((W2 m c main_v20 : IVec S34816 32) (vx1 B)) 0#32) _ ((W2 m c main_v20 : IVec S34816 32) (vx1 B)) = _
    rw [at_v20 m c hC hcn hE hQ, word_wrap (by omega)]
  have hupd : ∀ B : Fin 34816, shapeCast S34816 (shapeCast S8704x4 (iotaInDim S34816 32 0) shapeCasts_S34816_S8704x4) shapeCasts_S8704x4_S34816 (vx1 B) = BitVec.ofNat 32 B.val := fun B => by
    have ht : B.val / 4 < 8704 := by have := B.isLt; omega
    have hB : B.val / 4 * 4 + B.val % 4 = B.val := by omega
    exact (cast21 _ _ (⟨B.val / 4, ht⟩ : Fin 8704) (⟨B.val % 4, Nat.mod_lt _ (by omega)⟩ : Fin 4) B hB.symm).trans (cast12 _ _ _ _ B hB.symm)
  refine scatter_set_hit scatter_S36864_S34816x1_S34816_n_0_0_1 _ _ _ _ _ (fun k hk => ?_) (vx1 A) ?_
  · obtain ⟨B, rfl⟩ : ∃ B : Fin 34816, k = vx1 B := ⟨k 0, by funext a; obtain rfl : a = 0 := Subsingleton.elim _ _; rfl⟩
    have h := (lands1 scatter_S36864_S34816x1_S34816_n_0_0_1 rfl rfl rfl _ B _).mp hk
    rw [hidx B] at h
    have hBA : B.val = A.val := hC.dst_inj B.isLt A.isLt (by exact_mod_cast h)
    rw [hupd B, hBA]
  · exact (lands1 scatter_S36864_S34816x1_S34816_n_0_0_1 rfl rfl rfl _ A _).mpr (hidx A)

theorem at_v114 (s : Fin 62) (r : Fin 1152) (A : Fin 34816) (hs : s.val < Plan.first cn 32) (hr : r.val < Plan.len cn s)
    (hA : Plan.row0 cn s + r = Plan.rows cn (eA A) + qA A) : (W7 m c main_v114 : IVec S62x1152 32) (vx2 s r) = BitVec.ofNat 32 A := by
  have hd := hC.dst_lt A.isLt
  have hl := Plan.len_le cn s
  rw [kp_v114, rd_v114, kp_v28_4]
  refine (congrArg₂ (fun (y : BitVec 1) z => Scalar.select y z (BitVec.ofNat 32 0)) (?_ : _ = BitVec.ofBool (decide True))
    ((take2 gather_S36864_S62x1152x1_S62x1152_n_0_n_n_0_2_1 rfl rfl rfl rfl rfl (W2 m c main_v28 : IVec S36864 32) _ s r ⟨Plan.rows cn (eA A) + qA A, by omega⟩ (by omega) ?_).trans
      (at_v28 m c hC hcn hE hQ A))).trans ?_
  · change IntOp.cmpi .slt (broadcastInDim S62x1152 ![0, 1] bcast_S1x1152_S62x1152_0_1 (broadcastInDim S1x1152 ![1] bcast_S1152_S1x1152_1 (iotaInDim S1152 32 0)) (vx2 s r)) (broadcastInDim S62x1152 ![0, 1] bcast_S62x1_S62x1152_0_1 (broadcastInDim S62x1 ![0] bcast_S62_S62x1_0 (W4c m c main_v93 : IVec S62 32)) (vx2 s r)) = _
    rw [bcRows, bcCols, at_v93 m c hC hcn, if_pos hs]
    change IntOp.cmpi .slt (BitVec.ofNat 32 r.val) _ = _
    rw [word_slt (by have := r.isLt; omega) (by omega)]
    simp [hr]
  · rw [bcLane]
    change Scalar.select (IntOp.cmpi .slt ((W5 m c main_v101 : IVec S62x1152 32) (vx2 s r)) 0#32) _ ((W5 m c main_v101 : IVec S62x1152 32) (vx2 s r)) = _
    rw [at_v101 m c hC hcn, word_wrap (by omega), hC.live_eq hs, hA]
    congr 1
    show min (Plan.rows cn (eA A) + qA A) 36863 = Plan.rows cn (eA A) + qA A
    omega
  · rfl

theorem at_v118 (A : Fin 34816) : (W6 m c main_v118 : IVec S36864 32) (vx1 ⟨Plan.rows cn (eA A) + qA A, by have := hC.dst_lt A.isLt; omega⟩) = BitVec.ofNat 32 (A / 4) := by
  rw [rd_v118, kp_v28_5]
  refine pyDiv_ap (hb := bcast_S_S36864) _ (constantI S_ 32 4#32) _ (a := A.val) (b := 4) ?_ rfl (by have := A.isLt; omega) (by omega) (by omega)
  change IntOp.maxsi ((W2 m c main_v28 : IVec S36864 32) (vx1 _)) (BitVec.ofNat 32 0) = _
  rw [at_v28 m c hC hcn hE hQ]
  have h := word_pred (a := A.val + 1) (by have := A.isLt; omega)
  rwa [show IntOp.subi (BitVec.ofNat 32 (A.val + 1)) 1#32 = BitVec.ofNat 32 A.val from word_sub (b := 1) (by omega)] at h

theorem at_v125 (A : Fin 34816) (d : Fin 2048) : (W7 m c main_v125 : FVec F S36864x2048 .f32) (vx2 ⟨Plan.rows cn (eA A) + qA A, by have := hC.dst_lt A.isLt; omega⟩ d)
    = (m ((c : Thread nD τ).loc main_arg0) : FVec F S8704x2048 .f32) (vx2 ⟨A / 4, by have := A.isLt; omega⟩ d) := by
  rw [rd_v125, kp_arg0]
  refine gather_row gather_S8704x2048_S36864x1_S36864x2048_1_0_n_n_0_1_12048 rfl rfl rfl rfl rfl _ _ _ _ _ ?_ (by omega)
  rw [bcCol]
  change Scalar.select (IntOp.cmpi .slt ((W6 m c main_v118 : IVec S36864 32) (vx1 _)) 0#32) _ ((W6 m c main_v118 : IVec S36864 32) (vx1 _)) = _
  rw [at_v118 m c hC hcn hE hQ, word_wrap (by have := A.isLt; omega)]

end

end

end Cert.Proof.Expert
-- ==== Proof.Value.lean ====
/- What the expert call's result holds at the ideal instance: a row an item lists is the expert's feed-forward of that row. -/
module

public import proofs.«01_k».proof.Proof.Data
public import Idealize.ShloMosaic.Lib.Pointwise

@[expose] public section

noncomputable section

namespace Cert.Proof.Expert

open Cert.KernelIdeal Cert.KernelIdeal.Gen
open Idealize.ShloMosaic Idealize.ShloMosaic.TcCoe Idealize.ShloMosaic.Tactic
open Idealize.SL Idealize.SL.Sem
open Idealize.ShloMosaic renaming ix2 → jx2, ix3 → jx3
open Idealize.ShloMosaic.Pipeline (Dat Cfg Window BodyObligation cellOf)

/-! ## One expert's feed-forward of one row -/

/-- The gate: of the clamped halves `g` and `u` of the first product. -/
noncomputable def act (g u : EReal) : EReal :=
  (min (Ideal.ofBits .f32 0x40E00000#32) (max (Ideal.ofBits .f32 0xC0E00000#32) u) + 1)
    * (min g (Ideal.ofBits .f32 0x40E00000#32)
      * Ideal.div 1 (1 + Ideal.exp (0 - Ideal.ofBits .f32 0x3FD9DB23#32 * min g (Ideal.ofBits .f32 0x40E00000#32))))

/-- Column `j` of a product of a row with a matrix, with its bias. -/
noncomputable def lin {K N : ℕ} (x : Fin K → EReal) (w : Fin K → Fin N → EReal) (b : Fin N → EReal) (j : Fin N) : EReal := ∑ k, x k * w k j + b j

noncomputable def lo (k : Fin 2048) : Fin 4096 := ⟨k.val, by omega⟩
noncomputable def hi (k : Fin 2048) : Fin 4096 := ⟨2048 + k.val, by omega⟩

/-- Hidden entry `k`: of the first product's columns `k` and `2048 + k`. -/
noncomputable def hid (x : Fin 2048 → EReal) (w : Fin 2048 → Fin 4096 → EReal) (b : Fin 4096 → EReal) (k : Fin 2048) : EReal :=
  act (lin x w b (lo k)) (lin x w b (hi k))

/-- The feed-forward of a row. -/
noncomputable def ffn (x : Fin 2048 → EReal) (w : Fin 2048 → Fin 4096 → EReal) (b : Fin 4096 → EReal) (w' : Fin 2048 → Fin 2048 → EReal) (b' : Fin 2048 → EReal) : Fin 2048 → EReal :=
  lin (hid x w b) w' b'

/-! ## The payloads at an index -/

/-- What a tile adds. -/
noncomputable def tile (xb : Vec Ideal S384x2048 .f32) (wg wu : Vec Ideal S1x2048x256 .f32) (bg bu : Vec Ideal S1x1x256 .f32) (wd : Vec Ideal S1x256x2048 .f32) (x : S384x2048.Idx) : EReal :=
  ∑ k : Fin 256, act (∑ d : Fin 2048, xb (jx2 (x 0) d) * wg (jx3 0 d k) + bg (jx3 0 0 k)) (∑ d : Fin 2048, xb (jx2 (x 0) d) * wu (jx3 0 d k) + bu (jx3 0 0 k))
    * wd (jx3 0 k (x 1))

theorem pay3_at (xb : Vec Ideal S384x2048 .f32) (wg wu : Vec Ideal S1x2048x256 .f32) (bg bu : Vec Ideal S1x1x256 .f32) (wd : Vec Ideal S1x256x2048 .f32) (x : S384x2048.Idx) :
    k0_pay3 (k0_pay12 bg) (k0_pay13 bu) (k0_pay7 xb) (k0_pay9 wg) (k0_pay10 wu) (k0_pay11 wd) x = tile xb wg wu bg bu wd x := by
  pointwise [k0_pay3, k0_pay7, k0_pay9, k0_pay10, k0_pay11, k0_pay12, k0_pay13]
  rfl

theorem pay4_at (v46 v48 : FVec Ideal S1x256 .f32) (xb : Vec Ideal S384x2048 .bf16) (wg wu : Vec Ideal S2048x256 .bf16) (wd : Vec Ideal S256x2048 .bf16)
    (b : Vec Ideal S1x1x2048 .f32) (x : S384x2048.Idx) :
    k0_pay4 v46 v48 xb wg wu wd b x = k0_pay3 v46 v48 xb wg wu wd x + b (jx3 0 0 (x 1)) := by
  have h : ∀ y : FVec Ideal S384x2048 .f32, y = k0_pay3 v46 v48 xb wg wu wd → k0_pay4 v46 v48 xb wg wu wd b x = y x + b (jx3 0 0 (x 1)) := by
    intro y hy
    unfold k0_pay4
    rw [← show y = _ from hy]
    pointwise
  exact h _ rfl

theorem pay1_at (y o : FVec Ideal S384x2048 .f32) (x : S384x2048.Idx) : k0_pay1 y o x = o x + y x := by
  pointwise [k0_pay1]

/-! ## The windows' blocks at an index -/

section Blocks
variable {F : FTy → Type} [FloatOps F]
variable (a : (pcfg0 (F := F)).Adm) (V : (c : Dev nD) → (b : Ref sig .tc) → Buf (Elt F) ((c : Thread nD τ).loc b)) (c : Dev nD)
variable (t : Fin (cfg0 a).N)

theorem b2_at (x : S1x2048x256.Idx) (y : S32x2048x4096.Idx) (h0 : (y (0 : Fin 3)).val = (tE a.1 (item (grid0.coords t))).toNat) (h1 : (y (1 : Fin 3)).val = (x (1 : Fin 3)).val)
    (h2 : (y (2 : Fin 3)).val = (tileOf (tN a.1 (item (grid0.coords t))) (step (grid0.coords t))).toNat * 256 + (x (2 : Fin 3)).val) :
    b2 a V c t x = V c main_arg4 y := by
  refine congrArg (V c main_arg4) ?_
  have e := transform_2_eq a.1 (grid0.coords t)
  have hx : (x (0 : Fin 3)).val < 1 := (x (0 : Fin 3)).isLt
  funext b
  fin_cases b
  · refine Fin.ext ?_
    show cc0_transform_2 k0_off1_inb numel1_S1 a.1 (grid0.coords t) 0 * 1 + 1 * (x (0 : Fin 3)).val = (y (0 : Fin 3)).val
    rw [e, h0]; show (tE a.1 (item (grid0.coords t))).toNat * 1 + _ = _; omega
  · refine Fin.ext ?_
    show cc0_transform_2 k0_off1_inb numel1_S1 a.1 (grid0.coords t) 1 * 2048 + 1 * (x (1 : Fin 3)).val = (y (1 : Fin 3)).val
    rw [e, h1]; show 0 * 2048 + _ = _; omega
  · refine Fin.ext ?_
    show cc0_transform_2 k0_off1_inb numel1_S1 a.1 (grid0.coords t) 2 * 256 + 1 * (x (2 : Fin 3)).val = (y (2 : Fin 3)).val
    rw [e, h2, one_mul]; rfl

theorem b3_at (x : S1x2048x256.Idx) (y : S32x2048x4096.Idx) (h0 : (y (0 : Fin 3)).val = (tE a.1 (item (grid0.coords t))).toNat) (h1 : (y (1 : Fin 3)).val = (x (1 : Fin 3)).val)
    (h2 : (y (2 : Fin 3)).val = (IntOp.addi 8#32 (tileOf (tN a.1 (item (grid0.coords t))) (step (grid0.coords t)))).toNat * 256 + (x (2 : Fin 3)).val) :
    b3 a V c t x = V c main_arg4 y := by
  refine congrArg (V c main_arg4) ?_
  have e := transform_3_eq a.1 (grid0.coords t)
  have hx : (x (0 : Fin 3)).val < 1 := (x (0 : Fin 3)).isLt
  funext b
  fin_cases b
  · refine Fin.ext ?_
    show cc0_transform_3 k0_off1_inb numel1_S1 a.1 (grid0.coords t) 0 * 1 + 1 * (x (0 : Fin 3)).val = (y (0 : Fin 3)).val
    rw [e, h0]; show (tE a.1 (item (grid0.coords t))).toNat * 1 + _ = _; omega
  · refine Fin.ext ?_
    show cc0_transform_3 k0_off1_inb numel1_S1 a.1 (grid0.coords t) 1 * 2048 + 1 * (x (1 : Fin 3)).val = (y (1 : Fin 3)).val
    rw [e, h1]; show 0 * 2048 + _ = _; omega
  · refine Fin.ext ?_
    show cc0_transform_3 k0_off1_inb numel1_S1 a.1 (grid0.coords t) 2 * 256 + 1 * (x (2 : Fin 3)).val = (y (2 : Fin 3)).val
    rw [e, h2, one_mul]; rfl

theorem b4_at (x : S1x1x256.Idx) (y : S32x1x4096.Idx) (h0 : (y (0 : Fin 3)).val = (tE a.1 (item (grid0.coords t))).toNat)
    (h2 : (y (2 : Fin 3)).val = (tileOf (tN a.1 (item (grid0.coords t))) (step (grid0.coords t))).toNat * 256 + (x (2 : Fin 3)).val) :
    b4 a V c t x = V c main_v127 y := by
  refine congrArg (V c main_v127) ?_
  have e := transform_4_eq a.1 (grid0.coords t)
  have hx : (x (0 : Fin 3)).val < 1 := (x (0 : Fin 3)).isLt
  have hx1 : (x (1 : Fin 3)).val < 1 := (x (1 : Fin 3)).isLt
  have hy1 : (y (1 : Fin 3)).val < 1 := (y (1 : Fin 3)).isLt
  funext b
  fin_cases b
  · refine Fin.ext ?_
    show cc0_transform_4 k0_off1_inb numel1_S1 a.1 (grid0.coords t) 0 * 1 + 1 * (x (0 : Fin 3)).val = (y (0 : Fin 3)).val
    rw [e, h0]; show (tE a.1 (item (grid0.coords t))).toNat * 1 + _ = _; omega
  · refine Fin.ext ?_
    show cc0_transform_4 k0_off1_inb numel1_S1 a.1 (grid0.coords t) 1 * 1 + 1 * (x (1 : Fin 3)).val = (y (1 : Fin 3)).val
    rw [e]; show 0 * 1 + _ = _; omega
  · refine Fin.ext ?_
    show cc0_transform_4 k0_off1_inb numel1_S1 a.1 (grid0.coords t) 2 * 256 + 1 * (x (2 : Fin 3)).val = (y (2 : Fin 3)).val
    rw [e, h2, one_mul]; rfl

theorem b5_at (x : S1x1x256.Idx) (y : S32x1x4096.Idx) (h0 : (y (0 : Fin 3)).val = (tE a.1 (item (grid0.coords t))).toNat)
    (h2 : (y (2 : Fin 3)).val = (IntOp.addi 8#32 (tileOf (tN a.1 (item (grid0.coords t))) (step (grid0.coords t)))).toNat * 256 + (x (2 : Fin 3)).val) :
    b5 a V c t x = V c main_v128 y := by
  refine congrArg (V c main_v128) ?_
  have e := transform_5_eq a.1 (grid0.coords t)
  have hx : (x (0 : Fin 3)).val < 1 := (x (0 : Fin 3)).isLt
  have hx1 : (x (1 : Fin 3)).val < 1 := (x (1 : Fin 3)).isLt
  have hy1 : (y (1 : Fin 3)).val < 1 := (y (1 : Fin 3)).isLt
  funext b
  fin_cases b
  · refine Fin.ext ?_
    show cc0_transform_5 k0_off1_inb numel1_S1 a.1 (grid0.coords t) 0 * 1 + 1 * (x (0 : Fin 3)).val = (y (0 : Fin 3)).val
    rw [e, h0]; show (tE a.1 (item (grid0.coords t))).toNat * 1 + _ = _; omega
  · refine Fin.ext ?_
    show cc0_transform_5 k0_off1_inb numel1_S1 a.1 (grid0.coords t) 1 * 1 + 1 * (x (1 : Fin 3)).val = (y (1 : Fin 3)).val
    rw [e]; show 0 * 1 + _ = _; omega
  · refine Fin.ext ?_
    show cc0_transform_5 k0_off1_inb numel1_S1 a.1 (grid0.coords t) 2 * 256 + 1 * (x (2 : Fin 3)).val = (y (2 : Fin 3)).val
    rw [e, h2, one_mul]; rfl

theorem b6_at (x : S1x256x2048.Idx) (y : S32x2048x2048.Idx) (h0 : (y (0 : Fin 3)).val = (tE a.1 (item (grid0.coords t))).toNat)
    (h1 : (y (1 : Fin 3)).val = (tileOf (tN a.1 (item (grid0.coords t))) (step (grid0.coords t))).toNat * 256 + (x (1 : Fin 3)).val)
    (h2 : (y (2 : Fin 3)).val = (x (2 : Fin 3)).val) :
    b6 a V c t x = V c main_arg6 y := by
  refine congrArg (V c main_arg6) ?_
  have e := transform_6_eq a.1 (grid0.coords t)
  have hx : (x (0 : Fin 3)).val < 1 := (x (0 : Fin 3)).isLt
  funext b
  fin_cases b
  · refine Fin.ext ?_
    show cc0_transform_6 k0_off1_inb numel1_S1 a.1 (grid0.coords t) 0 * 1 + 1 * (x (0 : Fin 3)).val = (y (0 : Fin 3)).val
    rw [e, h0]; show (tE a.1 (item (grid0.coords t))).toNat * 1 + _ = _; omega
  · refine Fin.ext ?_
    show cc0_transform_6 k0_off1_inb numel1_S1 a.1 (grid0.coords t) 1 * 256 + 1 * (x (1 : Fin 3)).val = (y (1 : Fin 3)).val
    rw [e, h1, one_mul]; rfl
  · refine Fin.ext ?_
    show cc0_transform_6 k0_off1_inb numel1_S1 a.1 (grid0.coords t) 2 * 2048 + 1 * (x (2 : Fin 3)).val = (y (2 : Fin 3)).val
    rw [e, h2]; show 0 * 2048 + _ = _; omega

theorem b7_at (x : S1x1x2048.Idx) (y : S32x1x2048.Idx) (h0 : (y (0 : Fin 3)).val = (tE a.1 (item (grid0.coords t))).toNat)
    (h2 : (y (2 : Fin 3)).val = (x (2 : Fin 3)).val) :
    b7 a V c t x = V c main_v129 y := by
  refine congrArg (V c main_v129) ?_
  have e := transform_7_eq a.1 (grid0.coords t)
  have hx : (x (0 : Fin 3)).val < 1 := (x (0 : Fin 3)).isLt
  have hx1 : (x (1 : Fin 3)).val < 1 := (x (1 : Fin 3)).isLt
  have hy1 : (y (1 : Fin 3)).val < 1 := (y (1 : Fin 3)).isLt
  funext b
  fin_cases b
  · refine Fin.ext ?_
    show cc0_transform_7 k0_off1_inb numel1_S1 a.1 (grid0.coords t) 0 * 1 + 1 * (x (0 : Fin 3)).val = (y (0 : Fin 3)).val
    rw [e, h0]; show (tE a.1 (item (grid0.coords t))).toNat * 1 + _ = _; omega
  · refine Fin.ext ?_
    show cc0_transform_7 k0_off1_inb numel1_S1 a.1 (grid0.coords t) 1 * 1 + 1 * (x (1 : Fin 3)).val = (y (1 : Fin 3)).val
    rw [e]; show 0 * 1 + _ = _; omega
  · refine Fin.ext ?_
    show cc0_transform_7 k0_off1_inb numel1_S1 a.1 (grid0.coords t) 2 * 2048 + 1 * (x (2 : Fin 3)).val = (y (2 : Fin 3)).val
    rw [e, h2]; show 0 * 2048 + _ = _; omega

end Blocks

/-! ## An item's eight tiles -/

noncomputable def at256 (f : ℕ) (hf : f < 8) (k : Fin 256) : Fin 2048 := ⟨256 * f + k.val, by omega⟩

section Tiles
variable (a : (pcfg0 (F := Ideal)).Adm) (V : (c : Dev nD) → (b : Ref sig .tc) → Buf (Elt Ideal) ((c : Thread nD τ).loc b)) (c : Dev nD)
noncomputable def pt (s : Fin 62) (f : ℕ) (hf : f < 8) : Fin (cfg0 a).N := ⟨8 * s.val + f, by have := s.isLt; show _ < 496; omega⟩

theorem item_pt (s : Fin 62) (f : ℕ) (hf : f < 8) : item (grid0.coords (pt a s f hf)) = s := by
  refine Fin.ext ((coord0 _).trans ?_); show (8 * s.val + f) / 8 = s.val; omega
theorem step_pt (s : Fin 62) (f : ℕ) (hf : f < 8) : step (grid0.coords (pt a s f hf)) = f := by
  refine (coord1 _).trans ?_; show (8 * s.val + f) % 8 = f; omega

variable (s : Fin 62) (e : Fin 32) (he : (tE a.1 s).toNat = e.val) (hn0 : 0 < (tN a.1 s).toNat) (hn : (tN a.1 s).toNat ≤ 1152)

/-- The item's weights. -/
noncomputable def wGU (d : Fin 2048) (k : Fin 4096) : EReal := V c main_arg4 (jx3 e d k)
noncomputable def bGU (k : Fin 4096) : EReal := V c main_v127 (jx3 e 0 k)
noncomputable def bGU' (k : Fin 4096) : EReal := V c main_v128 (jx3 e 0 k)
noncomputable def wDN (k : Fin 2048) (j : Fin 2048) : EReal := V c main_arg6 (jx3 e k j)
noncomputable def bDN (j : Fin 2048) : EReal := V c main_v129 (jx3 e 0 j)

/-- Term `k` of the second product. -/
noncomputable def term (X : Fin 2048 → EReal) (j : Fin 2048) (k : Fin 2048) : EReal := hid X (wGU V c e) (bGU V c e) k * wDN V c e k j

include he hn0 hn in
theorem tile_pt (hb : V c main_v127 = V c main_v128) (f : ℕ) (hf : f < 8) (X : Vec Ideal S384x2048 .f32) (x : S384x2048.Idx) :
    tile X (b2 a V c (pt a s f hf)) (b3 a V c (pt a s f hf)) (b4 a V c (pt a s f hf)) (b5 a V c (pt a s f hf)) (b6 a V c (pt a s f hf)) x
      = ∑ k : Fin 256, term V c e (fun d => X (jx2 (x 0) d)) (x 1) (at256 f hf k) := by
  have hk : (tileOf (tN a.1 (item (grid0.coords (pt a s f hf)))) (step (grid0.coords (pt a s f hf)))).toNat = f := by
    rw [item_pt, step_pt]
    have h := tileOf_pos hn0 hn f hf
    rwa [BitVec.ofNat_toNat, BitVec.setWidth_eq] at h
  have hk8 := add8_lt (hk.trans_lt hf)
  rw [hk] at hk8
  have hE : e.val = (tE a.1 (item (grid0.coords (pt a s f hf)))).toNat := by rw [item_pt, he]
  unfold tile
  refine Finset.sum_congr rfl fun k _ => ?_
  unfold term hid lin wGU bGU wDN
  have e2 : ∀ d : Fin 2048, b2 a V c (pt a s f hf) (jx3 0 d k) = V c main_arg4 (jx3 e d (lo (at256 f hf k))) := fun d =>
    b2_at a V c _ _ _ hE rfl (by rw [hk]; show 256 * f + k.val = f * 256 + k.val; omega)
  have e3 : ∀ d : Fin 2048, b3 a V c (pt a s f hf) (jx3 0 d k) = V c main_arg4 (jx3 e d (hi (at256 f hf k))) := fun d =>
    b3_at a V c _ _ _ hE rfl (by rw [hk8]; show 2048 + (256 * f + k.val) = (8 + f) * 256 + k.val; omega)
  have e4 : b4 a V c (pt a s f hf) (jx3 0 0 k) = V c main_v127 (jx3 e 0 (lo (at256 f hf k))) :=
    b4_at a V c _ _ _ hE (by rw [hk]; show 256 * f + k.val = f * 256 + k.val; omega)
  have e5 : b5 a V c (pt a s f hf) (jx3 0 0 k) = V c main_v127 (jx3 e 0 (hi (at256 f hf k))) := by
    rw [b5_at a V c _ _ (jx3 e 0 (hi (at256 f hf k))) hE (by rw [hk8]; show 2048 + (256 * f + k.val) = (8 + f) * 256 + k.val; omega)]
    exact (congrFun hb _).symm
  have e6 : b6 a V c (pt a s f hf) (jx3 0 k (x 1)) = V c main_arg6 (jx3 e (at256 f hf k) (x 1)) :=
    b6_at a V c _ _ _ hE (by rw [hk]; show 256 * f + k.val = f * 256 + k.val; omega) rfl
  rw [e4, e5, e6]
  simp only [e2, e3]

/-- The item's rows, sub-block by sub-block. -/
noncomputable def X0 : Vec Ideal S1152x2048 .f32 := b1 a V c (pt a s 0 (by decide))

theorem b1_pt (f : ℕ) (hf : f < 8) : b1 a V c (pt a s f hf) = X0 a V c s :=
  b1_congr a V c _ _ (by rw [item_pt, item_pt])

noncomputable def rowX (j : Fin 3) (x : S384x2048.Idx) (d : Fin 2048) : EReal := sub (X0 a V c s) j (jx2 (x 0) d)

include he hn0 hn in
theorem newAt_pt (hb : V c main_v127 = V c main_v128) (f : ℕ) (hf : f < 8) (old : Fin 3 → Vec Ideal S384x2048 .f32) (j : Fin 3) (x : S384x2048.Idx) :
    newAt a V c (pt a s f hf) old j x = if f = 0
      then (∑ k : Fin 256, term V c e (rowX a V c s j x) (x 1) (at256 f hf k)) + bDN V c e (x 1)
      else old j x + ∑ k : Fin 256, term V c e (rowX a V c s j x) (x 1) (at256 f hf k) := by
  have hE : e.val = (tE a.1 (item (grid0.coords (pt a s f hf)))).toNat := by rw [item_pt, he]
  have h0 : k0_cond3 (grid0.coords (pt a s f hf)) = 1#1 ↔ f = 0 := (conds _).2.1.trans (by
    rw [show (grid0.coords (pt a s f hf) 1).val = f from step_pt a s f hf])
  unfold newAt accStep
  rw [b1_pt]
  by_cases hf0 : f = 0
  · rw [if_pos (h0.mpr hf0), if_pos hf0, pay4_at, pay3_at, tile_pt a V c s e he hn0 hn hb f hf]
    refine congrArg _ ?_
    exact b7_at a V c _ _ _ hE rfl
  · rw [if_neg (fun h => hf0 (h0.mp h)), if_neg hf0, pay1_at, pay3_at, tile_pt a V c s e he hn0 hn hb f hf]
    rfl

/-- What the tiles before `f` add. -/
noncomputable def tilesUpTo (X : Fin 2048 → EReal) (j : Fin 2048) : ℕ → EReal
  | 0 => 0
  | f + 1 => tilesUpTo X j f + if h : f < 8 then ∑ k : Fin 256, term V c e X j (at256 f h k) else 0

theorem tilesUpTo_succ (X : Fin 2048 → EReal) (j : Fin 2048) (f : ℕ) (hf : f < 8) :
    tilesUpTo V c e X j (f + 1) = tilesUpTo V c e X j f + ∑ k : Fin 256, term V c e X j (at256 f hf k) :=
  congrArg (tilesUpTo V c e X j f + ·) (dif_pos hf)

include he hn0 hn in
theorem accAt_pt (hb : V c main_v127 = V c main_v128) (j : Fin 3) (x : S384x2048.Idx) : ∀ f (hf : f < 8),
    newAt a V c (pt a s f hf) (accAt a V c (8 * s.val + f)) j x = tilesUpTo V c e (rowX a V c s j x) (x 1) (f + 1) + bDN V c e (x 1)
  | 0, hf => by
    rw [newAt_pt a V c s e he hn0 hn hb 0 hf, if_pos rfl]
    refine congrArg (· + bDN V c e (x 1)) ?_
    exact ((tilesUpTo_succ V c e (rowX a V c s j x) (x 1) 0 hf).trans (zero_add _)).symm
  | f + 1, hf => by
    rw [newAt_pt a V c s e he hn0 hn hb (f + 1) hf, if_neg (Nat.succ_ne_zero f)]
    have h := accAt_succ a V c (pt a s f (by omega))
    rw [show accAt a V c (8 * s.val + (f + 1)) = _ from h]
    rw [show newAt a V c (pt a s f (by omega)) (accAt a V c (pt a s f (by omega)).val) j x = _ from accAt_pt hb j x f (by omega)]
    refine (add_right_comm _ _ _).trans ?_
    exact congrArg (· + bDN V c e (x 1)) (tilesUpTo_succ V c e (rowX a V c s j x) (x 1) (f + 1) hf).symm

theorem tilesUpTo_eight (X : Fin 2048 → EReal) (j : Fin 2048) : tilesUpTo V c e X j 8 = ∑ k : Fin 2048, term V c e X j k := by
  have h : ∀ f, f ≤ 8 → tilesUpTo V c e X j f = ∑ g ∈ Finset.range f, if h : g < 8 then ∑ k : Fin 256, term V c e X j (at256 g h k) else 0 := by
    intro f
    induction f with
    | zero => intro _; rfl
    | succ f ih => intro hf; rw [Finset.sum_range_succ, ← ih (by omega)]; rfl
  rw [h 8 le_rfl, Finset.sum_range]
  rw [show (∑ k : Fin 2048, term V c e X j k) = ∑ k : Fin (8 * 256), term V c e X j k from rfl, ← finProdFinEquiv.sum_comp, Fintype.sum_prod_type]
  refine Finset.sum_congr rfl fun g _ => ?_
  rw [dif_pos g.isLt]
  refine Finset.sum_congr rfl fun k _ => congrArg _ (Fin.ext ?_)
  show 256 * g.val + k.val = k.val + 256 * g.val
  omega

include he hn0 hn in
/-- After its last tile the accumulator holds the feed-forward of the item's rows. -/
theorem item_done (hb : V c main_v127 = V c main_v128) (r : Fin 1152) (j : Fin 2048) :
    join (newAt a V c (pt a s 7 (by decide)) (accAt a V c (8 * s.val + 7))) (ixA r j)
      = ffn (fun d => X0 a V c s (ixA r d)) (wGU V c e) (bGU V c e) (wDN V c e) (bDN V c e) j := by
  unfold join
  rw [accAt_pt a V c s e he hn0 hn hb, tilesUpTo_eight]
  unfold ffn lin
  refine congrArg₂ _ (Finset.sum_congr rfl fun k _ => ?_) rfl
  unfold term
  refine congrArg₂ _ (congrArg (fun X => hid X _ _ k) ?_) rfl
  funext d
  unfold rowX sub
  refine congrArg (X0 a V c s) ?_
  have h : r.val < 1152 := r.isLt
  funext b
  fin_cases b
  · refine Fin.ext ((subIx_val0 _ _).trans ?_)
    show 384 * (r.val / 384) + r.val % 384 = r.val
    omega
  · exact Fin.ext (subIx_val1 _ _)

variable (hL : Lists a.1 (V c main_v126))

/-- Before the last point of item `s'` an assignment only item `s` lists holds what item `s` left, if it is past. -/
theorem yAt_row (hb : V c main_v127 = V c main_v128) (r : Fin (tN a.1 s).toNat) (j : Fin 2048)
    (hu : ∀ s' r', dest hL s' r' = dest hL s r → s' = s) : yAt a V c hL (cfg0 a).N (ixY (dest hL s r) j)
      = join (newAt a V c (pt a s 7 (by decide)) (accAt a V c (8 * s.val + 7))) (ixA (r.castLE (hL.n_le s)) j) := by
  have h : ∀ k, 8 * s.val + 8 ≤ k → k ≤ 496 → yAt a V c hL k (ixY (dest hL s r) j)
      = join (newAt a V c (pt a s 7 (by decide)) (accAt a V c (8 * s.val + 7))) (ixA (r.castLE (hL.n_le s)) j) := by
    intro k hk
    induction k, hk using Nat.le_induction with
    | base =>
      intro _
      have h1 := yAt_succ a V c hL (pt a s 7 (by decide))
      rw [show yAt a V c hL (8 * s.val + 8) = _ from h1, if_pos (show (grid0.coords (pt a s 7 (by decide)) 1).val = 7 from step_pt a s 7 (by decide))]
      have hi := item_pt a s 7 (by decide)
      have key : ∀ s' (hs : s' = s) (A : S1152x2048.Idx → EReal) (g : S34816x2048.Idx → EReal), put (hL.n_le s') (dest hL s') A g (ixY (dest hL s r) j) = A (ixA (r.castLE (hL.n_le s)) j) := by
        intro s' hs A g
        subst hs
        exact put_row _ _ (dest_inj hL s') A g r _ rfl
      exact key _ hi _ _
    | succ k hk ih =>
      intro hk'
      have hlt : k < (cfg0 a).N := (show k < 496 by omega)
      have h1 := yAt_succ a V c hL (⟨k, hlt⟩ : Fin (cfg0 a).N)
      rw [show yAt a V c hL (k + 1) = _ from h1]
      split
      · rw [put_rest]
        · exact ih (by omega)
        · intro r' hr'
          have h2 := congrArg Fin.val (hu _ r' hr')
          have h3 : k / 8 = s.val := (coord0 (⟨k, hlt⟩ : Fin grid0.N)).symm.trans h2
          omega
      · exact ih (by omega)
  exact h 496 (by have := s.isLt; omega) le_rfl

include he in
theorem yAt_ffn (hb : V c main_v127 = V c main_v128) (r : Fin (tN a.1 s).toNat) (j : Fin 2048)
    (hu : ∀ s' r', dest hL s' r' = dest hL s r → s' = s) : yAt a V c hL (cfg0 a).N (ixY (dest hL s r) j)
      = ffn (fun d => X0 a V c s (ixA (r.castLE (hL.n_le s)) d)) (wGU V c e) (bGU V c e) (wDN V c e) (bDN V c e) j :=
  (yAt_row a V c s hL hb r j hu).trans (item_done a V c s e he (Nat.zero_lt_of_lt r.isLt) (hL.n_le s) hb _ j)

end Tiles

end Cert.Proof.Expert
-- ==== Proof.Routed.lean ====
/- The tables the host lines leave are as the launch needs them, and which assignment each row is. -/
module

public import proofs.«01_k».proof.Proof.HostAt
public import proofs.«01_k».proof.Proof.Frame
public import proofs.«01_k».proof.Proof.Value

@[expose] public section

noncomputable section

namespace Cert.Proof.Expert
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx renaming ix0 → vx0, ix1 → vx1, ix2 → vx2, ix3 → vx3
open Idealize.ShloMosaic.Routing

variable {F : FTy → Type} [FloatOps F]

theorem toNat_of {n : ℕ} (hn : n < 2 ^ 32) : (BitVec.ofNat 32 n).toNat = n := by
  rw [BitVec.toNat_ofNat, Nat.mod_eq_of_lt hn]

theorem ix1_eq (s : Fin 62) : ix1 s = vx1 s := by funext a; fin_cases a; rfl
theorem ix2_eq (s : Fin 62) (r : Fin 1152) : ix2 s r = vx2 s r := by funext a; fin_cases a <;> rfl

section
variable (m : (ℓ : Loc nD τ sig) → Buf (Elt F) ℓ) (c : Dev nD) {cn eA qA : ℕ → ℕ} (hC : Plan.Counts cn eA qA)
  (hcn : ∀ e : Fin 32, (m ((c : Thread nD τ).loc main_arg3) : IVec S32 32) (vx1 e) = BitVec.ofNat 32 (cn e.val))
  (hE : ∀ (t : Fin 8704) (k : Fin 4), (m ((c : Thread nD τ).loc main_arg1) : IVec S8704x4 32) (vx2 t k) = BitVec.ofNat 32 (eA (t.val * 4 + k.val)))
  (hQ : ∀ (t : Fin 8704) (k : Fin 4), (m ((c : Thread nD τ).loc main_arg2) : IVec S8704x4 32) (vx2 t k) = BitVec.ofNat 32 (qA (t.val * 4 + k.val)))

include hC hcn

theorem item_expert (s : Fin 62) : ((V m c main_v86 : IVec S62 32) (ix1 s)).toNat = Plan.ex cn (Plan.live cn s) := by
  have h := Plan.ex_lt (hC.live_lt s)
  rw [ix1_eq]
  exact (congrArg BitVec.toNat (at_v86 m c hC hcn s)).trans (toNat_of (by omega))

theorem item_start (s : Fin 62) : ((V m c main_v115 : IVec S62 32) (ix1 s)).toNat = Plan.row0 cn (Plan.live cn s) / 8 := by
  have h := hC.row0_lt _ (hC.live_lt s)
  rw [ix1_eq]
  exact (congrArg BitVec.toNat (at_v115 m c hC hcn s)).trans (toNat_of (by omega))

theorem item_count (s : Fin 62) : ((V m c main_v93 : IVec S62 32) (ix1 s)).toNat = if s.val < Plan.first cn 32 then Plan.len cn s else 0 := by
  have h := Plan.len_le cn s
  rw [ix1_eq]
  refine (congrArg BitVec.toNat ((congrFun (kp_v93 m c) (vx1 s)).trans (at_v93 m c hC hcn s))).trans (toNat_of ?_)
  split <;> omega

omit hC hcn in
theorem spare_at (x y : IVec S62x1152 32) (z : IVec S62x1152 32) (i : S62x1152.Idx) (h : IntOp.cmpi .slt (x i) (y i) = BitVec.ofBool (decide False)) :
    select (cmpi .slt x y) z (broadcastInDim S62x1152 ![] bcast_S_S62x1152 (constantI S_ 32 0#32)) i = BitVec.ofNat 32 0 := by
  change Scalar.select (IntOp.cmpi .slt (x i) (y i)) (z i) (BitVec.ofNat 32 0) = _
  rw [h]
  rfl

theorem row_spare (s : Fin 62) (r : Fin 1152) (h : ¬ r.val < if s.val < Plan.first cn 32 then Plan.len cn s else 0) :
    (W7 m c main_v114 : IVec S62x1152 32) (vx2 s r) = BitVec.ofNat 32 0 := by
  have hl := Plan.len_le cn s
  have hs : IntOp.cmpi .slt (broadcastInDim S62x1152 ![0, 1] bcast_S1x1152_S62x1152_0_1 (broadcastInDim S1x1152 ![1] bcast_S1152_S1x1152_1 (iotaInDim S1152 32 0)) (vx2 s r)) (broadcastInDim S62x1152 ![0, 1] bcast_S62x1_S62x1152_0_1 (broadcastInDim S62x1 ![0] bcast_S62_S62x1_0 (W4c m c main_v93 : IVec S62 32)) (vx2 s r)) = BitVec.ofBool (decide False) := by
    rw [bcRows, bcCols, at_v93 m c hC hcn]
    refine (word_slt (a := r.val) (by omega) (by split <;> omega)).trans ?_
    rw [decide_eq_false h, decide_eq_false not_false]
  rw [kp_v114, rd_v114]
  exact spare_at _ _ _ _ hs

include hE hQ

/-- The rows an item holds name the assignments whose rows they are. -/
theorem row_names (s : Fin 62) (r : Fin 1152) (A : ℕ) (hs : s.val < Plan.first cn 32) (hr : r.val < Plan.len cn s) (hA : A < 34816)
    (hd : Plan.row0 cn s + r = Plan.rows cn (eA A) + qA A) : ((V m c main_v114 : IVec S62x1152 32) (ix2 s r)).toNat = A := by
  rw [ix2_eq]
  exact (congrArg BitVec.toNat (at_v114 m c hC hcn hE hQ s r ⟨A, hA⟩ hs hr hd)).trans (toNat_of (by show A < _; omega))

theorem tables : Tables (V m c main_v86 : IVec S62 32) (V m c main_v115 : IVec S62 32) (V m c main_v93 : IVec S62 32) (V m c main_v114 : IVec S62x1152 32) := by
  refine ⟨fun s => ?_, fun s => ?_, fun s => ?_, fun s r => ?_, fun s r r' hr hr' he => ?_⟩
  · rw [item_expert m c hC hcn]; exact Plan.ex_lt (hC.live_lt s)
  · rw [item_start m c hC hcn]; have := hC.row0_lt _ (hC.live_lt s); omega
  · rw [item_count m c hC hcn]; have := Plan.len_le cn s; split <;> omega
  · by_cases h : r.val < if s.val < Plan.first cn 32 then Plan.len cn s else 0
    · by_cases hs : s.val < Plan.first cn 32
      · rw [if_pos hs] at h
        obtain ⟨A, hA, -, -, hd⟩ := hC.row_asg hs h
        rw [row_names m c hC hcn hE hQ s r A hs h hA hd]; exact hA
      · rw [if_neg hs] at h; omega
    · rw [ix2_eq]
      exact (congrArg BitVec.toNat (row_spare m c hC hcn s r h)).trans_lt (by decide)
  · rw [item_count m c hC hcn] at hr hr'
    by_cases hs : s.val < Plan.first cn 32
    · rw [if_pos hs] at hr hr'
      obtain ⟨A, hA, -, -, hd⟩ := hC.row_asg hs hr
      obtain ⟨A', hA', -, -, hd'⟩ := hC.row_asg hs hr'
      have h := congrArg BitVec.toNat he
      rw [row_names m c hC hcn hE hQ s r A hs hr hA hd, row_names m c hC hcn hE hQ s r' A' hs hr' hA' hd'] at h
      subst h
      exact Fin.ext (by omega)
    · rw [if_neg hs] at hr; omega

end

/-! ## The result -/

section
variable (m : (ℓ : Loc nD τ sig) → Buf (Elt Ideal) ℓ) (hT : ∀ c : Dev nD, Tables (V m c main_v86 : IVec S62 32) (V m c main_v115 : IVec S62 32) (V m c main_v93 : IVec S62 32) (V m c main_v114 : IVec S62x1152 32))
  (c : Dev nD) {cn eA qA : ℕ → ℕ} (hC : Plan.Counts cn eA qA)
  (hcn : ∀ e : Fin 32, (m ((c : Thread nD τ).loc main_arg3) : IVec S32 32) (vx1 e) = BitVec.ofNat 32 (cn e.val))
  (hE : ∀ (t : Fin 8704) (k : Fin 4), (m ((c : Thread nD τ).loc main_arg1) : IVec S8704x4 32) (vx2 t k) = BitVec.ofNat 32 (eA (t.val * 4 + k.val)))
  (hQ : ∀ (t : Fin 8704) (k : Fin 4), (m ((c : Thread nD τ).loc main_arg2) : IVec S8704x4 32) (vx2 t k) = BitVec.ofNat 32 (qA (t.val * 4 + k.val)))

theorem V_v127 : (V m c main_v127 : FVec Ideal S32x1x4096 .f32) = shapeCast S32x1x4096 (m ((c : Thread nD τ).loc main_arg5) : FVec Ideal S32x4096 .f32) shapeCasts_S32x4096_S32x1x4096 := by
  rw [← V_arg5 m c]
  unfold V W7
  after_reads_simp
  rfl
theorem V_v128 : (V m c main_v128 : FVec Ideal S32x1x4096 .f32) = shapeCast S32x1x4096 (m ((c : Thread nD τ).loc main_arg5) : FVec Ideal S32x4096 .f32) shapeCasts_S32x4096_S32x1x4096 := by
  rw [← V_arg5 m c]
  unfold V W7
  after_reads_simp
  rfl
theorem V_v129 : (V m c main_v129 : FVec Ideal S32x1x2048 .f32) = shapeCast S32x1x2048 (m ((c : Thread nD τ).loc main_arg7) : FVec Ideal S32x2048 .f32) shapeCasts_S32x2048_S32x1x2048 := by
  rw [← V_arg7 m c]
  unfold V W7
  after_reads_simp
  rfl

theorem cast_mid {n : ℕ} (h : (⟨2, ![32, n]⟩ : Shape).ShapeCasts ⟨3, ![32, 1, n]⟩) (x : (⟨2, ![32, n]⟩ : Shape).Idx → EReal) (e : Fin 32) (k : Fin n) :
    shapeCast ⟨3, ![32, 1, n]⟩ x h (Idealize.ShloMosaic.ix3 e 0 k) = x (vx2 e k) := by
  refine Idealize.ShloMosaic.shapeCast_apply _ _ _ _ ?_
  refine (Shape.rowMajor_val_two _).trans (Eq.trans ?_ (Shape.rowMajor_val_three _).symm)
  show e.val * n + k.val = (e.val * 1 + 0) * n + k.val
  rw [Nat.mul_one, Nat.add_zero]

theorem bias_same : (V m c main_v127 : FVec Ideal S32x1x4096 .f32) = V m c main_v128 := (V_v127 m c).trans (V_v128 m c).symm

theorem jx3_eq {a b n : ℕ} (i : Fin a) (j : Fin b) (k : Fin n) : Idealize.ShloMosaic.ix3 i j k = vx3 i j k := by funext x; fin_cases x <;> rfl

theorem wGU_eq (e : Fin 32) : wGU (V m) c e = fun d k => (m ((c : Thread nD τ).loc main_arg4) : FVec Ideal S32x2048x4096 .f32) (vx3 e d k) := by
  funext d k
  unfold wGU
  rw [V_arg4, jx3_eq]
theorem wDN_eq (e : Fin 32) : wDN (V m) c e = fun k j => (m ((c : Thread nD τ).loc main_arg6) : FVec Ideal S32x2048x2048 .f32) (vx3 e k j) := by
  funext k j
  unfold wDN
  rw [V_arg6, jx3_eq]
theorem bGU_eq (e : Fin 32) : bGU (V m) c e = fun k => (m ((c : Thread nD τ).loc main_arg5) : FVec Ideal S32x4096 .f32) (vx2 e k) := by
  funext k
  exact (congrFun (V_v127 m c) _).trans (cast_mid _ _ _ _)
theorem bDN_eq (e : Fin 32) : bDN (V m) c e = fun k => (m ((c : Thread nD τ).loc main_arg7) : FVec Ideal S32x2048 .f32) (vx2 e k) := by
  funext k
  exact (congrFun (V_v129 m c) _).trans (cast_mid _ _ _ _)

/-- The token of an assignment. -/
def tok (A : Fin 34816) : Fin 8704 := ⟨A / 4, by have := A.isLt; omega⟩

theorem dst_lt' {cn eA qA : ℕ → ℕ} (hC : Plan.Counts cn eA qA) (A : Fin 34816) : Plan.rows cn (eA A) + qA A < 36864 :=
  (hC.dst_lt A.isLt).trans (by decide)

/-- The feed-forward of token `t`'s row by expert `e`, of the arguments. -/
def ffnOf (t : Fin 8704) (e : Fin 32) : Fin 2048 → EReal :=
  ffn (fun d => (m ((c : Thread nD τ).loc main_arg0) : FVec Ideal S8704x2048 .f32) (vx2 t d)) (fun d k => (m ((c : Thread nD τ).loc main_arg4) : FVec Ideal S32x2048x4096 .f32) (vx3 e d k))
    (fun k => (m ((c : Thread nD τ).loc main_arg5) : FVec Ideal S32x4096 .f32) (vx2 e k)) (fun k j => (m ((c : Thread nD τ).loc main_arg6) : FVec Ideal S32x2048x2048 .f32) (vx3 e k j))
    (fun k => (m ((c : Thread nD τ).loc main_arg7) : FVec Ideal S32x2048 .f32) (vx2 e k))

theorem dest_gen {pf : pre0.Contents (Elt Ideal)} {L : S62x1x1152.Idx → BitVec 32} (hL : Lists pf L) (M : IVec S62x1152 32) (h : ∀ s r, L (ixW s r) = M (ix2 s r))
    (s : Fin 62) (r : Fin (tN pf s).toNat) (A : ℕ) (hM : ∀ r' : Fin 1152, r'.val = r.val → (M (ix2 s r')).toNat = A) : (dest hL s r).val = A :=
  (congrArg BitVec.toNat (h s _)).trans (hM _ rfl)

theorem held {n l k : ℕ} (P : Prop) [Decidable P] (h : n = if P then l else 0) (hk : k < n) : P ∧ k < l := by
  by_cases hP : P
  · rw [if_pos hP] at h; exact ⟨hP, h ▸ hk⟩
  · rw [if_neg hP] at h; omega

include hC hcn

theorem count_tab (s : Fin 62) : (tN (adm m hT).1 s).toNat = if s.val < Plan.first cn 32 then Plan.len cn s else 0 := by
  obtain rfl : c = 0 := Subsingleton.elim _ _
  have h : tN (adm m hT).1 s = (V m 0 main_v93 : IVec S62 32) (ix1 s) := tN_eq m s
  rw [h]
  exact item_count m 0 hC hcn s

include hE hQ

/-- The assignment a held row of an item goes to is the one whose row it is. -/
theorem dest_val (s : Fin 62) (r : Fin (tN (adm m hT).1 s).toNat) (hs : s.val < Plan.first cn 32) (hr : r.val < Plan.len cn s) (A : ℕ) (hA : A < 34816)
    (hd : Plan.row0 cn s + r.val = Plan.rows cn (eA A) + qA A) : (dest (lists m hT c) s r).val = A := by
  refine dest_gen (lists m hT c) (V m c main_v114) (V_v126 m c) s r A fun r' hr' => ?_
  rw [← hr'] at hr hd
  exact row_names m c hC hcn hE hQ s r' A hs hr hA hd

theorem result_at (A : Fin 34816) (j : Fin 2048) : yAt (adm m hT) (V m) c (lists m hT c) (cfg0 (adm m hT)).N (ixY A j)
    = ffnOf m c (tok A) ⟨eA A, hC.e_lt A A.isLt⟩ j := by
  obtain rfl : c = 0 := Subsingleton.elim _ _
  obtain ⟨s, r, hs, hr, hx, hd⟩ := hC.asg_row A.isLt
  have hs62 : s < 62 := hs.trans_le hC.first_le
  have hr' : r < (tN (adm m hT).1 ⟨s, hs62⟩).toNat := by
    rw [count_tab m hT 0 hC hcn, if_pos hs]
    exact hr
  have hdst : ∀ (s' : Fin 62) (r' : Fin (tN (adm m hT).1 s').toNat), dest (lists m hT 0) s' r' = dest (lists m hT 0) ⟨s, hs62⟩ ⟨r, hr'⟩ → s' = ⟨s, hs62⟩ := fun s' r' h => by
    obtain ⟨h1, h2⟩ := held _ (count_tab m hT 0 hC hcn s') r'.isLt
    obtain ⟨B, hB, -, -, hBd⟩ := hC.row_asg h1 h2
    have hBA : B = A.val := ((dest_val m hT 0 hC hcn hE hQ s' r' h1 h2 B hB hBd).symm.trans (congrArg Fin.val h)).trans (dest_val m hT 0 hC hcn hE hQ ⟨s, hs62⟩ ⟨r, hr'⟩ hs hr A A.isLt hd)
    exact Fin.ext (hC.item_unique h1 hs h2 hr (by rw [hBd, hBA]; exact hd.symm))
  have hA : dest (lists m hT 0) ⟨s, hs62⟩ ⟨r, hr'⟩ = A := Fin.ext (dest_val m hT 0 hC hcn hE hQ ⟨s, hs62⟩ ⟨r, hr'⟩ hs hr A A.isLt hd)
  have hE' : (tE (adm m hT).1 ⟨s, hs62⟩).toNat = (⟨eA A, hC.e_lt A A.isLt⟩ : Fin 32).val := by
    show (tE (tabs m) ⟨s, hs62⟩).toNat = eA A
    rw [tE_eq, item_expert m 0 hC hcn, hC.live_eq hs, hx]
  have hrow : (fun d => X0 (adm m hT) (V m) 0 ⟨s, hs62⟩ (ixA ((⟨r, hr'⟩ : Fin (tN (adm m hT).1 ⟨s, hs62⟩).toNat).castLE ((lists m hT 0).n_le ⟨s, hs62⟩)) d))
      = fun d => (m (((0 : Dev nD) : Thread nD τ).loc main_arg0) : FVec Ideal S8704x2048 .f32) (vx2 (tok A) d) := by
    funext d
    refine (b1_at (adm m hT) (V m) 0 _ _ (vx2 ⟨Plan.rows cn (eA A) + qA A, dst_lt' hC A⟩ d) ?_ rfl).trans (at_v125 m 0 hC hcn hE hQ A d)
    rw [item_pt]
    have h8 : tA (adm m hT).1 ⟨s, hs62⟩ = BitVec.ofNat 32 (Plan.row0 cn s / 8) := by
      show tA (tabs m) ⟨s, hs62⟩ = _
      rw [tA_eq, ix1_eq]
      refine (at_v115 m 0 hC hcn _).trans ?_
      show BitVec.ofNat 32 (Plan.row0 cn (Plan.live cn s) / 8) = _
      rw [hC.live_eq hs]
    have hm : IntOp.muli (BitVec.ofNat 32 (Plan.row0 cn s / 8)) 8#32 = BitVec.ofNat 32 (Plan.row0 cn s) := by
      exact (word_mul _ 8).trans (congrArg (BitVec.ofNat 32) (Nat.div_mul_cancel (Plan.row0_dvd cn s)))
    rw [h8, hm, toNat_of ((hC.row0_lt s hs).trans (by decide))]
    exact hd.symm
  have h := yAt_ffn (adm m hT) (V m) 0 ⟨s, hs62⟩ ⟨eA A, hC.e_lt A A.isLt⟩ hE' (lists m hT 0) (bias_same m 0) ⟨r, hr'⟩ j hdst
  rw [hA, hrow, wGU_eq, bGU_eq, wDN_eq, bDN_eq] at h
  exact h

end

end Cert.Proof.Expert
-- ==== Proof.Decode.lean ====
/- What the precondition says of the routing arrays, over the naturals. -/
module

public import proofs.«01_k».proof.Pre_routed
public import proofs.«01_k».proof.Proof.Plan
public import proofs.«01_k».proof.Proof.Land
public import proofs.«01_k».proof.Proof.Tables
public import Idealize.ShloMosaic.Lib.Pipeline.Value

@[expose] public section

namespace Cert.Proof.Expert

open Idealize.ShloMosaic
open Cert.Pre_routed Cert.Pre_routed.Facts
open Idealize.ShloMosaic.ValueIdx renaming ix0 → vx0, ix1 → vx1, ix2 → vx2, ix3 → vx3
open Idealize.ShloMosaic.Routing

/-- The entries of a vector over the experts, and of an array over the assignments, as naturals. -/
def cnOf (v : IVec S32 32) (e : ℕ) : ℕ := if h : e < 32 then (v (vx1 ⟨e, h⟩)).toNat else 0
def asgOf (v : IVec S8704x4 32) (A : ℕ) : ℕ :=
  if h : A < 34816 then (v (vx2 ⟨A / 4, by omega⟩ ⟨A % 4, Nat.mod_lt _ (by omega)⟩)).toNat else 0

theorem cnOf_eq (v : IVec S32 32) (e : Fin 32) : v (vx1 e) = BitVec.ofNat 32 (cnOf v e) := by
  rw [cnOf, dif_pos e.isLt, BitVec.ofNat_toNat, BitVec.setWidth_eq]

theorem asgOf_eq (v : IVec S8704x4 32) (t : Fin 8704) (k : Fin 4) : v (vx2 t k) = BitVec.ofNat 32 (asgOf v (t * 4 + k)) := by
  have h : t.val * 4 + k.val < 34816 := by omega
  rw [asgOf, dif_pos h, BitVec.ofNat_toNat, BitVec.setWidth_eq]
  exact congrArg₂ (fun a b => v (vx2 a b)) (Fin.ext (by show t.val = (t.val * 4 + k.val) / 4; omega)) (Fin.ext (by show k.val = (t.val * 4 + k.val) % 4; omega))

section
variable [Cert.Pre_routed.Facts]

theorem flat_eq (v : IVec S8704x4 32) (A : Fin 34816) : shapeCast S34816 v shapeCasts_S8704x4_S34816 (vx1 A) = BitVec.ofNat 32 (asgOf v A) := by
  have ht : A.val / 4 < 8704 := by have := A.isLt; omega
  have hA : A.val / 4 * 4 + A.val % 4 = A.val := by omega
  refine (cast21 _ _ (⟨A.val / 4, ht⟩ : Fin 8704) (⟨A.val % 4, Nat.mod_lt _ (by omega)⟩ : Fin 4) A hA.symm).trans ?_
  exact (asgOf_eq v _ _).trans (congrArg (fun a => BitVec.ofNat 32 (asgOf v a)) hA)

variable {F : FTy → Type} [FloatOps F] (x : FVec F S8704x2048 .f32) (idx rk : IVec S8704x4 32) (cnt : IVec S32 32) (wgu : FVec F S32x2048x4096 .f32)
  (bgu : FVec F S32x4096 .f32) (wdn : FVec F S32x2048x2048 .f32) (bdn : FVec F S32x2048 .f32)

/-- The pairs of columns at which the table of assignments is read. -/
def pairs (a b : IVec S34816 32) : IVec S34816x2 32 :=
  concatenate S34816x2 1 [⟨S34816x1, broadcastInDim S34816x1 ![0] bcast_S34816_S34816x1_0 a⟩, ⟨S34816x1, broadcastInDim S34816x1 ![0] bcast_S34816_S34816x1_0 b⟩] concatenates_S34816x1_S34816x1_S34816x2_d1

theorem pairs_0 (a b : IVec S34816 32) (A : Fin 34816) : pairs a b (vx2 A 0) = a (vx1 A) := by
  unfold pairs
  refine (concatenate_pair_apply_left (t := S34816x2) (s₁ := S34816x1) (s₂ := S34816x1) 1 _ _ _ _ rfl (vx2 A (0 : Fin 1)) (fun b => ?_)).trans (bcCol _ _ A)
  fin_cases b <;> rfl

theorem pairs_1 (a b : IVec S34816 32) (A : Fin 34816) : pairs a b (vx2 A 1) = b (vx1 A) := by
  unfold pairs
  refine (concatenate_pair_apply_right (t := S34816x2) (s₁ := S34816x1) (s₂ := S34816x1) 1 _ _ _ _ rfl rfl (vx2 A (0 : Fin 1)) (fun b hb => ?_) rfl).trans (bcCol _ _ A)
  fin_cases b
  · rfl
  · exact absurd rfl hb

/-- A vector of places, those below zero counted from the end. -/
def wrapped (v : IVec S34816 32) (n : BitVec 32) : IVec S34816 32 :=
  select (cmpi .slt v (broadcastInDim S34816 ![] bcast_S_S34816 (constantI S_ 32 0#32))) (addi v (broadcastInDim S34816 ![] bcast_S_S34816 (constantI S_ 32 n))) v

theorem wrapped_at (v : IVec S34816 32) (n : BitVec 32) (A : Fin 34816) (a : ℕ) (ha : a < 2 ^ 31) (h : v (vx1 A) = BitVec.ofNat 32 a) :
    wrapped v n (vx1 A) = BitVec.ofNat 32 a := by
  change Scalar.select (IntOp.cmpi .slt (v (vx1 A)) 0#32) _ (v (vx1 A)) = _
  rw [h, word_wrap ha]

theorem cond4 : (Cert.Pre_routed.fn (F := F) x idx rk cnt wgu bgu wdn bdn).2.2.2.1
    = andi (cmpi .sge (shapeCast S34816 rk shapeCasts_S8704x4_S34816) (broadcastInDim S34816 ![] bcast_S_S34816 (constantI S_ 32 0#32)))
      (cmpi .slt (shapeCast S34816 rk shapeCasts_S8704x4_S34816)
        (Host.gather gather_S32_S34816x1_S34816_n_0_n_n_0_1_1 cnt (broadcastInDim S34816x1 ![0] bcast_S34816_S34816x1_0 (wrapped (shapeCast S34816 idx shapeCasts_S8704x4_S34816) 32#32)))) := rfl

theorem cond5 : ∃ T : IVec S32x34816 32, (Cert.Pre_routed.fn (F := F) x idx rk cnt wgu bgu wdn bdn).2.2.2.2
    = cmpi .eq (Host.gather gather_S32x34816_S34816x2_S34816_n_01_n_n_01_1_11 T
        (pairs (wrapped (shapeCast S34816 idx shapeCasts_S8704x4_S34816) 32#32) (wrapped (shapeCast S34816 rk shapeCasts_S8704x4_S34816) 34816#32))) (iotaInDim S34816 32 0) := by
  unfold Cert.Pre_routed.fn Cert.Pre_routed.fn_part1 Cert.Pre_routed.fn_part2 Cert.Pre_routed.fn_part3 pairs wrapped
  dsimp only
  exact ⟨_, rfl⟩

theorem cond3 : (Cert.Pre_routed.fn (F := F) x idx rk cnt wgu bgu wdn bdn).2.2.1
    = cmpi .eq (broadcastInDim S1 ![] bcast_S_S1 (Host.reduce IntOp.addi cnt (constantI S_ 32 0#32) reducesTo_S32_S_d0 h_S_)) (broadcastInDim S1 ![] bcast_S_S1 (constantI S_ 32 34816#32)) := rfl

theorem cond1 : (Cert.Pre_routed.fn (F := F) x idx rk cnt wgu bgu wdn bdn).1
    = andi (cmpi .sge idx (broadcastInDim S8704x4 ![] bcast_S_S8704x4 (constantI S_ 32 0#32))) (cmpi .slt idx (broadcastInDim S8704x4 ![] bcast_S_S8704x4 (constantI S_ 32 32#32))) := rfl

theorem cond2 : (Cert.Pre_routed.fn (F := F) x idx rk cnt wgu bgu wdn bdn).2.1
    = andi (cmpi .sge cnt (broadcastInDim S32 ![] bcast_S_S32 (constantI S_ 32 0#32))) (cmpi .sle cnt (broadcastInDim S32 ![] bcast_S_S32 (constantI S_ 32 34816#32))) := rfl

theorem eq_of_cmpi {a b : BitVec 32} (h : IntOp.cmpi .eq a b = 1#1) : a = b := by
  by_contra hne
  have h0 : IntOp.cmpi .eq a b = BitVec.ofBool (a == b) := rfl
  rw [h0, beq_false_of_ne hne] at h
  exact absurd h (by decide)

theorem e_of (h1 : ∀ i, (Cert.Pre_routed.fn (F := F) x idx rk cnt wgu bgu wdn bdn).1 i = 1#1) (A : ℕ) (hA : A < 34816) : asgOf idx A < 32 := by
  rw [cond1] at h1
  rw [asgOf, dif_pos hA]
  exact lt_of (by decide) (h1 (vx2 _ _))

theorem c_of (h2 : ∀ i, (Cert.Pre_routed.fn (F := F) x idx rk cnt wgu bgu wdn bdn).2.1 i = 1#1) (e : ℕ) : cnOf cnt e ≤ 34816 := by
  rw [cond2] at h2
  unfold cnOf
  split
  · exact le_of (by decide) (h2 (vx1 _))
  · omega

theorem room (B : Fin 34816) (hx : asgOf idx B.1 < 32) :
    Host.gather gather_S32_S34816x1_S34816_n_0_n_n_0_1_1 cnt (broadcastInDim S34816x1 ![0] bcast_S34816_S34816x1_0 (wrapped (shapeCast S34816 idx shapeCasts_S8704x4_S34816) 32#32)) (vx1 B) = BitVec.ofNat 32 (cnOf cnt (asgOf idx B.1)) := by
  have hi : broadcastInDim S34816x1 ![0] bcast_S34816_S34816x1_0 (wrapped (shapeCast S34816 idx shapeCasts_S8704x4_S34816) 32#32) (vx2 B 0) = BitVec.ofNat 32 (asgOf idx B.1) :=
    (bcCol _ _ _).trans (wrapped_at _ _ _ _ (by show asgOf idx B.1 < _; omega) (flat_eq idx B))
  exact (take_ap gather_S32_S34816x1_S34816_n_0_n_n_0_1_1 rfl rfl rfl rfl cnt _ B hx (by omega) hi).trans (cnOf_eq cnt ⟨_, hx⟩)

theorem lt_of_room {x y : BitVec 32} {k : ℕ} (hk : k ≤ 34816) (hy : y = BitVec.ofNat 32 k) (h : IntOp.andi (IntOp.cmpi .sge x 0#32) (IntOp.cmpi .slt x y) = 1#1) : x.toNat < k := by
  subst hy
  exact lt_of (by omega) h

theorem q_of (h4 : ∀ i, (Cert.Pre_routed.fn (F := F) x idx rk cnt wgu bgu wdn bdn).2.2.2.1 i = 1#1) (he : ∀ A, A < 34816 → asgOf idx A < 32)
    (hc : ∀ e, cnOf cnt e ≤ 34816) (A : ℕ) (hA : A < 34816) : asgOf rk A < cnOf cnt (asgOf idx A) := by
  rw [cond4] at h4
  have h := lt_of_room (hc _) (room idx cnt ⟨A, hA⟩ (he A hA)) (h4 (vx1 ⟨A, hA⟩))
  have hr : asgOf rk A < 2 ^ 32 := by rw [asgOf, dif_pos hA]; exact BitVec.isLt _
  rw [flat_eq, BitVec.toNat_ofNat, Nat.mod_eq_of_lt hr] at h
  exact h

theorem sum_of (h3 : ∀ i, (Cert.Pre_routed.fn (F := F) x idx rk cnt wgu bgu wdn bdn).2.2.1 i = 1#1) (hc : ∀ e, cnOf cnt e ≤ 34816) : Plan.total (cnOf cnt) 32 = 34816 := by
  rw [cond3] at h3
  have h : IntOp.cmpi .eq (broadcastInDim S1 ![] bcast_S_S1 (Host.reduce IntOp.addi cnt (constantI S_ 32 0#32) reducesTo_S32_S_d0 h_S_) (vx1 0)) 34816#32 = 1#1 := h3 (vx1 0)
  have hw := eq_of_cmpi h
  rw [bc0] at hw
  have hs := (reduce_sum cnt (cnOf cnt) (cnOf_eq cnt) reducesTo_S32_S_d0 h_S_).symm.trans hw
  have hb : ∀ n, Plan.total (cnOf cnt) n ≤ 34816 * n := fun n => by
    induction n with
    | zero => exact Nat.le_refl _
    | succ n ih => rw [Plan.total_succ]; have := hc n; omega
  have hb' := hb 32
  have hn := congrArg BitVec.toNat hs
  rw [BitVec.toNat_ofNat] at hn
  change Plan.total (cnOf cnt) 32 % 2 ^ 32 = 34816 at hn
  omega

theorem inj_of (h5 : ∀ i, (Cert.Pre_routed.fn (F := F) x idx rk cnt wgu bgu wdn bdn).2.2.2.2 i = 1#1) (he : ∀ A, A < 34816 → asgOf idx A < 32)
    (hrk : ∀ A, A < 34816 → asgOf rk A < 34816) (A A' : ℕ) (hA : A < 34816) (hA' : A' < 34816) (hee : asgOf idx A = asgOf idx A') (hqq : asgOf rk A = asgOf rk A') : A = A' := by
  obtain ⟨T, hT⟩ := cond5 (F := F) x idx rk cnt wgu bgu wdn bdn
  rw [hT] at h5
  generalize hps : pairs (wrapped (shapeCast S34816 idx shapeCasts_S8704x4_S34816) 32#32) (wrapped (shapeCast S34816 rk shapeCasts_S8704x4_S34816) 34816#32) = ps at h5
  have h0 : ∀ B (hB : B < 34816), ps (vx2 ⟨B, hB⟩ 0) = BitVec.ofNat 32 (asgOf idx B) := fun B hB => by
    rw [← hps]
    exact (pairs_0 _ _ _).trans (wrapped_at _ _ _ _ (by have := he B hB; show asgOf idx B < _; omega) (flat_eq idx ⟨B, hB⟩))
  have h1 : ∀ B (hB : B < 34816), ps (vx2 ⟨B, hB⟩ 1) = BitVec.ofNat 32 (asgOf rk B) := fun B hB => by
    rw [← hps]
    exact (pairs_1 _ _ _).trans (wrapped_at _ _ _ _ (by have := hrk B hB; show asgOf rk B < _; omega) (flat_eq rk ⟨B, hB⟩))
  have hg := take_pairs gather_S32x34816_S34816x2_S34816_n_01_n_n_01_1_11 rfl rfl rfl rfl rfl T ps ⟨A, hA⟩ ⟨A', hA'⟩ (fun q => by
    match q with
    | 0 => rw [h0, h0, hee]
    | 1 => rw [h1, h1, hqq])
  have hw : ∀ B (hB : B < 34816), Host.gather gather_S32x34816_S34816x2_S34816_n_01_n_n_01_1_11 T ps (vx1 ⟨B, hB⟩) = BitVec.ofNat 32 B :=
    fun B hB => eq_of_cmpi (h5 (vx1 ⟨B, hB⟩))
  have hn := congrArg BitVec.toNat ((hw A hA).symm.trans (hg.trans (hw A' hA')))
  rw [BitVec.toNat_ofNat, BitVec.toNat_ofNat] at hn
  omega

theorem counts_of
    (h1 : ∀ i, (Cert.Pre_routed.fn (F := F) x idx rk cnt wgu bgu wdn bdn).1 i = 1#1)
    (h2 : ∀ i, (Cert.Pre_routed.fn (F := F) x idx rk cnt wgu bgu wdn bdn).2.1 i = 1#1)
    (h3 : ∀ i, (Cert.Pre_routed.fn (F := F) x idx rk cnt wgu bgu wdn bdn).2.2.1 i = 1#1)
    (h4 : ∀ i, (Cert.Pre_routed.fn (F := F) x idx rk cnt wgu bgu wdn bdn).2.2.2.1 i = 1#1)
    (h5 : ∀ i, (Cert.Pre_routed.fn (F := F) x idx rk cnt wgu bgu wdn bdn).2.2.2.2 i = 1#1) : Plan.Counts (cnOf cnt) (asgOf idx) (asgOf rk) :=
  have he := e_of x idx rk cnt wgu bgu wdn bdn h1
  have hc := c_of x idx rk cnt wgu bgu wdn bdn h2
  have hq := q_of x idx rk cnt wgu bgu wdn bdn h4 he hc
  ⟨he, hq, sum_of x idx rk cnt wgu bgu wdn bdn h3 hc, inj_of x idx rk cnt wgu bgu wdn bdn h5 he fun A hA => (hq A hA).trans_le (hc _)⟩

end

end Cert.Proof.Expert
-- ==== Proof.RefValue.lean ====
/- What the reference computes, at each index. -/
module

public import proofs.«01_k».proof.Proof.Gen.ReferenceIdeal
public import proofs.«01_k».proof.Proof.Gen.ReferenceIdeal.Run
public import proofs.«01_k».proof.Proof.Value
public import proofs.«01_k».proof.Proof.Land
public import Idealize.ShloMosaic.Lib.Pointwise

@[expose] public section

noncomputable section

namespace Cert.Proof.Expert.Ref
open Cert.ReferenceIdeal Cert.ReferenceIdeal.Gen
open Idealize.ShloMosaic Idealize.ShloMosaic.TcCoe Idealize.ShloMosaic.Tactic
open Idealize.ShloMosaic renaming ix2 → jx2, ix3 → jx3
open Idealize.ShloMosaic.Routing
open Idealize.ShloMosaic.ValueIdx renaming ix0 → vx0, ix1 → vx1, ix2 → vx2, ix3 → vx3

section
variable (h : FVec Ideal S8704x2048 .f32) (idx : IVec S8704x4 32) (wgu : FVec Ideal S32x2048x4096 .f32) (bgu : FVec Ideal S32x4096 .f32) (wdn : FVec Ideal S32x2048x2048 .f32) (bdn : FVec Ideal S32x2048 .f32)

/-- The first product of every token by every expert. -/
def gu : FVec Ideal S32x8704x4096 .f32 := addf (transpose S32x8704x4096 [0, 2, 1] (Host.dotGeneral dot_S32x2048x4096_S8704x2048_S32x4096x8704_1_1_02_0_n_n none wgu h) transposes_S32x4096x8704_S32x8704x4096_0_2_1) (broadcastInDim S32x8704x4096 ![0, 1, 2] bcast_S32x1x4096_S32x8704x4096_0_1_2 (broadcastInDim S32x1x4096 ![0, 2] bcast_S32x4096_S32x1x4096_0_2 bgu))

/-- The gated halves. -/
def gated (y : FVec Ideal S32x8704x4096 .f32) : FVec Ideal S32x8704x2048 .f32 := mulf (addf (minimumf (broadcastInDim S32x8704x2048 ![] bcast_S_S32x8704x2048 (id (constant S_ .f32 0x40E00000#32))) (maximumf (broadcastInDim S32x8704x2048 ![] bcast_S_S32x8704x2048 (id (constant S_ .f32 0xC0E00000#32))) (extractStridedSlice S32x8704x2048 ![0, 0, 2048] y slices_S32x8704x4096_S32x8704x2048_0_0_2048))) (broadcastInDim S32x8704x2048 ![] bcast_S_S32x8704x2048 (constant S_ .f32 0x3F800000#32))) (mulf (minimumf (extractStridedSlice S32x8704x2048 ![0, 0, 0] y slices_S32x8704x4096_S32x8704x2048_0_0_0) (broadcastInDim S32x8704x2048 ![] bcast_S_S32x8704x2048 (constant S_ .f32 0x40E00000#32))) (Host.divf (broadcastInDim S32x8704x2048 ![] bcast_S_S32x8704x2048 (constant S_ .f32 0x3F800000#32)) (addf (broadcastInDim S32x8704x2048 ![] bcast_S_S32x8704x2048 (constant S_ .f32 0x3F800000#32)) (Host.exp (Host.negf (mulf (broadcastInDim S32x8704x2048 ![] bcast_S_S32x8704x2048 (constant S_ .f32 0x3FD9DB23#32)) (minimumf (extractStridedSlice S32x8704x2048 ![0, 0, 0] y slices_S32x8704x4096_S32x8704x2048_0_0_0) (broadcastInDim S32x8704x2048 ![] bcast_S_S32x8704x2048 (constant S_ .f32 0x40E00000#32)))))))))

/-- The second product. -/
def down (a : FVec Ideal S32x8704x2048 .f32) : FVec Ideal S32x8704x2048 .f32 := addf (Host.dotGeneral dot_S32x8704x2048_S32x2048x2048_S32x8704x2048_2_1_1_2_0_0 none a wdn) (broadcastInDim S32x8704x2048 ![0, 1, 2] bcast_S32x1x2048_S32x8704x2048_0_1_2 (broadcastInDim S32x1x2048 ![0, 2] bcast_S32x2048_S32x1x2048_0_2 bdn))

theorem gu_at (e : Fin 32) (t : Fin 8704) (k : Fin 4096) : gu h wgu bgu (jx3 e t k) = lin (fun d => h (jx2 t d)) (fun d k => wgu (jx3 e d k)) (fun k => bgu (jx2 e k)) k := by
  pointwise [gu]
  exact congrArg (· + bgu (jx2 e k)) (Finset.sum_congr rfl fun d _ => mul_comm (wgu (jx3 e d k) : EReal) (h (jx2 t d)))

theorem down_at (a : FVec Ideal S32x8704x2048 .f32) (e : Fin 32) (t : Fin 8704) (j : Fin 2048) : down wdn bdn a (jx3 e t j) = lin (fun k => a (jx3 e t k)) (fun k j => wdn (jx3 e k j)) (fun j => bdn (jx2 e j)) j := by
  pointwise [down]
  rfl

theorem gated_at (y : FVec Ideal S32x8704x4096 .f32) (e : Fin 32) (t : Fin 8704) (j : Fin 2048) : gated y (jx3 e t j) = act (y (jx3 e t (lo j))) (y (jx3 e t (hi j))) := by
  pointwise [gated]
  unfold act
  rw [zero_sub]
  rfl

theorem ys_at (e : Fin 32) (t : Fin 8704) (j : Fin 2048) : down wdn bdn (gated (gu h wgu bgu)) (jx3 e t j)
    = ffn (fun d => h (jx2 t d)) (fun d k => wgu (jx3 e d k)) (fun k => bgu (jx2 e k)) (fun k j => wdn (jx3 e k j)) (fun j => bdn (jx2 e j)) j := by
  rw [down_at]
  unfold ffn
  refine congrArg (fun f => lin f _ _ j) (funext fun k => ?_)
  rw [gated_at, gu_at, gu_at]
  rfl

/-- The place of each read: a token's expert, and the token. -/
def places : IVec S8704x4x2 32 := concatenate S8704x4x2 2 [⟨S8704x4x1, (broadcastInDim S8704x4x1 ![0, 1] bcast_S8704x4_S8704x4x1_0_1 (select (cmpi .slt idx (broadcastInDim S8704x4 ![] bcast_S_S8704x4 (constantI S_ 32 0#32))) (addi idx (broadcastInDim S8704x4 ![] bcast_S_S8704x4 (constantI S_ 32 32#32))) idx))⟩, ⟨S8704x4x1, (broadcastInDim S8704x4x1 ![0, 1] bcast_S8704x4_S8704x4x1_0_1 (broadcastInDim S8704x4 ![0, 1] bcast_S8704x1_S8704x4_0_1 (select (cmpi .slt (broadcastInDim S8704x1 ![0] bcast_S8704_S8704x1_0 (iotaInDim S8704 32 0)) (broadcastInDim S8704x1 ![] bcast_S_S8704x1 (constantI S_ 32 0#32))) (addi (broadcastInDim S8704x1 ![0] bcast_S8704_S8704x1_0 (iotaInDim S8704 32 0)) (broadcastInDim S8704x1 ![] bcast_S_S8704x1 (constantI S_ 32 8704#32))) (broadcastInDim S8704x1 ![0] bcast_S8704_S8704x1_0 (iotaInDim S8704 32 0)))))⟩] concatenates_S8704x4x1_S8704x4x1_S8704x4x2_d2

theorem places_0 (t : Fin 8704) (k : Fin 4) (e : ℕ) (he : e < 32) (hi : idx (vx2 t k) = BitVec.ofNat 32 e) : places idx (vx3 t k 0) = BitVec.ofNat 32 e := by
  unfold places
  refine (concatenate_pair_apply_left (t := S8704x4x2) (s₁ := S8704x4x1) (s₂ := S8704x4x1) 2 _ _ _ _ rfl (vx3 t k (0 : Fin 1)) (fun b => ?_)).trans ?_
  · fin_cases b <;> rfl
  · rw [bcLane]
    change Scalar.select (IntOp.cmpi .slt (idx (vx2 t k)) 0#32) _ (idx (vx2 t k)) = _
    rw [hi, word_wrap (by omega)]

theorem places_1 (t : Fin 8704) (k : Fin 4) : places idx (vx3 t k 1) = BitVec.ofNat 32 t.val := by
  unfold places
  refine (concatenate_pair_apply_right (t := S8704x4x2) (s₁ := S8704x4x1) (s₂ := S8704x4x1) 2 _ _ _ _ rfl rfl (vx3 t k (0 : Fin 1)) (fun b hb => ?_) rfl).trans ?_
  · fin_cases b
    · rfl
    · rfl
    · exact absurd rfl hb
  · rw [bcLane]
    have h1 : (broadcastInDim S8704x1 ![0] bcast_S8704_S8704x1_0 (iotaInDim S8704 32 0)) (vx2 t 0) = BitVec.ofNat 32 t.val := rfl
    change Scalar.select (IntOp.cmpi .slt ((broadcastInDim S8704x1 ![0] bcast_S8704_S8704x1_0 (iotaInDim S8704 32 0)) (vx2 t 0)) 0#32) _ ((broadcastInDim S8704x1 ![0] bcast_S8704_S8704x1_0 (iotaInDim S8704 32 0)) (vx2 t 0)) = _
    rw [h1, word_wrap (by have := t.isLt; omega)]

/-- Rows of a stack taken at pairs of places. -/
theorem take_rows {α : Type} (x : S32x8704x2048.Idx → α) (pl : IVec S8704x4x2 32) (t : Fin 8704) (k : Fin 4) (j : Fin 2048) (e : Fin 32) (t' : Fin 8704)
    (h0 : pl (vx3 t k 0) = BitVec.ofNat 32 e.val) (h1 : pl (vx3 t k 1) = BitVec.ofNat 32 t'.val) :
    Host.gather gather_S32x8704x2048_S8704x4x2_S8704x4x2048_2_01_n_n_01_2_112048 x pl (vx3 t k j) = x (vx3 e t' j) := by
  unfold Host.gather
  refine congrArg x (funext fun a => Fin.ext ?_)
  have hi : ∀ q : Fin 2, gather_S32x8704x2048_S8704x4x2_S8704x4x2048_2_01_n_n_01_2_112048.siIdx (vx3 t k j) q = vx3 t k q := fun q => by
    funext y
    apply Fin.ext
    match y with
    | ⟨0, _⟩ => rfl
    | ⟨1, _⟩ => rfl
    | ⟨2, _⟩ => rfl
  match a with
  | ⟨0, _⟩ =>
    have hs : gather_S32x8704x2048_S8704x4x2_S8704x4x2048_2_01_n_n_01_2_112048.start (vx3 t k j) pl 0 = min (pl (gather_S32x8704x2048_S8704x4x2_S8704x4x2048_2_01_n_n_01_2_112048.siIdx (vx3 t k j) (0 : Fin 2))).toInt.toNat 31 := rfl
    show gather_S32x8704x2048_S8704x4x2_S8704x4x2048_2_01_n_n_01_2_112048.start (vx3 t k j) pl 0 + 0 + 0 = e.val
    rw [hs, hi, h0, StableHlo.Predicate.toInt_ofNat_small _ (by have := e.isLt; omega), Int.toNat_natCast]
    have := e.isLt
    omega
  | ⟨1, _⟩ =>
    have hs : gather_S32x8704x2048_S8704x4x2_S8704x4x2048_2_01_n_n_01_2_112048.start (vx3 t k j) pl 1 = min (pl (gather_S32x8704x2048_S8704x4x2_S8704x4x2048_2_01_n_n_01_2_112048.siIdx (vx3 t k j) (1 : Fin 2))).toInt.toNat 8703 := rfl
    show gather_S32x8704x2048_S8704x4x2_S8704x4x2048_2_01_n_n_01_2_112048.start (vx3 t k j) pl 1 + 0 + 0 = t'.val
    rw [hs, hi, h1, StableHlo.Predicate.toInt_ofNat_small _ (by have := t'.isLt; omega), Int.toNat_natCast]
    have := t'.isLt
    omega
  | ⟨2, _⟩ =>
    show 0 + 0 + j.val = j.val
    omega

theorem result_at (A : Fin 34816) (j : Fin 2048) (e : Fin 32) (t : Fin 8704) (k : Fin 4) (hA : A.val = t.val * 4 + k.val) (hi : idx (vx2 t k) = BitVec.ofNat 32 e.val) :
    shapeCast S34816x2048 (Host.gather gather_S32x8704x2048_S8704x4x2_S8704x4x2048_2_01_n_n_01_2_112048 (down wdn bdn (gated (gu h wgu bgu))) (places idx)) shapeCasts_S8704x4x2048_S34816x2048 (vx2 A j)
      = ffn (fun d => h (vx2 t d)) (fun d k => wgu (vx3 e d k)) (fun k => bgu (vx2 e k)) (fun k j => wdn (vx3 e k j)) (fun j => bdn (vx2 e j)) j := by
  refine (Idealize.ShloMosaic.shapeCast_apply _ _ _ (vx3 t k j) ?_).trans ?_
  · refine (Shape.rowMajor_val_three _).trans (Eq.trans ?_ (Shape.rowMajor_val_two _).symm)
    show (t.val * 4 + k.val) * 2048 + j.val = A.val * 2048 + j.val
    rw [hA]
  · refine (take_rows _ _ t k j e t (places_0 idx t k e e.isLt hi) (places_1 idx t k)).trans ?_
    have h2 : ∀ {a b : ℕ} (p : Fin a) (q : Fin b), jx2 p q = vx2 p q := fun p q => by funext x; fin_cases x <;> rfl
    have h3 : ∀ {a b c : ℕ} (p : Fin a) (q : Fin b) (r : Fin c), jx3 p q r = vx3 p q r := fun p q r => by funext x; fin_cases x <;> rfl
    have h4 := ys_at h wgu bgu wdn bdn e t j
    simp only [h2, h3] at h4
    exact h4

end

end Cert.Proof.Expert.Ref
-- ==== Proof.Values.lean ====
/- The claims at the ideal instance: the kernel's run, the reference's, and their one result. -/
module

public import proofs.«01_k».proof.Defs
public import proofs.«01_k».proof.Proof.Gen.KernelIdeal
public import proofs.«01_k».proof.Proof.Gen.ReferenceIdeal
public import proofs.«01_k».proof.Proof.Gen.ReferenceIdeal.Run
public import proofs.«01_k».proof.Proof.Gen.Pre_routed
public import proofs.«01_k».proof.Proof.Frame
public import proofs.«01_k».proof.Proof.Routed
public import proofs.«01_k».proof.Proof.Decode
public import proofs.«01_k».proof.Proof.RefValue
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL Cert.Proof.Expert
open Idealize.ShloMosaic.ValueIdx renaming ix1 → vx1, ix2 → vx2, ix3 → vx3

theorem counts_kernelIdeal (m : (ℓ : Loc Cert.KernelIdeal.nD Cert.KernelIdeal.τ Cert.KernelIdeal.sig) → Buf (Elt Ideal) ℓ)
    (hpre : Cert.Pre_KernelIdeal (hPre_routed := Cert.Pre_routed.Gen.facts) m) (c : Dev Cert.KernelIdeal.nD) :
    Plan.Counts (cnOf (m ((c.tc : Thread Cert.KernelIdeal.nD Cert.KernelIdeal.τ).loc Cert.KernelIdeal.main_arg3))) (asgOf (m ((c.tc : Thread Cert.KernelIdeal.nD Cert.KernelIdeal.τ).loc Cert.KernelIdeal.main_arg1)))
      (asgOf (m ((c.tc : Thread Cert.KernelIdeal.nD Cert.KernelIdeal.τ).loc Cert.KernelIdeal.main_arg2))) :=
  letI := Cert.Pre_routed.Gen.facts
  counts_of _ _ _ _ _ _ _ _ (congrFun (hpre c).1) (congrFun (hpre c).2.1) (congrFun (hpre c).2.2.1) (congrFun (hpre c).2.2.2.1) (congrFun (hpre c).2.2.2.2)

theorem tables_kernelIdeal (m : (ℓ : Loc Cert.KernelIdeal.nD Cert.KernelIdeal.τ Cert.KernelIdeal.sig) → Buf (Elt Ideal) ℓ)
    (hpre : Cert.Pre_KernelIdeal (hPre_routed := Cert.Pre_routed.Gen.facts) m) (c : Dev Cert.KernelIdeal.nD) :
    Tables (V (F := Ideal) m c Cert.KernelIdeal.main_v86) (V (F := Ideal) m c Cert.KernelIdeal.main_v115) (V (F := Ideal) m c Cert.KernelIdeal.main_v93) (V (F := Ideal) m c Cert.KernelIdeal.main_v114) :=
  tables (F := Ideal) m c (counts_kernelIdeal m hpre c) (cnOf_eq _) (asgOf_eq _) (asgOf_eq _)

theorem frame_kernelIdeal :
    Cert.quiescent_KernelIdeal (hKernelIdeal := Cert.KernelIdeal.Gen.facts) (hPre_routed := Cert.Pre_routed.Gen.facts) :=
  fun m ρ hpre => (θ_run Cert.KernelIdeal.defs _ _).mono (fun _ h => ⟨fun c => (h.1 c).1, h.2⟩)
    (frame_of (F := Ideal) m ρ (tables_kernelIdeal m hpre))

theorem frame_referenceIdeal :
    Cert.quiescent_ReferenceIdeal (hReferenceIdeal := Cert.ReferenceIdeal.Gen.facts) (hPre_routed := Cert.Pre_routed.Gen.facts) :=
  fun m ρ _ => (θ_run Cert.ReferenceIdeal.defs _ _).mono (fun r h => ⟨fun c => (h c).2, sem_eq_zero_of_no_sems rfl r.2⟩)
    (Cert.ReferenceIdeal.Value.run (F := Ideal) m ρ)

/-- The kernel's result is, place by place, the reference's. -/
theorem same_result (m : (ℓ : Loc Cert.KernelIdeal.nD Cert.KernelIdeal.τ Cert.KernelIdeal.sig) → Buf (Elt Ideal) ℓ)
    (hpre : Cert.Pre_KernelIdeal (hPre_routed := Cert.Pre_routed.Gen.facts) m) (c : Dev Cert.KernelIdeal.nD)
    (h : FVec Ideal Cert.ReferenceIdeal.S8704x2048 .f32) (idx : IVec Cert.ReferenceIdeal.S8704x4 32) (wgu : FVec Ideal Cert.ReferenceIdeal.S32x2048x4096 .f32)
    (bgu : FVec Ideal Cert.ReferenceIdeal.S32x4096 .f32) (wdn : FVec Ideal Cert.ReferenceIdeal.S32x2048x2048 .f32) (bdn : FVec Ideal Cert.ReferenceIdeal.S32x2048 .f32)
    (h0 : h = m ((c.tc : Thread Cert.KernelIdeal.nD Cert.KernelIdeal.τ).loc Cert.KernelIdeal.main_arg0))
    (h1 : idx = m ((c.tc : Thread Cert.KernelIdeal.nD Cert.KernelIdeal.τ).loc Cert.KernelIdeal.main_arg1))
    (h4 : wgu = m ((c.tc : Thread Cert.KernelIdeal.nD Cert.KernelIdeal.τ).loc Cert.KernelIdeal.main_arg4))
    (h5 : bgu = m ((c.tc : Thread Cert.KernelIdeal.nD Cert.KernelIdeal.τ).loc Cert.KernelIdeal.main_arg5))
    (h6 : wdn = m ((c.tc : Thread Cert.KernelIdeal.nD Cert.KernelIdeal.τ).loc Cert.KernelIdeal.main_arg6))
    (h7 : bdn = m ((c.tc : Thread Cert.KernelIdeal.nD Cert.KernelIdeal.τ).loc Cert.KernelIdeal.main_arg7))
    (x : Cert.ReferenceIdeal.S34816x2048.Idx) :
    shapeCast Cert.ReferenceIdeal.S34816x2048 (Host.gather Cert.ReferenceIdeal.gather_S32x8704x2048_S8704x4x2_S8704x4x2048_2_01_n_n_01_2_112048
        (Ref.down wdn bdn (Ref.gated (Ref.gu h wgu bgu))) (Ref.places idx)) Cert.ReferenceIdeal.Gen.shapeCasts_S8704x4x2048_S34816x2048 x
      = yAt (adm m (tables_kernelIdeal m hpre)) (V m) c (lists m (tables_kernelIdeal m hpre) c) (Cert.KernelIdeal.cfg0 (adm m (tables_kernelIdeal m hpre))).N x := by
  have hC := counts_kernelIdeal m hpre c
  have hy : ixY (x 0) (x 1) = x := by funext a; fin_cases a <;> rfl
  have hv : (vx2 (x 0) (x 1) : Cert.ReferenceIdeal.S34816x2048.Idx) = x := by funext a; fin_cases a <;> rfl
  have hA : (x 0).val = (tok (x 0)).val * 4 + (⟨(x 0).val % 4, Nat.mod_lt _ (by decide)⟩ : Fin 4).val := (Nat.div_add_mod' (x 0).val 4).symm
  have hK := result_at m (tables_kernelIdeal m hpre) c hC (cnOf_eq _) (asgOf_eq _) (asgOf_eq _) (x 0) (x 1)
  have hR := Ref.result_at h idx wgu bgu wdn bdn (x 0) (x 1) ⟨_, hC.e_lt (x 0) (x 0).isLt⟩ (tok (x 0)) ⟨(x 0).val % 4, Nat.mod_lt _ (by decide)⟩ hA
    ((congrFun h1 _).trans ((asgOf_eq _ _ _).trans (congrArg (fun n => BitVec.ofNat 32 (asgOf _ n)) hA.symm)))
  rw [hy] at hK
  rw [hv] at hR
  refine hR.trans (Eq.trans ?_ hK.symm)
  subst h0 h4 h5 h6 h7
  rfl

theorem algebraic : Cert.algebraic_KernelIdeal_ReferenceIdeal (hKernelIdeal := Cert.KernelIdeal.Gen.facts) (hReferenceIdeal := Cert.ReferenceIdeal.Gen.facts) (hPre_routed := Cert.Pre_routed.Gen.facts) := by
  intro m g m' g' hpre hagree
  refine ⟨fun c => yAt (adm m (tables_kernelIdeal m hpre)) (V m) c (lists m (tables_kernelIdeal m hpre) c) (Cert.KernelIdeal.cfg0 (adm m (tables_kernelIdeal m hpre))).N, ?_, ?_⟩
  · exact (θ_run Cert.KernelIdeal.defs _ _).mono (fun _ h c => ⟨(h.1 c).2, (h.1 c).1⟩) (frame_of (F := Ideal) m g (tables_kernelIdeal m hpre))
  · refine (θ_run Cert.ReferenceIdeal.defs _ _).mono (fun r h c => ⟨(h c).1.trans (funext fun x => ?_), (h c).2⟩) (Cert.ReferenceIdeal.Value.run (F := Ideal) m' g')
    obtain ⟨h0, h1, _, _, h4, h5, h6, h7⟩ := hagree c
    exact same_result m hpre c _ _ _ _ _ _ h0 h1 h4 h5 h6 h7 x

end Cert.Proof
-- ==== Proof.Mm5.lean ====
module

public import proofs.«01_k».proof.Defs
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import Idealize.ShloMosaic.Lib.Pipeline.ValueKit
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem

namespace Cert.Norm

open Cert.Reference5Ideal Cert.Reference5Ideal.Gen in
/-- The reference's result of its arguments. -/
def ref (a0 : FVec Ideal S8704x2048 .f32) (a1 : FVec Ideal S2048 .f32) : FVec Ideal S8704x2048 .bf16 :=
  truncf .bf16 (mulf (mulf a0 (broadcastInDim S8704x2048 ![0, 1] bcast_S8704x1_S8704x2048_0_1 (Host.rsqrt (addf (Host.divf (broadcastInDim S8704x1 ![0] bcast_S8704_S8704x1_0 (Host.reduceAdd (mulf a0 a0) (constant S_ .f32 0x00000000#32) reducesTo_S8704x2048_S8704_d1 h_S_)) (broadcastInDim S8704x1 ![] bcast_S_S8704x1 (constant S_ .f32 0x45000000#32))) (broadcastInDim S8704x1 ![] bcast_S_S8704x1 (constant S_ .f32 0x358637BD#32)))))) (broadcastInDim S8704x2048 ![0, 1] bcast_S1x2048_S8704x2048_0_1 (broadcastInDim S1x2048 ![1] bcast_S2048_S1x2048_1 a1))) bitsLt_bf16_f32

open Cert.Kernel5Ideal Cert.Kernel5Ideal.Gen

variable (m : (ℓ : Loc nD τ sig) → Buf (Elt Ideal) ℓ)

theorem V_x (c : Dev nD) : V m c main_arg0 = (m ((c : Thread nD τ).loc main_arg0) : (⟨S8704x2048, .f32⟩ : BufTy).Contents (Elt Ideal)) := V_main_arg0 m c

theorem V_g (c : Dev nD) : V m c main_v0 = (shapeCast S1x2048 (m ((c : Thread nD τ).loc main_arg1) : (⟨S2048, .f32⟩ : BufTy).Contents (Elt Ideal)) shapeCasts_S2048_S1x2048 : (⟨S1x2048, .f32⟩ : BufTy).Contents (Elt Ideal)) := by
  unfold_abbrev_sides
  after_results
  rfl

theorem at_g (c : Dev nD) (j : S1x2048.Idx) : V m c main_v0 j = m ((c : Thread nD τ).loc main_arg1) (ix1 (j 1)) := by
  rw [V_g]
  pointwise

theorem idx (t : Fin cfg0.N) : win0_0.index t = ![t.val, 0] ∧ win0_1.index t = ![0, 0] ∧ win0_2.index t = ![t.val, 0] := by
  revert t
  decide +kernel

theorem blk_x (c : Dev nD) (t : Fin cfg0.N) (y : S512x2048.Idx) (k : Fin 2048) :
    iblk m c 0 t (ix2 (y 0) k) = m ((c : Thread nD τ).loc main_arg0) (ix2 (((cfg0.win 2).blk t).view.emb y 0) k) := by
  refine (congrFun (V_x m c) _).trans ?_
  blk_ext [idx t]

theorem blk_y (c : Dev nD) (t : Fin cfg0.N) (y : S512x2048.Idx) :
    iblk m c 0 t y = m ((c : Thread nD τ).loc main_arg0) (((cfg0.win 2).blk t).view.emb y) := by
  refine (congrFun (V_x m c) _).trans ?_
  blk_ext [idx t]

theorem blk_g (c : Dev nD) (t : Fin cfg0.N) (y : S512x2048.Idx) :
    iblk m c 1 t (ix2 0 (y 1)) = m ((c : Thread nD τ).loc main_arg1) (ix1 (((cfg0.win 2).blk t).view.emb y 1)) := by
  refine (at_g m c _).trans ?_
  blk_ext [idx t]

theorem out (c : Dev nD) : (dats m 0 c).arrAt 2 cfg0.N = ref (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, ref]
  rw [Finset.sum_congr rfl fun k _ => congrArg₂ (fun a b : EReal => a * b) (blk_x m c t y k) (blk_x m c t y k), blk_g m c t y, blk_y m c t y]

theorem frame : Cert.quiescent_Kernel5 (hKernel5 := Cert.Kernel5.Gen.facts) :=
  fun m ρ _ => Cert.Kernel5.Gen.frame m ρ

theorem frame_ideal : Cert.quiescent_Kernel5Ideal (hKernel5Ideal := Cert.Kernel5Ideal.Gen.facts) :=
  fun m ρ _ => Cert.Kernel5Ideal.Gen.frame m ρ

theorem frame_reference : Cert.quiescent_Reference5Ideal (hReference5Ideal := Cert.Reference5Ideal.Gen.facts) :=
  fun m ρ _ => (θ_run Cert.Reference5Ideal.defs _ _).mono (fun r h => ⟨fun c => (h c).2, sem_eq_zero_of_no_sems rfl r.2⟩)
    (Cert.Reference5Ideal.Value.run (F := Ideal) m ρ)

theorem algebraic : Cert.algebraic_Kernel5Ideal_Reference5Ideal (hKernel5Ideal := Cert.Kernel5Ideal.Gen.facts) (hReference5Ideal := Cert.Reference5Ideal.Gen.facts) := by
  intro m g m' g' _ hagree
  refine ⟨fun c => ref (m ((c : Thread nD τ).loc main_arg0)) (m ((c : Thread nD τ).loc main_arg1)), ?_, ?_⟩
  · exact (θ_run Cert.Kernel5Ideal.defs _ _).mono (fun r h c => ⟨(h c).1.trans (out m c), (h c).2⟩) (Cert.Kernel5Ideal.Value.run_blocks (F := Ideal) m g)
  · refine (θ_run Cert.Reference5Ideal.defs _ _).mono (fun r h c => ⟨(h c).1.trans ?_, (h c).2⟩) (Cert.Reference5Ideal.Value.run (F := Ideal) m' g')
    obtain ⟨h0, h1⟩ := hagree c
    rw [h0, h1]
    rfl

end Cert.Norm
-- ==== Proof.Mm4.lean ====
module

public import proofs.«01_k».proof.Defs
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import Idealize.ShloMosaic.Lib.Pipeline.ValueKit
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem

namespace Cert.Gates

open Cert.Reference4Ideal Cert.Reference4Ideal.Gen in
/-- The reference's result of its arguments. -/
def ref (a0 : FVec Ideal S8704x2048 .f32) (a1 : FVec Ideal S2048x9280 .f32) (a2 : FVec Ideal S4096 .f32) : FVec Ideal S8704x4096 .bf16 :=
  truncf .bf16 (Host.divf (broadcastInDim S8704x4096 ![] bcast_S_S8704x4096 (constant S_ .f32 0x3F800000#32)) (addf (broadcastInDim S8704x4096 ![] bcast_S_S8704x4096 (constant S_ .f32 0x3F800000#32)) (Host.exp (Host.negf (addf (extractStridedSlice S8704x4096 ![0, 5184] (Host.dotGeneral dot_S8704x2048_S2048x9280_S8704x9280_1_0_0_1_n_n none a0 a1) slices_S8704x9280_S8704x4096_0_5184) (broadcastInDim S8704x4096 ![0, 1] bcast_S1x4096_S8704x4096_0_1 (broadcastInDim S1x4096 ![1] bcast_S4096_S1x4096_1 a2))))))) bitsLt_bf16_f32

open Cert.Kernel4Ideal Cert.Kernel4Ideal.Gen

variable (m : (ℓ : Loc nD τ sig) → Buf (Elt Ideal) ℓ)

theorem V_h (c : Dev nD) : V m c main_v0 = (m ((c : Thread nD τ).loc main_arg0) : (⟨S8704x2048, .f32⟩ : BufTy).Contents (Elt Ideal)) := by
  unfold_abbrev_sides
  after_results
  rfl

theorem V_a (c : Dev nD) : V m c main_v2 = (extractStridedSlice S2048x4096 ![0, 5184] (m ((c : Thread nD τ).loc main_arg1) : (⟨S2048x9280, .f32⟩ : BufTy).Contents (Elt Ideal)) slices_S2048x9280_S2048x4096_0_5184 : (⟨S2048x4096, .f32⟩ : BufTy).Contents (Elt Ideal)) := by
  unfold_abbrev_sides
  after_results
  rfl

theorem V_b (c : Dev nD) : V m c main_v3 = (shapeCast S1x4096 (m ((c : Thread nD τ).loc main_arg2) : (⟨S4096, .f32⟩ : BufTy).Contents (Elt Ideal)) shapeCasts_S4096_S1x4096 : (⟨S1x4096, .f32⟩ : BufTy).Contents (Elt Ideal)) := by
  unfold_abbrev_sides
  after_results
  rfl

theorem at_a (c : Dev nD) (j : S2048x4096.Idx) : V m c main_v2 j = m ((c : Thread nD τ).loc main_arg1) (ix2 (j 0) ⟨5184 + (j 1).val, Nat.lt_of_lt_of_le (Nat.add_lt_add_left (j 1).isLt 5184) (by decide : 5184 + 4096 ≤ 9280)⟩) := by
  rw [V_a]
  pointwise

set_option maxRecDepth 65536 in
theorem at_b (c : Dev nD) (j : S1x4096.Idx) : V m c main_v3 j = m ((c : Thread nD τ).loc main_arg2) (ix1 (j 1)) := by
  rw [V_b]
  pointwise

theorem idx (t : Fin cfg0.N) : win0_0.index t = ![t.val % 17, 0] ∧ win0_1.index t = ![0, t.val / 17] ∧ win0_2.index t = ![0, t.val / 17]
    ∧ win0_3.index t = ![t.val % 17, t.val / 17] := by
  revert t
  decide +kernel

theorem blk_h (c : Dev nD) (t : Fin cfg0.N) (y : S512x1024.Idx) (k : Fin 2048) :
    iblk m c 0 t (ix2 (y 0) k) = m ((c : Thread nD τ).loc main_arg0) (ix2 (((cfg0.win 3).blk t).view.emb y 0) k) := by
  blk_ext [iblk, V_h, idx t]

theorem blk_a (c : Dev nD) (t : Fin cfg0.N) (y : S512x1024.Idx) (k : Fin 2048) (h) :
    iblk m c 1 t (ix2 k (y 1)) = m ((c : Thread nD τ).loc main_arg1) (ix2 k ⟨5184 + (((cfg0.win 3).blk t).view.emb y 1).val, h⟩) := by
  refine (at_a m c _).trans ?_
  blk_ext [idx t]

theorem blk_b (c : Dev nD) (t : Fin cfg0.N) (y : S512x1024.Idx) :
    iblk m c 2 t (ix2 0 (y 1)) = m ((c : Thread nD τ).loc main_arg2) (ix1 (((cfg0.win 3).blk t).view.emb y 1)) := by
  refine (at_b m c _).trans ?_
  blk_ext [idx t]

theorem out (c : Dev nD) : (dats m 0 c).arrAt 3 cfg0.N = ref (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  pointwise [k0_pay1, ref]
  rw [zero_sub, Finset.sum_congr rfl fun k _ => congrArg₂ (fun a b : EReal => a * b) (blk_h m c t y k) (blk_a m c t y k _)]
  rw [blk_b m c t y]

theorem frame : Cert.quiescent_Kernel4 (hKernel4 := Cert.Kernel4.Gen.facts) :=
  fun m ρ _ => Cert.Kernel4.Gen.frame m ρ

theorem frame_ideal : Cert.quiescent_Kernel4Ideal (hKernel4Ideal := Cert.Kernel4Ideal.Gen.facts) :=
  fun m ρ _ => Cert.Kernel4Ideal.Gen.frame m ρ

theorem frame_reference : Cert.quiescent_Reference4Ideal (hReference4Ideal := Cert.Reference4Ideal.Gen.facts) :=
  fun m ρ _ => (θ_run Cert.Reference4Ideal.defs _ _).mono (fun r h => ⟨fun c => (h c).2, sem_eq_zero_of_no_sems rfl r.2⟩)
    (Cert.Reference4Ideal.Value.run (F := Ideal) m ρ)

theorem algebraic : Cert.algebraic_Kernel4Ideal_Reference4Ideal (hKernel4Ideal := Cert.Kernel4Ideal.Gen.facts) (hReference4Ideal := Cert.Reference4Ideal.Gen.facts) := by
  intro m g m' g' _ hagree
  refine ⟨fun c => ref (m ((c : Thread nD τ).loc main_arg0)) (m ((c : Thread nD τ).loc main_arg1)) (m ((c : Thread nD τ).loc main_arg2)), ?_, ?_⟩
  · exact (θ_run Cert.Kernel4Ideal.defs _ _).mono (fun r h c => ⟨(h c).1.trans (out m c), (h c).2⟩) (Cert.Kernel4Ideal.Value.run_blocks (F := Ideal) m g)
  · refine (θ_run Cert.Reference4Ideal.defs _ _).mono (fun r h c => ⟨(h c).1.trans ?_, (h c).2⟩) (Cert.Reference4Ideal.Value.run (F := Ideal) m' g')
    obtain ⟨h0, h1, h2⟩ := hagree c
    rw [h0, h1, h2]
    rfl

end Cert.Gates
-- ==== Proof.Mm3.lean ====
module

public import proofs.«01_k».proof.Defs
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import Idealize.ShloMosaic.Lib.Pipeline.ValueKit
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem

namespace Cert.Glu

open Cert.Reference3Ideal Cert.Reference3Ideal.Gen in
/-- The reference's result of its arguments. -/
def ref (h : FVec Ideal S8704x2048 .f32) (w : FVec Ideal S2048x9280 .f32) : FVec Ideal S8704x2048 .f32 :=
  mulf (extractStridedSlice S8704x2048 ![0, 0] (extractStridedSlice S8704x4096 ![0, 0] (Host.dotGeneral dot_S8704x2048_S2048x9280_S8704x9280_1_0_0_1_n_n none h w) slices_S8704x9280_S8704x4096_0_0) slices_S8704x4096_S8704x2048_0_0) (Host.divf (broadcastInDim S8704x2048 ![] bcast_S_S8704x2048 (constant S_ .f32 0x3F800000#32)) (addf (broadcastInDim S8704x2048 ![] bcast_S_S8704x2048 (constant S_ .f32 0x3F800000#32)) (Host.exp (Host.negf (extractStridedSlice S8704x2048 ![0, 2048] (extractStridedSlice S8704x4096 ![0, 0] (Host.dotGeneral dot_S8704x2048_S2048x9280_S8704x9280_1_0_0_1_n_n none h w) slices_S8704x9280_S8704x4096_0_0) slices_S8704x4096_S8704x2048_0_2048)))))

open Cert.Kernel3Ideal Cert.Kernel3Ideal.Gen

variable (m : (ℓ : Loc nD τ sig) → Buf (Elt Ideal) ℓ)

theorem V_h (c : Dev nD) : V m c main_v0 = (m ((c : Thread nD τ).loc main_arg0) : (⟨S8704x2048, .f32⟩ : BufTy).Contents (Elt Ideal)) := by
  unfold_abbrev_sides
  after_results
  rfl

theorem V_a (c : Dev nD) : V m c main_v2 = (extractStridedSlice S2048x2048 ![0, 0] (m ((c : Thread nD τ).loc main_arg1) : (⟨S2048x9280, .f32⟩ : BufTy).Contents (Elt Ideal)) slices_S2048x9280_S2048x2048_0_0 : (⟨S2048x2048, .f32⟩ : BufTy).Contents (Elt Ideal)) := by
  unfold_abbrev_sides
  after_results
  rfl

theorem V_b (c : Dev nD) : V m c main_v4 = (extractStridedSlice S2048x2048 ![0, 2048] (m ((c : Thread nD τ).loc main_arg1) : (⟨S2048x9280, .f32⟩ : BufTy).Contents (Elt Ideal)) slices_S2048x9280_S2048x2048_0_2048 : (⟨S2048x2048, .f32⟩ : BufTy).Contents (Elt Ideal)) := by
  unfold_abbrev_sides
  after_results
  rfl

theorem at_a (c : Dev nD) (j : S2048x2048.Idx) : V m c main_v2 j = m ((c : Thread nD τ).loc main_arg1) (ix2 (j 0) ⟨(j 1).val, Nat.lt_of_lt_of_le (j 1).isLt (by decide : 2048 ≤ 9280)⟩) := by
  rw [V_a]
  pointwise

theorem at_b (c : Dev nD) (j : S2048x2048.Idx) : V m c main_v4 j = m ((c : Thread nD τ).loc main_arg1) (ix2 (j 0) ⟨2048 + (j 1).val, Nat.lt_of_lt_of_le (Nat.add_lt_add_left (j 1).isLt 2048) (by decide : 2048 + 2048 ≤ 9280)⟩) := by
  rw [V_b]
  pointwise

theorem idx (t : Fin cfg0.N) : win0_0.index t = ![t.val % 17, 0] ∧ win0_1.index t = ![0, t.val / 17] ∧ win0_2.index t = ![0, t.val / 17]
    ∧ win0_3.index t = ![t.val % 17, t.val / 17] := by
  revert t
  decide +kernel

theorem blk_h (c : Dev nD) (t : Fin cfg0.N) (y : S512x512.Idx) (k : Fin 2048) :
    iblk m c 0 t (ix2 (y 0) k) = m ((c : Thread nD τ).loc main_arg0) (ix2 (((cfg0.win 3).blk t).view.emb y 0) k) := by
  blk_ext [iblk, V_h, idx t]

theorem blk_a (c : Dev nD) (t : Fin cfg0.N) (y : S512x512.Idx) (k : Fin 2048) (h) :
    iblk m c 1 t (ix2 k (y 1)) = m ((c : Thread nD τ).loc main_arg1) (ix2 k ⟨(((cfg0.win 3).blk t).view.emb y 1).val, h⟩) := by
  refine (at_a m c _).trans ?_
  blk_ext [idx t]

theorem blk_b (c : Dev nD) (t : Fin cfg0.N) (y : S512x512.Idx) (k : Fin 2048) (h) :
    iblk m c 2 t (ix2 k (y 1)) = m ((c : Thread nD τ).loc main_arg1) (ix2 k ⟨2048 + (((cfg0.win 3).blk t).view.emb y 1).val, h⟩) := by
  refine (at_b m c _).trans ?_
  blk_ext [idx t]

theorem out (c : Dev nD) : (dats m 0 c).arrAt 3 cfg0.N = ref (m ((c : Thread nD τ).loc main_arg0)) (m ((c : Thread nD τ).loc main_arg1)) := by
  refine (dats m 0 c).arrAt_eq_of_covers 3 _ (by decide +kernel) fun t hf y => ?_
  blk_simp
  rw [after0_3]
  frame_out
  pointwise [k0_pay1, ref]
  rw [zero_sub, Finset.sum_congr rfl fun k _ => congrArg₂ (fun a b : EReal => a * b) (blk_h m c t y k) (blk_a m c t y k _),
    Finset.sum_congr rfl fun k _ => congrArg₂ (fun a b : EReal => a * b) (blk_h m c t y k) (blk_b m c t y k _)]

theorem frame : Cert.quiescent_Kernel3 (hKernel3 := Cert.Kernel3.Gen.facts) :=
  fun m ρ _ => Cert.Kernel3.Gen.frame m ρ

theorem frame_ideal : Cert.quiescent_Kernel3Ideal (hKernel3Ideal := Cert.Kernel3Ideal.Gen.facts) :=
  fun m ρ _ => Cert.Kernel3Ideal.Gen.frame m ρ

theorem frame_reference : Cert.quiescent_Reference3Ideal (hReference3Ideal := Cert.Reference3Ideal.Gen.facts) :=
  fun m ρ _ => (θ_run Cert.Reference3Ideal.defs _ _).mono (fun r h => ⟨fun c => (h c).2, sem_eq_zero_of_no_sems rfl r.2⟩)
    (Cert.Reference3Ideal.Value.run (F := Ideal) m ρ)

theorem algebraic : Cert.algebraic_Kernel3Ideal_Reference3Ideal (hKernel3Ideal := Cert.Kernel3Ideal.Gen.facts) (hReference3Ideal := Cert.Reference3Ideal.Gen.facts) := by
  intro m g m' g' _ hagree
  refine ⟨fun c => ref (m ((c : Thread nD τ).loc main_arg0)) (m ((c : Thread nD τ).loc main_arg1)), ?_, ?_⟩
  · exact (θ_run Cert.Kernel3Ideal.defs _ _).mono (fun r h c => ⟨(h c).1.trans (out m c), (h c).2⟩) (Cert.Kernel3Ideal.Value.run_blocks (F := Ideal) m g)
  · refine (θ_run Cert.Reference3Ideal.defs _ _).mono (fun r h c => ⟨(h c).1.trans ?_, (h c).2⟩) (Cert.Reference3Ideal.Value.run (F := Ideal) m' g')
    obtain ⟨h0, h1⟩ := hagree c
    rw [h0, h1]
    rfl

end Cert.Glu
-- ==== Proof.Mm2.lean ====
module

public import proofs.«01_k».proof.Defs
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import Idealize.ShloMosaic.Lib.Pipeline.ValueKit
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem

namespace Cert.Latent

open Cert.Reference2Ideal Cert.Reference2Ideal.Gen in
/-- The reference's query latents of its arguments. -/
def refQ (a0 : FVec Ideal S8704x2048 .f32) (a1 : FVec Ideal S2048x9280 .f32) (a2 : FVec Ideal S512 .f32) : FVec Ideal S8704x512 .bf16 :=
  truncf .bf16 (mulf (mulf (extractStridedSlice S8704x512 ![0, 4096] (Host.dotGeneral dot_S8704x2048_S2048x9280_S8704x9280_1_0_0_1_n_n none a0 a1) slices_S8704x9280_S8704x512_0_4096) (broadcastInDim S8704x512 ![0, 1] bcast_S8704x1_S8704x512_0_1 (Host.rsqrt (addf (Host.divf (broadcastInDim S8704x1 ![0] bcast_S8704_S8704x1_0 (Host.reduceAdd (mulf (extractStridedSlice S8704x512 ![0, 4096] (Host.dotGeneral dot_S8704x2048_S2048x9280_S8704x9280_1_0_0_1_n_n none a0 a1) slices_S8704x9280_S8704x512_0_4096) (extractStridedSlice S8704x512 ![0, 4096] (Host.dotGeneral dot_S8704x2048_S2048x9280_S8704x9280_1_0_0_1_n_n none a0 a1) slices_S8704x9280_S8704x512_0_4096)) (constant S_ .f32 0x00000000#32) reducesTo_S8704x512_S8704_d1 h_S_)) (broadcastInDim S8704x1 ![] bcast_S_S8704x1 (constant S_ .f32 0x44000000#32))) (broadcastInDim S8704x1 ![] bcast_S_S8704x1 (constant S_ .f32 0x358637BD#32)))))) (broadcastInDim S8704x512 ![0, 1] bcast_S1x512_S8704x512_0_1 (broadcastInDim S1x512 ![1] bcast_S512_S1x512_1 a2))) bitsLt_bf16_f32

open Cert.Reference2Ideal Cert.Reference2Ideal.Gen in
/-- The reference's key and value latents of its arguments. -/
def refKv (a0 : FVec Ideal S8704x2048 .f32) (a1 : FVec Ideal S2048x9280 .f32) (a3 : FVec Ideal S512 .f32) : FVec Ideal S8704x512 .f32 :=
  mulf (mulf (extractStridedSlice S8704x512 ![0, 4608] (Host.dotGeneral dot_S8704x2048_S2048x9280_S8704x9280_1_0_0_1_n_n none a0 a1) slices_S8704x9280_S8704x512_0_4608) (broadcastInDim S8704x512 ![0, 1] bcast_S8704x1_S8704x512_0_1 (Host.rsqrt (addf (Host.divf (broadcastInDim S8704x1 ![0] bcast_S8704_S8704x1_0 (Host.reduceAdd (mulf (extractStridedSlice S8704x512 ![0, 4608] (Host.dotGeneral dot_S8704x2048_S2048x9280_S8704x9280_1_0_0_1_n_n none a0 a1) slices_S8704x9280_S8704x512_0_4608) (extractStridedSlice S8704x512 ![0, 4608] (Host.dotGeneral dot_S8704x2048_S2048x9280_S8704x9280_1_0_0_1_n_n none a0 a1) slices_S8704x9280_S8704x512_0_4608)) (constant S_ .f32 0x00000000#32) reducesTo_S8704x512_S8704_d1 h_S_)) (broadcastInDim S8704x1 ![] bcast_S_S8704x1 (constant S_ .f32 0x44000000#32))) (broadcastInDim S8704x1 ![] bcast_S_S8704x1 (constant S_ .f32 0x358637BD#32)))))) (broadcastInDim S8704x512 ![0, 1] bcast_S1x512_S8704x512_0_1 (broadcastInDim S1x512 ![1] bcast_S512_S1x512_1 a3))

open Cert.Reference2Ideal Cert.Reference2Ideal.Gen in
/-- The reference's rotary keys of its arguments. -/
def refKr (a0 : FVec Ideal S8704x2048 .f32) (a1 : FVec Ideal S2048x9280 .f32) : FVec Ideal S8704x64 .f32 :=
  extractStridedSlice S8704x64 ![0, 5120] (Host.dotGeneral dot_S8704x2048_S2048x9280_S8704x9280_1_0_0_1_n_n none a0 a1) slices_S8704x9280_S8704x64_0_5120

open Cert.Kernel2Ideal Cert.Kernel2Ideal.Gen

variable (m : (ℓ : Loc nD τ sig) → Buf (Elt Ideal) ℓ)

theorem V_h (c : Dev nD) : V m c main_v0 = (m ((c : Thread nD τ).loc main_arg0) : (⟨S8704x2048, .f32⟩ : BufTy).Contents (Elt Ideal)) := by
  unfold_abbrev_sides
  after_results
  rfl

theorem V_w (c : Dev nD) : V m c main_v2 = (extractStridedSlice S2048x1088 ![0, 4096] (m ((c : Thread nD τ).loc main_arg1) : (⟨S2048x9280, .f32⟩ : BufTy).Contents (Elt Ideal)) slices_S2048x9280_S2048x1088_0_4096 : (⟨S2048x1088, .f32⟩ : BufTy).Contents (Elt Ideal)) := by
  unfold_abbrev_sides
  after_results
  rfl

theorem V_q (c : Dev nD) : V m c main_v3 = (shapeCast S1x512 (m ((c : Thread nD τ).loc main_arg2) : (⟨S512, .f32⟩ : BufTy).Contents (Elt Ideal)) shapeCasts_S512_S1x512 : (⟨S1x512, .f32⟩ : BufTy).Contents (Elt Ideal)) := by
  unfold_abbrev_sides
  after_results
  rfl

theorem V_k (c : Dev nD) : V m c main_v4 = (shapeCast S1x512 (m ((c : Thread nD τ).loc main_arg3) : (⟨S512, .f32⟩ : BufTy).Contents (Elt Ideal)) shapeCasts_S512_S1x512 : (⟨S1x512, .f32⟩ : BufTy).Contents (Elt Ideal)) := by
  unfold_abbrev_sides
  after_results
  rfl

theorem at_w (c : Dev nD) (j : S2048x1088.Idx) : V m c main_v2 j = m ((c : Thread nD τ).loc main_arg1) (ix2 (j 0) ⟨4096 + (j 1).val, Nat.lt_of_lt_of_le (Nat.add_lt_add_left (j 1).isLt 4096) (by decide : 4096 + 1088 ≤ 9280)⟩) := by
  rw [V_w]
  pointwise

theorem at_q (c : Dev nD) (j : S1x512.Idx) : V m c main_v3 j = m ((c : Thread nD τ).loc main_arg2) (ix1 (j 1)) := by
  rw [V_q]
  pointwise

theorem at_k (c : Dev nD) (j : S1x512.Idx) : V m c main_v4 j = m ((c : Thread nD τ).loc main_arg3) (ix1 (j 1)) := by
  rw [V_k]
  pointwise

theorem idx (t : Fin cfg0.N) : win0_0.index t = ![t.val, 0] ∧ win0_1.index t = ![0, 0] ∧ win0_2.index t = ![0, 0] ∧ win0_3.index t = ![0, 0]
    ∧ win0_4.index t = ![t.val, 0] ∧ win0_5.index t = ![t.val, 0] ∧ win0_6.index t = ![t.val, 0] := by
  revert t
  decide +kernel

theorem blk_h (c : Dev nD) (t : Fin cfg0.N) (r : Fin 512) (k : Fin 2048) (R : Fin 8704) (h : R.val = t.val * 512 + r.val) :
    iblk m c 0 t (ix2 r k) = m ((c : Thread nD τ).loc main_arg0) (ix2 R k) := by
  blk_ext [iblk, V_h, idx t]

theorem blk_w (c : Dev nD) (t : Fin cfg0.N) (k : Fin 2048) (j : Fin 1088) (J : Fin 9280) (h : J.val = 4096 + j.val) :
    iblk m c 1 t (ix2 k j) = m ((c : Thread nD τ).loc main_arg1) (ix2 k J) := by
  refine (at_w m c _).trans ?_
  blk_ext [idx t]

theorem blk_q (c : Dev nD) (t : Fin cfg0.N) (j : Fin 512) : iblk m c 2 t (ix2 0 j) = m ((c : Thread nD τ).loc main_arg2) (ix1 j) := by
  refine (at_q m c _).trans ?_
  blk_ext [idx t]

theorem blk_k (c : Dev nD) (t : Fin cfg0.N) (j : Fin 512) : iblk m c 3 t (ix2 0 j) = m ((c : Thread nD τ).loc main_arg3) (ix1 j) := by
  refine (at_k m c _).trans ?_
  blk_ext [idx t]

theorem row4 (t : Fin cfg0.N) (y : S512x512.Idx) : (((cfg0.win 4).blk t).view.emb y 0).val = t.val * 512 + (y 0).val := by
  blk_simp [idx t]

theorem row5 (t : Fin cfg0.N) (y : S512x512.Idx) : (((cfg0.win 5).blk t).view.emb y 0).val = t.val * 512 + (y 0).val := by
  blk_simp [idx t]

theorem row6 (t : Fin cfg0.N) (y : S512x64.Idx) : (((cfg0.win 6).blk t).view.emb y 0).val = t.val * 512 + (y 0).val := by
  blk_simp [idx t]

theorem col4 (t : Fin cfg0.N) (y : S512x512.Idx) : ((cfg0.win 4).blk t).view.emb y 1 = y 1 := by
  refine Fin.ext ?_
  blk_simp [idx t]

theorem col5 (t : Fin cfg0.N) (y : S512x512.Idx) : ((cfg0.win 5).blk t).view.emb y 1 = y 1 := by
  refine Fin.ext ?_
  blk_simp [idx t]

theorem col6 (t : Fin cfg0.N) (y : S512x64.Idx) : ((cfg0.win 6).blk t).view.emb y 1 = y 1 := by
  refine Fin.ext ?_
  blk_simp [idx t]

/-- An entry of a block's product is the whole product's. -/
theorem dot (c : Dev nD) (t : Fin cfg0.N) (r : Fin 512) (R : Fin 8704) (h : R.val = t.val * 512 + r.val) (j : Fin 1088) (J : Fin 9280) (hJ : J.val = 4096 + j.val) :
    (∑ k : Fin 2048, @HMul.hMul EReal EReal EReal instHMul (iblk m c 0 t (ix2 r k)) (iblk m c 1 t (ix2 k j)))
      = ∑ k : Fin 2048, @HMul.hMul EReal EReal EReal instHMul (m ((c : Thread nD τ).loc main_arg0) (ix2 R k)) (m ((c : Thread nD τ).loc main_arg1) (ix2 k J)) :=
  Finset.sum_congr rfl fun k _ => congrArg₂ (fun a b : EReal => a * b) (blk_h m c t r k R h) (blk_w m c t k j J hJ)

theorem outQ (c : Dev nD) : (dats m 0 c).arrAt 4 cfg0.N = refQ (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  frame_out
  pointwise [k0_pay2, k0_pay3, refQ]
  exact congrArg₂ (fun a b : EReal => a * b)
    (congrArg₂ (fun a b : EReal => a * b) (dot m c t (y 0) _ (row4 t y) _ _ (congrArg (fun j : Fin 512 => 4096 + j.val) (col4 t y)))
      (congrArg (fun s => Ideal.rsqrt (Ideal.div s (Ideal.ofBits FTy.f32 1140850688#32) + Ideal.ofBits FTy.f32 897988541#32))
        (Finset.sum_congr rfl fun x _ => congrArg₂ (fun a b : EReal => a * b) (dot m c t (y 0) _ (row4 t y) _ _ rfl) (dot m c t (y 0) _ (row4 t y) _ _ rfl))))
    ((blk_q m c t (y 1)).trans (congrArg (fun j => m ((c : Thread nD τ).loc main_arg2) (ix1 j)) (col4 t y).symm))

theorem outKv (c : Dev nD) : (dats m 0 c).arrAt 5 cfg0.N = refKv (m ((c : Thread nD τ).loc main_arg0)) (m ((c : Thread nD τ).loc main_arg1)) (m ((c : Thread nD τ).loc main_arg3)) := by
  refine (dats m 0 c).arrAt_eq_of_covers 5 _ (by decide +kernel) fun t hf y => ?_
  blk_simp
  rw [after0_5]
  frame_out
  pointwise [k0_pay2, k0_pay4, refKv]
  exact congrArg₂ (fun a b : EReal => a * b)
    (congrArg₂ (fun a b : EReal => a * b) (dot m c t (y 0) _ (row5 t y) _ _ ((congrArg (fun j : Fin 512 => 4608 + j.val) (col5 t y)).trans (Nat.add_assoc 4096 512 _)))
      (congrArg (fun s => Ideal.rsqrt (Ideal.div s (Ideal.ofBits FTy.f32 1140850688#32) + Ideal.ofBits FTy.f32 897988541#32))
        (Finset.sum_congr rfl fun x _ => congrArg₂ (fun a b : EReal => a * b) (dot m c t (y 0) _ (row5 t y) _ _ (Nat.add_assoc 4096 512 _)) (dot m c t (y 0) _ (row5 t y) _ _ (Nat.add_assoc 4096 512 _)))))
    ((blk_k m c t (y 1)).trans (congrArg (fun j => m ((c : Thread nD τ).loc main_arg3) (ix1 j)) (col5 t y).symm))

theorem outKr (c : Dev nD) : (dats m 0 c).arrAt 6 cfg0.N = refKr (m ((c : Thread nD τ).loc main_arg0)) (m ((c : Thread nD τ).loc main_arg1)) := by
  refine (dats m 0 c).arrAt_eq_of_covers 6 _ (by decide +kernel) fun t hf y => ?_
  blk_simp
  rw [after0_6]
  frame_out
  pointwise [k0_pay2, k0_pay1, refKr]
  exact dot m c t (y 0) _ (row6 t y) _ _ ((congrArg (fun j : Fin 64 => 5120 + j.val) (col6 t y)).trans (Nat.add_assoc 4096 1024 _))

theorem frame : Cert.quiescent_Kernel2 (hKernel2 := Cert.Kernel2.Gen.facts) :=
  fun m ρ _ => Cert.Kernel2.Gen.frame m ρ

theorem frame_ideal : Cert.quiescent_Kernel2Ideal (hKernel2Ideal := Cert.Kernel2Ideal.Gen.facts) :=
  fun m ρ _ => Cert.Kernel2Ideal.Gen.frame m ρ

theorem frame_reference : Cert.quiescent_Reference2Ideal (hReference2Ideal := Cert.Reference2Ideal.Gen.facts) :=
  fun m ρ _ => (θ_run Cert.Reference2Ideal.defs _ _).mono (fun r h => ⟨fun c => (h c).2.2.2, sem_eq_zero_of_no_sems rfl r.2⟩)
    (Cert.Reference2Ideal.Value.run (F := Ideal) m ρ)

theorem algebraic : Cert.algebraic_Kernel2Ideal_Reference2Ideal (hKernel2Ideal := Cert.Kernel2Ideal.Gen.facts) (hReference2Ideal := Cert.Reference2Ideal.Gen.facts) := by
  intro m g m' g' _ hagree
  refine ⟨fun c => refQ (m ((c : Thread nD τ).loc main_arg0)) (m ((c : Thread nD τ).loc main_arg1)) (m ((c : Thread nD τ).loc main_arg2)),
    fun c => refKv (m ((c : Thread nD τ).loc main_arg0)) (m ((c : Thread nD τ).loc main_arg1)) (m ((c : Thread nD τ).loc main_arg3)),
    fun c => refKr (m ((c : Thread nD τ).loc main_arg0)) (m ((c : Thread nD τ).loc main_arg1)), ?_, ?_⟩
  · exact (θ_run Cert.Kernel2Ideal.defs _ _).mono (fun r h c => ⟨(h c).1.trans (outQ m c), (h c).2.1.trans (outKv m c), (h c).2.2.1.trans (outKr m c), (h c).2.2.2⟩)
      (Cert.Kernel2Ideal.Value.run_blocks (F := Ideal) m g)
  · refine (θ_run Cert.Reference2Ideal.defs _ _).mono (fun r h c => ⟨(h c).1.trans ?_, (h c).2.1.trans ?_, (h c).2.2.1.trans ?_, (h c).2.2.2⟩) (Cert.Reference2Ideal.Value.run (F := Ideal) m' g')
    all_goals
      obtain ⟨h0, h1, h2, h3⟩ := hagree c
    · rw [h0, h1, h2]
      rfl
    · rw [h0, h1, h3]
      rfl
    · rw [h0, h1]
      rfl

end Cert.Latent
-- ==== Proof.Mm6.lean ====
module

public import proofs.«01_k».proof.Defs
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import Idealize.ShloMosaic.Lib.Pipeline.ValueKit
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem

namespace Cert.ConvOut

open Cert.Reference6Ideal Cert.Reference6Ideal.Gen in
/-- The reference's result of its arguments. -/
def ref (a0 : FVec Ideal S8704x2048 .f32) (a1 : FVec Ideal S2048x2048 .f32) (a2 : FVec Ideal S8704x4096 .f32) : FVec Ideal S8704x2048 .f32 :=
  mulf (extractStridedSlice S8704x2048 ![0, 0] a2 slices_S8704x4096_S8704x2048_0_0) (Host.dotGeneral dot_S8704x2048_S2048x2048_S8704x2048_1_0_0_1_n_n none a0 a1)

open Cert.Kernel6Ideal Cert.Kernel6Ideal.Gen

variable (m : (ℓ : Loc nD τ sig) → Buf (Elt Ideal) ℓ)

theorem V_x (c : Dev nD) : V m c main_v0 = (m ((c : Thread nD τ).loc main_arg0) : (⟨S8704x2048, .f32⟩ : BufTy).Contents (Elt Ideal)) := by
  unfold_abbrev_sides
  after_results
  rfl

theorem V_w (c : Dev nD) : V m c main_v1 = (m ((c : Thread nD τ).loc main_arg1) : (⟨S2048x2048, .f32⟩ : BufTy).Contents (Elt Ideal)) := by
  unfold_abbrev_sides
  after_results
  rfl

theorem V_r (c : Dev nD) : V m c main_v2 = (m ((c : Thread nD τ).loc main_arg2) : (⟨S8704x4096, .f32⟩ : BufTy).Contents (Elt Ideal)) := by
  unfold_abbrev_sides
  after_results
  rfl

theorem idx (t : Fin cfg0.N) : win0_0.index t = ![t.val % 17, 0] ∧ win0_1.index t = ![0, t.val / 17] ∧ win0_2.index t = ![t.val % 17, t.val / 17]
    ∧ win0_3.index t = ![t.val % 17, t.val / 17] := by
  revert t
  decide +kernel

theorem blk_x (c : Dev nD) (t : Fin cfg0.N) (y : S512x1024.Idx) (k : Fin 2048) :
    iblk m c 0 t (ix2 (y 0) k) = m ((c : Thread nD τ).loc main_arg0) (ix2 (((cfg0.win 3).blk t).view.emb y 0) k) := by
  refine (congrFun (V_x m c) _).trans ?_
  blk_ext [idx t]

theorem blk_w (c : Dev nD) (t : Fin cfg0.N) (y : S512x1024.Idx) (k : Fin 2048) :
    iblk m c 1 t (ix2 k (y 1)) = m ((c : Thread nD τ).loc main_arg1) (ix2 k (((cfg0.win 3).blk t).view.emb y 1)) := by
  refine (congrFun (V_w m c) _).trans ?_
  blk_ext [idx t]

theorem blk_r (c : Dev nD) (t : Fin cfg0.N) (y : S512x1024.Idx) (h) :
    iblk m c 2 t y = m ((c : Thread nD τ).loc main_arg2) (ix2 (((cfg0.win 3).blk t).view.emb y 0) ⟨(((cfg0.win 3).blk t).view.emb y 1).val, h⟩) := by
  refine (congrFun (V_r m c) _).trans ?_
  blk_ext [idx t]

theorem out (c : Dev nD) : (dats m 0 c).arrAt 3 cfg0.N = ref (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  pointwise [k0_pay1, ref]
  refine (@mul_comm EReal _ _ _).trans ?_
  exact congrArg₂ (fun a b : EReal => a * b) (blk_r m c t y _)
    (Finset.sum_congr rfl fun k _ => congrArg₂ (fun a b : EReal => a * b) (blk_x m c t y k) (blk_w m c t y k))

theorem frame : Cert.quiescent_Kernel6 (hKernel6 := Cert.Kernel6.Gen.facts) :=
  fun m ρ _ => Cert.Kernel6.Gen.frame m ρ

theorem frame_ideal : Cert.quiescent_Kernel6Ideal (hKernel6Ideal := Cert.Kernel6Ideal.Gen.facts) :=
  fun m ρ _ => Cert.Kernel6Ideal.Gen.frame m ρ

theorem frame_reference : Cert.quiescent_Reference6Ideal (hReference6Ideal := Cert.Reference6Ideal.Gen.facts) :=
  fun m ρ _ => (θ_run Cert.Reference6Ideal.defs _ _).mono (fun r h => ⟨fun c => (h c).2, sem_eq_zero_of_no_sems rfl r.2⟩)
    (Cert.Reference6Ideal.Value.run (F := Ideal) m ρ)

theorem algebraic : Cert.algebraic_Kernel6Ideal_Reference6Ideal (hKernel6Ideal := Cert.Kernel6Ideal.Gen.facts) (hReference6Ideal := Cert.Reference6Ideal.Gen.facts) := by
  intro m g m' g' _ hagree
  refine ⟨fun c => ref (m ((c : Thread nD τ).loc main_arg0)) (m ((c : Thread nD τ).loc main_arg1)) (m ((c : Thread nD τ).loc main_arg2)), ?_, ?_⟩
  · exact (θ_run Cert.Kernel6Ideal.defs _ _).mono (fun r h c => ⟨(h c).1.trans (out m c), (h c).2⟩) (Cert.Kernel6Ideal.Value.run_blocks (F := Ideal) m g)
  · refine (θ_run Cert.Reference6Ideal.defs _ _).mono (fun r h c => ⟨(h c).1.trans ?_, (h c).2⟩) (Cert.Reference6Ideal.Value.run (F := Ideal) m' g')
    obtain ⟨h0, h1, h2⟩ := hagree c
    rw [h0, h1, h2]
    rfl

end Cert.ConvOut
-- ==== Proof.Mm7.lean ====
module

public import proofs.«01_k».proof.Defs
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import Idealize.ShloMosaic.Lib.Pipeline.ValueKit
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem

namespace Cert.AttnOut

open Cert.Reference7Ideal Cert.Reference7Ideal.Gen in
/-- The reference's result of its arguments. -/
def ref (a0 : FVec Ideal S8704x16x128 .f32) (a1 : FVec Ideal S2048x2048 .f32) (a2 : FVec Ideal S8704x2048 .f32) (a3 : FVec Ideal S8704x4096 .f32) : FVec Ideal S8704x2048 .bf16 :=
  truncf .bf16 (addf a2 (mulf (extractStridedSlice S8704x2048 ![0, 2048] a3 slices_S8704x4096_S8704x2048_0_2048) (Host.dotGeneral dot_S8704x2048_S2048x2048_S8704x2048_1_0_0_1_n_n none (shapeCast _ a0 shapeCasts_S8704x16x128_S8704x2048) a1))) bitsLt_bf16_f32

open Cert.Kernel7Ideal Cert.Kernel7Ideal.Gen

variable (m : (ℓ : Loc nD τ sig) → Buf (Elt Ideal) ℓ)

/-- Head `n` of a block of heads. -/
def head (b : FVec Ideal S16x256x128 .bf16) (n : Fin 16) : FVec Ideal S256x128 .bf16 :=
  fun j => b (ix3 n (j 0) (j 1))

theorem head_0 (b : FVec Ideal S16x256x128 .bf16) : k0_pay3 (View.ld (Val := Elt Ideal) (e' := .bf16) b r0_0) = head b 0 := by
  funext j
  pointwise [k0_pay3]
  rfl

theorem head_1 (b : FVec Ideal S16x256x128 .bf16) : k0_pay4 (View.ld (Val := Elt Ideal) (e' := .bf16) b r0_1) = head b 1 := by
  funext j
  pointwise [k0_pay4]
  rfl

theorem head_2 (b : FVec Ideal S16x256x128 .bf16) : k0_pay5 (View.ld (Val := Elt Ideal) (e' := .bf16) b r0_2) = head b 2 := by
  funext j
  pointwise [k0_pay5]
  rfl

theorem head_3 (b : FVec Ideal S16x256x128 .bf16) : k0_pay6 (View.ld (Val := Elt Ideal) (e' := .bf16) b r0_3) = head b 3 := by
  funext j
  pointwise [k0_pay6]
  rfl

theorem head_4 (b : FVec Ideal S16x256x128 .bf16) : k0_pay7 (View.ld (Val := Elt Ideal) (e' := .bf16) b r0_4) = head b 4 := by
  funext j
  pointwise [k0_pay7]
  rfl

theorem head_5 (b : FVec Ideal S16x256x128 .bf16) : k0_pay8 (View.ld (Val := Elt Ideal) (e' := .bf16) b r0_5) = head b 5 := by
  funext j
  pointwise [k0_pay8]
  rfl

theorem head_6 (b : FVec Ideal S16x256x128 .bf16) : k0_pay9 (View.ld (Val := Elt Ideal) (e' := .bf16) b r0_6) = head b 6 := by
  funext j
  pointwise [k0_pay9]
  rfl

theorem head_7 (b : FVec Ideal S16x256x128 .bf16) : k0_pay10 (View.ld (Val := Elt Ideal) (e' := .bf16) b r0_7) = head b 7 := by
  funext j
  pointwise [k0_pay10]
  rfl

theorem head_8 (b : FVec Ideal S16x256x128 .bf16) : k0_pay11 (View.ld (Val := Elt Ideal) (e' := .bf16) b r0_8) = head b 8 := by
  funext j
  pointwise [k0_pay11]
  rfl

theorem head_9 (b : FVec Ideal S16x256x128 .bf16) : k0_pay12 (View.ld (Val := Elt Ideal) (e' := .bf16) b r0_9) = head b 9 := by
  funext j
  pointwise [k0_pay12]
  rfl

theorem head_10 (b : FVec Ideal S16x256x128 .bf16) : k0_pay13 (View.ld (Val := Elt Ideal) (e' := .bf16) b r0_10) = head b 10 := by
  funext j
  pointwise [k0_pay13]
  rfl

theorem head_11 (b : FVec Ideal S16x256x128 .bf16) : shapeCast S256x128 (View.ld (Val := Elt Ideal) (e' := .bf16) b r0_11) shapeCasts_S1x256x128_S256x128 = head b 11 := by
  funext j
  pointwise
  rfl

theorem head_12 (b : FVec Ideal S16x256x128 .bf16) : shapeCast S256x128 (View.ld (Val := Elt Ideal) (e' := .bf16) b r0_12) shapeCasts_S1x256x128_S256x128 = head b 12 := by
  funext j
  pointwise
  rfl

theorem head_13 (b : FVec Ideal S16x256x128 .bf16) : shapeCast S256x128 (View.ld (Val := Elt Ideal) (e' := .bf16) b r0_13) shapeCasts_S1x256x128_S256x128 = head b 13 := by
  funext j
  pointwise
  rfl

theorem head_14 (b : FVec Ideal S16x256x128 .bf16) : shapeCast S256x128 (View.ld (Val := Elt Ideal) (e' := .bf16) b r0_14) shapeCasts_S1x256x128_S256x128 = head b 14 := by
  funext j
  pointwise
  rfl

theorem head_15 (b : FVec Ideal S16x256x128 .bf16) : shapeCast S256x128 (View.ld (Val := Elt Ideal) (e' := .bf16) b r0_15) shapeCasts_S1x256x128_S256x128 = head b 15 := by
  funext j
  pointwise
  rfl

theorem heads (b : FVec Ideal S16x256x128 .bf16) (i : Fin 256) (k : Fin 2048) :
    k0_pay1 (k0_pay3 (View.ld (Val := Elt Ideal) (e' := .bf16) b r0_0)) (k0_pay4 (View.ld (Val := Elt Ideal) (e' := .bf16) b r0_1)) (k0_pay5 (View.ld (Val := Elt Ideal) (e' := .bf16) b r0_2)) (k0_pay6 (View.ld (Val := Elt Ideal) (e' := .bf16) b r0_3)) (k0_pay7 (View.ld (Val := Elt Ideal) (e' := .bf16) b r0_4)) (k0_pay8 (View.ld (Val := Elt Ideal) (e' := .bf16) b r0_5)) (k0_pay9 (View.ld (Val := Elt Ideal) (e' := .bf16) b r0_6)) (k0_pay10 (View.ld (Val := Elt Ideal) (e' := .bf16) b r0_7)) (k0_pay11 (View.ld (Val := Elt Ideal) (e' := .bf16) b r0_8)) (k0_pay12 (View.ld (Val := Elt Ideal) (e' := .bf16) b r0_9)) (k0_pay13 (View.ld (Val := Elt Ideal) (e' := .bf16) b r0_10)) (View.ld (Val := Elt Ideal) (e' := .bf16) b r0_11) (View.ld (Val := Elt Ideal) (e' := .bf16) b r0_12) (View.ld (Val := Elt Ideal) (e' := .bf16) b r0_13) (View.ld (Val := Elt Ideal) (e' := .bf16) b r0_14) (View.ld (Val := Elt Ideal) (e' := .bf16) b r0_15) (ix2 i k)
      = b (ix3 ⟨k.val / 128, Nat.div_lt_of_lt_mul k.isLt⟩ i ⟨k.val % 128, Nat.mod_lt _ (by decide)⟩) := by
  unfold k0_pay1
  rw [head_0 b, head_1 b, head_2 b, head_3 b, head_4 b, head_5 b, head_6 b, head_7 b, head_8 b, head_9 b, head_10 b, head_11 b, head_12 b, head_13 b, head_14 b, head_15 b]
  exact concatenate_ofFn_apply (t := S256x2048) (s₁ := S256x128) 1 (head b) _ rfl 128 rfl (ix2 i k) ⟨k.val / 128, Nat.div_lt_of_lt_mul k.isLt⟩ rfl
    (ix2 i ⟨k.val % 128, Nat.mod_lt _ (by decide)⟩) rfl (fun (b : Fin 2) hb => match b with
      | 0 => rfl
      | 1 => absurd rfl hb)

theorem V_o (c : Dev nD) : V m c main_v1 = (transpose S16x8704x128 [1, 0, 2] (m ((c : Thread nD τ).loc main_arg0) : (⟨S8704x16x128, .f32⟩ : BufTy).Contents (Elt Ideal)) transposes_S8704x16x128_S16x8704x128_1_0_2 : (⟨S16x8704x128, .f32⟩ : BufTy).Contents (Elt Ideal)) := by
  unfold_abbrev_sides
  after_results
  rfl

theorem at_o (c : Dev nD) (j : S16x8704x128.Idx) : V m c main_v1 j = m ((c : Thread nD τ).loc main_arg0) (ix3 (j 1) (j 0) (j 2)) := by
  rw [V_o]
  pointwise

theorem V_w (c : Dev nD) : V m c main_v2 = (m ((c : Thread nD τ).loc main_arg1) : (⟨S2048x2048, .f32⟩ : BufTy).Contents (Elt Ideal)) := by
  unfold_abbrev_sides
  after_results
  rfl

theorem V_a (c : Dev nD) : V m c main_arg2 = (m ((c : Thread nD τ).loc main_arg2) : (⟨S8704x2048, .f32⟩ : BufTy).Contents (Elt Ideal)) := V_main_arg2 m c

theorem V_g (c : Dev nD) : V m c main_v3 = (m ((c : Thread nD τ).loc main_arg3) : (⟨S8704x4096, .f32⟩ : BufTy).Contents (Elt Ideal)) := by
  unfold_abbrev_sides
  after_results
  rfl

theorem idx (t : Fin cfg0.N) : win0_0.index t = ![0, t.val, 0] ∧ win0_1.index t = ![0, 0] ∧ win0_2.index t = ![t.val, 0]
    ∧ win0_3.index t = ![t.val, 1] ∧ win0_4.index t = ![t.val, 0] := by
  revert t
  decide +kernel

theorem blk_o (c : Dev nD) (t : Fin cfg0.N) (y : S256x2048.Idx) (n : Fin 16) (k : Fin 128) : iblk m c 0 t (ix3 n (y 0) k) = m ((c : Thread nD τ).loc main_arg0) (ix3 (((cfg0.win 4).blk t).view.emb y 0) n k) := by
  refine (at_o m c _).trans ?_
  blk_ext [idx t]

theorem blk_w (c : Dev nD) (t : Fin cfg0.N) (y : S256x2048.Idx) (k : Fin 2048) : iblk m c 1 t (ix2 k (y 1)) = m ((c : Thread nD τ).loc main_arg1) (ix2 k (((cfg0.win 4).blk t).view.emb y 1)) := by
  refine (congrFun (V_w m c) _).trans ?_
  blk_ext [idx t]

theorem blk_a (c : Dev nD) (t : Fin cfg0.N) (y : S256x2048.Idx) : iblk m c 2 t y = m ((c : Thread nD τ).loc main_arg2) (((cfg0.win 4).blk t).view.emb y) := by
  refine (congrFun (V_a m c) _).trans ?_
  blk_ext [idx t]

theorem blk_g (c : Dev nD) (t : Fin cfg0.N) (y : S256x2048.Idx) (h) : iblk m c 3 t y = m ((c : Thread nD τ).loc main_arg3) (ix2 (((cfg0.win 4).blk t).view.emb y 0) ⟨2048 + (((cfg0.win 4).blk t).view.emb y 1).val, h⟩) := by
  refine (congrFun (V_g m c) _).trans ?_
  blk_ext [idx t]

theorem out (c : Dev nD) : (dats m 0 c).arrAt 4 cfg0.N = ref (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  pointwise [k0_pay2, ref]
  exact congrArg₂ (fun a b : EReal => a + b) (blk_a m c t y) (congrArg₂ (fun a b : EReal => a * b) (blk_g m c t y _)
    (Finset.sum_congr rfl fun k _ => congrArg₂ (fun a b : EReal => a * b) ((heads (iblk m c 0 t) (y 0) k).trans (blk_o m c t y _ _)) (blk_w m c t y k)))

theorem frame : Cert.quiescent_Kernel7 (hKernel7 := Cert.Kernel7.Gen.facts) :=
  fun m ρ _ => Cert.Kernel7.Gen.frame m ρ

theorem frame_ideal : Cert.quiescent_Kernel7Ideal (hKernel7Ideal := Cert.Kernel7Ideal.Gen.facts) :=
  fun m ρ _ => Cert.Kernel7Ideal.Gen.frame m ρ

theorem frame_reference : Cert.quiescent_Reference7Ideal (hReference7Ideal := Cert.Reference7Ideal.Gen.facts) :=
  fun m ρ _ => (θ_run Cert.Reference7Ideal.defs _ _).mono (fun r h => ⟨fun c => (h c).2, sem_eq_zero_of_no_sems rfl r.2⟩)
    (Cert.Reference7Ideal.Value.run (F := Ideal) m ρ)

theorem algebraic : Cert.algebraic_Kernel7Ideal_Reference7Ideal (hKernel7Ideal := Cert.Kernel7Ideal.Gen.facts) (hReference7Ideal := Cert.Reference7Ideal.Gen.facts) := by
  intro m g m' g' _ hagree
  refine ⟨fun c => ref (m ((c : Thread nD τ).loc main_arg0)) (m ((c : Thread nD τ).loc main_arg1)) (m ((c : Thread nD τ).loc main_arg2)) (m ((c : Thread nD τ).loc main_arg3)), ?_, ?_⟩
  · exact (θ_run Cert.Kernel7Ideal.defs _ _).mono (fun r h c => ⟨(h c).1.trans (out m c), (h c).2⟩) (Cert.Kernel7Ideal.Value.run_blocks (F := Ideal) m g)
  · refine (θ_run Cert.Reference7Ideal.defs _ _).mono (fun r h c => ⟨(h c).1.trans ?_, (h c).2⟩) (Cert.Reference7Ideal.Value.run (F := Ideal) m' g')
    obtain ⟨h0, h1, h2, h3⟩ := hagree c
    rw [h0, h1, h2, h3]
    rfl

end Cert.AttnOut
-- ==== Proof.Mm8.lean ====
module

public import proofs.«01_k».proof.Defs
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import Idealize.ShloMosaic.Lib.Pipeline.ValueKit
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem

namespace Cert.OutProj

open Cert.Reference8Ideal Cert.Reference8Ideal.Gen in
/-- The reference's result of its arguments. -/
def ref (a0 : FVec Ideal S8704x2048 .f32) (a1 : FVec Ideal S2048x2048 .f32) (a2 : FVec Ideal S8704x2048 .f32) : FVec Ideal S8704x2048 .f32 :=
  addf a2 (Host.dotGeneral dot_S8704x2048_S2048x2048_S8704x2048_1_0_0_1_n_n none a0 a1)

open Cert.Kernel8Ideal Cert.Kernel8Ideal.Gen

variable (m : (ℓ : Loc nD τ sig) → Buf (Elt Ideal) ℓ)

theorem V_x (c : Dev nD) : V m c main_v0 = (m ((c : Thread nD τ).loc main_arg0) : (⟨S8704x2048, .f32⟩ : BufTy).Contents (Elt Ideal)) := by
  unfold_abbrev_sides
  after_results
  rfl

theorem V_w (c : Dev nD) : V m c main_v1 = (m ((c : Thread nD τ).loc main_arg1) : (⟨S2048x2048, .f32⟩ : BufTy).Contents (Elt Ideal)) := by
  unfold_abbrev_sides
  after_results
  rfl

theorem V_r (c : Dev nD) : V m c main_arg2 = (m ((c : Thread nD τ).loc main_arg2) : (⟨S8704x2048, .f32⟩ : BufTy).Contents (Elt Ideal)) := V_main_arg2 m c

theorem idx (t : Fin cfg0.N) : win0_0.index t = ![t.val % 17, 0] ∧ win0_1.index t = ![0, t.val / 17] ∧ win0_2.index t = ![t.val % 17, t.val / 17]
    ∧ win0_3.index t = ![t.val % 17, t.val / 17] := by
  revert t
  decide +kernel

theorem blk_x (c : Dev nD) (t : Fin cfg0.N) (y : S512x1024.Idx) (k : Fin 2048) :
    iblk m c 0 t (ix2 (y 0) k) = m ((c : Thread nD τ).loc main_arg0) (ix2 (((cfg0.win 3).blk t).view.emb y 0) k) := by
  refine (congrFun (V_x m c) _).trans ?_
  blk_ext [idx t]

theorem blk_w (c : Dev nD) (t : Fin cfg0.N) (y : S512x1024.Idx) (k : Fin 2048) :
    iblk m c 1 t (ix2 k (y 1)) = m ((c : Thread nD τ).loc main_arg1) (ix2 k (((cfg0.win 3).blk t).view.emb y 1)) := by
  refine (congrFun (V_w m c) _).trans ?_
  blk_ext [idx t]

theorem blk_r (c : Dev nD) (t : Fin cfg0.N) (y : S512x1024.Idx) :
    iblk m c 2 t y = m ((c : Thread nD τ).loc main_arg2) (((cfg0.win 3).blk t).view.emb y) := by
  refine (congrFun (V_r m c) _).trans ?_
  blk_ext [idx t]

theorem out (c : Dev nD) : (dats m 0 c).arrAt 3 cfg0.N = ref (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  pointwise [k0_pay1, ref]
  exact congrArg₂ (fun a b : EReal => a + b) (blk_r m c t y)
    (Finset.sum_congr rfl fun k _ => congrArg₂ (fun a b : EReal => a * b) (blk_x m c t y k) (blk_w m c t y k))

theorem frame : Cert.quiescent_Kernel8 (hKernel8 := Cert.Kernel8.Gen.facts) :=
  fun m ρ _ => Cert.Kernel8.Gen.frame m ρ

theorem frame_ideal : Cert.quiescent_Kernel8Ideal (hKernel8Ideal := Cert.Kernel8Ideal.Gen.facts) :=
  fun m ρ _ => Cert.Kernel8Ideal.Gen.frame m ρ

theorem frame_reference : Cert.quiescent_Reference8Ideal (hReference8Ideal := Cert.Reference8Ideal.Gen.facts) :=
  fun m ρ _ => (θ_run Cert.Reference8Ideal.defs _ _).mono (fun r h => ⟨fun c => (h c).2, sem_eq_zero_of_no_sems rfl r.2⟩)
    (Cert.Reference8Ideal.Value.run (F := Ideal) m ρ)

theorem algebraic : Cert.algebraic_Kernel8Ideal_Reference8Ideal (hKernel8Ideal := Cert.Kernel8Ideal.Gen.facts) (hReference8Ideal := Cert.Reference8Ideal.Gen.facts) := by
  intro m g m' g' _ hagree
  refine ⟨fun c => ref (m ((c : Thread nD τ).loc main_arg0)) (m ((c : Thread nD τ).loc main_arg1)) (m ((c : Thread nD τ).loc main_arg2)), ?_, ?_⟩
  · exact (θ_run Cert.Kernel8Ideal.defs _ _).mono (fun r h c => ⟨(h c).1.trans (out m c), (h c).2⟩) (Cert.Kernel8Ideal.Value.run_blocks (F := Ideal) m g)
  · refine (θ_run Cert.Reference8Ideal.defs _ _).mono (fun r h c => ⟨(h c).1.trans ?_, (h c).2⟩) (Cert.Reference8Ideal.Value.run (F := Ideal) m' g')
    obtain ⟨h0, h1, h2⟩ := hagree c
    rw [h0, h1, h2]
    rfl

end Cert.OutProj
-- ==== Proof.Mm9.lean ====
module

public import proofs.«01_k».proof.Defs
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import Idealize.ShloMosaic.Lib.Pipeline.ValueKit
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem

namespace Cert.CombineP

open Cert.Reference9Ideal Cert.Reference9Ideal.Gen in
/-- The reference's result of its arguments. -/
def ref (a0 : FVec Ideal S8704x2048 .f32) (a1 : FVec Ideal S8704x4x2048 .f32) (a2 : FVec Ideal S8704x4 .f32) (a3 : FVec Ideal S8192x256 .f32) (a4 : FVec Ideal S2048 .f32) (a5 : FVec Ideal S2048x2048 .f32) (a6 : FVec Ideal S256x2048 .f32) : FVec Ideal S8192x2048 .f32 :=
  addf (addf (extractStridedSlice S8192x2048 ![0, 0] a0 slices_S8704x2048_S8192x2048_0_0) (Host.reduceAdd (mulf (broadcastInDim S8192x4x2048 ![0, 1, 2] bcast_S8192x4x1_S8192x4x2048_0_1_2 (broadcastInDim S8192x4x1 ![0, 1] bcast_S8192x4_S8192x4x1_0_1 (extractStridedSlice S8192x4 ![0, 0] a2 slices_S8704x4_S8192x4_0_0))) (extractStridedSlice S8192x4x2048 ![0, 0, 0] a1 slices_S8704x4x2048_S8192x4x2048_0_0_0)) (constant S_ .f32 0x00000000#32) reducesTo_S8192x4x2048_S8192x2048_d1 h_S_)) (mulf (Host.divf (broadcastInDim S8192x2048 ![] bcast_S_S8192x2048 (constant S_ .f32 0x3F800000#32)) (addf (broadcastInDim S8192x2048 ![] bcast_S_S8192x2048 (constant S_ .f32 0x3F800000#32)) (Host.exp (Host.negf (Host.dotGeneral dot_S8192x2048_S2048x2048_S8192x2048_1_0_0_1_n_n none (mulf (mulf (addf (extractStridedSlice S8192x2048 ![0, 0] a0 slices_S8704x2048_S8192x2048_0_0) (Host.reduceAdd (mulf (broadcastInDim S8192x4x2048 ![0, 1, 2] bcast_S8192x4x1_S8192x4x2048_0_1_2 (broadcastInDim S8192x4x1 ![0, 1] bcast_S8192x4_S8192x4x1_0_1 (extractStridedSlice S8192x4 ![0, 0] a2 slices_S8704x4_S8192x4_0_0))) (extractStridedSlice S8192x4x2048 ![0, 0, 0] a1 slices_S8704x4x2048_S8192x4x2048_0_0_0)) (constant S_ .f32 0x00000000#32) reducesTo_S8192x4x2048_S8192x2048_d1 h_S_)) (broadcastInDim S8192x2048 ![0, 1] bcast_S8192x1_S8192x2048_0_1 (Host.rsqrt (addf (Host.divf (broadcastInDim S8192x1 ![0] bcast_S8192_S8192x1_0 (Host.reduceAdd (mulf (addf (extractStridedSlice S8192x2048 ![0, 0] a0 slices_S8704x2048_S8192x2048_0_0) (Host.reduceAdd (mulf (broadcastInDim S8192x4x2048 ![0, 1, 2] bcast_S8192x4x1_S8192x4x2048_0_1_2 (broadcastInDim S8192x4x1 ![0, 1] bcast_S8192x4_S8192x4x1_0_1 (extractStridedSlice S8192x4 ![0, 0] a2 slices_S8704x4_S8192x4_0_0))) (extractStridedSlice S8192x4x2048 ![0, 0, 0] a1 slices_S8704x4x2048_S8192x4x2048_0_0_0)) (constant S_ .f32 0x00000000#32) reducesTo_S8192x4x2048_S8192x2048_d1 h_S_)) (addf (extractStridedSlice S8192x2048 ![0, 0] a0 slices_S8704x2048_S8192x2048_0_0) (Host.reduceAdd (mulf (broadcastInDim S8192x4x2048 ![0, 1, 2] bcast_S8192x4x1_S8192x4x2048_0_1_2 (broadcastInDim S8192x4x1 ![0, 1] bcast_S8192x4_S8192x4x1_0_1 (extractStridedSlice S8192x4 ![0, 0] a2 slices_S8704x4_S8192x4_0_0))) (extractStridedSlice S8192x4x2048 ![0, 0, 0] a1 slices_S8704x4x2048_S8192x4x2048_0_0_0)) (constant S_ .f32 0x00000000#32) reducesTo_S8192x4x2048_S8192x2048_d1 h_S_))) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 a4))) a5))))) (Host.dotGeneral dot_S8192x256_S256x2048_S8192x2048_1_0_0_1_n_n none a3 a6))

open Cert.Kernel9Ideal Cert.Kernel9Ideal.Gen

variable (m : (ℓ : Loc nD τ sig) → Buf (Elt Ideal) ℓ)

theorem V_x (c : Dev nD) : V m c main_arg0 = (m ((c : Thread nD τ).loc main_arg0) : (⟨S8704x2048, .f32⟩ : BufTy).Contents (Elt Ideal)) := V_main_arg0 m c

theorem V_p (c : Dev nD) : V m c main_arg3 = (m ((c : Thread nD τ).loc main_arg3) : (⟨S8192x256, .f32⟩ : BufTy).Contents (Elt Ideal)) := V_main_arg3 m c

set_option maxRecDepth 65536 in
theorem V_y (c : Dev nD) : V m c main_v0 = (shapeCast S8704x8192 (m ((c : Thread nD τ).loc main_arg1) : (⟨S8704x4x2048, .f32⟩ : BufTy).Contents (Elt Ideal)) shapeCasts_S8704x4x2048_S8704x8192 : (⟨S8704x8192, .f32⟩ : BufTy).Contents (Elt Ideal)) := by
  unfold_abbrev_sides
  after_results
  rfl

theorem V_gate (c : Dev nD) : V m c main_v1 = (pad S8704x128 ![0, 0] ![0, 124] ![0, 0] (m ((c : Thread nD τ).loc main_arg2) : (⟨S8704x4, .f32⟩ : BufTy).Contents (Elt Ideal)) (sitofp (F := Ideal) .f32 (constantI S_ 32 0#32)) pads_S8704x4_S8704x128_000_01240 h_S_ : (⟨S8704x128, .f32⟩ : BufTy).Contents (Elt Ideal)) := by
  unfold_abbrev_sides
  after_results
  rfl

theorem V_w (c : Dev nD) : V m c main_v2 = (m ((c : Thread nD τ).loc main_arg5) : (⟨S2048x2048, .f32⟩ : BufTy).Contents (Elt Ideal)) := by
  unfold_abbrev_sides
  rfl

theorem V_u (c : Dev nD) : V m c main_v3 = (m ((c : Thread nD τ).loc main_arg6) : (⟨S256x2048, .f32⟩ : BufTy).Contents (Elt Ideal)) := by
  unfold_abbrev_sides
  rfl

theorem V_g (c : Dev nD) : V m c main_v4 = (shapeCast S1x2048 (m ((c : Thread nD τ).loc main_arg4) : (⟨S2048, .f32⟩ : BufTy).Contents (Elt Ideal)) shapeCasts_S2048_S1x2048 : (⟨S1x2048, .f32⟩ : BufTy).Contents (Elt Ideal)) := by
  unfold_abbrev_sides
  after_results
  rfl

set_option maxRecDepth 65536 in
theorem at_y (c : Dev nD) (j : S8704x8192.Idx) : V m c main_v0 j = m ((c : Thread nD τ).loc main_arg1) (ix3 (j 0) ⟨(j 1).val / 2048, Nat.div_lt_of_lt_mul (j 1).isLt⟩ ⟨(j 1).val % 2048, Nat.mod_lt _ (by decide)⟩) := by
  rw [V_y]
  pointwise

theorem at_gate (c : Dev nD) (i : Fin 8704) (j : Fin 4) : V m c main_v1 (ix2 i ⟨j.val, Nat.lt_trans j.isLt (by decide)⟩) = m ((c : Thread nD τ).loc main_arg2) (ix2 i j) := by
  rw [V_gate]
  pointwise
  exact dif_pos (fun (a : Fin 2) => match a with
    | 0 => ⟨Nat.zero_le _, Nat.mod_one _, (Nat.div_one _).trans_lt i.isLt⟩
    | 1 => ⟨Nat.zero_le _, Nat.mod_one _, (Nat.div_one _).trans_lt j.isLt⟩)

theorem at_g (c : Dev nD) (j : S1x2048.Idx) : V m c main_v4 j = m ((c : Thread nD τ).loc main_arg4) (ix1 (j 1)) := by
  rw [V_g]
  pointwise

theorem idx (t : Fin cfg0.N) : win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0] ∧ win0_7.index t = ![t.val, 0] := by
  revert t
  decide +kernel

theorem blk_x (c : Dev nD) (t : Fin cfg0.N) (y : S256x2048.Idx) (x : Fin 2048) (h) : iblk m c 0 t (ix2 (y 0) x) = m ((c : Thread nD τ).loc main_arg0) (ix2 ⟨(((cfg0.win 7).blk t).view.emb y 0).val, h⟩ x) := by
  refine (congrFun (V_x m c) _).trans ?_
  blk_ext [idx t]

theorem blk_x' (c : Dev nD) (t : Fin cfg0.N) (y : S256x2048.Idx) (h) : iblk m c 0 t y = m ((c : Thread nD τ).loc main_arg0) (ix2 ⟨(((cfg0.win 7).blk t).view.emb y 0).val, h⟩ (((cfg0.win 7).blk t).view.emb y 1)) := by
  refine (congrFun (V_x m c) _).trans ?_
  blk_ext [idx t]

theorem blk_y0 (c : Dev nD) (t : Fin cfg0.N) (y : S256x2048.Idx) (x : Fin 2048) (h h') : iblk m c 1 t (ix2 (y 0) ⟨x.val, h'⟩) = m ((c : Thread nD τ).loc main_arg1) (ix3 ⟨(((cfg0.win 7).blk t).view.emb y 0).val, h⟩ 0 x) := by
  refine (at_y m c _).trans ?_
  blk_ext [idx t]

theorem blk_y0' (c : Dev nD) (t : Fin cfg0.N) (y : S256x2048.Idx) (h h') : iblk m c 1 t (ix2 (y 0) ⟨(y 1).val, h'⟩) = m ((c : Thread nD τ).loc main_arg1) (ix3 ⟨(((cfg0.win 7).blk t).view.emb y 0).val, h⟩ 0 (((cfg0.win 7).blk t).view.emb y 1)) := by
  refine (at_y m c _).trans ?_
  blk_ext [idx t]

theorem blk_gate0 (c : Dev nD) (t : Fin cfg0.N) (y : S256x2048.Idx) (h) : iblk m c 2 t (ix2 (y 0) 0) = m ((c : Thread nD τ).loc main_arg2) (ix2 ⟨(((cfg0.win 7).blk t).view.emb y 0).val, h⟩ 0) := by
  refine Eq.trans ?_ (at_gate m c ⟨(((cfg0.win 7).blk t).view.emb y 0).val, h⟩ 0)
  refine congrArg (V m c main_v1) ?_
  blk_ext [idx t]

theorem blk_y1 (c : Dev nD) (t : Fin cfg0.N) (y : S256x2048.Idx) (x : Fin 2048) (h h') : iblk m c 1 t (ix2 (y 0) ⟨2048 + x.val, h'⟩) = m ((c : Thread nD τ).loc main_arg1) (ix3 ⟨(((cfg0.win 7).blk t).view.emb y 0).val, h⟩ 1 x) := by
  refine (at_y m c _).trans ?_
  blk_ext [idx t]

theorem blk_y1' (c : Dev nD) (t : Fin cfg0.N) (y : S256x2048.Idx) (h h') : iblk m c 1 t (ix2 (y 0) ⟨2048 + (y 1).val, h'⟩) = m ((c : Thread nD τ).loc main_arg1) (ix3 ⟨(((cfg0.win 7).blk t).view.emb y 0).val, h⟩ 1 (((cfg0.win 7).blk t).view.emb y 1)) := by
  refine (at_y m c _).trans ?_
  blk_ext [idx t]

theorem blk_gate1 (c : Dev nD) (t : Fin cfg0.N) (y : S256x2048.Idx) (h) : iblk m c 2 t (ix2 (y 0) 1) = m ((c : Thread nD τ).loc main_arg2) (ix2 ⟨(((cfg0.win 7).blk t).view.emb y 0).val, h⟩ 1) := by
  refine Eq.trans ?_ (at_gate m c ⟨(((cfg0.win 7).blk t).view.emb y 0).val, h⟩ 1)
  refine congrArg (V m c main_v1) ?_
  blk_ext [idx t]

theorem blk_y2 (c : Dev nD) (t : Fin cfg0.N) (y : S256x2048.Idx) (x : Fin 2048) (h h') : iblk m c 1 t (ix2 (y 0) ⟨4096 + x.val, h'⟩) = m ((c : Thread nD τ).loc main_arg1) (ix3 ⟨(((cfg0.win 7).blk t).view.emb y 0).val, h⟩ 2 x) := by
  refine (at_y m c _).trans ?_
  blk_ext [idx t]

theorem blk_y2' (c : Dev nD) (t : Fin cfg0.N) (y : S256x2048.Idx) (h h') : iblk m c 1 t (ix2 (y 0) ⟨4096 + (y 1).val, h'⟩) = m ((c : Thread nD τ).loc main_arg1) (ix3 ⟨(((cfg0.win 7).blk t).view.emb y 0).val, h⟩ 2 (((cfg0.win 7).blk t).view.emb y 1)) := by
  refine (at_y m c _).trans ?_
  blk_ext [idx t]

theorem blk_gate2 (c : Dev nD) (t : Fin cfg0.N) (y : S256x2048.Idx) (h) : iblk m c 2 t (ix2 (y 0) 2) = m ((c : Thread nD τ).loc main_arg2) (ix2 ⟨(((cfg0.win 7).blk t).view.emb y 0).val, h⟩ 2) := by
  refine Eq.trans ?_ (at_gate m c ⟨(((cfg0.win 7).blk t).view.emb y 0).val, h⟩ 2)
  refine congrArg (V m c main_v1) ?_
  blk_ext [idx t]

theorem blk_y3 (c : Dev nD) (t : Fin cfg0.N) (y : S256x2048.Idx) (x : Fin 2048) (h h') : iblk m c 1 t (ix2 (y 0) ⟨6144 + x.val, h'⟩) = m ((c : Thread nD τ).loc main_arg1) (ix3 ⟨(((cfg0.win 7).blk t).view.emb y 0).val, h⟩ 3 x) := by
  refine (at_y m c _).trans ?_
  blk_ext [idx t]

theorem blk_y3' (c : Dev nD) (t : Fin cfg0.N) (y : S256x2048.Idx) (h h') : iblk m c 1 t (ix2 (y 0) ⟨6144 + (y 1).val, h'⟩) = m ((c : Thread nD τ).loc main_arg1) (ix3 ⟨(((cfg0.win 7).blk t).view.emb y 0).val, h⟩ 3 (((cfg0.win 7).blk t).view.emb y 1)) := by
  refine (at_y m c _).trans ?_
  blk_ext [idx t]

theorem blk_gate3 (c : Dev nD) (t : Fin cfg0.N) (y : S256x2048.Idx) (h) : iblk m c 2 t (ix2 (y 0) 3) = m ((c : Thread nD τ).loc main_arg2) (ix2 ⟨(((cfg0.win 7).blk t).view.emb y 0).val, h⟩ 3) := by
  refine Eq.trans ?_ (at_gate m c ⟨(((cfg0.win 7).blk t).view.emb y 0).val, h⟩ 3)
  refine congrArg (V m c main_v1) ?_
  blk_ext [idx t]

theorem blk_p (c : Dev nD) (t : Fin cfg0.N) (y : S256x2048.Idx) (k : Fin 256) : iblk m c 3 t (ix2 (y 0) k) = m ((c : Thread nD τ).loc main_arg3) (ix2 (((cfg0.win 7).blk t).view.emb y 0) k) := by
  refine (congrFun (V_p m c) _).trans ?_
  blk_ext [idx t]

theorem blk_g (c : Dev nD) (t : Fin cfg0.N) (y : S256x2048.Idx) (x : Fin 2048) : iblk m c 4 t (ix2 0 x) = m ((c : Thread nD τ).loc main_arg4) (ix1 x) := by
  refine (at_g m c _).trans ?_
  blk_ext [idx t]

theorem blk_w (c : Dev nD) (t : Fin cfg0.N) (y : S256x2048.Idx) (x : Fin 2048) : iblk m c 5 t (ix2 x (y 1)) = m ((c : Thread nD τ).loc main_arg5) (ix2 x (((cfg0.win 7).blk t).view.emb y 1)) := by
  refine (congrFun (V_w m c) _).trans ?_
  blk_ext [idx t]

theorem blk_u (c : Dev nD) (t : Fin cfg0.N) (y : S256x2048.Idx) (k : Fin 256) : iblk m c 6 t (ix2 k (y 1)) = m ((c : Thread nD τ).loc main_arg6) (ix2 k (((cfg0.win 7).blk t).view.emb y 1)) := by
  refine (congrFun (V_u m c) _).trans ?_
  blk_ext [idx t]

theorem four (a : EReal) (g u : Fin 4 → EReal) : a + g 0 * u 0 + g 1 * u 1 + g 2 * u 2 + g 3 * u 3 = a + ∑ j, g j * u j := by
  rw [Fin.sum_univ_four]
  simp only [add_assoc]

theorem row (c : Dev nD) (t : Fin cfg0.N) (y : S256x2048.Idx) (x : Fin 2048) (h h0 h1 h2 h3) : @HAdd.hAdd EReal EReal EReal instHAdd (@HAdd.hAdd EReal EReal EReal instHAdd (@HAdd.hAdd EReal EReal EReal instHAdd (@HAdd.hAdd EReal EReal EReal instHAdd (iblk m c 0 t (ix2 (y 0) x))
      (@HMul.hMul EReal EReal EReal instHMul (iblk m c 2 t (ix2 (y 0) 0)) (iblk m c 1 t (ix2 (y 0) ⟨x.val, h0⟩))))
      (@HMul.hMul EReal EReal EReal instHMul (iblk m c 2 t (ix2 (y 0) 1)) (iblk m c 1 t (ix2 (y 0) ⟨2048 + x.val, h1⟩))))
      (@HMul.hMul EReal EReal EReal instHMul (iblk m c 2 t (ix2 (y 0) 2)) (iblk m c 1 t (ix2 (y 0) ⟨4096 + x.val, h2⟩))))
      (@HMul.hMul EReal EReal EReal instHMul (iblk m c 2 t (ix2 (y 0) 3)) (iblk m c 1 t (ix2 (y 0) ⟨6144 + x.val, h3⟩)))
    = @HAdd.hAdd EReal EReal EReal instHAdd (m ((c : Thread nD τ).loc main_arg0) (ix2 ⟨(((cfg0.win 7).blk t).view.emb y 0).val, h⟩ x)) (∑ j : Fin 4, @HMul.hMul EReal EReal EReal instHMul (m ((c : Thread nD τ).loc main_arg2) (ix2 ⟨(((cfg0.win 7).blk t).view.emb y 0).val, h⟩ j)) (m ((c : Thread nD τ).loc main_arg1) (ix3 ⟨(((cfg0.win 7).blk t).view.emb y 0).val, h⟩ j x))) := by
  rw [blk_x m c t y x h, blk_y0 m c t y x h, blk_y1 m c t y x h, blk_y2 m c t y x h, blk_y3 m c t y x h,
    blk_gate0 m c t y h, blk_gate1 m c t y h, blk_gate2 m c t y h, blk_gate3 m c t y h]
  exact four _ (fun j => m ((c : Thread nD τ).loc main_arg2) (ix2 ⟨(((cfg0.win 7).blk t).view.emb y 0).val, h⟩ j)) (fun j => m ((c : Thread nD τ).loc main_arg1) (ix3 ⟨(((cfg0.win 7).blk t).view.emb y 0).val, h⟩ j x))

theorem row' (c : Dev nD) (t : Fin cfg0.N) (y : S256x2048.Idx) (h h0 h1 h2 h3) : @HAdd.hAdd EReal EReal EReal instHAdd (@HAdd.hAdd EReal EReal EReal instHAdd (@HAdd.hAdd EReal EReal EReal instHAdd (@HAdd.hAdd EReal EReal EReal instHAdd (iblk m c 0 t y)
      (@HMul.hMul EReal EReal EReal instHMul (iblk m c 2 t (ix2 (y 0) 0)) (iblk m c 1 t (ix2 (y 0) ⟨(y 1).val, h0⟩))))
      (@HMul.hMul EReal EReal EReal instHMul (iblk m c 2 t (ix2 (y 0) 1)) (iblk m c 1 t (ix2 (y 0) ⟨2048 + (y 1).val, h1⟩))))
      (@HMul.hMul EReal EReal EReal instHMul (iblk m c 2 t (ix2 (y 0) 2)) (iblk m c 1 t (ix2 (y 0) ⟨4096 + (y 1).val, h2⟩))))
      (@HMul.hMul EReal EReal EReal instHMul (iblk m c 2 t (ix2 (y 0) 3)) (iblk m c 1 t (ix2 (y 0) ⟨6144 + (y 1).val, h3⟩)))
    = @HAdd.hAdd EReal EReal EReal instHAdd (m ((c : Thread nD τ).loc main_arg0) (ix2 ⟨(((cfg0.win 7).blk t).view.emb y 0).val, h⟩ (((cfg0.win 7).blk t).view.emb y 1))) (∑ j : Fin 4, @HMul.hMul EReal EReal EReal instHMul (m ((c : Thread nD τ).loc main_arg2) (ix2 ⟨(((cfg0.win 7).blk t).view.emb y 0).val, h⟩ j)) (m ((c : Thread nD τ).loc main_arg1) (ix3 ⟨(((cfg0.win 7).blk t).view.emb y 0).val, h⟩ j (((cfg0.win 7).blk t).view.emb y 1)))) := by
  rw [blk_x' m c t y h, blk_y0' m c t y h, blk_y1' m c t y h, blk_y2' m c t y h, blk_y3' m c t y h,
    blk_gate0 m c t y h, blk_gate1 m c t y h, blk_gate2 m c t y h, blk_gate3 m c t y h]
  exact four _ (fun j => m ((c : Thread nD τ).loc main_arg2) (ix2 ⟨(((cfg0.win 7).blk t).view.emb y 0).val, h⟩ j)) (fun j => m ((c : Thread nD τ).loc main_arg1) (ix3 ⟨(((cfg0.win 7).blk t).view.emb y 0).val, h⟩ j (((cfg0.win 7).blk t).view.emb y 1)))

theorem combine {A A' D D' p q : EReal} {X X' G G' W W' : Fin 2048 → EReal} (hA : A = A') (hX : ∀ x, X x = X' x) (hG : ∀ x, G x = G' x) (hW : ∀ x, W x = W' x) (hD : D = D') :
    A + Ideal.div 1 (1 + Ideal.exp (0 - ∑ x, X x * Ideal.rsqrt (Ideal.div (∑ x, X x * X x) p + q) * G x * W x)) * D
      = A' + Ideal.div 1 (1 + Ideal.exp (-∑ x, X' x * Ideal.rsqrt (Ideal.div (∑ x, X' x * X' x) p + q) * G' x * W' x)) * D' := by
  obtain rfl : X = X' := funext hX
  obtain rfl : G = G' := funext hG
  obtain rfl : W = W' := funext hW
  rw [hA, hD, zero_sub]

theorem out (c : Dev nD) : (dats m 0 c).arrAt 7 cfg0.N = ref (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t hf y => ?_
  blk_simp
  rw [after0_7]
  frame_out
  pointwise [k0_pay1, k0_pay3, k0_pay2, ref]
  exact combine (row' m c t y _ _ _ _ _) (fun x => row m c t y x _ _ _ _ _) (fun x => blk_g m c t y x) (fun x => blk_w m c t y x)
    (Finset.sum_congr rfl fun k _ => congrArg₂ (fun a b : EReal => a * b) (blk_p m c t y k) (blk_u m c t y k))

theorem frame : Cert.quiescent_Kernel9 (hKernel9 := Cert.Kernel9.Gen.facts) :=
  fun m ρ _ => Cert.Kernel9.Gen.frame m ρ

theorem frame_ideal : Cert.quiescent_Kernel9Ideal (hKernel9Ideal := Cert.Kernel9Ideal.Gen.facts) :=
  fun m ρ _ => Cert.Kernel9Ideal.Gen.frame m ρ

theorem frame_reference : Cert.quiescent_Reference9Ideal (hReference9Ideal := Cert.Reference9Ideal.Gen.facts) :=
  fun m ρ _ => (θ_run Cert.Reference9Ideal.defs _ _).mono (fun r h => ⟨fun c => (h c).2, sem_eq_zero_of_no_sems rfl r.2⟩)
    (Cert.Reference9Ideal.Value.run (F := Ideal) m ρ)

theorem algebraic : Cert.algebraic_Kernel9Ideal_Reference9Ideal (hKernel9Ideal := Cert.Kernel9Ideal.Gen.facts) (hReference9Ideal := Cert.Reference9Ideal.Gen.facts) := by
  intro m g m' g' _ hagree
  refine ⟨fun c => ref (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)), ?_, ?_⟩
  · exact (θ_run Cert.Kernel9Ideal.defs _ _).mono (fun r h c => ⟨(h c).1.trans (out m c), (h c).2⟩) (Cert.Kernel9Ideal.Value.run_blocks (F := Ideal) m g)
  · refine (θ_run Cert.Reference9Ideal.defs _ _).mono (fun r h c => ⟨(h c).1.trans ?_, (h c).2⟩) (Cert.Reference9Ideal.Value.run (F := Ideal) m' g')
    obtain ⟨h0, h1, h2, h3, h4, h5, h6⟩ := hagree c
    rw [h0, h1, h2, h3, h4, h5, h6]
    rfl

end Cert.CombineP
-- ==== Proof.Mm10.lean ====
module

public import proofs.«01_k».proof.Defs
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import Idealize.ShloMosaic.Lib.Pipeline.ValueKit
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem

namespace Cert.CombineS

open Cert.Reference10Ideal Cert.Reference10Ideal.Gen in
/-- The reference's result of its arguments. -/
def ref (a0 : FVec Ideal S8704x2048 .f32) (a1 : FVec Ideal S8704x4x2048 .f32) (a2 : FVec Ideal S8704x4 .f32) (a3 : FVec Ideal S512x256 .f32) (a4 : FVec Ideal S2048 .f32) (a5 : FVec Ideal S2048x2048 .f32) (a6 : FVec Ideal S256x2048 .f32) : FVec Ideal S512x2048 .f32 :=
  addf (addf (extractStridedSlice S512x2048 ![8192, 0] a0 slices_S8704x2048_S512x2048_8192_0) (Host.reduceAdd (mulf (broadcastInDim S512x4x2048 ![0, 1, 2] bcast_S512x4x1_S512x4x2048_0_1_2 (broadcastInDim S512x4x1 ![0, 1] bcast_S512x4_S512x4x1_0_1 (extractStridedSlice S512x4 ![8192, 0] a2 slices_S8704x4_S512x4_8192_0))) (extractStridedSlice S512x4x2048 ![8192, 0, 0] a1 slices_S8704x4x2048_S512x4x2048_8192_0_0)) (constant S_ .f32 0x00000000#32) reducesTo_S512x4x2048_S512x2048_d1 h_S_)) (mulf (Host.divf (broadcastInDim S512x2048 ![] bcast_S_S512x2048 (constant S_ .f32 0x3F800000#32)) (addf (broadcastInDim S512x2048 ![] bcast_S_S512x2048 (constant S_ .f32 0x3F800000#32)) (Host.exp (Host.negf (Host.dotGeneral dot_S512x2048_S2048x2048_S512x2048_1_0_0_1_n_n none (mulf (mulf (addf (extractStridedSlice S512x2048 ![8192, 0] a0 slices_S8704x2048_S512x2048_8192_0) (Host.reduceAdd (mulf (broadcastInDim S512x4x2048 ![0, 1, 2] bcast_S512x4x1_S512x4x2048_0_1_2 (broadcastInDim S512x4x1 ![0, 1] bcast_S512x4_S512x4x1_0_1 (extractStridedSlice S512x4 ![8192, 0] a2 slices_S8704x4_S512x4_8192_0))) (extractStridedSlice S512x4x2048 ![8192, 0, 0] a1 slices_S8704x4x2048_S512x4x2048_8192_0_0)) (constant S_ .f32 0x00000000#32) reducesTo_S512x4x2048_S512x2048_d1 h_S_)) (broadcastInDim S512x2048 ![0, 1] bcast_S512x1_S512x2048_0_1 (Host.rsqrt (addf (Host.divf (broadcastInDim S512x1 ![0] bcast_S512_S512x1_0 (Host.reduceAdd (mulf (addf (extractStridedSlice S512x2048 ![8192, 0] a0 slices_S8704x2048_S512x2048_8192_0) (Host.reduceAdd (mulf (broadcastInDim S512x4x2048 ![0, 1, 2] bcast_S512x4x1_S512x4x2048_0_1_2 (broadcastInDim S512x4x1 ![0, 1] bcast_S512x4_S512x4x1_0_1 (extractStridedSlice S512x4 ![8192, 0] a2 slices_S8704x4_S512x4_8192_0))) (extractStridedSlice S512x4x2048 ![8192, 0, 0] a1 slices_S8704x4x2048_S512x4x2048_8192_0_0)) (constant S_ .f32 0x00000000#32) reducesTo_S512x4x2048_S512x2048_d1 h_S_)) (addf (extractStridedSlice S512x2048 ![8192, 0] a0 slices_S8704x2048_S512x2048_8192_0) (Host.reduceAdd (mulf (broadcastInDim S512x4x2048 ![0, 1, 2] bcast_S512x4x1_S512x4x2048_0_1_2 (broadcastInDim S512x4x1 ![0, 1] bcast_S512x4_S512x4x1_0_1 (extractStridedSlice S512x4 ![8192, 0] a2 slices_S8704x4_S512x4_8192_0))) (extractStridedSlice S512x4x2048 ![8192, 0, 0] a1 slices_S8704x4x2048_S512x4x2048_8192_0_0)) (constant S_ .f32 0x00000000#32) reducesTo_S512x4x2048_S512x2048_d1 h_S_))) (constant S_ .f32 0x00000000#32) reducesTo_S512x2048_S512_d1 h_S_)) (broadcastInDim S512x1 ![] bcast_S_S512x1 (constant S_ .f32 0x45000000#32))) (broadcastInDim S512x1 ![] bcast_S_S512x1 (constant S_ .f32 0x358637BD#32)))))) (broadcastInDim S512x2048 ![0, 1] bcast_S1x2048_S512x2048_0_1 (broadcastInDim S1x2048 ![1] bcast_S2048_S1x2048_1 a4))) a5))))) (Host.dotGeneral dot_S512x256_S256x2048_S512x2048_1_0_0_1_n_n none a3 a6))

open Cert.Kernel10Ideal Cert.Kernel10Ideal.Gen

variable (m : (ℓ : Loc nD τ sig) → Buf (Elt Ideal) ℓ)

theorem V_x (c : Dev nD) : V m c main_arg0 = (m ((c : Thread nD τ).loc main_arg0) : (⟨S8704x2048, .f32⟩ : BufTy).Contents (Elt Ideal)) := V_main_arg0 m c

theorem V_p (c : Dev nD) : V m c main_arg3 = (m ((c : Thread nD τ).loc main_arg3) : (⟨S512x256, .f32⟩ : BufTy).Contents (Elt Ideal)) := V_main_arg3 m c

set_option maxRecDepth 65536 in
theorem V_y (c : Dev nD) : V m c main_v0 = (shapeCast S8704x8192 (m ((c : Thread nD τ).loc main_arg1) : (⟨S8704x4x2048, .f32⟩ : BufTy).Contents (Elt Ideal)) shapeCasts_S8704x4x2048_S8704x8192 : (⟨S8704x8192, .f32⟩ : BufTy).Contents (Elt Ideal)) := by
  unfold_abbrev_sides
  after_results
  rfl

theorem V_gate (c : Dev nD) : V m c main_v1 = (pad S8704x128 ![0, 0] ![0, 124] ![0, 0] (m ((c : Thread nD τ).loc main_arg2) : (⟨S8704x4, .f32⟩ : BufTy).Contents (Elt Ideal)) (sitofp (F := Ideal) .f32 (constantI S_ 32 0#32)) pads_S8704x4_S8704x128_000_01240 h_S_ : (⟨S8704x128, .f32⟩ : BufTy).Contents (Elt Ideal)) := by
  unfold_abbrev_sides
  after_results
  rfl

theorem V_w (c : Dev nD) : V m c main_v2 = (m ((c : Thread nD τ).loc main_arg5) : (⟨S2048x2048, .f32⟩ : BufTy).Contents (Elt Ideal)) := by
  unfold_abbrev_sides
  rfl

theorem V_u (c : Dev nD) : V m c main_v3 = (m ((c : Thread nD τ).loc main_arg6) : (⟨S256x2048, .f32⟩ : BufTy).Contents (Elt Ideal)) := by
  unfold_abbrev_sides
  rfl

theorem V_g (c : Dev nD) : V m c main_v4 = (shapeCast S1x2048 (m ((c : Thread nD τ).loc main_arg4) : (⟨S2048, .f32⟩ : BufTy).Contents (Elt Ideal)) shapeCasts_S2048_S1x2048 : (⟨S1x2048, .f32⟩ : BufTy).Contents (Elt Ideal)) := by
  unfold_abbrev_sides
  after_results
  rfl

set_option maxRecDepth 65536 in
theorem at_y (c : Dev nD) (j : S8704x8192.Idx) : V m c main_v0 j = m ((c : Thread nD τ).loc main_arg1) (ix3 (j 0) ⟨(j 1).val / 2048, Nat.div_lt_of_lt_mul (j 1).isLt⟩ ⟨(j 1).val % 2048, Nat.mod_lt _ (by decide)⟩) := by
  rw [V_y]
  pointwise

theorem at_gate (c : Dev nD) (i : Fin 8704) (j : Fin 4) : V m c main_v1 (ix2 i ⟨j.val, Nat.lt_trans j.isLt (by decide)⟩) = m ((c : Thread nD τ).loc main_arg2) (ix2 i j) := by
  rw [V_gate]
  pointwise
  exact dif_pos (fun (a : Fin 2) => match a with
    | 0 => ⟨Nat.zero_le _, Nat.mod_one _, (Nat.div_one _).trans_lt i.isLt⟩
    | 1 => ⟨Nat.zero_le _, Nat.mod_one _, (Nat.div_one _).trans_lt j.isLt⟩)

theorem at_g (c : Dev nD) (j : S1x2048.Idx) : V m c main_v4 j = m ((c : Thread nD τ).loc main_arg4) (ix1 (j 1)) := by
  rw [V_g]
  pointwise

theorem idx (t : Fin cfg0.N) : win0_0.index t = ![32 + t.val, 0] ∧ win0_1.index t = ![32 + t.val, 0] ∧ win0_2.index t = ![32 + t.val, 0]
    ∧ win0_3.index t = ![t.val, 0] ∧ win0_4.index t = ![0, 0] ∧ win0_5.index t = ![0, 0] ∧ win0_6.index t = ![0, 0] ∧ win0_7.index t = ![t.val, 0] := by
  revert t
  decide +kernel

theorem blk_x (c : Dev nD) (t : Fin cfg0.N) (y : S256x2048.Idx) (x : Fin 2048) (h) : iblk m c 0 t (ix2 (y 0) x) = m ((c : Thread nD τ).loc main_arg0) (ix2 ⟨8192 + (((cfg0.win 7).blk t).view.emb y 0).val, h⟩ x) := by
  refine (congrFun (V_x m c) _).trans ?_
  blk_ext [idx t]

theorem blk_x' (c : Dev nD) (t : Fin cfg0.N) (y : S256x2048.Idx) (h) : iblk m c 0 t y = m ((c : Thread nD τ).loc main_arg0) (ix2 ⟨8192 + (((cfg0.win 7).blk t).view.emb y 0).val, h⟩ (((cfg0.win 7).blk t).view.emb y 1)) := by
  refine (congrFun (V_x m c) _).trans ?_
  blk_ext [idx t]

theorem blk_y0 (c : Dev nD) (t : Fin cfg0.N) (y : S256x2048.Idx) (x : Fin 2048) (h h') : iblk m c 1 t (ix2 (y 0) ⟨x.val, h'⟩) = m ((c : Thread nD τ).loc main_arg1) (ix3 ⟨8192 + (((cfg0.win 7).blk t).view.emb y 0).val, h⟩ 0 x) := by
  refine (at_y m c _).trans ?_
  blk_ext [idx t]

theorem blk_y0' (c : Dev nD) (t : Fin cfg0.N) (y : S256x2048.Idx) (h h') : iblk m c 1 t (ix2 (y 0) ⟨(y 1).val, h'⟩) = m ((c : Thread nD τ).loc main_arg1) (ix3 ⟨8192 + (((cfg0.win 7).blk t).view.emb y 0).val, h⟩ 0 (((cfg0.win 7).blk t).view.emb y 1)) := by
  refine (at_y m c _).trans ?_
  blk_ext [idx t]

theorem blk_gate0 (c : Dev nD) (t : Fin cfg0.N) (y : S256x2048.Idx) (h) : iblk m c 2 t (ix2 (y 0) 0) = m ((c : Thread nD τ).loc main_arg2) (ix2 ⟨8192 + (((cfg0.win 7).blk t).view.emb y 0).val, h⟩ 0) := by
  refine Eq.trans ?_ (at_gate m c ⟨8192 + (((cfg0.win 7).blk t).view.emb y 0).val, h⟩ 0)
  refine congrArg (V m c main_v1) ?_
  blk_ext [idx t]

theorem blk_y1 (c : Dev nD) (t : Fin cfg0.N) (y : S256x2048.Idx) (x : Fin 2048) (h h') : iblk m c 1 t (ix2 (y 0) ⟨2048 + x.val, h'⟩) = m ((c : Thread nD τ).loc main_arg1) (ix3 ⟨8192 + (((cfg0.win 7).blk t).view.emb y 0).val, h⟩ 1 x) := by
  refine (at_y m c _).trans ?_
  blk_ext [idx t]

theorem blk_y1' (c : Dev nD) (t : Fin cfg0.N) (y : S256x2048.Idx) (h h') : iblk m c 1 t (ix2 (y 0) ⟨2048 + (y 1).val, h'⟩) = m ((c : Thread nD τ).loc main_arg1) (ix3 ⟨8192 + (((cfg0.win 7).blk t).view.emb y 0).val, h⟩ 1 (((cfg0.win 7).blk t).view.emb y 1)) := by
  refine (at_y m c _).trans ?_
  blk_ext [idx t]

theorem blk_gate1 (c : Dev nD) (t : Fin cfg0.N) (y : S256x2048.Idx) (h) : iblk m c 2 t (ix2 (y 0) 1) = m ((c : Thread nD τ).loc main_arg2) (ix2 ⟨8192 + (((cfg0.win 7).blk t).view.emb y 0).val, h⟩ 1) := by
  refine Eq.trans ?_ (at_gate m c ⟨8192 + (((cfg0.win 7).blk t).view.emb y 0).val, h⟩ 1)
  refine congrArg (V m c main_v1) ?_
  blk_ext [idx t]

theorem blk_y2 (c : Dev nD) (t : Fin cfg0.N) (y : S256x2048.Idx) (x : Fin 2048) (h h') : iblk m c 1 t (ix2 (y 0) ⟨4096 + x.val, h'⟩) = m ((c : Thread nD τ).loc main_arg1) (ix3 ⟨8192 + (((cfg0.win 7).blk t).view.emb y 0).val, h⟩ 2 x) := by
  refine (at_y m c _).trans ?_
  blk_ext [idx t]

theorem blk_y2' (c : Dev nD) (t : Fin cfg0.N) (y : S256x2048.Idx) (h h') : iblk m c 1 t (ix2 (y 0) ⟨4096 + (y 1).val, h'⟩) = m ((c : Thread nD τ).loc main_arg1) (ix3 ⟨8192 + (((cfg0.win 7).blk t).view.emb y 0).val, h⟩ 2 (((cfg0.win 7).blk t).view.emb y 1)) := by
  refine (at_y m c _).trans ?_
  blk_ext [idx t]

theorem blk_gate2 (c : Dev nD) (t : Fin cfg0.N) (y : S256x2048.Idx) (h) : iblk m c 2 t (ix2 (y 0) 2) = m ((c : Thread nD τ).loc main_arg2) (ix2 ⟨8192 + (((cfg0.win 7).blk t).view.emb y 0).val, h⟩ 2) := by
  refine Eq.trans ?_ (at_gate m c ⟨8192 + (((cfg0.win 7).blk t).view.emb y 0).val, h⟩ 2)
  refine congrArg (V m c main_v1) ?_
  blk_ext [idx t]

theorem blk_y3 (c : Dev nD) (t : Fin cfg0.N) (y : S256x2048.Idx) (x : Fin 2048) (h h') : iblk m c 1 t (ix2 (y 0) ⟨6144 + x.val, h'⟩) = m ((c : Thread nD τ).loc main_arg1) (ix3 ⟨8192 + (((cfg0.win 7).blk t).view.emb y 0).val, h⟩ 3 x) := by
  refine (at_y m c _).trans ?_
  blk_ext [idx t]

theorem blk_y3' (c : Dev nD) (t : Fin cfg0.N) (y : S256x2048.Idx) (h h') : iblk m c 1 t (ix2 (y 0) ⟨6144 + (y 1).val, h'⟩) = m ((c : Thread nD τ).loc main_arg1) (ix3 ⟨8192 + (((cfg0.win 7).blk t).view.emb y 0).val, h⟩ 3 (((cfg0.win 7).blk t).view.emb y 1)) := by
  refine (at_y m c _).trans ?_
  blk_ext [idx t]

theorem blk_gate3 (c : Dev nD) (t : Fin cfg0.N) (y : S256x2048.Idx) (h) : iblk m c 2 t (ix2 (y 0) 3) = m ((c : Thread nD τ).loc main_arg2) (ix2 ⟨8192 + (((cfg0.win 7).blk t).view.emb y 0).val, h⟩ 3) := by
  refine Eq.trans ?_ (at_gate m c ⟨8192 + (((cfg0.win 7).blk t).view.emb y 0).val, h⟩ 3)
  refine congrArg (V m c main_v1) ?_
  blk_ext [idx t]

theorem blk_p (c : Dev nD) (t : Fin cfg0.N) (y : S256x2048.Idx) (k : Fin 256) : iblk m c 3 t (ix2 (y 0) k) = m ((c : Thread nD τ).loc main_arg3) (ix2 (((cfg0.win 7).blk t).view.emb y 0) k) := by
  refine (congrFun (V_p m c) _).trans ?_
  blk_ext [idx t]

theorem blk_g (c : Dev nD) (t : Fin cfg0.N) (y : S256x2048.Idx) (x : Fin 2048) : iblk m c 4 t (ix2 0 x) = m ((c : Thread nD τ).loc main_arg4) (ix1 x) := by
  refine (at_g m c _).trans ?_
  blk_ext [idx t]

theorem blk_w (c : Dev nD) (t : Fin cfg0.N) (y : S256x2048.Idx) (x : Fin 2048) : iblk m c 5 t (ix2 x (y 1)) = m ((c : Thread nD τ).loc main_arg5) (ix2 x (((cfg0.win 7).blk t).view.emb y 1)) := by
  refine (congrFun (V_w m c) _).trans ?_
  blk_ext [idx t]

theorem blk_u (c : Dev nD) (t : Fin cfg0.N) (y : S256x2048.Idx) (k : Fin 256) : iblk m c 6 t (ix2 k (y 1)) = m ((c : Thread nD τ).loc main_arg6) (ix2 k (((cfg0.win 7).blk t).view.emb y 1)) := by
  refine (congrFun (V_u m c) _).trans ?_
  blk_ext [idx t]

theorem four (a : EReal) (g u : Fin 4 → EReal) : a + g 0 * u 0 + g 1 * u 1 + g 2 * u 2 + g 3 * u 3 = a + ∑ j, g j * u j := by
  rw [Fin.sum_univ_four]
  simp only [add_assoc]

theorem row (c : Dev nD) (t : Fin cfg0.N) (y : S256x2048.Idx) (x : Fin 2048) (h h0 h1 h2 h3) : @HAdd.hAdd EReal EReal EReal instHAdd (@HAdd.hAdd EReal EReal EReal instHAdd (@HAdd.hAdd EReal EReal EReal instHAdd (@HAdd.hAdd EReal EReal EReal instHAdd (iblk m c 0 t (ix2 (y 0) x))
      (@HMul.hMul EReal EReal EReal instHMul (iblk m c 2 t (ix2 (y 0) 0)) (iblk m c 1 t (ix2 (y 0) ⟨x.val, h0⟩))))
      (@HMul.hMul EReal EReal EReal instHMul (iblk m c 2 t (ix2 (y 0) 1)) (iblk m c 1 t (ix2 (y 0) ⟨2048 + x.val, h1⟩))))
      (@HMul.hMul EReal EReal EReal instHMul (iblk m c 2 t (ix2 (y 0) 2)) (iblk m c 1 t (ix2 (y 0) ⟨4096 + x.val, h2⟩))))
      (@HMul.hMul EReal EReal EReal instHMul (iblk m c 2 t (ix2 (y 0) 3)) (iblk m c 1 t (ix2 (y 0) ⟨6144 + x.val, h3⟩)))
    = @HAdd.hAdd EReal EReal EReal instHAdd (m ((c : Thread nD τ).loc main_arg0) (ix2 ⟨8192 + (((cfg0.win 7).blk t).view.emb y 0).val, h⟩ x)) (∑ j : Fin 4, @HMul.hMul EReal EReal EReal instHMul (m ((c : Thread nD τ).loc main_arg2) (ix2 ⟨8192 + (((cfg0.win 7).blk t).view.emb y 0).val, h⟩ j)) (m ((c : Thread nD τ).loc main_arg1) (ix3 ⟨8192 + (((cfg0.win 7).blk t).view.emb y 0).val, h⟩ j x))) := by
  rw [blk_x m c t y x h, blk_y0 m c t y x h, blk_y1 m c t y x h, blk_y2 m c t y x h, blk_y3 m c t y x h,
    blk_gate0 m c t y h, blk_gate1 m c t y h, blk_gate2 m c t y h, blk_gate3 m c t y h]
  exact four _ (fun j => m ((c : Thread nD τ).loc main_arg2) (ix2 ⟨8192 + (((cfg0.win 7).blk t).view.emb y 0).val, h⟩ j)) (fun j => m ((c : Thread nD τ).loc main_arg1) (ix3 ⟨8192 + (((cfg0.win 7).blk t).view.emb y 0).val, h⟩ j x))

theorem row' (c : Dev nD) (t : Fin cfg0.N) (y : S256x2048.Idx) (h h0 h1 h2 h3) : @HAdd.hAdd EReal EReal EReal instHAdd (@HAdd.hAdd EReal EReal EReal instHAdd (@HAdd.hAdd EReal EReal EReal instHAdd (@HAdd.hAdd EReal EReal EReal instHAdd (iblk m c 0 t y)
      (@HMul.hMul EReal EReal EReal instHMul (iblk m c 2 t (ix2 (y 0) 0)) (iblk m c 1 t (ix2 (y 0) ⟨(y 1).val, h0⟩))))
      (@HMul.hMul EReal EReal EReal instHMul (iblk m c 2 t (ix2 (y 0) 1)) (iblk m c 1 t (ix2 (y 0) ⟨2048 + (y 1).val, h1⟩))))
      (@HMul.hMul EReal EReal EReal instHMul (iblk m c 2 t (ix2 (y 0) 2)) (iblk m c 1 t (ix2 (y 0) ⟨4096 + (y 1).val, h2⟩))))
      (@HMul.hMul EReal EReal EReal instHMul (iblk m c 2 t (ix2 (y 0) 3)) (iblk m c 1 t (ix2 (y 0) ⟨6144 + (y 1).val, h3⟩)))
    = @HAdd.hAdd EReal EReal EReal instHAdd (m ((c : Thread nD τ).loc main_arg0) (ix2 ⟨8192 + (((cfg0.win 7).blk t).view.emb y 0).val, h⟩ (((cfg0.win 7).blk t).view.emb y 1))) (∑ j : Fin 4, @HMul.hMul EReal EReal EReal instHMul (m ((c : Thread nD τ).loc main_arg2) (ix2 ⟨8192 + (((cfg0.win 7).blk t).view.emb y 0).val, h⟩ j)) (m ((c : Thread nD τ).loc main_arg1) (ix3 ⟨8192 + (((cfg0.win 7).blk t).view.emb y 0).val, h⟩ j (((cfg0.win 7).blk t).view.emb y 1)))) := by
  rw [blk_x' m c t y h, blk_y0' m c t y h, blk_y1' m c t y h, blk_y2' m c t y h, blk_y3' m c t y h,
    blk_gate0 m c t y h, blk_gate1 m c t y h, blk_gate2 m c t y h, blk_gate3 m c t y h]
  exact four _ (fun j => m ((c : Thread nD τ).loc main_arg2) (ix2 ⟨8192 + (((cfg0.win 7).blk t).view.emb y 0).val, h⟩ j)) (fun j => m ((c : Thread nD τ).loc main_arg1) (ix3 ⟨8192 + (((cfg0.win 7).blk t).view.emb y 0).val, h⟩ j (((cfg0.win 7).blk t).view.emb y 1)))

theorem combine {A A' D D' p q : EReal} {X X' G G' W W' : Fin 2048 → EReal} (hA : A = A') (hX : ∀ x, X x = X' x) (hG : ∀ x, G x = G' x) (hW : ∀ x, W x = W' x) (hD : D = D') :
    A + Ideal.div 1 (1 + Ideal.exp (0 - ∑ x, X x * Ideal.rsqrt (Ideal.div (∑ x, X x * X x) p + q) * G x * W x)) * D
      = A' + Ideal.div 1 (1 + Ideal.exp (-∑ x, X' x * Ideal.rsqrt (Ideal.div (∑ x, X' x * X' x) p + q) * G' x * W' x)) * D' := by
  obtain rfl : X = X' := funext hX
  obtain rfl : G = G' := funext hG
  obtain rfl : W = W' := funext hW
  rw [hA, hD, zero_sub]

theorem out (c : Dev nD) : (dats m 0 c).arrAt 7 cfg0.N = ref (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t hf y => ?_
  blk_simp
  rw [after0_7]
  frame_out
  pointwise [k0_pay1, k0_pay3, k0_pay2, ref]
  exact combine (row' m c t y _ _ _ _ _) (fun x => row m c t y x _ _ _ _ _) (fun x => blk_g m c t y x) (fun x => blk_w m c t y x)
    (Finset.sum_congr rfl fun k _ => congrArg₂ (fun a b : EReal => a * b) (blk_p m c t y k) (blk_u m c t y k))

theorem frame : Cert.quiescent_Kernel10 (hKernel10 := Cert.Kernel10.Gen.facts) :=
  fun m ρ _ => Cert.Kernel10.Gen.frame m ρ

theorem frame_ideal : Cert.quiescent_Kernel10Ideal (hKernel10Ideal := Cert.Kernel10Ideal.Gen.facts) :=
  fun m ρ _ => Cert.Kernel10Ideal.Gen.frame m ρ

theorem frame_reference : Cert.quiescent_Reference10Ideal (hReference10Ideal := Cert.Reference10Ideal.Gen.facts) :=
  fun m ρ _ => (θ_run Cert.Reference10Ideal.defs _ _).mono (fun r h => ⟨fun c => (h c).2, sem_eq_zero_of_no_sems rfl r.2⟩)
    (Cert.Reference10Ideal.Value.run (F := Ideal) m ρ)

theorem algebraic : Cert.algebraic_Kernel10Ideal_Reference10Ideal (hKernel10Ideal := Cert.Kernel10Ideal.Gen.facts) (hReference10Ideal := Cert.Reference10Ideal.Gen.facts) := by
  intro m g m' g' _ hagree
  refine ⟨fun c => ref (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)), ?_, ?_⟩
  · exact (θ_run Cert.Kernel10Ideal.defs _ _).mono (fun r h c => ⟨(h c).1.trans (out m c), (h c).2⟩) (Cert.Kernel10Ideal.Value.run_blocks (F := Ideal) m g)
  · refine (θ_run Cert.Reference10Ideal.defs _ _).mono (fun r h c => ⟨(h c).1.trans ?_, (h c).2⟩) (Cert.Reference10Ideal.Value.run (F := Ideal) m' g')
    obtain ⟨h0, h1, h2, h3, h4, h5, h6⟩ := hagree c
    rw [h0, h1, h2, h3, h4, h5, h6]
    rfl

end Cert.CombineS
-- ==== Proof.Mm11Run.lean ====
module

public import proofs.«01_k».proof.Proof.Gen.Kernel11Ideal
public import proofs.«01_k».proof.Proof.Gen.Kernel11Ideal.Frame

@[expose] public section

set_option maxRecDepth 16384

noncomputable section

namespace Cert.States

open Cert.Kernel11Ideal Cert.Kernel11Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run : θ_run defs (onTc (τ := τ) (main (F := F))) ⟨m, fun _ => 0, ρ⟩ (fun r => (∀ c : Dev nD,
      r.2.mem ((c.tc : Thread nD τ).loc main_v30) = W7 m ρ c (Proc.devRef .tc main_v30) ∧
      r.2.mem ((c.tc : Thread nD τ).loc main_v32) = W7 m ρ c (Proc.devRef .tc main_v32) ∧
      r.2.mem ((c.tc : Thread nD τ).loc main_v33) = W7 m ρ c (Proc.devRef .tc main_v33) ∧
      r.2.mem ((c.tc : Thread nD τ).loc main_v35) = W7 m ρ c (Proc.devRef .tc main_v35) ∧
      r.2.mem ((c.tc : Thread nD τ).loc main_v37) = W7 m ρ c (Proc.devRef .tc main_v37) ∧
      r.2.mem ((c.tc : Thread nD τ).loc main_v38) = W7 m ρ c (Proc.devRef .tc main_v38) ∧
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨(fun c =>
      ⟨h c _ (mem_uc main_v30 (by decide)),
       h c _ (mem_uc main_v32 (by decide)),
       h c _ (mem_uc main_v33 (by decide)),
       h c _ (mem_uc main_v35 (by decide)),
       h c _ (mem_uc main_v37 (by decide)),
       h c _ (mem_uc main_v38 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c)⟩), funext fun g => hz g (.inr (no_unscoped g.2))⟩)

end Cert.States
-- ==== Proof.Mm11Val.lean ====
module

public import proofs.«01_k».proof.Proof.Gen.Kernel11Ideal
public import proofs.«01_k».proof.Proof.Gen.Kernel11Ideal.Frame
public import Idealize.ShloMosaic.Lib.Pipeline.ValueKit
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem

namespace Cert.States

/-- A row over its root mean square, times the gain, at `k`. -/
def rowH (x g : Fin 2048 → EReal) (k : Fin 2048) : EReal :=
  x k * Ideal.rsqrt (Ideal.div (∑ i, x i * x i) (Ideal.ofBits FTy.f32 0x45000000#32) + Ideal.ofBits FTy.f32 0x358637BD#32) * g k

/-- A row's product with a column. -/
def rowDot (x w : Fin 2048 → EReal) : EReal := ∑ k, x k * w k

/-- The gated product of a row with two columns. -/
def rowGlu (x a b : Fin 2048 → EReal) : EReal :=
  rowDot x a * Ideal.div 1 (1 + Ideal.exp (-rowDot x b))

/-- A row's latents: its products with 512 columns over their root mean square, times the gain, at `n`. -/
def rowKv (x : Fin 2048 → EReal) (w : Fin 512 → Fin 2048 → EReal) (g : Fin 512 → EReal) (n : Fin 512) : EReal :=
  rowDot x (w n) * Ideal.rsqrt (Ideal.div (∑ i, rowDot x (w i) * rowDot x (w i)) (Ideal.ofBits FTy.f32 0x44000000#32) + Ideal.ofBits FTy.f32 0x358637BD#32) * g n

open Cert.Kernel11Ideal Cert.Kernel11Ideal.Gen

variable (V : (c : Dev nD) → (b : Ref sig .tc) → Buf (Elt Ideal) ((c : Thread nD τ).loc b))

theorem idx0 (t : Fin cfg0.N) : win0_0.index t = ![t.val, 0] ∧ win0_1.index t = ![0, 0] ∧ win0_2.index t = ![t.val, 0] := by
  revert t
  decide +kernel

theorem blk0_x (c : Dev nD) (t : Fin cfg0.N) (y : S512x2048.Idx) (k : Fin 2048) :
    iblk0 V c 0 t (ix2 (y 0) k) = V c main_v2 (ix2 (((cfg0.win 2).blk t).view.emb y 0) k) := by
  blk_ext [iblk0, idx0 t]

theorem blk0_y (c : Dev nD) (t : Fin cfg0.N) (y : S512x2048.Idx) :
    iblk0 V c 0 t y = V c main_v2 (((cfg0.win 2).blk t).view.emb y) := by
  blk_ext [iblk0, idx0 t]

theorem blk0_g (c : Dev nD) (t : Fin cfg0.N) (y : S512x2048.Idx) :
    iblk0 V c 1 t (ix2 0 (y 1)) = V c main_v4 (ix2 0 (((cfg0.win 2).blk t).view.emb y 1)) := by
  blk_ext [iblk0, idx0 t]

/-- What the first call leaves. -/
def hOf (x : FVec Ideal S8704x2048 .f32) (g : FVec Ideal S1x2048 .f32) : FVec Ideal S8704x2048 .bf16 :=
  fun j => rowH (fun k => x (ix2 (j 0) k)) (fun k => g (ix2 0 k)) (j 1)

theorem out0 (c : Dev nD) : (dat0 V c).arrAt 2 cfg0.N = hOf (V c main_v2) (V c main_v4) := by
  refine (dat0 V c).arrAt_eq_of_covers 2 _ (by decide +kernel) fun t hf y => ?_
  blk_simp
  rw [after0_2]
  frame_out
  pointwise [k0_pay1, hOf, rowH]
  rw [Finset.sum_congr rfl fun k _ => congrArg₂ (fun a b : EReal => a * b) (blk0_x V c t y k) (blk0_x V c t y k), blk0_g V c t y, blk0_y V c t y]

theorem idx1 (t : Fin cfg1.N) : win1_0.index t = ![t.val % 17, 0] ∧ win1_1.index t = ![0, t.val / 17] ∧ win1_2.index t = ![0, t.val / 17]
    ∧ win1_3.index t = ![t.val % 17, t.val / 17] := by
  revert t
  decide +kernel

theorem blk1_h (c : Dev nD) (t : Fin cfg1.N) (y : S512x512.Idx) (k : Fin 2048) :
    iblk1 V c 0 t (ix2 (y 0) k) = V c main_v5 (ix2 (((cfg1.win 3).blk t).view.emb y 0) k) := by
  blk_ext [iblk1, idx1 t]

theorem blk1_a (c : Dev nD) (t : Fin cfg1.N) (y : S512x512.Idx) (k : Fin 2048) :
    iblk1 V c 1 t (ix2 k (y 1)) = V c main_v8 (ix2 k (((cfg1.win 3).blk t).view.emb y 1)) := by
  blk_ext [iblk1, idx1 t]

theorem blk1_b (c : Dev nD) (t : Fin cfg1.N) (y : S512x512.Idx) (k : Fin 2048) :
    iblk1 V c 2 t (ix2 k (y 1)) = V c main_v11 (ix2 k (((cfg1.win 3).blk t).view.emb y 1)) := by
  blk_ext [iblk1, idx1 t]

/-- What the second call leaves. -/
def gluOf (h : FVec Ideal S8704x2048 .bf16) (a b : FVec Ideal S2048x2048 .bf16) : FVec Ideal S8704x2048 .f32 :=
  fun j => rowGlu (fun k => h (ix2 (j 0) k)) (fun k => a (ix2 k (j 1))) (fun k => b (ix2 k (j 1)))

theorem out1 (c : Dev nD) : (dat1 V c).arrAt 3 cfg1.N = gluOf (V c main_v5) (V c main_v8) (V c main_v11) := by
  refine (dat1 V c).arrAt_eq_of_covers 3 _ (by decide +kernel) fun t hf y => ?_
  blk_simp
  rw [after1_3]
  frame_out
  pointwise [k1_pay1, gluOf, rowGlu, rowDot]
  rw [zero_sub, Finset.sum_congr rfl fun k _ => congrArg₂ (fun a b : EReal => a * b) (blk1_h V c t y k) (blk1_a V c t y k),
    Finset.sum_congr rfl fun k _ => congrArg₂ (fun a b : EReal => a * b) (blk1_h V c t y k) (blk1_b V c t y k)]

theorem idx2 (t : Fin cfg2.N) : win2_0.index t = ![t.val, 0] ∧ win2_1.index t = ![0, 0] ∧ win2_2.index t = ![0, 0] ∧ win2_3.index t = ![0, 0]
    ∧ win2_4.index t = ![t.val, 0] ∧ win2_5.index t = ![t.val, 0] ∧ win2_6.index t = ![t.val, 0] := by
  revert t
  decide +kernel

theorem blk2_h (c : Dev nD) (t : Fin cfg2.N) (i : Fin 512) (r : Fin 8704) (hr : r.val = t.val * 512 + i.val) (k : Fin 2048) :
    iblk2 V c 0 t (ix2 i k) = V c main_v5 (ix2 r k) := by
  blk_ext [iblk2, idx2 t, hr]

theorem blk2_w (c : Dev nD) (t : Fin cfg2.N) (k : Fin 2048) (n : Fin 1088) :
    iblk2 V c 1 t (ix2 k n) = V c main_v15 (ix2 k n) := by
  blk_ext [iblk2, idx2 t]

theorem blk2_g (c : Dev nD) (t : Fin cfg2.N) (n : Fin 512) :
    iblk2 V c 3 t (ix2 0 n) = V c main_v19 (ix2 0 n) := by
  blk_ext [iblk2, idx2 t]

theorem row5 (t : Fin cfg2.N) (y : S512x512.Idx) : (((cfg2.win 5).blk t).view.emb y 0).val = t.val * 512 + (y 0).val := by
  blk_ext [idx2 t]

theorem col5 (t : Fin cfg2.N) (y : S512x512.Idx) : ((cfg2.win 5).blk t).view.emb y 1 = y 1 := by
  refine Fin.ext ?_
  blk_simp [idx2 t]

theorem row6 (t : Fin cfg2.N) (y : S512x64.Idx) : (((cfg2.win 6).blk t).view.emb y 0).val = t.val * 512 + (y 0).val := by
  blk_ext [idx2 t]

theorem col6 (t : Fin cfg2.N) (y : S512x64.Idx) : ((cfg2.win 6).blk t).view.emb y 1 = y 1 := by
  refine Fin.ext ?_
  blk_simp [idx2 t]

/-- The latents the third call leaves. -/
def kvOf (h : FVec Ideal S8704x2048 .bf16) (w : FVec Ideal S2048x1088 .bf16) (g : FVec Ideal S1x512 .f32) : FVec Ideal S8704x512 .f32 :=
  fun j => rowKv (fun k => h (ix2 (j 0) k)) (fun n k => w (ix2 k ⟨512 + n.val, Nat.lt_of_lt_of_le (Nat.add_lt_add_left n.isLt 512) (by decide : 512 + 512 ≤ 1088)⟩))
    (fun n => g (ix2 0 n)) (j 1)

/-- The rope keys the third call leaves. -/
def krOf (h : FVec Ideal S8704x2048 .bf16) (w : FVec Ideal S2048x1088 .bf16) : FVec Ideal S8704x64 .f32 :=
  fun j => rowDot (fun k => h (ix2 (j 0) k)) (fun k => w (ix2 k ⟨1024 + (j 1).val, Nat.lt_of_lt_of_le (Nat.add_lt_add_left (j 1).isLt 1024) (by decide : 1024 + 64 ≤ 1088)⟩))

theorem dot2 (c : Dev nD) (t : Fin cfg2.N) (i : Fin 512) (r : Fin 8704) (hr : r.val = t.val * 512 + i.val) (n n' : Fin 1088) (hn : n = n') :
    (∑ k, @HMul.hMul EReal EReal EReal instHMul (iblk2 V c 0 t (ix2 i k)) (iblk2 V c 1 t (ix2 k n)))
      = ∑ k, @HMul.hMul EReal EReal EReal instHMul (V c main_v5 (ix2 r k)) (V c main_v15 (ix2 k n')) := by
  subst hn
  exact Finset.sum_congr rfl fun k _ => congrArg₂ (fun a b : EReal => a * b) (blk2_h V c t i r hr k) (blk2_w V c t k n)

theorem out2kv (c : Dev nD) : (dat2 V c).arrAt 5 cfg2.N = kvOf (V c main_v5) (V c main_v15) (V c main_v19) := by
  refine (dat2 V c).arrAt_eq_of_covers 5 _ (by decide +kernel) fun t hf y => ?_
  blk_simp
  rw [after2_5]
  frame_out
  pointwise [k2_pay2, k2_pay4, kvOf, rowKv, rowDot]
  exact congrArg₂ (fun a b : EReal => a * b)
    (congrArg₂ (fun a b : EReal => a * b) (dot2 V c t (y 0) _ (row5 t y) _ _ (Fin.ext (congrArg (fun j : Fin 512 => 512 + j.val) (col5 t y).symm)))
      (congrArg (fun s => Ideal.rsqrt (Ideal.div s (Ideal.ofBits FTy.f32 1140850688#32) + Ideal.ofBits FTy.f32 897988541#32))
        (Finset.sum_congr rfl fun x _ => congrArg₂ (fun a b : EReal => a * b) (dot2 V c t (y 0) _ (row5 t y) _ _ rfl) (dot2 V c t (y 0) _ (row5 t y) _ _ rfl))))
    ((blk2_g V c t (y 1)).trans (congrArg (fun j => V c main_v19 (ix2 0 j)) (col5 t y).symm))

theorem out2kr (c : Dev nD) : (dat2 V c).arrAt 6 cfg2.N = krOf (V c main_v5) (V c main_v15) := by
  refine (dat2 V c).arrAt_eq_of_covers 6 _ (by decide +kernel) fun t hf y => ?_
  blk_simp
  rw [after2_6]
  frame_out
  pointwise [k2_pay2, k2_pay1, krOf, rowDot]
  exact dot2 V c t (y 0) _ (row6 t y) _ _ (Fin.ext (congrArg (fun j : Fin 64 => 1024 + j.val) (col6 t y).symm))

end Cert.States
-- ==== Proof.Mm11.lean ====
module

public import proofs.«01_k».proof.Defs
public import proofs.«01_k».proof.Proof.Gen.Kernel11
public import proofs.«01_k».proof.Proof.Gen.Kernel11.Frame
public import proofs.«01_k».proof.Proof.Gen.Reference11Ideal
public import proofs.«01_k».proof.Proof.Gen.Reference11Ideal.Run
public import proofs.«01_k».proof.Proof.Mm11Run
public import proofs.«01_k».proof.Proof.Mm11Val

@[expose] public section

set_option maxRecDepth 65536

noncomputable section

open Idealize.ShloMosaic Idealize.ShloMosaic.TcCoe Idealize.SL.Sem

namespace Cert.States

section
open Cert.Reference11Ideal Cert.Reference11Ideal.Gen

def refKvP (a0 : FVec Ideal S2x4096x2048 .f32) (a3 : FVec Ideal S1x2048 .f32) (a4 : FVec Ideal S1x2048x9280 .f32) (a6 : FVec Ideal S1x512 .f32) : FVec Ideal S1x2x4096x512 .f32 :=
  broadcastInDim S1x2x4096x512 ![1, 2, 3] bcast_S2x4096x512_S1x2x4096x512_1_2_3 (mulf (mulf (extractStridedSlice S2x4096x512 ![0, 0, 4608] (Host.dotGeneral dot_S2x4096x2048_S2048x9280_S2x4096x9280_2_0_01_1_n_n none (mulf (mulf a0 (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf a0 a0) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32)))))) (broadcastInDim S2x4096x2048 ![0, 1, 2] bcast_S1x1x2048_S2x4096x2048_0_1_2 (broadcastInDim S1x1x2048 ![2] bcast_S2048_S1x1x2048_2 (shapeCast _ a3 shapeCasts_S1x2048_S2048)))) (shapeCast _ a4 shapeCasts_S1x2048x9280_S2048x9280)) slices_S2x4096x9280_S2x4096x512_0_0_4608) (broadcastInDim S2x4096x512 ![0, 1, 2] bcast_S2x4096x1_S2x4096x512_0_1_2 (Host.rsqrt (addf (Host.divf (broadcastInDim S2x4096x1 ![0, 1] bcast_S2x4096_S2x4096x1_0_1 (Host.reduceAdd (mulf (extractStridedSlice S2x4096x512 ![0, 0, 4608] (Host.dotGeneral dot_S2x4096x2048_S2048x9280_S2x4096x9280_2_0_01_1_n_n none (mulf (mulf a0 (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf a0 a0) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32)))))) (broadcastInDim S2x4096x2048 ![0, 1, 2] bcast_S1x1x2048_S2x4096x2048_0_1_2 (broadcastInDim S1x1x2048 ![2] bcast_S2048_S1x1x2048_2 (shapeCast _ a3 shapeCasts_S1x2048_S2048)))) (shapeCast _ a4 shapeCasts_S1x2048x9280_S2048x9280)) slices_S2x4096x9280_S2x4096x512_0_0_4608) (extractStridedSlice S2x4096x512 ![0, 0, 4608] (Host.dotGeneral dot_S2x4096x2048_S2048x9280_S2x4096x9280_2_0_01_1_n_n none (mulf (mulf a0 (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf a0 a0) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32)))))) (broadcastInDim S2x4096x2048 ![0, 1, 2] bcast_S1x1x2048_S2x4096x2048_0_1_2 (broadcastInDim S1x1x2048 ![2] bcast_S2048_S1x1x2048_2 (shapeCast _ a3 shapeCasts_S1x2048_S2048)))) (shapeCast _ a4 shapeCasts_S1x2048x9280_S2048x9280)) slices_S2x4096x9280_S2x4096x512_0_0_4608)) (constant S_ .f32 0x00000000#32) reducesTo_S2x4096x512_S2x4096_d2 h_S_)) (broadcastInDim S2x4096x1 ![] bcast_S_S2x4096x1 (constant S_ .f32 0x44000000#32))) (broadcastInDim S2x4096x1 ![] bcast_S_S2x4096x1 (constant S_ .f32 0x358637BD#32)))))) (broadcastInDim S2x4096x512 ![0, 1, 2] bcast_S1x1x512_S2x4096x512_0_1_2 (broadcastInDim S1x1x512 ![2] bcast_S512_S1x1x512_2 (shapeCast _ a6 shapeCasts_S1x512_S512))))

def refKrP (a0 : FVec Ideal S2x4096x2048 .f32) (a3 : FVec Ideal S1x2048 .f32) (a4 : FVec Ideal S1x2048x9280 .f32) : FVec Ideal S1x2x4096x64 .f32 :=
  broadcastInDim S1x2x4096x64 ![1, 2, 3] bcast_S2x4096x64_S1x2x4096x64_1_2_3 (extractStridedSlice S2x4096x64 ![0, 0, 5120] (Host.dotGeneral dot_S2x4096x2048_S2048x9280_S2x4096x9280_2_0_01_1_n_n none (mulf (mulf a0 (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf a0 a0) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32)))))) (broadcastInDim S2x4096x2048 ![0, 1, 2] bcast_S1x1x2048_S2x4096x2048_0_1_2 (broadcastInDim S1x1x2048 ![2] bcast_S2048_S1x1x2048_2 (shapeCast _ a3 shapeCasts_S1x2048_S2048)))) (shapeCast _ a4 shapeCasts_S1x2048x9280_S2048x9280)) slices_S2x4096x9280_S2x4096x64_0_0_5120)

def refConvP (a0 : FVec Ideal S2x4096x2048 .f32) (a3 : FVec Ideal S1x2048 .f32) (a4 : FVec Ideal S1x2048x9280 .f32) : FVec Ideal S1x2x30x2048 .f32 :=
  broadcastInDim S1x2x30x2048 ![1, 2, 3] bcast_S2x30x2048_S1x2x30x2048_1_2_3 (extractStridedSlice S2x30x2048 ![0, 4096, 0] (concatenate S2x4126x2048 1 [⟨S2x30x2048, (broadcastInDim S2x30x2048 ![] bcast_S_S2x30x2048 (constant S_ .f32 0x00000000#32))⟩, ⟨S2x4096x2048, (mulf (extractStridedSlice S2x4096x2048 ![0, 0, 0] (extractStridedSlice S2x4096x4096 ![0, 0, 0] (Host.dotGeneral dot_S2x4096x2048_S2048x9280_S2x4096x9280_2_0_01_1_n_n none (mulf (mulf a0 (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf a0 a0) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32)))))) (broadcastInDim S2x4096x2048 ![0, 1, 2] bcast_S1x1x2048_S2x4096x2048_0_1_2 (broadcastInDim S1x1x2048 ![2] bcast_S2048_S1x1x2048_2 (shapeCast _ a3 shapeCasts_S1x2048_S2048)))) (shapeCast _ a4 shapeCasts_S1x2048x9280_S2048x9280)) slices_S2x4096x9280_S2x4096x4096_0_0_0) slices_S2x4096x4096_S2x4096x2048_0_0_0) (Host.divf (broadcastInDim S2x4096x2048 ![] bcast_S_S2x4096x2048 (constant S_ .f32 0x3F800000#32)) (addf (broadcastInDim S2x4096x2048 ![] bcast_S_S2x4096x2048 (constant S_ .f32 0x3F800000#32)) (Host.exp (Host.negf (extractStridedSlice S2x4096x2048 ![0, 0, 2048] (extractStridedSlice S2x4096x4096 ![0, 0, 0] (Host.dotGeneral dot_S2x4096x2048_S2048x9280_S2x4096x9280_2_0_01_1_n_n none (mulf (mulf a0 (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf a0 a0) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32)))))) (broadcastInDim S2x4096x2048 ![0, 1, 2] bcast_S1x1x2048_S2x4096x2048_0_1_2 (broadcastInDim S1x1x2048 ![2] bcast_S2048_S1x1x2048_2 (shapeCast _ a3 shapeCasts_S1x2048_S2048)))) (shapeCast _ a4 shapeCasts_S1x2048x9280_S2048x9280)) slices_S2x4096x9280_S2x4096x4096_0_0_0) slices_S2x4096x4096_S2x4096x2048_0_0_2048))))))⟩] concatenates_S2x30x2048_S2x4096x2048_S2x4126x2048_d1) slices_S2x4126x2048_S2x30x2048_0_4096_0)

def refKvS (a1 : FVec Ideal S8x64x2048 .f32) (a3 : FVec Ideal S1x2048 .f32) (a4 : FVec Ideal S1x2048x9280 .f32) (a6 : FVec Ideal S1x512 .f32) : FVec Ideal S1x8x64x512 .f32 :=
  broadcastInDim S1x8x64x512 ![1, 2, 3] bcast_S8x64x512_S1x8x64x512_1_2_3 (mulf (mulf (extractStridedSlice S8x64x512 ![0, 0, 4608] (Host.dotGeneral dot_S8x64x2048_S2048x9280_S8x64x9280_2_0_01_1_n_n none (mulf (mulf a1 (broadcastInDim S8x64x2048 ![0, 1, 2] bcast_S8x64x1_S8x64x2048_0_1_2 (Host.rsqrt (addf (Host.divf (broadcastInDim S8x64x1 ![0, 1] bcast_S8x64_S8x64x1_0_1 (Host.reduceAdd (mulf a1 a1) (constant S_ .f32 0x00000000#32) reducesTo_S8x64x2048_S8x64_d2 h_S_)) (broadcastInDim S8x64x1 ![] bcast_S_S8x64x1 (constant S_ .f32 0x45000000#32))) (broadcastInDim S8x64x1 ![] bcast_S_S8x64x1 (constant S_ .f32 0x358637BD#32)))))) (broadcastInDim S8x64x2048 ![0, 1, 2] bcast_S1x1x2048_S8x64x2048_0_1_2 (broadcastInDim S1x1x2048 ![2] bcast_S2048_S1x1x2048_2 (shapeCast _ a3 shapeCasts_S1x2048_S2048)))) (shapeCast _ a4 shapeCasts_S1x2048x9280_S2048x9280)) slices_S8x64x9280_S8x64x512_0_0_4608) (broadcastInDim S8x64x512 ![0, 1, 2] bcast_S8x64x1_S8x64x512_0_1_2 (Host.rsqrt (addf (Host.divf (broadcastInDim S8x64x1 ![0, 1] bcast_S8x64_S8x64x1_0_1 (Host.reduceAdd (mulf (extractStridedSlice S8x64x512 ![0, 0, 4608] (Host.dotGeneral dot_S8x64x2048_S2048x9280_S8x64x9280_2_0_01_1_n_n none (mulf (mulf a1 (broadcastInDim S8x64x2048 ![0, 1, 2] bcast_S8x64x1_S8x64x2048_0_1_2 (Host.rsqrt (addf (Host.divf (broadcastInDim S8x64x1 ![0, 1] bcast_S8x64_S8x64x1_0_1 (Host.reduceAdd (mulf a1 a1) (constant S_ .f32 0x00000000#32) reducesTo_S8x64x2048_S8x64_d2 h_S_)) (broadcastInDim S8x64x1 ![] bcast_S_S8x64x1 (constant S_ .f32 0x45000000#32))) (broadcastInDim S8x64x1 ![] bcast_S_S8x64x1 (constant S_ .f32 0x358637BD#32)))))) (broadcastInDim S8x64x2048 ![0, 1, 2] bcast_S1x1x2048_S8x64x2048_0_1_2 (broadcastInDim S1x1x2048 ![2] bcast_S2048_S1x1x2048_2 (shapeCast _ a3 shapeCasts_S1x2048_S2048)))) (shapeCast _ a4 shapeCasts_S1x2048x9280_S2048x9280)) slices_S8x64x9280_S8x64x512_0_0_4608) (extractStridedSlice S8x64x512 ![0, 0, 4608] (Host.dotGeneral dot_S8x64x2048_S2048x9280_S8x64x9280_2_0_01_1_n_n none (mulf (mulf a1 (broadcastInDim S8x64x2048 ![0, 1, 2] bcast_S8x64x1_S8x64x2048_0_1_2 (Host.rsqrt (addf (Host.divf (broadcastInDim S8x64x1 ![0, 1] bcast_S8x64_S8x64x1_0_1 (Host.reduceAdd (mulf a1 a1) (constant S_ .f32 0x00000000#32) reducesTo_S8x64x2048_S8x64_d2 h_S_)) (broadcastInDim S8x64x1 ![] bcast_S_S8x64x1 (constant S_ .f32 0x45000000#32))) (broadcastInDim S8x64x1 ![] bcast_S_S8x64x1 (constant S_ .f32 0x358637BD#32)))))) (broadcastInDim S8x64x2048 ![0, 1, 2] bcast_S1x1x2048_S8x64x2048_0_1_2 (broadcastInDim S1x1x2048 ![2] bcast_S2048_S1x1x2048_2 (shapeCast _ a3 shapeCasts_S1x2048_S2048)))) (shapeCast _ a4 shapeCasts_S1x2048x9280_S2048x9280)) slices_S8x64x9280_S8x64x512_0_0_4608)) (constant S_ .f32 0x00000000#32) reducesTo_S8x64x512_S8x64_d2 h_S_)) (broadcastInDim S8x64x1 ![] bcast_S_S8x64x1 (constant S_ .f32 0x44000000#32))) (broadcastInDim S8x64x1 ![] bcast_S_S8x64x1 (constant S_ .f32 0x358637BD#32)))))) (broadcastInDim S8x64x512 ![0, 1, 2] bcast_S1x1x512_S8x64x512_0_1_2 (broadcastInDim S1x1x512 ![2] bcast_S512_S1x1x512_2 (shapeCast _ a6 shapeCasts_S1x512_S512))))

def refKrS (a1 : FVec Ideal S8x64x2048 .f32) (a3 : FVec Ideal S1x2048 .f32) (a4 : FVec Ideal S1x2048x9280 .f32) : FVec Ideal S1x8x64x64 .f32 :=
  broadcastInDim S1x8x64x64 ![1, 2, 3] bcast_S8x64x64_S1x8x64x64_1_2_3 (extractStridedSlice S8x64x64 ![0, 0, 5120] (Host.dotGeneral dot_S8x64x2048_S2048x9280_S8x64x9280_2_0_01_1_n_n none (mulf (mulf a1 (broadcastInDim S8x64x2048 ![0, 1, 2] bcast_S8x64x1_S8x64x2048_0_1_2 (Host.rsqrt (addf (Host.divf (broadcastInDim S8x64x1 ![0, 1] bcast_S8x64_S8x64x1_0_1 (Host.reduceAdd (mulf a1 a1) (constant S_ .f32 0x00000000#32) reducesTo_S8x64x2048_S8x64_d2 h_S_)) (broadcastInDim S8x64x1 ![] bcast_S_S8x64x1 (constant S_ .f32 0x45000000#32))) (broadcastInDim S8x64x1 ![] bcast_S_S8x64x1 (constant S_ .f32 0x358637BD#32)))))) (broadcastInDim S8x64x2048 ![0, 1, 2] bcast_S1x1x2048_S8x64x2048_0_1_2 (broadcastInDim S1x1x2048 ![2] bcast_S2048_S1x1x2048_2 (shapeCast _ a3 shapeCasts_S1x2048_S2048)))) (shapeCast _ a4 shapeCasts_S1x2048x9280_S2048x9280)) slices_S8x64x9280_S8x64x64_0_0_5120)

def refConvS (a1 : FVec Ideal S8x64x2048 .f32) (a2 : FVec Ideal S1x8x30x2048 .f32) (a3 : FVec Ideal S1x2048 .f32) (a4 : FVec Ideal S1x2048x9280 .f32) : FVec Ideal S1x8x30x2048 .f32 :=
  broadcastInDim S1x8x30x2048 ![1, 2, 3] bcast_S8x30x2048_S1x8x30x2048_1_2_3 (extractStridedSlice S8x30x2048 ![0, 64, 0] (concatenate S8x94x2048 1 [⟨S8x30x2048, (shapeCast _ a2 shapeCasts_S1x8x30x2048_S8x30x2048)⟩, ⟨S8x64x2048, (mulf (extractStridedSlice S8x64x2048 ![0, 0, 0] (extractStridedSlice S8x64x4096 ![0, 0, 0] (Host.dotGeneral dot_S8x64x2048_S2048x9280_S8x64x9280_2_0_01_1_n_n none (mulf (mulf a1 (broadcastInDim S8x64x2048 ![0, 1, 2] bcast_S8x64x1_S8x64x2048_0_1_2 (Host.rsqrt (addf (Host.divf (broadcastInDim S8x64x1 ![0, 1] bcast_S8x64_S8x64x1_0_1 (Host.reduceAdd (mulf a1 a1) (constant S_ .f32 0x00000000#32) reducesTo_S8x64x2048_S8x64_d2 h_S_)) (broadcastInDim S8x64x1 ![] bcast_S_S8x64x1 (constant S_ .f32 0x45000000#32))) (broadcastInDim S8x64x1 ![] bcast_S_S8x64x1 (constant S_ .f32 0x358637BD#32)))))) (broadcastInDim S8x64x2048 ![0, 1, 2] bcast_S1x1x2048_S8x64x2048_0_1_2 (broadcastInDim S1x1x2048 ![2] bcast_S2048_S1x1x2048_2 (shapeCast _ a3 shapeCasts_S1x2048_S2048)))) (shapeCast _ a4 shapeCasts_S1x2048x9280_S2048x9280)) slices_S8x64x9280_S8x64x4096_0_0_0) slices_S8x64x4096_S8x64x2048_0_0_0) (Host.divf (broadcastInDim S8x64x2048 ![] bcast_S_S8x64x2048 (constant S_ .f32 0x3F800000#32)) (addf (broadcastInDim S8x64x2048 ![] bcast_S_S8x64x2048 (constant S_ .f32 0x3F800000#32)) (Host.exp (Host.negf (extractStridedSlice S8x64x2048 ![0, 0, 2048] (extractStridedSlice S8x64x4096 ![0, 0, 0] (Host.dotGeneral dot_S8x64x2048_S2048x9280_S8x64x9280_2_0_01_1_n_n none (mulf (mulf a1 (broadcastInDim S8x64x2048 ![0, 1, 2] bcast_S8x64x1_S8x64x2048_0_1_2 (Host.rsqrt (addf (Host.divf (broadcastInDim S8x64x1 ![0, 1] bcast_S8x64_S8x64x1_0_1 (Host.reduceAdd (mulf a1 a1) (constant S_ .f32 0x00000000#32) reducesTo_S8x64x2048_S8x64_d2 h_S_)) (broadcastInDim S8x64x1 ![] bcast_S_S8x64x1 (constant S_ .f32 0x45000000#32))) (broadcastInDim S8x64x1 ![] bcast_S_S8x64x1 (constant S_ .f32 0x358637BD#32)))))) (broadcastInDim S8x64x2048 ![0, 1, 2] bcast_S1x1x2048_S8x64x2048_0_1_2 (broadcastInDim S1x1x2048 ![2] bcast_S2048_S1x1x2048_2 (shapeCast _ a3 shapeCasts_S1x2048_S2048)))) (shapeCast _ a4 shapeCasts_S1x2048x9280_S2048x9280)) slices_S8x64x9280_S8x64x4096_0_0_0) slices_S8x64x4096_S8x64x2048_0_0_2048))))))⟩] concatenates_S8x30x2048_S8x64x2048_S8x94x2048_d1) slices_S8x94x2048_S8x30x2048_0_64_0)

end

open Cert.Kernel11Ideal Cert.Kernel11Ideal.Gen

variable (m : (ℓ : Loc nD τ sig) → Buf (Elt Ideal) ℓ) (ρ : Dev nD → PrngReg)

theorem cat0 (x0 : FVec Ideal S8192x2048 .f32) (x1 : FVec Ideal S512x2048 .f32) (i : Fin 8704) (k : Fin 2048) (h : i.val < 8192) :
    concatenate S8704x2048 0 [⟨S8192x2048, x0⟩, ⟨S512x2048, x1⟩] concatenates_S8192x2048_S512x2048_S8704x2048_d0 (ix2 i k) = x0 (ix2 ⟨i.val, h⟩ k) := by
  pointwise
  exact dif_pos h

theorem cat1 (x0 : FVec Ideal S8192x2048 .f32) (x1 : FVec Ideal S512x2048 .f32) (i : Fin 8704) (k : Fin 2048) (r : Fin 512) (h : i.val = 8192 + r.val) :
    concatenate S8704x2048 0 [⟨S8192x2048, x0⟩, ⟨S512x2048, x1⟩] concatenates_S8192x2048_S512x2048_S8704x2048_d0 (ix2 i k) = x1 (ix2 r k) := by
  pointwise
  exact (dif_neg (by omega)).trans (congrArg (fun r => x1 (ix2 r k)) (Fin.ext (by show i.val - 8192 = r.val; omega)))

theorem sc0 (x : FVec Ideal S2x4096x2048 .f32) (i : Fin 8192) (k : Fin 2048) (b : Fin 2) (s : Fin 4096) (h : i.val = b.val * 4096 + s.val) :
    shapeCast S8192x2048 x shapeCasts_S2x4096x2048_S8192x2048 (ix2 i k) = x (ix3 b s k) := by
  pointwise
  exact congrArg₂ (fun b s => x (ix3 b s k)) (Fin.ext (by show i.val / 4096 = b.val; omega)) (Fin.ext (by show i.val % 4096 = s.val; omega))

theorem sc1 (x : FVec Ideal S8x64x2048 .f32) (i : Fin 512) (k : Fin 2048) (b : Fin 8) (s : Fin 64) (h : i.val = b.val * 64 + s.val) :
    shapeCast S512x2048 x shapeCasts_S8x64x2048_S512x2048 (ix2 i k) = x (ix3 b s k) := by
  pointwise
  exact congrArg₂ (fun b s => x (ix3 b s k)) (Fin.ext (by show i.val / 64 = b.val; omega)) (Fin.ext (by show i.val % 64 = s.val; omega))

theorem V1_x (c : Dev nD) : V1 m ρ c main_v2 = (concatenate S8704x2048 0 [⟨S8192x2048, shapeCast S8192x2048 (m ((c : Thread nD τ).loc main_arg0) : (⟨S2x4096x2048, .f32⟩ : BufTy).Contents (Elt Ideal)) shapeCasts_S2x4096x2048_S8192x2048⟩, ⟨S512x2048, shapeCast S512x2048 (m ((c : Thread nD τ).loc main_arg1) : (⟨S8x64x2048, .f32⟩ : BufTy).Contents (Elt Ideal)) shapeCasts_S8x64x2048_S512x2048⟩] concatenates_S8192x2048_S512x2048_S8704x2048_d0 : (⟨S8704x2048, .f32⟩ : BufTy).Contents (Elt Ideal)) := by
  unfold_abbrev_sides
  after_results
  rfl

theorem V1_g (c : Dev nD) : V1 m ρ c main_v4 = (shapeCast S1x2048 (shapeCast S2048 (m ((c : Thread nD τ).loc main_arg3) : (⟨S1x2048, .f32⟩ : BufTy).Contents (Elt Ideal)) shapeCasts_S1x2048_S2048 : (⟨S2048, .f32⟩ : BufTy).Contents (Elt Ideal)) shapeCasts_S2048_S1x2048 : (⟨S1x2048, .f32⟩ : BufTy).Contents (Elt Ideal)) := by
  unfold_abbrev_sides
  after_results
  rfl

theorem W3_a (c : Dev nD) : W3 m ρ c (Proc.devRef .tc main_v8) = (extractStridedSlice S2048x2048 ![0, 0] (shapeCast S2048x9280 (W2 m ρ c (Proc.devRef .tc main_arg4) : (⟨S1x2048x9280, .f32⟩ : BufTy).Contents (Elt Ideal)) shapeCasts_S1x2048x9280_S2048x9280 : (⟨S2048x9280, .f32⟩ : BufTy).Contents (Elt Ideal)) slices_S2048x9280_S2048x2048_0_0 : (⟨S2048x2048, .f32⟩ : BufTy).Contents (Elt Ideal)) := by
  unfold_abbrev_sides
  after_results
  rfl

theorem W3_b (c : Dev nD) : W3 m ρ c (Proc.devRef .tc main_v11) = (extractStridedSlice S2048x2048 ![0, 2048] (shapeCast S2048x9280 (W2 m ρ c (Proc.devRef .tc main_arg4) : (⟨S1x2048x9280, .f32⟩ : BufTy).Contents (Elt Ideal)) shapeCasts_S1x2048x9280_S2048x9280 : (⟨S2048x9280, .f32⟩ : BufTy).Contents (Elt Ideal)) slices_S2048x9280_S2048x2048_0_2048 : (⟨S2048x2048, .f32⟩ : BufTy).Contents (Elt Ideal)) := by
  unfold_abbrev_sides
  after_results
  rfl

theorem W5_w (c : Dev nD) : W5 m ρ c (Proc.devRef .tc main_v15) = (extractStridedSlice S2048x1088 ![0, 4096] (shapeCast S2048x9280 (W4 m ρ c (Proc.devRef .tc main_arg4) : (⟨S1x2048x9280, .f32⟩ : BufTy).Contents (Elt Ideal)) shapeCasts_S1x2048x9280_S2048x9280 : (⟨S2048x9280, .f32⟩ : BufTy).Contents (Elt Ideal)) slices_S2048x9280_S2048x1088_0_4096 : (⟨S2048x1088, .f32⟩ : BufTy).Contents (Elt Ideal)) := by
  unfold_abbrev_sides
  after_results
  rfl

theorem W5_g (c : Dev nD) : W5 m ρ c (Proc.devRef .tc main_v19) = (shapeCast S1x512 (shapeCast S512 (W4 m ρ c (Proc.devRef .tc main_arg6) : (⟨S1x512, .f32⟩ : BufTy).Contents (Elt Ideal)) shapeCasts_S1x512_S512 : (⟨S512, .f32⟩ : BufTy).Contents (Elt Ideal)) shapeCasts_S512_S1x512 : (⟨S1x512, .f32⟩ : BufTy).Contents (Elt Ideal)) := by
  unfold_abbrev_sides
  after_results
  rfl

theorem at_x (c : Dev nD) (i : Fin 8704) (k : Fin 2048) (b : Fin 2) (s : Fin 4096) (h : i.val = b.val * 4096 + s.val) : V1 m ρ c main_v2 (ix2 i k) = m ((c : Thread nD τ).loc main_arg0) (ix3 b s k) := by
  rw [V1_x]
  exact (cat0 _ _ i k (by omega)).trans (sc0 _ _ k b s h)

theorem at_x' (c : Dev nD) (i : Fin 8704) (k : Fin 2048) (b : Fin 8) (s : Fin 64) (h : i.val = 8192 + (b.val * 64 + s.val)) : V1 m ρ c main_v2 (ix2 i k) = m ((c : Thread nD τ).loc main_arg1) (ix3 b s k) := by
  rw [V1_x]
  exact (cat1 _ _ i k ⟨b.val * 64 + s.val, by omega⟩ h).trans (sc1 _ _ k b s rfl)

theorem at_g0 (c : Dev nD) (k : Fin 2048) : V1 m ρ c main_v4 (ix2 0 k) = m ((c : Thread nD τ).loc main_arg3) (ix2 0 k) := by
  rw [V1_g]
  pointwise

theorem at_a (c : Dev nD) (k n : Fin 2048) : V3 m ρ c main_v8 (ix2 k n) = m ((c : Thread nD τ).loc main_arg4) (ix3 0 k ⟨n.val, Nat.lt_trans n.isLt (by decide)⟩) := by
  refine (congrFun (W3_a m ρ c) _).trans ?_
  rw [W2_args m ρ c main_arg4 (by decide)]
  pointwise

theorem at_b (c : Dev nD) (k n : Fin 2048) : V3 m ρ c main_v11 (ix2 k n) = m ((c : Thread nD τ).loc main_arg4) (ix3 0 k ⟨2048 + n.val, Nat.lt_of_lt_of_le (Nat.add_lt_add_left n.isLt 2048) (by decide : 2048 + 2048 ≤ 9280)⟩) := by
  refine (congrFun (W3_b m ρ c) _).trans ?_
  rw [W2_args m ρ c main_arg4 (by decide)]
  pointwise

theorem at_w (c : Dev nD) (k : Fin 2048) (n : Fin 1088) : V5 m ρ c main_v15 (ix2 k n) = m ((c : Thread nD τ).loc main_arg4) (ix3 0 k ⟨4096 + n.val, Nat.lt_of_lt_of_le (Nat.add_lt_add_left n.isLt 4096) (by decide : 4096 + 1088 ≤ 9280)⟩) := by
  refine (congrFun (W5_w m ρ c) _).trans ?_
  rw [W4_args m ρ c main_arg4 (by decide)]
  pointwise

theorem at_gk (c : Dev nD) (n : Fin 512) : V5 m ρ c main_v19 (ix2 0 n) = m ((c : Thread nD τ).loc main_arg6) (ix2 0 n) := by
  refine (congrFun (W5_g m ρ c) _).trans ?_
  rw [W4_args m ρ c main_arg6 (by decide)]
  pointwise

theorem at_w' (c : Dev nD) (k : Fin 2048) (n : Fin 1088) (j : Fin 9280) (hj : j.val = 4096 + n.val) : V5 m ρ c main_v15 (ix2 k n) = m ((c : Thread nD τ).loc main_arg4) (ix3 0 k j) :=
  (at_w m ρ c k n).trans (congrArg (fun j => m ((c : Thread nD τ).loc main_arg4) (ix3 0 k j)) (Fin.ext hj.symm))

theorem V3_h (c : Dev nD) : V3 m ρ c main_v5 = hOf (V1 m ρ c main_v2) (V1 m ρ c main_v4) :=
  (W3_of m ρ c main_v5 (by decide)).trans ((W2_arr m ρ c 2).trans (out0 (V1 m ρ) c))

theorem V5_h (c : Dev nD) : V5 m ρ c main_v5 = hOf (V1 m ρ c main_v2) (V1 m ρ c main_v4) :=
  (W5_of m ρ c main_v5 (by decide)).trans ((W4_of m ρ c main_v5 (by decide)).trans (V3_h m ρ c))

theorem W6_glu (c : Dev nD) : W6 m ρ c (Proc.devRef .tc main_v12) = gluOf (V3 m ρ c main_v5) (V3 m ρ c main_v8) (V3 m ρ c main_v11) :=
  (W6_of m ρ c main_v12 (by decide)).trans ((W5_of m ρ c main_v12 (by decide)).trans ((W4_arr m ρ c 3).trans (out1 (V3 m ρ) c)))

theorem W6_kv (c : Dev nD) : W6 m ρ c (Proc.devRef .tc main_v20_1) = kvOf (V5 m ρ c main_v5) (V5 m ρ c main_v15) (V5 m ρ c main_v19) :=
  (W6_arr m ρ c 5).trans (out2kv (V5 m ρ) c)

theorem W6_kr (c : Dev nD) : W6 m ρ c (Proc.devRef .tc main_v20_2) = krOf (V5 m ρ c main_v5) (V5 m ρ c main_v15) :=
  (W6_arr m ρ c 6).trans (out2kr (V5 m ρ) c)

/-- The gain of the first call, as a row. -/
def g0 (c : Dev nD) : Fin 2048 → EReal := fun k => m ((c : Thread nD τ).loc main_arg3) (ix2 0 k)

/-- A column of the input projection. -/
def wc (c : Dev nD) (n : Fin 9280) : Fin 2048 → EReal := fun k => m ((c : Thread nD τ).loc main_arg4) (ix3 0 k n)

theorem row_h (c : Dev nD) (i : Fin 8704) (X : Fin 2048 → EReal) (hx : ∀ k, V1 m ρ c main_v2 (ix2 i k) = X k) :
    (fun k => hOf (V1 m ρ c main_v2) (V1 m ρ c main_v4) (ix2 i k)) = rowH X (g0 m c) := by
  funext k
  show rowH (fun k => V1 m ρ c main_v2 (ix2 i k)) (fun k => V1 m ρ c main_v4 (ix2 0 k)) k = _
  exact congrArg₂ (fun X g => rowH X g k) (funext hx) (funext (at_g0 m ρ c))

theorem row_glu (c : Dev nD) (i : Fin 8704) (X : Fin 2048 → EReal) (hx : ∀ k, V1 m ρ c main_v2 (ix2 i k) = X k) (n : Fin 2048) :
    W6 m ρ c (Proc.devRef .tc main_v12) (ix2 i n) = rowGlu (rowH X (g0 m c)) (wc m c ⟨n.val, Nat.lt_trans n.isLt (by decide)⟩)
      (wc m c ⟨2048 + n.val, Nat.lt_of_lt_of_le (Nat.add_lt_add_left n.isLt 2048) (by decide : 2048 + 2048 ≤ 9280)⟩) := by
  rw [W6_glu, V3_h]
  show rowGlu (fun k => hOf (V1 m ρ c main_v2) (V1 m ρ c main_v4) (ix2 i k)) (fun k => V3 m ρ c main_v8 (ix2 k n)) (fun k => V3 m ρ c main_v11 (ix2 k n)) = _
  rw [row_h m ρ c i X hx]
  exact congrArg₂ (fun a b => rowGlu (rowH X (g0 m c)) a b) (funext fun k => at_a m ρ c k n) (funext fun k => at_b m ρ c k n)

theorem row_kv (c : Dev nD) (i : Fin 8704) (X : Fin 2048 → EReal) (hx : ∀ k, V1 m ρ c main_v2 (ix2 i k) = X k) (n : Fin 512) :
    W6 m ρ c (Proc.devRef .tc main_v20_1) (ix2 i n) = rowKv (rowH X (g0 m c))
      (fun n => wc m c ⟨4608 + n.val, Nat.lt_of_lt_of_le (Nat.add_lt_add_left n.isLt 4608) (by decide : 4608 + 512 ≤ 9280)⟩)
      (fun n => m ((c : Thread nD τ).loc main_arg6) (ix2 0 n)) n := by
  rw [W6_kv, V5_h]
  show rowKv (fun k => hOf (V1 m ρ c main_v2) (V1 m ρ c main_v4) (ix2 i k))
    (fun n k => V5 m ρ c main_v15 (ix2 k ⟨512 + n.val, Nat.lt_of_lt_of_le (Nat.add_lt_add_left n.isLt 512) (by decide : 512 + 512 ≤ 1088)⟩)) (fun n => V5 m ρ c main_v19 (ix2 0 n)) n = _
  rw [row_h m ρ c i X hx]
  exact congrArg₂ (fun w g => rowKv (rowH X (g0 m c)) w g n) (funext fun n => funext fun k => at_w' m ρ c k _ _ (Nat.add_assoc 4096 512 n.val)) (funext fun n => at_gk m ρ c n)

theorem row_kr (c : Dev nD) (i : Fin 8704) (X : Fin 2048 → EReal) (hx : ∀ k, V1 m ρ c main_v2 (ix2 i k) = X k) (n : Fin 64) :
    W6 m ρ c (Proc.devRef .tc main_v20_2) (ix2 i n) = rowDot (rowH X (g0 m c))
      (wc m c ⟨5120 + n.val, Nat.lt_of_lt_of_le (Nat.add_lt_add_left n.isLt 5120) (by decide : 5120 + 64 ≤ 9280)⟩) := by
  rw [W6_kr, V5_h]
  show rowDot (fun k => hOf (V1 m ρ c main_v2) (V1 m ρ c main_v4) (ix2 i k))
    (fun k => V5 m ρ c main_v15 (ix2 k ⟨1024 + n.val, Nat.lt_of_lt_of_le (Nat.add_lt_add_left n.isLt 1024) (by decide : 1024 + 64 ≤ 1088)⟩)) = _
  rw [row_h m ρ c i X hx]
  exact congrArg (fun w => rowDot (rowH X (g0 m c)) w) (funext fun k => at_w' m ρ c k _ _ (Nat.add_assoc 4096 1024 n.val))

theorem lt4096 (j : Fin 30) : 4096 + j.val - 30 < 4096 := by omega

theorem off4096 (b : ℕ) (j : Fin 30) : b * 4096 + (4066 + j.val) = b * 4096 + (4096 + j.val - 30) := by omega

theorem lt64 (j : Fin 30) : 64 + j.val - 30 < 64 := by omega

theorem W7_v30 (c : Dev nD) : W7 m ρ c (Proc.devRef .tc main_v30) = (shapeCast S1x2x4096x512 (extractStridedSlice S8192x512 ![0, 0] (W6 m ρ c (Proc.devRef .tc main_v20_1) : (⟨S8704x512, .f32⟩ : BufTy).Contents (Elt Ideal)) slices_S8704x512_S8192x512_0_0) shapeCasts_S8192x512_S1x2x4096x512 : (⟨S1x2x4096x512, .f32⟩ : BufTy).Contents (Elt Ideal)) := by
  unfold_abbrev_sides
  after_results
  rfl

theorem W7_v32 (c : Dev nD) : W7 m ρ c (Proc.devRef .tc main_v32) = (shapeCast S1x2x4096x64 (extractStridedSlice S8192x64 ![0, 0] (W6 m ρ c (Proc.devRef .tc main_v20_2) : (⟨S8704x64, .f32⟩ : BufTy).Contents (Elt Ideal)) slices_S8704x64_S8192x64_0_0) shapeCasts_S8192x64_S1x2x4096x64 : (⟨S1x2x4096x64, .f32⟩ : BufTy).Contents (Elt Ideal)) := by
  unfold_abbrev_sides
  after_results
  rfl

theorem W7_v33 (c : Dev nD) : W7 m ρ c (Proc.devRef .tc main_v33) = (broadcastInDim S1x2x30x2048 ![1, 2, 3] bcast_S2x30x2048_S1x2x30x2048_1_2_3 (extractStridedSlice S2x30x2048 ![0, 4066, 0] (shapeCast S2x4096x2048 (extractStridedSlice S8192x2048 ![0, 0] (W6 m ρ c (Proc.devRef .tc main_v12) : (⟨S8704x2048, .f32⟩ : BufTy).Contents (Elt Ideal)) slices_S8704x2048_S8192x2048_0_0) shapeCasts_S8192x2048_S2x4096x2048) slices_S2x4096x2048_S2x30x2048_0_4066_0) : (⟨S1x2x30x2048, .f32⟩ : BufTy).Contents (Elt Ideal)) := by
  unfold_abbrev_sides
  after_results
  rfl

theorem W7_v35 (c : Dev nD) : W7 m ρ c (Proc.devRef .tc main_v35) = (shapeCast S1x8x64x512 (extractStridedSlice S512x512 ![8192, 0] (W6 m ρ c (Proc.devRef .tc main_v20_1) : (⟨S8704x512, .f32⟩ : BufTy).Contents (Elt Ideal)) slices_S8704x512_S512x512_8192_0) shapeCasts_S512x512_S1x8x64x512 : (⟨S1x8x64x512, .f32⟩ : BufTy).Contents (Elt Ideal)) := by
  unfold_abbrev_sides
  after_results
  rfl

theorem W7_v37 (c : Dev nD) : W7 m ρ c (Proc.devRef .tc main_v37) = (shapeCast S1x8x64x64 (extractStridedSlice S512x64 ![8192, 0] (W6 m ρ c (Proc.devRef .tc main_v20_2) : (⟨S8704x64, .f32⟩ : BufTy).Contents (Elt Ideal)) slices_S8704x64_S512x64_8192_0) shapeCasts_S512x64_S1x8x64x64 : (⟨S1x8x64x64, .f32⟩ : BufTy).Contents (Elt Ideal)) := by
  unfold_abbrev_sides
  after_results
  rfl

theorem W7_v38 (c : Dev nD) : W7 m ρ c (Proc.devRef .tc main_v38) = (broadcastInDim S1x8x30x2048 ![1, 2, 3] bcast_S8x30x2048_S1x8x30x2048_1_2_3 (extractStridedSlice S8x30x2048 ![0, 64, 0] (concatenate S8x94x2048 1 [⟨S8x30x2048, shapeCast S8x30x2048 (W6 m ρ c (Proc.devRef .tc main_arg2) : (⟨S1x8x30x2048, .f32⟩ : BufTy).Contents (Elt Ideal)) shapeCasts_S1x8x30x2048_S8x30x2048⟩, ⟨S8x64x2048, shapeCast S8x64x2048 (extractStridedSlice S512x2048 ![8192, 0] (W6 m ρ c (Proc.devRef .tc main_v12) : (⟨S8704x2048, .f32⟩ : BufTy).Contents (Elt Ideal)) slices_S8704x2048_S512x2048_8192_0) shapeCasts_S512x2048_S8x64x2048⟩] concatenates_S8x30x2048_S8x64x2048_S8x94x2048_d1) slices_S8x94x2048_S8x30x2048_0_64_0) : (⟨S1x8x30x2048, .f32⟩ : BufTy).Contents (Elt Ideal)) := by
  unfold_abbrev_sides
  after_results
  rfl

theorem res_refKvP (c : Dev nD) : W7 m ρ c (Proc.devRef .tc main_v30) = refKvP (m ((c : Thread nD τ).loc main_arg0)) (m ((c : Thread nD τ).loc main_arg3)) (m ((c : Thread nD τ).loc main_arg4)) (m ((c : Thread nD τ).loc main_arg6)) := by
  funext j
  rw [W7_v30]
  pointwise [refKvP]
  exact row_kv m ρ c _ _ (fun k => at_x m ρ c _ k (j 1) (j 2) rfl) (j 3)

theorem res_refKrP (c : Dev nD) : W7 m ρ c (Proc.devRef .tc main_v32) = refKrP (m ((c : Thread nD τ).loc main_arg0)) (m ((c : Thread nD τ).loc main_arg3)) (m ((c : Thread nD τ).loc main_arg4)) := by
  funext j
  rw [W7_v32]
  pointwise [refKrP]
  exact row_kr m ρ c _ _ (fun k => at_x m ρ c _ k (j 1) (j 2) rfl) (j 3)

theorem res_refConvP (c : Dev nD) : W7 m ρ c (Proc.devRef .tc main_v33) = refConvP (m ((c : Thread nD τ).loc main_arg0)) (m ((c : Thread nD τ).loc main_arg3)) (m ((c : Thread nD τ).loc main_arg4)) := by
  funext j
  rw [W7_v33]
  pointwise [refConvP]
  refine Eq.symm ((dif_neg (by omega)).trans (Eq.symm ?_))
  exact row_glu m ρ c _ _ (fun k => at_x m ρ c _ k (j 1) ⟨4096 + (j 2).val - 30, lt4096 (j 2)⟩ (off4096 _ (j 2))) (j 3)

theorem res_refKvS (c : Dev nD) : W7 m ρ c (Proc.devRef .tc main_v35) = refKvS (m ((c : Thread nD τ).loc main_arg1)) (m ((c : Thread nD τ).loc main_arg3)) (m ((c : Thread nD τ).loc main_arg4)) (m ((c : Thread nD τ).loc main_arg6)) := by
  funext j
  rw [W7_v35]
  pointwise [refKvS]
  exact row_kv m ρ c _ _ (fun k => at_x' m ρ c _ k (j 1) (j 2) rfl) (j 3)

theorem res_refKrS (c : Dev nD) : W7 m ρ c (Proc.devRef .tc main_v37) = refKrS (m ((c : Thread nD τ).loc main_arg1)) (m ((c : Thread nD τ).loc main_arg3)) (m ((c : Thread nD τ).loc main_arg4)) := by
  funext j
  rw [W7_v37]
  pointwise [refKrS]
  exact row_kr m ρ c _ _ (fun k => at_x' m ρ c _ k (j 1) (j 2) rfl) (j 3)

theorem res_refConvS (c : Dev nD) : W7 m ρ c (Proc.devRef .tc main_v38) = refConvS (m ((c : Thread nD τ).loc main_arg1)) (m ((c : Thread nD τ).loc main_arg2)) (m ((c : Thread nD τ).loc main_arg3)) (m ((c : Thread nD τ).loc main_arg4)) := by
  funext j
  rw [W7_v38]
  pointwise [refConvS]
  refine (dif_neg (by omega)).trans (Eq.symm ((dif_neg (by omega)).trans (Eq.symm ?_)))
  exact row_glu m ρ c _ _ (fun k => at_x' m ρ c _ k (j 1) ⟨64 + (j 2).val - 30, lt64 (j 2)⟩ rfl) (j 3)

theorem frame : Cert.quiescent_Kernel11 (hKernel11 := Cert.Kernel11.Gen.facts) :=
  fun m ρ _ => Cert.Kernel11.Gen.frame m ρ

theorem frame_ideal : Cert.quiescent_Kernel11Ideal (hKernel11Ideal := Cert.Kernel11Ideal.Gen.facts) :=
  fun m ρ _ => Cert.Kernel11Ideal.Gen.frame m ρ

theorem frame_reference : Cert.quiescent_Reference11Ideal (hReference11Ideal := Cert.Reference11Ideal.Gen.facts) :=
  fun m ρ _ => (θ_run Cert.Reference11Ideal.defs _ _).mono (fun r h => ⟨fun c => (h c).2.2.2.2.2.2, sem_eq_zero_of_no_sems rfl r.2⟩)
    (Cert.Reference11Ideal.Value.run (F := Ideal) m ρ)

theorem algebraic : Cert.algebraic_Kernel11Ideal_Reference11Ideal (hKernel11Ideal := Cert.Kernel11Ideal.Gen.facts) (hReference11Ideal := Cert.Reference11Ideal.Gen.facts) := by
  intro m g m' g' _ hagree
  refine ⟨fun c => refKvP (m ((c : Thread nD τ).loc main_arg0)) (m ((c : Thread nD τ).loc main_arg3)) (m ((c : Thread nD τ).loc main_arg4)) (m ((c : Thread nD τ).loc main_arg6)),
    fun c => refKrP (m ((c : Thread nD τ).loc main_arg0)) (m ((c : Thread nD τ).loc main_arg3)) (m ((c : Thread nD τ).loc main_arg4)),
    fun c => refConvP (m ((c : Thread nD τ).loc main_arg0)) (m ((c : Thread nD τ).loc main_arg3)) (m ((c : Thread nD τ).loc main_arg4)),
    fun c => refKvS (m ((c : Thread nD τ).loc main_arg1)) (m ((c : Thread nD τ).loc main_arg3)) (m ((c : Thread nD τ).loc main_arg4)) (m ((c : Thread nD τ).loc main_arg6)),
    fun c => refKrS (m ((c : Thread nD τ).loc main_arg1)) (m ((c : Thread nD τ).loc main_arg3)) (m ((c : Thread nD τ).loc main_arg4)),
    fun c => refConvS (m ((c : Thread nD τ).loc main_arg1)) (m ((c : Thread nD τ).loc main_arg2)) (m ((c : Thread nD τ).loc main_arg3)) (m ((c : Thread nD τ).loc main_arg4)), ?_, ?_⟩
  · exact (θ_run Cert.Kernel11Ideal.defs _ _).mono (fun r h c => have h := h.1 c; ⟨h.1.trans (res_refKvP m g c), h.2.1.trans (res_refKrP m g c), h.2.2.1.trans (res_refConvP m g c),
        h.2.2.2.1.trans (res_refKvS m g c), h.2.2.2.2.1.trans (res_refKrS m g c), h.2.2.2.2.2.1.trans (res_refConvS m g c), h.2.2.2.2.2.2⟩)
      (run (F := Ideal) m g)
  · refine (θ_run Cert.Reference11Ideal.defs _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2⟩)
      (Cert.Reference11Ideal.Value.run (F := Ideal) m' g')
    all_goals
      obtain ⟨h0, h1, h2, h3, h4, h5, h6⟩ := hagree c
    · rw [h0, h3, h4, h6]
      rfl
    · rw [h0, h3, h4]
      rfl
    · rw [h0, h3, h4]
      rfl
    · rw [h1, h3, h4, h6]
      rfl
    · rw [h1, h3, h4]
      rfl
    · rw [h1, h2, h3, h4]
      rfl

end Cert.States
-- ==== Proof.lean ====
/- The claims of this certificate: the two printed kernels are one program (Same0, Same1, Same2), its run (Frame), and what it computes beside the reference (Values). -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_routed
public import proofs.«01_k».proof.Proof.Same0
public import proofs.«01_k».proof.Proof.Same1
public import proofs.«01_k».proof.Proof.Same2
public import proofs.«01_k».proof.Proof.Values
public import proofs.«01_k».proof.Proof.Mm5
public import proofs.«01_k».proof.Proof.Mm4
public import proofs.«01_k».proof.Proof.Mm3
public import proofs.«01_k».proof.Proof.Mm2
public import proofs.«01_k».proof.Proof.Mm6
public import proofs.«01_k».proof.Proof.Mm7
public import proofs.«01_k».proof.Proof.Mm8
public import proofs.«01_k».proof.Proof.Mm9
public import proofs.«01_k».proof.Proof.Mm10
public import proofs.«01_k».proof.Proof.Mm11
public import Idealize.ShloMosaic.Adequacy
public import Idealize.ShloMosaic.Init

@[expose] public section

noncomputable section

namespace Cert.Proof

open Idealize.ShloMosaic Idealize.ShloMosaic.TcCoe Idealize.SL Cert.Proof.Expert

theorem counts_kernel (m : (ℓ : Loc Cert.Kernel.nD Cert.Kernel.τ Cert.Kernel.sig) → Buf (Elt Bits) ℓ)
    (hpre : Cert.Pre_Kernel (hPre_routed := Cert.Pre_routed.Gen.facts) m) (c : Dev Cert.Kernel.nD) :
    Plan.Counts (cnOf (m ((c.tc : Thread Cert.Kernel.nD Cert.Kernel.τ).loc Cert.Kernel.main_arg3))) (asgOf (m ((c.tc : Thread Cert.Kernel.nD Cert.Kernel.τ).loc Cert.Kernel.main_arg1)))
      (asgOf (m ((c.tc : Thread Cert.Kernel.nD Cert.Kernel.τ).loc Cert.Kernel.main_arg2))) :=
  letI := Cert.Pre_routed.Gen.facts
  counts_of _ _ _ _ _ _ _ _ (congrFun (hpre c).1) (congrFun (hpre c).2.1) (congrFun (hpre c).2.2.1) (congrFun (hpre c).2.2.2.1) (congrFun (hpre c).2.2.2.2)

theorem defs₀_same : @Cert.Kernel.defs₀ Bits _ Cert.Kernel.Gen.facts = @Cert.KernelIdeal.defs₀ Bits _ Cert.KernelIdeal.Gen.facts := by
  unfold Cert.Kernel.defs₀ Cert.KernelIdeal.defs₀
  refine congrArg Defs.onTc ?_
  funext l x
  match l, x with
  | 0, (t, s) => rfl
  | ⟨n + 1, h⟩, _ => exact absurd h (Nat.not_lt.2 (Nat.le_add_left _ _))

theorem defs_same : @Cert.Kernel.defs Bits _ Cert.Kernel.Gen.facts = @Cert.KernelIdeal.defs Bits _ Cert.KernelIdeal.Gen.facts :=
  congrArg (Pipeline.defs (Cert.KernelIdeal.pcfgs (F := Bits))) defs₀_same

section
open Cert.KernelIdeal Idealize.SL.Sem
variable {F : FTy → Type} [FloatOps F] [Facts]
variable {a a' b b' c c' : Dev nD → Prog (TpuEff nD τ sig (Elt F) (Pipeline.Sig Λ₀ (Fin 1) fun p => (pcfgs (F := F) p).Adm) .tc) PUnit}

theorem in_order (ha : a = a') (hb : b = b') (hc : c = c') : (fun d => do a d; b d; c d) = (fun d => do a' d; b' d; c' d) := by
  subst ha hb hc
  rfl

end

theorem main_same : @Cert.Kernel.main Bits _ Cert.Kernel.Gen.facts = @Cert.KernelIdeal.main Bits _ Cert.KernelIdeal.Gen.facts :=
  @in_order Bits _ Cert.KernelIdeal.Gen.facts _ _ _ _ _ _ part0_same part1_same part2_same

theorem frame_kernel :
    Cert.quiescent_Kernel (hKernel := Cert.Kernel.Gen.facts) (hPre_routed := Cert.Pre_routed.Gen.facts) := by
  intro m ρ hpre
  rw [defs_same, main_same]
  refine (θ_run Cert.KernelIdeal.defs _ _).mono ?_ (frame_of (F := Bits) m ρ fun c =>
    tables (F := Bits) m c (counts_kernel m hpre c) (cnOf_eq _) (asgOf_eq _) (asgOf_eq _))
  exact fun _ h => ⟨fun c => (h.1 c).1, h.2⟩

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Pre_routed.Gen.facts,
    frame_kernel, frame_kernelIdeal, frame_referenceIdeal,
    Cert.Latent.frame, Cert.Latent.frame_ideal, Cert.Latent.frame_reference,
    Cert.Glu.frame, Cert.Glu.frame_ideal, Cert.Glu.frame_reference,
    Cert.Gates.frame, Cert.Gates.frame_ideal, Cert.Gates.frame_reference,
    Cert.Norm.frame, Cert.Norm.frame_ideal, Cert.Norm.frame_reference,
    Cert.ConvOut.frame, Cert.ConvOut.frame_ideal, Cert.ConvOut.frame_reference,
    Cert.AttnOut.frame, Cert.AttnOut.frame_ideal, Cert.AttnOut.frame_reference,
    Cert.OutProj.frame, Cert.OutProj.frame_ideal, Cert.OutProj.frame_reference,
    Cert.CombineP.frame, Cert.CombineP.frame_ideal, Cert.CombineP.frame_reference,
    Cert.CombineS.frame, Cert.CombineS.frame_ideal, Cert.CombineS.frame_reference,
    Cert.States.frame, Cert.States.frame_ideal, Cert.States.frame_reference,
    trivial, algebraic,
    trivial, Cert.Latent.algebraic,
    trivial, Cert.Glu.algebraic,
    trivial, Cert.Gates.algebraic,
    trivial, Cert.Norm.algebraic,
    trivial, Cert.ConvOut.algebraic,
    trivial, Cert.AttnOut.algebraic,
    trivial, Cert.OutProj.algebraic,
    trivial, Cert.CombineP.algebraic,
    trivial, Cert.CombineS.algebraic,
    trivial, Cert.States.algebraic⟩

end Cert.Proof
